-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v30_0)) (v1 : (c : Dev Cert.Kernel2Ideal.nD) → Buf (Elt Ideal) ((c.tc : Thread Cert.Kernel2Ideal.nD Cert.Kernel2Ideal.τ).loc Cert.Kernel2Ideal.main_v30_1)) (v2 : (c : Dev Cert.Kernel2Ideal.nD) → Buf (Elt Ideal) ((c.tc : Thread Cert.Kernel2Ideal.nD Cert.Kernel2Ideal.τ).loc Cert.Kernel2Ideal.main_v30_2)) (v3 : (c : Dev Cert.Kernel2Ideal.nD) → Buf (Elt Ideal) ((c.tc : Thread Cert.Kernel2Ideal.nD Cert.Kernel2Ideal.τ).loc Cert.Kernel2Ideal.main_v30_3)) (v4 : (c : Dev Cert.Kernel2Ideal.nD) → Buf (Elt Ideal) ((c.tc : Thread Cert.Kernel2Ideal.nD Cert.Kernel2Ideal.τ).loc Cert.Kernel2Ideal.main_v30_4)) (v5 : (c : Dev Cert.Kernel2Ideal.nD) → Buf (Elt Ideal) ((c.tc : Thread Cert.Kernel2Ideal.nD Cert.Kernel2Ideal.τ).loc Cert.Kernel2Ideal.main_v30_5)) (v6 : (c : Dev Cert.Kernel2Ideal.nD) → Buf (Elt Ideal) ((c.tc : Thread Cert.Kernel2Ideal.nD Cert.Kernel2Ideal.τ).loc Cert.Kernel2Ideal.main_v30_6)) (v7 : (c : Dev Cert.Kernel2Ideal.nD) → Buf (Elt Ideal) ((c.tc : Thread Cert.Kernel2Ideal.nD Cert.Kernel2Ideal.τ).loc Cert.Kernel2Ideal.main_v30_7)) (v8 : (c : Dev Cert.Kernel2Ideal.nD) → Buf (Elt Ideal) ((c.tc : Thread Cert.Kernel2Ideal.nD Cert.Kernel2Ideal.τ).loc Cert.Kernel2Ideal.main_v30_8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v30_0) = v0 c
          ∧ r.2.mem ((c.tc : Thread Cert.Kernel2Ideal.nD Cert.Kernel2Ideal.τ).loc Cert.Kernel2Ideal.main_v30_1) = v1 c
          ∧ r.2.mem ((c.tc : Thread Cert.Kernel2Ideal.nD Cert.Kernel2Ideal.τ).loc Cert.Kernel2Ideal.main_v30_2) = v2 c
          ∧ r.2.mem ((c.tc : Thread Cert.Kernel2Ideal.nD Cert.Kernel2Ideal.τ).loc Cert.Kernel2Ideal.main_v30_3) = v3 c
          ∧ r.2.mem ((c.tc : Thread Cert.Kernel2Ideal.nD Cert.Kernel2Ideal.τ).loc Cert.Kernel2Ideal.main_v30_4) = v4 c
          ∧ r.2.mem ((c.tc : Thread Cert.Kernel2Ideal.nD Cert.Kernel2Ideal.τ).loc Cert.Kernel2Ideal.main_v30_5) = v5 c
          ∧ r.2.mem ((c.tc : Thread Cert.Kernel2Ideal.nD Cert.Kernel2Ideal.τ).loc Cert.Kernel2Ideal.main_v30_6) = v6 c
          ∧ r.2.mem ((c.tc : Thread Cert.Kernel2Ideal.nD Cert.Kernel2Ideal.τ).loc Cert.Kernel2Ideal.main_v30_7) = v7 c
          ∧ r.2.mem ((c.tc : Thread Cert.Kernel2Ideal.nD Cert.Kernel2Ideal.τ).loc Cert.Kernel2Ideal.main_v30_8) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v45) = v0 c
          ∧ r.2.mem ((c.tc : Thread Cert.Reference2Ideal.nD Cert.Reference2Ideal.τ).loc Cert.Reference2Ideal.main_v71) = v1 c
          ∧ r.2.mem ((c.tc : Thread Cert.Reference2Ideal.nD Cert.Reference2Ideal.τ).loc Cert.Reference2Ideal.main_v73) = v2 c
          ∧ r.2.mem ((c.tc : Thread Cert.Reference2Ideal.nD Cert.Reference2Ideal.τ).loc Cert.Reference2Ideal.main_v92) = v3 c
          ∧ r.2.mem ((c.tc : Thread Cert.Reference2Ideal.nD Cert.Reference2Ideal.τ).loc Cert.Reference2Ideal.main_v109) = v4 c
          ∧ r.2.mem ((c.tc : Thread Cert.Reference2Ideal.nD Cert.Reference2Ideal.τ).loc Cert.Reference2Ideal.main_v111) = v5 c
          ∧ r.2.mem ((c.tc : Thread Cert.Reference2Ideal.nD Cert.Reference2Ideal.τ).loc Cert.Reference2Ideal.main_v115) = v6 c
          ∧ r.2.mem ((c.tc : Thread Cert.Reference2Ideal.nD Cert.Reference2Ideal.τ).loc Cert.Reference2Ideal.main_v126) = v7 c
          ∧ r.2.mem ((c.tc : Thread Cert.Reference2Ideal.nD Cert.Reference2Ideal.τ).loc Cert.Reference2Ideal.main_v137) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_v28) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  IdealRules.named_const.Statement Cert.Kernel4Ideal.κ "mask" .f32 0xF149F2CA#32 ⊥

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v50) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
-- ==== Pre_finite.lean ====
abbrev S1 : Shape := ⟨1, ![1]⟩
abbrev S16x2048x512 : Shape := ⟨3, ![16, 2048, 512]⟩
abbrev S128x512 : Shape := ⟨2, ![128, 512]⟩
abbrev S4x64 : Shape := ⟨2, ![4, 64]⟩
abbrev S1x128 : Shape := ⟨2, ![1, 128]⟩
abbrev S_ : Shape := ⟨0, ![]⟩
abbrev S16x512 : Shape := ⟨2, ![16, 512]⟩

class Facts : Prop where
  bcast_S_S1 : S_.BroadcastsInDim S1 (![] : Fin 0 → Fin S1.rank)
  reducesTo_S1_S_d0 : S1.ReducesTo [0] S_
  h_S_ : 0 < S_.numel
  bitsLt_bf16_f32 : FTy.bits .bf16 < FTy.bits .f32
  bcast_S_S16x2048x512 : S_.BroadcastsInDim S16x2048x512 (![] : Fin 0 → Fin S16x2048x512.rank)
  reducesTo_S16x2048x512_S_d0_1_2 : S16x2048x512.ReducesTo [0, 1, 2] S_
  slices_S128x512_S16x512_0_0 : S128x512.Slices ![0, 0] S16x512
  bcast_S_S16x512 : S_.BroadcastsInDim S16x512 (![] : Fin 0 → Fin S16x512.rank)
  reducesTo_S16x512_S_d0_1 : S16x512.ReducesTo [0, 1] S_

variable [Facts]

def fn_part1 {F : FTy → Type} [FloatOps F] (main_v14 : IVec S_ 1) (main_v17 : FVec F S16x512 .f32) : IVec S_ 1 :=
  let main_cst_4 : FVec F S_ .f32 := constant S_ .f32 0x7F800000#32
  let main_v18 : FVec F S16x512 .f32 := broadcastInDim S16x512 ![] bcast_S_S16x512 main_cst_4
  let main_v19 : IVec S16x512 1 := cmpf .olt main_v17 main_v18
  let main_c_5 : IVec S_ 1 := constantI S_ 1 1#1
  let main_v20 : IVec S_ 1 := (fun x v => Host.reduce IntOp.andi x v reducesTo_S16x512_S_d0_1 h_S_) main_v19 main_c_5
  let main_v21 : IVec S_ 1 := andi main_v14 main_v20
  main_v21

def fn {F : FTy → Type} [FloatOps F] (main_arg0 : FVec F S1 .f32) (main_arg1 : FVec F S16x2048x512 .bf16) (main_arg2 : FVec F S16x2048x512 .bf16) (main_arg3 : FVec F S16x2048x512 .bf16) (main_arg4 : FVec F S128x512 .bf16) (main_arg5 : FVec F S128x512 .bf16) (main_arg6 : FVec F S4x64 .f32) (main_arg7 : FVec F S1x128 .f32) : IVec S_ 1 :=
  let main_cst : FVec F S_ .f32 := constant S_ .f32 0xFF800000#32
  let main_v0 : FVec F S1 .f32 := broadcastInDim S1 ![] bcast_S_S1 main_cst
  let main_v1 : IVec S1 1 := cmpf .ogt main_arg0 main_v0
  let main_c : IVec S_ 1 := constantI S_ 1 1#1
  let main_v2 : IVec S_ 1 := (fun x v => Host.reduce IntOp.andi x v reducesTo_S1_S_d0 h_S_) main_v1 main_c
  let main_v3 : FVec F S16x2048x512 .f32 := (extf .f32 · bitsLt_bf16_f32) main_arg1
  let main_v4 : FVec F S16x2048x512 .f32 := Host.absf main_v3
  let main_cst_0 : FVec F S_ .f32 := constant S_ .f32 0x7F800000#32
  let main_v5 : FVec F S16x2048x512 .f32 := broadcastInDim S16x2048x512 ![] bcast_S_S16x2048x512 main_cst_0
  let main_v6 : IVec S16x2048x512 1 := cmpf .olt main_v4 main_v5
  let main_c_1 : IVec S_ 1 := constantI S_ 1 1#1
  let main_v7 : IVec S_ 1 := (fun x v => Host.reduce IntOp.andi x v reducesTo_S16x2048x512_S_d0_1_2 h_S_) main_v6 main_c_1
  let main_v8 : IVec S_ 1 := andi main_v2 main_v7
  let main_v9 : FVec F S16x2048x512 .f32 := (extf .f32 · bitsLt_bf16_f32) main_arg2
  let main_v10 : FVec F S16x2048x512 .f32 := Host.absf main_v9
  let main_cst_2 : FVec F S_ .f32 := constant S_ .f32 0x7F800000#32
  let main_v11 : FVec F S16x2048x512 .f32 := broadcastInDim S16x2048x512 ![] bcast_S_S16x2048x512 main_cst_2
  let main_v12 : IVec S16x2048x512 1 := cmpf .olt main_v10 main_v11
  let main_c_3 : IVec S_ 1 := constantI S_ 1 1#1
  let main_v13 : IVec S_ 1 := (fun x v => Host.reduce IntOp.andi x v reducesTo_S16x2048x512_S_d0_1_2 h_S_) main_v12 main_c_3
  let main_v14 : IVec S_ 1 := andi main_v8 main_v13
  let main_v15 : FVec F S16x512 .bf16 := (extractStridedSlice S16x512 ![0, 0] · slices_S128x512_S16x512_0_0) main_arg4
  let main_v16 : FVec F S16x512 .f32 := (extf .f32 · bitsLt_bf16_f32) main_v15
  let main_v17 : FVec F S16x512 .f32 := Host.absf main_v16
  fn_part1 (F := F) main_v14 main_v17
-- ==== Pre_finite4.lean ====
abbrev S1 : Shape := ⟨1, ![1]⟩
abbrev S16x2048x512 : Shape := ⟨3, ![16, 2048, 512]⟩
abbrev S128x512 : Shape := ⟨2, ![128, 512]⟩
abbrev S16x2048x128 : Shape := ⟨3, ![16, 2048, 128]⟩
abbrev S16x8x2048 : Shape := ⟨3, ![16, 8, 2048]⟩
abbrev S16x8x128 : Shape := ⟨3, ![16, 8, 128]⟩
abbrev S_ : Shape := ⟨0, ![]⟩
abbrev S16x512 : Shape := ⟨2, ![16, 512]⟩
abbrev S16x2048x8 : Shape := ⟨3, ![16, 2048, 8]⟩
abbrev S16x8x16 : Shape := ⟨3, ![16, 8, 16]⟩

class Facts : Prop where
  bcast_S_S1 : S_.BroadcastsInDim S1 (![] : Fin 0 → Fin S1.rank)
  reducesTo_S1_S_d0 : S1.ReducesTo [0] S_
  h_S_ : 0 < S_.numel
  bitsLt_bf16_f32 : FTy.bits .bf16 < FTy.bits .f32
  bcast_S_S16x2048x512 : S_.BroadcastsInDim S16x2048x512 (![] : Fin 0 → Fin S16x2048x512.rank)
  reducesTo_S16x2048x512_S_d0_1_2 : S16x2048x512.ReducesTo [0, 1, 2] S_
  slices_S128x512_S16x512_0_0 : S128x512.Slices ![0, 0] S16x512
  bcast_S_S16x512 : S_.BroadcastsInDim S16x512 (![] : Fin 0 → Fin S16x512.rank)
  reducesTo_S16x512_S_d0_1 : S16x512.ReducesTo [0, 1] S_
  slices_S16x2048x128_S16x2048x8_0_0_0 : S16x2048x128.Slices ![0, 0, 0] S16x2048x8
  bcast_S_S16x2048x8 : S_.BroadcastsInDim S16x2048x8 (![] : Fin 0 → Fin S16x2048x8.rank)
  reducesTo_S16x2048x8_S_d0_1_2 : S16x2048x8.ReducesTo [0, 1, 2] S_
  bcast_S_S16x8x2048 : S_.BroadcastsInDim S16x8x2048 (![] : Fin 0 → Fin S16x8x2048.rank)
  reducesTo_S16x8x2048_S_d0_1_2 : S16x8x2048.ReducesTo [0, 1, 2] S_
  slices_S16x8x128_S16x8x16_0_0_0 : S16x8x128.Slices ![0, 0, 0] S16x8x16
  bcast_S_S16x8x16 : S_.BroadcastsInDim S16x8x16 (![] : Fin 0 → Fin S16x8x16.rank)
  reducesTo_S16x8x16_S_d0_1_2 : S16x8x16.ReducesTo [0, 1, 2] S_

variable [Facts]

def fn_part2 {F : FTy → Type} [FloatOps F] (main_v32 : IVec S_ 1) (main_v34 : FVec F S16x8x16 .f32) (main_cst_10 : FVec F S_ .f32) : IVec S_ 1 :=
  let main_v35 : FVec F S16x8x16 .f32 := broadcastInDim S16x8x16 ![] bcast_S_S16x8x16 main_cst_10
  let main_v36 : IVec S16x8x16 1 := cmpf .olt main_v34 main_v35
  let main_c_11 : IVec S_ 1 := constantI S_ 1 1#1
  let main_v37 : IVec S_ 1 := (fun x v => Host.reduce IntOp.andi x v reducesTo_S16x8x16_S_d0_1_2 h_S_) main_v36 main_c_11
  let main_v38 : IVec S_ 1 := andi main_v32 main_v37
  main_v38

def fn_part1 {F : FTy → Type} [FloatOps F] (main_arg6 : FVec F S16x2048x128 .f32) (main_arg7 : FVec F S16x8x2048 .f32) (main_arg8 : FVec F S16x8x128 .f32) (main_v14 : IVec S_ 1) (main_v17 : FVec F S16x512 .f32) : IVec S_ 1 :=
  let main_cst_4 : FVec F S_ .f32 := constant S_ .f32 0x7F800000#32
  let main_v18 : FVec F S16x512 .f32 := broadcastInDim S16x512 ![] bcast_S_S16x512 main_cst_4
  let main_v19 : IVec S16x512 1 := cmpf .olt main_v17 main_v18
  let main_c_5 : IVec S_ 1 := constantI S_ 1 1#1
  let main_v20 : IVec S_ 1 := (fun x v => Host.reduce IntOp.andi x v reducesTo_S16x512_S_d0_1 h_S_) main_v19 main_c_5
  let main_v21 : IVec S_ 1 := andi main_v14 main_v20
  let main_v22 : FVec F S16x2048x8 .f32 := (extractStridedSlice S16x2048x8 ![0, 0, 0] · slices_S16x2048x128_S16x2048x8_0_0_0) main_arg6
  let main_v23 : FVec F S16x2048x8 .f32 := Host.absf main_v22
  let main_cst_6 : FVec F S_ .f32 := constant S_ .f32 0x7F800000#32
  let main_v24 : FVec F S16x2048x8 .f32 := broadcastInDim S16x2048x8 ![] bcast_S_S16x2048x8 main_cst_6
  let main_v25 : IVec S16x2048x8 1 := cmpf .olt main_v23 main_v24
  let main_c_7 : IVec S_ 1 := constantI S_ 1 1#1
  let main_v26 : IVec S_ 1 := (fun x v => Host.reduce IntOp.andi x v reducesTo_S16x2048x8_S_d0_1_2 h_S_) main_v25 main_c_7
  let main_v27 : IVec S_ 1 := andi main_v21 main_v26
  let main_v28 : FVec F S16x8x2048 .f32 := Host.absf main_arg7
  let main_cst_8 : FVec F S_ .f32 := constant S_ .f32 0x7F800000#32
  let main_v29 : FVec F S16x8x2048 .f32 := broadcastInDim S16x8x2048 ![] bcast_S_S16x8x2048 main_cst_8
  let main_v30 : IVec S16x8x2048 1 := cmpf .olt main_v28 main_v29
  let main_c_9 : IVec S_ 1 := constantI S_ 1 1#1
  let main_v31 : IVec S_ 1 := (fun x v => Host.reduce IntOp.andi x v reducesTo_S16x8x2048_S_d0_1_2 h_S_) main_v30 main_c_9
  let main_v32 : IVec S_ 1 := andi main_v27 main_v31
  let main_v33 : FVec F S16x8x16 .f32 := (extractStridedSlice S16x8x16 ![0, 0, 0] · slices_S16x8x128_S16x8x16_0_0_0) main_arg8
  let main_v34 : FVec F S16x8x16 .f32 := Host.absf main_v33
  let main_cst_10 : FVec F S_ .f32 := constant S_ .f32 0x7F800000#32
  fn_part2 (F := F) main_v32 main_v34 main_cst_10

def fn {F : FTy → Type} [FloatOps F] (main_arg0 : FVec F S1 .f32) (main_arg1 : FVec F S16x2048x512 .bf16) (main_arg2 : FVec F S16x2048x512 .bf16) (main_arg3 : FVec F S16x2048x512 .bf16) (main_arg4 : FVec F S128x512 .bf16) (main_arg5 : FVec F S128x512 .bf16) (main_arg6 : FVec F S16x2048x128 .f32) (main_arg7 : FVec F S16x8x2048 .f32) (main_arg8 : FVec F S16x8x128 .f32) : IVec S_ 1 :=
  let main_cst : FVec F S_ .f32 := constant S_ .f32 0xFF800000#32
  let main_v0 : FVec F S1 .f32 := broadcastInDim S1 ![] bcast_S_S1 main_cst
  let main_v1 : IVec S1 1 := cmpf .ogt main_arg0 main_v0
  let main_c : IVec S_ 1 := constantI S_ 1 1#1
  let main_v2 : IVec S_ 1 := (fun x v => Host.reduce IntOp.andi x v reducesTo_S1_S_d0 h_S_) main_v1 main_c
  let main_v3 : FVec F S16x2048x512 .f32 := (extf .f32 · bitsLt_bf16_f32) main_arg1
  let main_v4 : FVec F S16x2048x512 .f32 := Host.absf main_v3
  let main_cst_0 : FVec F S_ .f32 := constant S_ .f32 0x7F800000#32
  let main_v5 : FVec F S16x2048x512 .f32 := broadcastInDim S16x2048x512 ![] bcast_S_S16x2048x512 main_cst_0
  let main_v6 : IVec S16x2048x512 1 := cmpf .olt main_v4 main_v5
  let main_c_1 : IVec S_ 1 := constantI S_ 1 1#1
  let main_v7 : IVec S_ 1 := (fun x v => Host.reduce IntOp.andi x v reducesTo_S16x2048x512_S_d0_1_2 h_S_) main_v6 main_c_1
  let main_v8 : IVec S_ 1 := andi main_v2 main_v7
  let main_v9 : FVec F S16x2048x512 .f32 := (extf .f32 · bitsLt_bf16_f32) main_arg2
  let main_v10 : FVec F S16x2048x512 .f32 := Host.absf main_v9
  let main_cst_2 : FVec F S_ .f32 := constant S_ .f32 0x7F800000#32
  let main_v11 : FVec F S16x2048x512 .f32 := broadcastInDim S16x2048x512 ![] bcast_S_S16x2048x512 main_cst_2
  let main_v12 : IVec S16x2048x512 1 := cmpf .olt main_v10 main_v11
  let main_c_3 : IVec S_ 1 := constantI S_ 1 1#1
  let main_v13 : IVec S_ 1 := (fun x v => Host.reduce IntOp.andi x v reducesTo_S16x2048x512_S_d0_1_2 h_S_) main_v12 main_c_3
  let main_v14 : IVec S_ 1 := andi main_v8 main_v13
  let main_v15 : FVec F S16x512 .bf16 := (extractStridedSlice S16x512 ![0, 0] · slices_S128x512_S16x512_0_0) main_arg4
  let main_v16 : FVec F S16x512 .f32 := (extf .f32 · bitsLt_bf16_f32) main_v15
  let main_v17 : FVec F S16x512 .f32 := Host.absf main_v16
  fn_part1 (F := F) main_arg6 main_arg7 main_arg8 main_v14 main_v17
-- ==== Kernel.lean ====
abbrev S1 : Shape := ⟨1, ![1]⟩
abbrev S16x2048x512 : Shape := ⟨3, ![16, 2048, 512]⟩
abbrev S128x512 : Shape := ⟨2, ![128, 512]⟩
abbrev S4x64 : Shape := ⟨2, ![4, 64]⟩
abbrev S1x128 : Shape := ⟨2, ![1, 128]⟩
abbrev S1x512x512 : Shape := ⟨3, ![1, 512, 512]⟩
abbrev S1x2048x512 : Shape := ⟨3, ![1, 2048, 512]⟩
abbrev S1x512x128 : Shape := ⟨3, ![1, 512, 128]⟩
abbrev S512x128 : Shape := ⟨2, ![512, 128]⟩
abbrev S512x640 : Shape := ⟨2, ![512, 640]⟩
abbrev S128x128 : Shape := ⟨2, ![128, 128]⟩
abbrev S640x128 : Shape := ⟨2, ![640, 128]⟩
abbrev S512x512 : Shape := ⟨2, ![512, 512]⟩
abbrev S512 : Shape := ⟨1, ![512]⟩
abbrev S512x1 : Shape := ⟨2, ![512, 1]⟩
abbrev S1x64 : Shape := ⟨2, ![1, 64]⟩
abbrev S1x1 : Shape := ⟨2, ![1, 1]⟩

abbrev nBuf : Space → Nat
  | .hbm => 9
  | .vmem => 12
  | .smem => 1
  | _ => 0

abbrev bufTy : (tb : Table) → Fin (tcTables nBuf tb) → BufTy
  | .hbm, ⟨0, _⟩ => ⟨S1, .f32⟩
  | .hbm, ⟨1, _⟩ => ⟨S16x2048x512, .bf16⟩
  | .hbm, ⟨2, _⟩ => ⟨S16x2048x512, .bf16⟩
  | .hbm, ⟨3, _⟩ => ⟨S16x2048x512, .bf16⟩
  | .hbm, ⟨4, _⟩ => ⟨S128x512, .bf16⟩
  | .hbm, ⟨5, _⟩ => ⟨S128x512, .bf16⟩
  | .hbm, ⟨6, _⟩ => ⟨S4x64, .f32⟩
  | .hbm, ⟨7, _⟩ => ⟨S1x128, .f32⟩
  | .hbm, ⟨8, _⟩ => ⟨S16x2048x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S128x512, .bf16⟩
  | .local _ .vmem, ⟨7, _⟩ => ⟨S128x512, .bf16⟩
  | .local _ .vmem, ⟨8, _⟩ => ⟨S4x64, .f32⟩
  | .local _ .vmem, ⟨9, _⟩ => ⟨S1x128, .f32⟩
  | .local _ .vmem, ⟨10, _⟩ => ⟨S1x512x512, .bf16⟩
  | .local _ .vmem, ⟨11, _⟩ => ⟨S1x512x512, .bf16⟩
  | .local _ .smem, ⟨0, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c512_i32 : BitVec 32 := 512#32
  let v43 : BitVec 32 := Scalar.muli arg1 c512_i32
  v43
def k0_off1 (i : grid0.Coords) : Fin 3 → Nat :=
  let c0_30 : Index := 0#32
  let arg1 : BitVec 32 := BitVec.ofNat 32 (i 1).val
  let c512_i32 : BitVec 32 := 512#32
  let v43 : BitVec 32 := Scalar.muli arg1 c512_i32
  let v44 : BitVec 32 := v43
  let v80 : Index := Scalar.indexCast v44
  let c0_31 : Index := 0#32
  ![0, v80.toNat, 0]
def k0_off2 (i : grid0.Coords) : Fin 3 → Nat :=
  let c0_44 : Index := 0#32
  let arg1 : BitVec 32 := BitVec.ofNat 32 (i 1).val
  let c512_i32 : BitVec 32 := 512#32
  let v43 : BitVec 32 := Scalar.muli arg1 c512_i32
  let v44 : BitVec 32 := v43
  let v124 : Index := Scalar.indexCast v44
  let c128_45 : Index := 128#32
  ![0, v124.toNat, 128]
def k0_off3 (i : grid0.Coords) : Fin 3 → Nat :=
  let c0_58 : Index := 0#32
  let arg1 : BitVec 32 := BitVec.ofNat 32 (i 1).val
  let c512_i32 : BitVec 32 := 512#32
  let v43 : BitVec 32 := Scalar.muli arg1 c512_i32
  let v44 : BitVec 32 := v43
  let v168 : Index := Scalar.indexCast v44
  let c256_59 : Index := 256#32
  ![0, v168.toNat, 256]
def k0_off4 (i : grid0.Coords) : Fin 3 → Nat :=
  let c0_72 : Index := 0#32
  let arg1 : BitVec 32 := BitVec.ofNat 32 (i 1).val
  let c512_i32 : BitVec 32 := 512#32
  let v43 : BitVec 32 := Scalar.muli arg1 c512_i32
  let v44 : BitVec 32 := v43
  let v212 : Index := Scalar.indexCast v44
  let c384_73 : Index := 384#32
  ![0, v212.toNat, 384]
@[reducible] def k0_t1_loop (i : grid0.Coords) : Scf.Loop 32 :=
  let c0_i32_86 : BitVec 32 := 0#32
  let arg1 : BitVec 32 := BitVec.ofNat 32 (i 1).val
  let v256 : BitVec 32 := Scalar.subi arg1 c0_i32_86
  let c1_i32_87 : BitVec 32 := 1#32
  let v258 : BitVec 32 := Scalar.divsi v256 c1_i32_87
  let v259 : BitVec 32 := Scalar.muli v258 c1_i32_87
  let v260 : BitVec 32 := Scalar.addi c0_i32_86 v259
  let c1_i32_88 : BitVec 32 := 1#32
  ⟨c0_i32_86, v260, c1_i32_88⟩
def k0_mult2 (i : grid0.Coords) (k0_t1 : Fin (k0_t1_loop i).trips) : BitVec 32 :=
  let c0_i32_86 : BitVec 32 := 0#32
  let c1_i32_88 : BitVec 32 := 1#32
  let arg11 : BitVec 32 := Scf.iv c0_i32_86 c1_i32_88 k0_t1
  let c512_i32_139 : BitVec 32 := 512#32
  let v399 : BitVec 32 := Scalar.muli arg11 c512_i32_139
  v399
def k0_off5 (i : grid0.Coords) (k0_t1 : Fin (k0_t1_loop i).trips) : Fin 3 → Nat :=
  let c0_140 : Index := 0#32
  let c0_i32_86 : BitVec 32 := 0#32
  let c1_i32_88 : BitVec 32 := 1#32
  let arg11 : BitVec 32 := Scf.iv c0_i32_86 c1_i32_88 k0_t1
  let c512_i32_139 : BitVec 32 := 512#32
  let v399 : BitVec 32 := Scalar.muli arg11 c512_i32_139
  let v400 : BitVec 32 := v399
  let v401 : Index := Scalar.indexCast v400
  let c0_141 : Index := 0#32
  ![0, v401.toNat, 0]
def k0_off6 (i : grid0.Coords) (k0_t1 : Fin (k0_t1_loop i).trips) : Fin 3 → Nat :=
  let c0_148 : Index := 0#32
  let c0_i32_86 : BitVec 32 := 0#32
  let c1_i32_88 : BitVec 32 := 1#32
  let arg11 : BitVec 32 := Scf.iv c0_i32_86 c1_i32_88 k0_t1
  let c512_i32_139 : BitVec 32 := 512#32
  let v399 : BitVec 32 := Scalar.muli arg11 c512_i32_139
  let v400 : BitVec 32 := v399
  let v437 : Index := Scalar.indexCast v400
  let c128_149 : Index := 128#32
  ![0, v437.toNat, 128]
def k0_off7 (i : grid0.Coords) (k0_t1 : Fin (k0_t1_loop i).trips) : Fin 3 → Nat :=
  let c0_156 : Index := 0#32
  let c0_i32_86 : BitVec 32 := 0#32
  let c1_i32_88 : BitVec 32 := 1#32
  let arg11 : BitVec 32 := Scf.iv c0_i32_86 c1_i32_88 k0_t1
  let c512_i32_139 : BitVec 32 := 512#32
  let v399 : BitVec 32 := Scalar.muli arg11 c512_i32_139
  let v400 : BitVec 32 := v399
  let v473 : Index := Scalar.indexCast v400
  let c256_157 : Index := 256#32
  ![0, v473.toNat, 256]
def k0_off8 (i : grid0.Coords) (k0_t1 : Fin (k0_t1_loop i).trips) : Fin 3 → Nat :=
  let c0_164 : Index := 0#32
  let c0_i32_86 : BitVec 32 := 0#32
  let c1_i32_88 : BitVec 32 := 1#32
  let arg11 : BitVec 32 := Scf.iv c0_i32_86 c1_i32_88 k0_t1
  let c512_i32_139 : BitVec 32 := 512#32
  let v399 : BitVec 32 := Scalar.muli arg11 c512_i32_139
  let v400 : BitVec 32 := v399
  let v509 : Index := Scalar.indexCast v400
  let c384_165 : Index := 384#32
  ![0, v509.toNat, 384]
@[reducible] def k0_t2_loop (i : grid0.Coords) : Scf.Loop 32 :=
  let c0_i32_86 : BitVec 32 := 0#32
  let arg1 : BitVec 32 := BitVec.ofNat 32 (i 1).val
  let v256 : BitVec 32 := Scalar.subi arg1 c0_i32_86
  let c1_i32_87 : BitVec 32 := 1#32
  let v258 : BitVec 32 := Scalar.divsi v256 c1_i32_87
  let v259 : BitVec 32 := Scalar.muli v258 c1_i32_87
  let v260 : BitVec 32 := Scalar.addi c0_i32_86 v259
  let v257 : BitVec 32 := Scalar.addi c0_i32_86 v256
  let c1_i32_89 : BitVec 32 := 1#32
  ⟨v260, v257, c1_i32_89⟩
def k0_mult3 (i : grid0.Coords) (k0_t2 : Fin (k0_t2_loop i).trips) : BitVec 32 :=
  let c0_i32_86 : BitVec 32 := 0#32
  let arg1 : BitVec 32 := BitVec.ofNat 32 (i 1).val
  let v256 : BitVec 32 := Scalar.subi arg1 c0_i32_86
  let c1_i32_87 : BitVec 32 := 1#32
  let v258 : BitVec 32 := Scalar.divsi v256 c1_i32_87
  let v259 : BitVec 32 := Scalar.muli v258 c1_i32_87
  let v260 : BitVec 32 := Scalar.addi c0_i32_86 v259
  let c1_i32_89 : BitVec 32 := 1#32
  let arg11 : BitVec 32 := Scf.iv v260 c1_i32_89 k0_t2
  let c512_i32_139 : BitVec 32 := 512#32
  let v399 : BitVec 32 := Scalar.muli arg11 c512_i32_139
  v399
def k0_off9 (i : grid0.Coords) (k0_t2 : Fin (k0_t2_loop i).trips) : Fin 3 → Nat :=
  let c0_140 : Index := 0#32
  let c0_i32_86 : BitVec 32 := 0#32
  let arg1 : BitVec 32 := BitVec.ofNat 32 (i 1).val
  let v256 : BitVec 32 := Scalar.subi arg1 c0_i32_86
  let c1_i32_87 : BitVec 32 := 1#32
  let v258 : BitVec 32 := Scalar.divsi v256 c1_i32_87
  let v259 : BitVec 32 := Scalar.muli v258 c1_i32_87
  let v260 : BitVec 32 := Scalar.addi c0_i32_86 v259
  let c1_i32_89 : BitVec 32 := 1#32
  let arg11 : BitVec 32 := Scf.iv v260 c1_i32_89 k0_t2
  let c512_i32_139 : BitVec 32 := 512#32
  let v399 : BitVec 32 := Scalar.muli arg11 c512_i32_139
  let v400 : BitVec 32 := v399
  let v401 : Index := Scalar.indexCast v400
  let c0_141 : Index := 0#32
  ![0, v401.toNat, 0]
def k0_off10 (i : grid0.Coords) (k0_t2 : Fin (k0_t2_loop i).trips) : Fin 3 → Nat :=
  let c0_148 : Index := 0#32
  let c0_i32_86 : BitVec 32 := 0#32
  let arg1 : BitVec 32 := BitVec.ofNat 32 (i 1).val
  let v256 : BitVec 32 := Scalar.subi arg1 c0_i32_86
  let c1_i32_87 : BitVec 32 := 1#32
  let v258 : BitVec 32 := Scalar.divsi v256 c1_i32_87
  let v259 : BitVec 32 := Scalar.muli v258 c1_i32_87
  let v260 : BitVec 32 := Scalar.addi c0_i32_86 v259
  let c1_i32_89 : BitVec 32 := 1#32
  let arg11 : BitVec 32 := Scf.iv v260 c1_i32_89 k0_t2
  let c512_i32_139 : BitVec 32 := 512#32
  let v399 : BitVec 32 := Scalar.muli arg11 c512_i32_139
  let v400 : BitVec 32 := v399
  let v437 : Index := Scalar.indexCast v400
  let c128_149 : Index := 128#32
  ![0, v437.toNat, 128]
def k0_off11 (i : grid0.Coords) (k0_t2 : Fin (k0_t2_loop i).trips) : Fin 3 → Nat :=
  let c0_156 : Index := 0#32
  let c0_i32_86 : BitVec 32 := 0#32
  let arg1 : BitVec 32 := BitVec.ofNat 32 (i 1).val
  let v256 : BitVec 32 := Scalar.subi arg1 c0_i32_86
  let c1_i32_87 : BitVec 32 := 1#32
  let v258 : BitVec 32 := Scalar.divsi v256 c1_i32_87
  let v259 : BitVec 32 := Scalar.muli v258 c1_i32_87
  let v260 : BitVec 32 := Scalar.addi c0_i32_86 v259
  let c1_i32_89 : BitVec 32 := 1#32
  let arg11 : BitVec 32 := Scf.iv v260 c1_i32_89 k0_t2
  let c512_i32_139 : BitVec 32 := 512#32
  let v399 : BitVec 32 := Scalar.muli arg11 c512_i32_139
  let v400 : BitVec 32 := v399
  let v473 : Index := Scalar.indexCast v400
  let c256_157 : Index := 256#32
  ![0, v473.toNat, 256]
def k0_off12 (i : grid0.Coords) (k0_t2 : Fin (k0_t2_loop i).trips) : Fin 3 → Nat :=
  let c0_164 : Index := 0#32
  let c0_i32_86 : BitVec 32 := 0#32
  let arg1 : BitVec 32 := BitVec.ofNat 32 (i 1).val
  let v256 : BitVec 32 := Scalar.subi arg1 c0_i32_86
  let c1_i32_87 : BitVec 32 := 1#32
  let v258 : BitVec 32 := Scalar.divsi v256 c1_i32_87
  let v259 : BitVec 32 := Scalar.muli v258 c1_i32_87
  let v260 : BitVec 32 := Scalar.addi c0_i32_86 v259
  let c1_i32_89 : BitVec 32 := 1#32
  let arg11 : BitVec 32 := Scf.iv v260 c1_i32_89 k0_t2
  let c512_i32_139 : BitVec 32 := 512#32
  let v399 : BitVec 32 := Scalar.muli arg11 c512_i32_139
  let v400 : BitVec 32 := v399
  let v509 : Index := Scalar.indexCast v400
  let c384_165 : Index := 384#32
  ![0, v509.toNat, 384]
def k0_mult4 (i : grid0.Coords) : BitVec 32 :=
  let arg1 : BitVec 32 := BitVec.ofNat 32 (i 1).val
  let c512_i32 : BitVec 32 := 512#32
  let v43 : BitVec 32 := Scalar.muli arg1 c512_i32
  v43
def k0_off13 (i : grid0.Coords) : Fin 3 → Nat :=
  let c0_30 : Index := 0#32
  let arg1 : BitVec 32 := BitVec.ofNat 32 (i 1).val
  let c512_i32 : BitVec 32 := 512#32
  let v43 : BitVec 32 := Scalar.muli arg1 c512_i32
  let v44 : BitVec 32 := v43
  let v80 : Index := Scalar.indexCast v44
  let c0_31 : Index := 0#32
  ![0, v80.toNat, 0]
def k0_off14 (i : grid0.Coords) : Fin 3 → Nat :=
  let c0_48 : Index := 0#32
  let arg1 : BitVec 32 := BitVec.ofNat 32 (i 1).val
  let c512_i32 : BitVec 32 := 512#32
  let v43 : BitVec 32 := Scalar.muli arg1 c512_i32
  let v44 : BitVec 32 := v43
  let v114 : Index := Scalar.indexCast v44
  let c128_49 : Index := 128#32
  ![0, v114.toNat, 128]
def k0_off15 (i : grid0.Coords) : Fin 3 → Nat :=
  let c0_66 : Index := 0#32
  let arg1 : BitVec 32 := BitVec.ofNat 32 (i 1).val
  let c512_i32 : BitVec 32 := 512#32
  let v43 : BitVec 32 := Scalar.muli arg1 c512_i32
  let v44 : BitVec 32 := v43
  let v148 : Index := Scalar.indexCast v44
  let c256_67 : Index := 256#32
  ![0, v148.toNat, 256]
def k0_off16 (i : grid0.Coords) : Fin 3 → Nat :=
  let c0_84 : Index := 0#32
  let arg1 : BitVec 32 := BitVec.ofNat 32 (i 1).val
  let c512_i32 : BitVec 32 := 512#32
  let v43 : BitVec 32 := Scalar.muli arg1 c512_i32
  let v44 : BitVec 32 := v43
  let v182 : Index := Scalar.indexCast v44
  let c384_85 : Index := 384#32
  ![0, v182.toNat, 384]
@[reducible] def k0_t3_loop (i : grid0.Coords) : Scf.Loop 32 :=
  let c0_i32_102 : BitVec 32 := 0#32
  let arg1 : BitVec 32 := BitVec.ofNat 32 (i 1).val
  let v216 : BitVec 32 := Scalar.subi arg1 c0_i32_102
  let c1_i32_103 : BitVec 32 := 1#32
  let v218 : BitVec 32 := Scalar.divsi v216 c1_i32_103
  let v219 : BitVec 32 := Scalar.muli v218 c1_i32_103
  let v220 : BitVec 32 := Scalar.addi c0_i32_102 v219
  let c1_i32_104 : BitVec 32 := 1#32
  ⟨c0_i32_102, v220, c1_i32_104⟩
def k0_mult5 (i : grid0.Coords) (k0_t3 : Fin (k0_t3_loop i).trips) : BitVec 32 :=
  let c0_i32_102 : BitVec 32 := 0#32
  let c1_i32_104 : BitVec 32 := 1#32
  let arg11 : BitVec 32 := Scf.iv c0_i32_102 c1_i32_104 k0_t3
  let c512_i32_147 : BitVec 32 := 512#32
  let v343 : BitVec 32 := Scalar.muli arg11 c512_i32_147
  v343
def k0_off17 (i : grid0.Coords) (k0_t3 : Fin (k0_t3_loop i).trips) : Fin 3 → Nat :=
  let c0_148 : Index := 0#32
  let c0_i32_102 : BitVec 32 := 0#32
  let c1_i32_104 : BitVec 32 := 1#32
  let arg11 : BitVec 32 := Scf.iv c0_i32_102 c1_i32_104 k0_t3
  let c512_i32_147 : BitVec 32 := 512#32
  let v343 : BitVec 32 := Scalar.muli arg11 c512_i32_147
  let v344 : BitVec 32 := v343
  let v345 : Index := Scalar.indexCast v344
  let c0_149 : Index := 0#32
  ![0, v345.toNat, 0]
def k0_off18 (i : grid0.Coords) (k0_t3 : Fin (k0_t3_loop i).trips) : Fin 3 → Nat :=
  let c0_160 : Index := 0#32
  let c0_i32_102 : BitVec 32 := 0#32
  let c1_i32_104 : BitVec 32 := 1#32
  let arg11 : BitVec 32 := Scf.iv c0_i32_102 c1_i32_104 k0_t3
  let c512_i32_147 : BitVec 32 := 512#32
  let v343 : BitVec 32 := Scalar.muli arg11 c512_i32_147
  let v344 : BitVec 32 := v343
  let v387 : Index := Scalar.indexCast v344
  let c128_161 : Index := 128#32
  ![0, v387.toNat, 128]
def k0_off19 (i : grid0.Coords) (k0_t3 : Fin (k0_t3_loop i).trips) : Fin 3 → Nat :=
  let c0_172 : Index := 0#32
  let c0_i32_102 : BitVec 32 := 0#32
  let c1_i32_104 : BitVec 32 := 1#32
  let arg11 : BitVec 32 := Scf.iv c0_i32_102 c1_i32_104 k0_t3
  let c512_i32_147 : BitVec 32 := 512#32
  let v343 : BitVec 32 := Scalar.muli arg11 c512_i32_147
  let v344 : BitVec 32 := v343
  let v429 : Index := Scalar.indexCast v344
  let c256_173 : Index := 256#32
  ![0, v429.toNat, 256]
def k0_off20 (i : grid0.Coords) (k0_t3 : Fin (k0_t3_loop i).trips) : Fin 3 → Nat :=
  let c0_184 : Index := 0#32
  let c0_i32_102 : BitVec 32 := 0#32
  let c1_i32_104 : BitVec 32 := 1#32
  let arg11 : BitVec 32 := Scf.iv c0_i32_102 c1_i32_104 k0_t3
  let c512_i32_147 : BitVec 32 := 512#32
  let v343 : BitVec 32 := Scalar.muli arg11 c512_i32_147
  let v344 : BitVec 32 := v343
  let v471 : Index := Scalar.indexCast v344
  let c384_185 : Index := 384#32
  ![0, v471.toNat, 384]
@[reducible] def k0_t4_loop (i : grid0.Coords) : Scf.Loop 32 :=
  let c0_i32_102 : BitVec 32 := 0#32
  let arg1 : BitVec 32 := BitVec.ofNat 32 (i 1).val
  let v216 : BitVec 32 := Scalar.subi arg1 c0_i32_102
  let c1_i32_103 : BitVec 32 := 1#32
  let v218 : BitVec 32 := Scalar.divsi v216 c1_i32_103
  let v219 : BitVec 32 := Scalar.muli v218 c1_i32_103
  let v220 : BitVec 32 := Scalar.addi c0_i32_102 v219
  let v217 : BitVec 32 := Scalar.addi c0_i32_102 v216
  let c1_i32_105 : BitVec 32 := 1#32
  ⟨v220, v217, c1_i32_105⟩
def k0_mult6 (i : grid0.Coords) (k0_t4 : Fin (k0_t4_loop i).trips) : BitVec 32 :=
  let c0_i32_102 : BitVec 32 := 0#32
  let arg1 : BitVec 32 := BitVec.ofNat 32 (i 1).val
  let v216 : BitVec 32 := Scalar.subi arg1 c0_i32_102
  let c1_i32_103 : BitVec 32 := 1#32
  let v218 : BitVec 32 := Scalar.divsi v216 c1_i32_103
  let v219 : BitVec 32 := Scalar.muli v218 c1_i32_103
  let v220 : BitVec 32 := Scalar.addi c0_i32_102 v219
  let c1_i32_105 : BitVec 32 := 1#32
  let arg11 : BitVec 32 := Scf.iv v220 c1_i32_105 k0_t4
  let c512_i32_147 : BitVec 32 := 512#32
  let v343 : BitVec 32 := Scalar.muli arg11 c512_i32_147
  v343
def k0_off21 (i : grid0.Coords) (k0_t4 : Fin (k0_t4_loop i).trips) : Fin 3 → Nat :=
  let c0_148 : Index := 0#32
  let c0_i32_102 : BitVec 32 := 0#32
  let arg1 : BitVec 32 := BitVec.ofNat 32 (i 1).val
  let v216 : BitVec 32 := Scalar.subi arg1 c0_i32_102
  let c1_i32_103 : BitVec 32 := 1#32
  let v218 : BitVec 32 := Scalar.divsi v216 c1_i32_103
  let v219 : BitVec 32 := Scalar.muli v218 c1_i32_103
  let v220 : BitVec 32 := Scalar.addi c0_i32_102 v219
  let c1_i32_105 : BitVec 32 := 1#32
  let arg11 : BitVec 32 := Scf.iv v220 c1_i32_105 k0_t4
  let c512_i32_147 : BitVec 32 := 512#32
  let v343 : BitVec 32 := Scalar.muli arg11 c512_i32_147
  let v344 : BitVec 32 := v343
  let v345 : Index := Scalar.indexCast v344
  let c0_149 : Index := 0#32
  ![0, v345.toNat, 0]
def k0_off22 (i : grid0.Coords) (k0_t4 : Fin (k0_t4_loop i).trips) : Fin 3 → Nat :=
  let c0_160 : Index := 0#32
  let c0_i32_102 : BitVec 32 := 0#32
  let arg1 : BitVec 32 := BitVec.ofNat 32 (i 1).val
  let v216 : BitVec 32 := Scalar.subi arg1 c0_i32_102
  let c1_i32_103 : BitVec 32 := 1#32
  let v218 : BitVec 32 := Scalar.divsi v216 c1_i32_103
  let v219 : BitVec 32 := Scalar.muli v218 c1_i32_103
  let v220 : BitVec 32 := Scalar.addi c0_i32_102 v219
  let c1_i32_105 : BitVec 32 := 1#32
  let arg11 : BitVec 32 := Scf.iv v220 c1_i32_105 k0_t4
  let c512_i32_147 : BitVec 32 := 512#32
  let v343 : BitVec 32 := Scalar.muli arg11 c512_i32_147
  let v344 : BitVec 32 := v343
  let v387 : Index := Scalar.indexCast v344
  let c128_161 : Index := 128#32
  ![0, v387.toNat, 128]
def k0_off23 (i : grid0.Coords) (k0_t4 : Fin (k0_t4_loop i).trips) : Fin 3 → Nat :=
  let c0_172 : Index := 0#32
  let c0_i32_102 : BitVec 32 := 0#32
  let arg1 : BitVec 32 := BitVec.ofNat 32 (i 1).val
  let v216 : BitVec 32 := Scalar.subi arg1 c0_i32_102
  let c1_i32_103 : BitVec 32 := 1#32
  let v218 : BitVec 32 := Scalar.divsi v216 c1_i32_103
  let v219 : BitVec 32 := Scalar.muli v218 c1_i32_103
  let v220 : BitVec 32 := Scalar.addi c0_i32_102 v219
  let c1_i32_105 : BitVec 32 := 1#32
  let arg11 : BitVec 32 := Scf.iv v220 c1_i32_105 k0_t4
  let c512_i32_147 : BitVec 32 := 512#32
  let v343 : BitVec 32 := Scalar.muli arg11 c512_i32_147
  let v344 : BitVec 32 := v343
  let v429 : Index := Scalar.indexCast v344
  let c256_173 : Index := 256#32
  ![0, v429.toNat, 256]
def k0_off24 (i : grid0.Coords) (k0_t4 : Fin (k0_t4_loop i).trips) : Fin 3 → Nat :=
  let c0_184 : Index := 0#32
  let c0_i32_102 : BitVec 32 := 0#32
  let arg1 : BitVec 32 := BitVec.ofNat 32 (i 1).val
  let v216 : BitVec 32 := Scalar.subi arg1 c0_i32_102
  let c1_i32_103 : BitVec 32 := 1#32
  let v218 : BitVec 32 := Scalar.divsi v216 c1_i32_103
  let v219 : BitVec 32 := Scalar.muli v218 c1_i32_103
  let v220 : BitVec 32 := Scalar.addi c0_i32_102 v219
  let c1_i32_105 : BitVec 32 := 1#32
  let arg11 : BitVec 32 := Scf.iv v220 c1_i32_105 k0_t4
  let c512_i32_147 : BitVec 32 := 512#32
  let v343 : BitVec 32 := Scalar.muli arg11 c512_i32_147
  let v344 : BitVec 32 := v343
  let v471 : Index := Scalar.indexCast v344
  let c384_185 : Index := 384#32
  ![0, v471.toNat, 384]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S1 : Shape := ⟨1, ![1]⟩
abbrev S16x2048x512 : Shape := ⟨3, ![16, 2048, 512]⟩
abbrev S128x512 : Shape := ⟨2, ![128, 512]⟩
abbrev S4x64 : Shape := ⟨2, ![4, 64]⟩
abbrev S1x128 : Shape := ⟨2, ![1, 128]⟩
abbrev S_ : Shape := ⟨0, ![]⟩
abbrev S16x512 : Shape := ⟨2, ![16, 512]⟩
abbrev S1x16x512 : Shape := ⟨3, ![1, 16, 512]⟩
abbrev S16x16x512 : Shape := ⟨3, ![16, 16, 512]⟩
abbrev S16x2064x512 : Shape := ⟨3, ![16, 2064, 512]⟩
abbrev S16x2048x4x2x64 : Shape := ⟨5, ![16, 2048, 4, 2, 64]⟩
abbrev S16x2064x4x2x64 : Shape := ⟨5, ![16, 2064, 4, 2, 64]⟩
abbrev S16x2064x4x128 : Shape := ⟨4, ![16, 2064, 4, 128]⟩
abbrev S16x2x4x2048x2064 : Shape := ⟨5, ![16, 2, 4, 2048, 2064]⟩
abbrev S2064 : Shape := ⟨1, ![2064]⟩
abbrev S1x2064 : Shape := ⟨2, ![1, 2064]⟩
abbrev S2048 : Shape := ⟨1, ![2048]⟩
abbrev S2048x1 : Shape := ⟨2, ![2048, 1]⟩
abbrev S2048x2064 : Shape := ⟨2, ![2048, 2064]⟩
abbrev S16x2x4x2048 : Shape := ⟨4, ![16, 2, 4, 2048]⟩
abbrev S16x2x4x2048x1 : Shape := ⟨5, ![16, 2, 4, 2048, 1]⟩
abbrev S16x4x128x2x2048 : Shape := ⟨5, ![16, 4, 128, 2, 2048]⟩
abbrev S16x2x4x2048x128 : Shape := ⟨5, ![16, 2, 4, 2048, 128]⟩
abbrev S1x64 : Shape := ⟨2, ![1, 64]⟩
abbrev S64 : Shape := ⟨1, ![64]⟩
abbrev S16x1x4x2048x128 : Shape := ⟨5, ![16, 1, 4, 2048, 128]⟩
abbrev S16x4x2048x128 : Shape := ⟨4, ![16, 4, 2048, 128]⟩
abbrev S16x4x2048 : Shape := ⟨3, ![16, 4, 2048]⟩
abbrev S16x4x2048x1 : Shape := ⟨4, ![16, 4, 2048, 1]⟩
abbrev S128 : Shape := ⟨1, ![128]⟩
abbrev S1x1x1x128 : Shape := ⟨4, ![1, 1, 1, 128]⟩
abbrev S16x2048x4x128 : Shape := ⟨4, ![16, 2048, 4, 128]⟩

abbrev nBuf : Space → Nat
  | .hbm => 135
  | .vmem => 0
  | .smem => 0
  | _ => 0

abbrev hbmTy0_0 (i : Nat) : BufTy := match i % 128 with
  | 0 => ⟨S1, .f32⟩
  | 1 => ⟨S16x2048x512, .bf16⟩
  | 2 => ⟨S16x2048x512, .bf16⟩
  | 3 => ⟨S16x2048x512, .bf16⟩
  | 4 => ⟨S128x512, .bf16⟩
  | 5 => ⟨S128x512, .bf16⟩
  | 6 => ⟨S4x64, .f32⟩
  | 7 => ⟨S1x128, .f32⟩
  | 8 => ⟨S_, .f32⟩
  | 9 => ⟨S_, .f32⟩
  | 10 => ⟨S16x512, .bf16⟩
  | 11 => ⟨S1x16x512, .bf16⟩
  | 12 => ⟨S16x16x512, .bf16⟩
  | 13 => ⟨S16x2064x512, .bf16⟩
  | 14 => ⟨S16x512, .bf16⟩
  | 15 => ⟨S1x16x512, .bf16⟩
  | 16 => ⟨S16x16x512, .bf16⟩
  | 17 => ⟨S16x2064x512, .bf16⟩
  | 18 => ⟨S16x2048x4x2x64, .bf16⟩
  | 19 => ⟨S16x2048x4x2x64, .f32⟩
  | 20 => ⟨S16x2064x4x2x64, .bf16⟩
  | 21 => ⟨S16x2064x4x2x64, .f32⟩
  | 22 => ⟨S16x2064x4x128, .bf16⟩
  | 23 => ⟨S16x2064x4x128, .f32⟩
  | 24 => ⟨S16x2x4x2048x2064, .f32⟩
  | 25 => ⟨S16x2x4x2048x2064, .f32⟩
  | 26 => ⟨S16x2x4x2048x2064, .f32⟩
  | 27 => ⟨S2064, .i32⟩
  | 28 => ⟨S_, .i32⟩
  | 29 => ⟨S2064, .i32⟩
  | 30 => ⟨S2064, .i1⟩
  | 31 => ⟨S_, .i32⟩
  | 32 => ⟨S2064, .i32⟩
  | 33 => ⟨S2064, .i32⟩
  | 34 => ⟨S_, .i32⟩
  | 35 => ⟨S_, .i32⟩
  | 36 => ⟨S2064, .i32⟩
  | 37 => ⟨S2064, .i32⟩
  | 38 => ⟨S2064, .i32⟩
  | 39 => ⟨S_, .i32⟩
  | 40 => ⟨S2064, .i32⟩
  | 41 => ⟨S2064, .i1⟩
  | 42 => ⟨S2064, .i32⟩
  | 43 => ⟨S2064, .i32⟩
  | 44 => ⟨S_, .i32⟩
  | 45 => ⟨S2064, .i32⟩
  | 46 => ⟨S2064, .i1⟩
  | 47 => ⟨S2064, .i1⟩
  | 48 => ⟨S_, .i32⟩
  | 49 => ⟨S2064, .i32⟩
  | 50 => ⟨S2064, .i32⟩
  | 51 => ⟨S2064, .i32⟩
  | 52 => ⟨S_, .i32⟩
  | 53 => ⟨S2064, .i32⟩
  | 54 => ⟨S2064, .i32⟩
  | 55 => ⟨S_, .i32⟩
  | 56 => ⟨S_, .i32⟩
  | 57 => ⟨S2064, .i32⟩
  | 58 => ⟨S2064, .i32⟩
  | 59 => ⟨S1x2064, .i32⟩
  | 60 => ⟨S2048, .i32⟩
  | 61 => ⟨S2048x1, .i32⟩
  | 62 => ⟨S2048x2064, .i32⟩
  | 63 => ⟨S2048x2064, .i32⟩
  | 64 => ⟨S2048x2064, .i1⟩
  | 65 => ⟨S_, .f32⟩
  | 66 => ⟨S_, .f32⟩
  | 67 => ⟨S16x2x4x2048x2064, .i1⟩
  | 68 => ⟨S16x2x4x2048x2064, .f32⟩
  | 69 => ⟨S16x2x4x2048x2064, .f32⟩
  | 70 => ⟨S_, .f32⟩
  | 71 => ⟨S16x2x4x2048, .f32⟩
  | 72 => ⟨S_, .f32⟩
  | 73 => ⟨S16x2x4x2048, .f32⟩
  | 74 => ⟨S16x2x4x2048, .f32⟩
  | 75 => ⟨S16x2x4x2048x1, .f32⟩
  | 76 => ⟨S16x2x4x2048x2064, .f32⟩
  | 77 => ⟨S16x2x4x2048x2064, .f32⟩
  | 78 => ⟨S16x2x4x2048x2064, .f32⟩
  | 79 => ⟨S_, .f32⟩
  | 80 => ⟨S16x2x4x2048, .f32⟩
  | 81 => ⟨S16x2x4x2048x1, .f32⟩
  | 82 => ⟨S16x2x4x2048x2064, .f32⟩
  | 83 => ⟨S16x2x4x2048x2064, .f32⟩
  | 84 => ⟨S16x4x128x2x2048, .f32⟩
  | 85 => ⟨S16x2x4x2048x128, .f32⟩
  | 86 => ⟨S1x64, .f32⟩
  | 87 => ⟨S64, .f32⟩
  | 88 => ⟨S1x64, .f32⟩
  | 89 => ⟨S64, .f32⟩
  | 90 => ⟨S64, .f32⟩
  | 91 => ⟨S_, .f32⟩
  | 92 => ⟨S_, .f32⟩
  | 93 => ⟨S_, .f32⟩
  | 94 => ⟨S1x64, .f32⟩
  | 95 => ⟨S64, .f32⟩
  | 96 => ⟨S1x64, .f32⟩
  | 97 => ⟨S64, .f32⟩
  | 98 => ⟨S64, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S16x1x4x2048x128, .f32⟩
  | 106 => ⟨S16x4x2048x128, .f32⟩
  | 107 => ⟨S16x1x4x2048x128, .f32⟩
  | 108 => ⟨S16x4x2048x128, .f32⟩
  | 109 => ⟨S16x4x2048x128, .f32⟩
  | 110 => ⟨S16x4x2048x128, .f32⟩
  | 111 => ⟨S16x4x2048x128, .f32⟩
  | 112 => ⟨S16x4x2048x128, .f32⟩
  | 113 => ⟨S_, .f32⟩
  | 114 => ⟨S16x4x2048, .f32⟩
  | 115 => ⟨S16x4x2048x1, .f32⟩
  | 116 => ⟨S_, .f32⟩
  | 117 => ⟨S16x4x2048x1, .f32⟩
  | 118 => ⟨S16x4x2048x1, .f32⟩
  | 119 => ⟨S_, .f32⟩
  | 120 => ⟨S16x4x2048x1, .f32⟩
  | 121 => ⟨S16x4x2048x1, .f32⟩
  | 122 => ⟨S16x4x2048x1, .f32⟩
  | 123 => ⟨S16x4x2048x128, .f32⟩
  | 124 => ⟨S16x4x2048x128, .f32⟩
  | 125 => ⟨S128, .f32⟩
  | 126 => ⟨S1x1x1x128, .f32⟩
  | 127 => ⟨S16x4x2048x128, .f32⟩
  | _ => ⟨S1, .f32⟩

abbrev hbmTy0_1 (i : Nat) : BufTy := match i % 128 with
  | 0 => ⟨S16x4x2048x128, .f32⟩
  | 1 => ⟨S_, .f32⟩
  | 2 => ⟨S16x4x2048x128, .f32⟩
  | 3 => ⟨S16x4x2048x128, .f32⟩
  | 4 => ⟨S16x2048x4x128, .f32⟩
  | 5 => ⟨S16x2048x512, .f32⟩
  | 6 => ⟨S16x2048x512, .bf16⟩
  | _ => ⟨S1, .f32⟩

abbrev hbmTy (i : Nat) : BufTy := match i / 128 with
  | 0 => hbmTy0_0 i
  | 1 => hbmTy0_1 i
  | _ => ⟨S1, .f32⟩

abbrev bufTy : (tb : Table) → Fin (tcTables nBuf tb) → BufTy
  | .hbm, ⟨i, _⟩ => hbmTy i
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c : Ref sig .tc := ⟨.hbm, 28, rfl⟩
abbrev main_v19 : Ref sig .tc := ⟨.hbm, 29, rfl⟩
abbrev main_v20 : Ref sig .tc := ⟨.hbm, 30, rfl⟩
abbrev main_c_0 : Ref sig .tc := ⟨.hbm, 31, rfl⟩
abbrev main_v21 : Ref sig .tc := ⟨.hbm, 32, rfl⟩
abbrev main_v22 : Ref sig .tc := ⟨.hbm, 33, rfl⟩
abbrev main_c_1 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_c : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_c_0 : Ref sig .tc := ⟨.hbm, 48, rfl⟩
abbrev main_call0_v12 : Ref sig .tc := ⟨.hbm, 49, rfl⟩
abbrev main_call0_v13 : Ref sig .tc := ⟨.hbm, 50, rfl⟩
abbrev main_v23 : Ref sig .tc := ⟨.hbm, 51, rfl⟩
abbrev main_c_2 : Ref sig .tc := ⟨.hbm, 52, rfl⟩
abbrev main_v24 : Ref sig .tc := ⟨.hbm, 53, rfl⟩
abbrev main_v25 : Ref sig .tc := ⟨.hbm, 54, rfl⟩
abbrev main_c_3 : Ref sig .tc := ⟨.hbm, 55, rfl⟩
abbrev main_call1_v0 : Ref sig .tc := ⟨.hbm, 56, rfl⟩
abbrev main_call1_v1 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_4 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_v33 : Ref sig .tc := ⟨.hbm, 69, rfl⟩
abbrev main_cst_5 : Ref sig .tc := ⟨.hbm, 70, rfl⟩
abbrev main_v34 : Ref sig .tc := ⟨.hbm, 71, rfl⟩
abbrev main_cst_6 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_cst_7 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_cst_8 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_cst_9 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_cst_10 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_cst_11 : Ref sig .tc := ⟨.hbm, 113, rfl⟩
abbrev main_v71 : Ref sig .tc := ⟨.hbm, 114, rfl⟩
abbrev main_v72 : Ref sig .tc := ⟨.hbm, 115, rfl⟩
abbrev main_cst_12 : Ref sig .tc := ⟨.hbm, 116, rfl⟩
abbrev main_v73 : Ref sig .tc := ⟨.hbm, 117, rfl⟩
abbrev main_v74 : Ref sig .tc := ⟨.hbm, 118, rfl⟩
abbrev main_cst_13 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_cst_14 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩

abbrev nD : Nat := 1
abbrev τ : Topo := Topo.v7x

variable {F : FTy → Type} [FloatOps F]
-- ==== Kernel2.lean ====
abbrev S32768x1024 : Shape := ⟨2, ![32768, 1024]⟩
abbrev S1x1024 : Shape := ⟨2, ![1, 1024]⟩
abbrev S1024x5248 : Shape := ⟨2, ![1024, 5248]⟩
abbrev S2048x32 : Shape := ⟨2, ![2048, 32]⟩
abbrev S64 : Shape := ⟨1, ![64]⟩
abbrev S1x128 : Shape := ⟨2, ![1, 128]⟩
abbrev S1x2048 : Shape := ⟨2, ![1, 2048]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S1x2048x1x32 : Shape := ⟨4, ![1, 2048, 1, 32]⟩
abbrev S1x2048x4x32 : Shape := ⟨4, ![1, 2048, 4, 32]⟩
abbrev S2048x128 : Shape := ⟨2, ![2048, 128]⟩
abbrev S1x64 : Shape := ⟨2, ![1, 64]⟩
abbrev S8x64 : Shape := ⟨2, ![8, 64]⟩
abbrev S32768x512 : Shape := ⟨2, ![32768, 512]⟩
abbrev S32768x128 : Shape := ⟨2, ![32768, 128]⟩
abbrev S512x1024 : Shape := ⟨2, ![512, 1024]⟩
abbrev S512x128 : Shape := ⟨2, ![512, 128]⟩
abbrev S1024x512 : Shape := ⟨2, ![1024, 512]⟩
abbrev S1024x128 : Shape := ⟨2, ![1024, 128]⟩
abbrev S1024x1024 : Shape := ⟨2, ![1024, 1024]⟩

abbrev nBuf : Space → Nat
  | .hbm => 67
  | .vmem => 33
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x5248, .bf16⟩
  | .hbm, ⟨3, _⟩ => ⟨S2048x32, .f32⟩
  | .hbm, ⟨4, _⟩ => ⟨S2048x32, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S1x128, .f32⟩
  | .hbm, ⟨10, _⟩ => ⟨S1x2048, .f32⟩
  | .hbm, ⟨11, _⟩ => ⟨S512, .i32⟩
  | .hbm, ⟨12, _⟩ => ⟨S_, .i32⟩
  | .hbm, ⟨13, _⟩ => ⟨S_, .i32⟩
  | .hbm, ⟨14, _⟩ => ⟨S512, .i32⟩
  | .hbm, ⟨15, _⟩ => ⟨S512, .i32⟩
  | .hbm, ⟨16, _⟩ => ⟨S512, .i32⟩
  | .hbm, ⟨17, _⟩ => ⟨S_, .i32⟩
  | .hbm, ⟨18, _⟩ => ⟨S512, .i32⟩
  | .hbm, ⟨19, _⟩ => ⟨S512, .i1⟩
  | .hbm, ⟨20, _⟩ => ⟨S512, .i32⟩
  | .hbm, ⟨21, _⟩ => ⟨S512, .i32⟩
  | .hbm, ⟨22, _⟩ => ⟨S_, .i32⟩
  | .hbm, ⟨23, _⟩ => ⟨S512, .i32⟩
  | .hbm, ⟨24, _⟩ => ⟨S512, .i1⟩
  | .hbm, ⟨25, _⟩ => ⟨S512, .i1⟩
  | .hbm, ⟨26, _⟩ => ⟨S_, .i32⟩
  | .hbm, ⟨27, _⟩ => ⟨S512, .i32⟩
  | .hbm, ⟨28, _⟩ => ⟨S512, .i32⟩
  | .hbm, ⟨29, _⟩ => ⟨S512, .i32⟩
  | .hbm, ⟨30, _⟩ => ⟨S512x1, .i32⟩
  | .hbm, ⟨31, _⟩ => ⟨S1x512, .i32⟩
  | .hbm, ⟨32, _⟩ => ⟨S512x512, .i32⟩
  | .hbm, ⟨33, _⟩ => ⟨S512x512, .i32⟩
  | .hbm, ⟨34, _⟩ => ⟨S512x512, .i1⟩
  | .hbm, ⟨35, _⟩ => ⟨S512x512, .bf16⟩
  | .hbm, ⟨36, _⟩ => ⟨S1x2048x1x32, .f32⟩
  | .hbm, ⟨37, _⟩ => ⟨S1x2048x4x32, .f32⟩
  | .hbm, ⟨38, _⟩ => ⟨S2048x128, .f32⟩
  | .hbm, ⟨39, _⟩ => ⟨S1x2048x1x32, .f32⟩
  | .hbm, ⟨40, _⟩ => ⟨S1x2048x4x32, .f32⟩
  | .hbm, ⟨41, _⟩ => ⟨S2048x128, .f32⟩
  | .hbm, ⟨42, _⟩ => ⟨S1x64, .f32⟩
  | .hbm, ⟨43, _⟩ => ⟨S8x64, .f32⟩
  | .hbm, ⟨44, _⟩ => ⟨S512, .f32⟩
  | .hbm, ⟨45, _⟩ => ⟨S1x512, .f32⟩
  | .hbm, ⟨46, _⟩ => ⟨S1x64, .f32⟩
  | .hbm, ⟨47, _⟩ => ⟨S8x64, .f32⟩
  | .hbm, ⟨48, _⟩ => ⟨S512, .f32⟩
  | .hbm, ⟨49, _⟩ => ⟨S1x512, .f32⟩
  | .hbm, ⟨50, _⟩ => ⟨S1x64, .f32⟩
  | .hbm, ⟨51, _⟩ => ⟨S8x64, .f32⟩
  | .hbm, ⟨52, _⟩ => ⟨S512, .f32⟩
  | .hbm, ⟨53, _⟩ => ⟨S1x512, .f32⟩
  | .hbm, ⟨54, _⟩ => ⟨S1x64, .f32⟩
  | .hbm, ⟨55, _⟩ => ⟨S8x64, .f32⟩
  | .hbm, ⟨56, _⟩ => ⟨S512, .f32⟩
  | .hbm, ⟨57, _⟩ => ⟨S1x512, .f32⟩
  | .hbm, ⟨58, _⟩ => ⟨S32768x512, .bf16⟩
  | .hbm, ⟨59, _⟩ => ⟨S32768x512, .bf16⟩
  | .hbm, ⟨60, _⟩ => ⟨S32768x512, .bf16⟩
  | .hbm, ⟨61, _⟩ => ⟨S32768x512, .bf16⟩
  | .hbm, ⟨62, _⟩ => ⟨S32768x512, .bf16⟩
  | .hbm, ⟨63, _⟩ => ⟨S32768x512, .bf16⟩
  | .hbm, ⟨64, _⟩ => ⟨S32768x128, .f32⟩
  | .hbm, ⟨65, _⟩ => ⟨S32768x1024, .bf16⟩
  | .hbm, ⟨66, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5248, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x128, .f32⟩
  | .local _ .vmem, ⟨13, _⟩ => ⟨S1x2048, .f32⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x128, .f32⟩
  | .local _ .vmem, ⟨28, _⟩ => ⟨S512x128, .f32⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30_0 : Ref sig .tc := ⟨.hbm, 58, rfl⟩
abbrev main_v30_1 : Ref sig .tc := ⟨.hbm, 59, rfl⟩
abbrev main_v30_2 : Ref sig .tc := ⟨.hbm, 60, rfl⟩
abbrev main_v30_3 : Ref sig .tc := ⟨.hbm, 61, rfl⟩
abbrev main_v30_4 : Ref sig .tc := ⟨.hbm, 62, rfl⟩
abbrev main_v30_5 : Ref sig .tc := ⟨.hbm, 63, rfl⟩
abbrev main_v30_6 : Ref sig .tc := ⟨.hbm, 64, rfl⟩
abbrev main_v30_7 : Ref sig .tc := ⟨.hbm, 65, rfl⟩
abbrev main_v30_8 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5248 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference2Ideal.lean ====
abbrev S32768x1024 : Shape := ⟨2, ![32768, 1024]⟩
abbrev S1x1024 : Shape := ⟨2, ![1, 1024]⟩
abbrev S1024x5248 : Shape := ⟨2, ![1024, 5248]⟩
abbrev S2048x32 : Shape := ⟨2, ![2048, 32]⟩
abbrev S64 : Shape := ⟨1, ![64]⟩
abbrev S1x128 : Shape := ⟨2, ![1, 128]⟩
abbrev S1x2048 : Shape := ⟨2, ![1, 2048]⟩
abbrev S2048x64 : Shape := ⟨2, ![2048, 64]⟩
abbrev S1x2048x1x64 : Shape := ⟨4, ![1, 2048, 1, 64]⟩
abbrev S_ : Shape := ⟨0, ![]⟩
abbrev S32768 : Shape := ⟨1, ![32768]⟩
abbrev S32768x1 : Shape := ⟨2, ![32768, 1]⟩
abbrev S32768x5248 : Shape := ⟨2, ![32768, 5248]⟩
abbrev S32768x512 : Shape := ⟨2, ![32768, 512]⟩
abbrev S16x2048x8x64 : Shape := ⟨4, ![16, 2048, 8, 64]⟩
abbrev S16x2048x8 : Shape := ⟨3, ![16, 2048, 8]⟩
abbrev S16x2048x8x1 : Shape := ⟨4, ![16, 2048, 8, 1]⟩
abbrev S1x1x1x64 : Shape := ⟨4, ![1, 1, 1, 64]⟩
abbrev S16x2048x8x32 : Shape := ⟨4, ![16, 2048, 8, 32]⟩
abbrev S32768x128 : Shape := ⟨2, ![32768, 128]⟩

abbrev nBuf : Space → Nat
  | .hbm => 185
  | .vmem => 0
  | .smem => 0
  | _ => 0

abbrev hbmTy0_0 (i : Nat) : BufTy := match i % 128 with
  | 0 => ⟨S32768x1024, .f32⟩
  | 1 => ⟨S1x1024, .f32⟩
  | 2 => ⟨S1024x5248, .bf16⟩
  | 3 => ⟨S2048x32, .f32⟩
  | 4 => ⟨S2048x32, .f32⟩
  | 5 => ⟨S64, .f32⟩
  | 6 => ⟨S64, .f32⟩
  | 7 => ⟨S64, .f32⟩
  | 8 => ⟨S64, .f32⟩
  | 9 => ⟨S1x128, .f32⟩
  | 10 => ⟨S1x2048, .f32⟩
  | 11 => ⟨S2048x64, .f32⟩
  | 12 => ⟨S1x2048x1x64, .f32⟩
  | 13 => ⟨S2048x64, .f32⟩
  | 14 => ⟨S1x2048x1x64, .f32⟩
  | 15 => ⟨S32768x1024, .f32⟩
  | 16 => ⟨S_, .f32⟩
  | 17 => ⟨S32768, .f32⟩
  | 18 => ⟨S32768x1, .f32⟩
  | 19 => ⟨S_, .f32⟩
  | 20 => ⟨S32768x1, .f32⟩
  | 21 => ⟨S32768x1, .f32⟩
  | 22 => ⟨S_, .f32⟩
  | 23 => ⟨S32768x1, .f32⟩
  | 24 => ⟨S32768x1, .f32⟩
  | 25 => ⟨S32768x1, .f32⟩
  | 26 => ⟨S32768x1024, .f32⟩
  | 27 => ⟨S32768x1024, .f32⟩
  | 28 => ⟨S32768x1024, .f32⟩
  | 29 => ⟨S32768x1024, .f32⟩
  | 30 => ⟨S1024x5248, .f32⟩
  | 31 => ⟨S32768x5248, .f32⟩
  | 32 => ⟨S32768x512, .f32⟩
  | 33 => ⟨S16x2048x8x64, .f32⟩
  | 34 => ⟨S16x2048x8x64, .f32⟩
  | 35 => ⟨S_, .f32⟩
  | 36 => ⟨S16x2048x8, .f32⟩
  | 37 => ⟨S16x2048x8x1, .f32⟩
  | 38 => ⟨S_, .f32⟩
  | 39 => ⟨S16x2048x8x1, .f32⟩
  | 40 => ⟨S16x2048x8x1, .f32⟩
  | 41 => ⟨S_, .f32⟩
  | 42 => ⟨S16x2048x8x1, .f32⟩
  | 43 => ⟨S16x2048x8x1, .f32⟩
  | 44 => ⟨S16x2048x8x1, .f32⟩
  | 45 => ⟨S16x2048x8x64, .f32⟩
  | 46 => ⟨S16x2048x8x64, .f32⟩
  | 47 => ⟨S1x1x1x64, .f32⟩
  | 48 => ⟨S16x2048x8x64, .f32⟩
  | 49 => ⟨S16x2048x8x64, .f32⟩
  | 50 => ⟨S16x2048x8x32, .f32⟩
  | 51 => ⟨S16x2048x8x32, .f32⟩
  | 52 => ⟨S16x2048x8x64, .f32⟩
  | 53 => ⟨S16x2048x8x64, .f32⟩
  | 54 => ⟨S16x2048x8x32, .f32⟩
  | 55 => ⟨S16x2048x8x64, .f32⟩
  | 56 => ⟨S16x2048x8x64, .f32⟩
  | 57 => ⟨S16x2048x8x64, .f32⟩
  | 58 => ⟨S16x2048x8x64, .f32⟩
  | 59 => ⟨S_, .f32⟩
  | 60 => ⟨S16x2048x8x64, .f32⟩
  | 61 => ⟨S16x2048x8x64, .f32⟩
  | 62 => ⟨S32768x512, .f32⟩
  | 63 => ⟨S32768x512, .bf16⟩
  | 64 => ⟨S32768x512, .f32⟩
  | 65 => ⟨S16x2048x8x64, .f32⟩
  | 66 => ⟨S16x2048x8x64, .f32⟩
  | 67 => ⟨S_, .f32⟩
  | 68 => ⟨S16x2048x8, .f32⟩
  | 69 => ⟨S16x2048x8x1, .f32⟩
  | 70 => ⟨S_, .f32⟩
  | 71 => ⟨S16x2048x8x1, .f32⟩
  | 72 => ⟨S16x2048x8x1, .f32⟩
  | 73 => ⟨S_, .f32⟩
  | 74 => ⟨S16x2048x8x1, .f32⟩
  | 75 => ⟨S16x2048x8x1, .f32⟩
  | 76 => ⟨S16x2048x8x1, .f32⟩
  | 77 => ⟨S16x2048x8x64, .f32⟩
  | 78 => ⟨S16x2048x8x64, .f32⟩
  | 79 => ⟨S1x1x1x64, .f32⟩
  | 80 => ⟨S16x2048x8x64, .f32⟩
  | 81 => ⟨S16x2048x8x64, .f32⟩
  | 82 => ⟨S16x2048x8x32, .f32⟩
  | 83 => ⟨S16x2048x8x32, .f32⟩
  | 84 => ⟨S16x2048x8x64, .f32⟩
  | 85 => ⟨S16x2048x8x64, .f32⟩
  | 86 => ⟨S16x2048x8x32, .f32⟩
  | 87 => ⟨S16x2048x8x64, .f32⟩
  | 88 => ⟨S16x2048x8x64, .f32⟩
  | 89 => ⟨S16x2048x8x64, .f32⟩
  | 90 => ⟨S16x2048x8x64, .f32⟩
  | 91 => ⟨S32768x512, .f32⟩
  | 92 => ⟨S32768x512, .bf16⟩
  | 93 => ⟨S32768x512, .f32⟩
  | 94 => ⟨S32768x512, .bf16⟩
  | 95 => ⟨S32768x512, .f32⟩
  | 96 => ⟨S16x2048x8x64, .f32⟩
  | 97 => ⟨S16x2048x8x64, .f32⟩
  | 98 => ⟨S_, .f32⟩
  | 99 => ⟨S16x2048x8, .f32⟩
  | 100 => ⟨S16x2048x8x1, .f32⟩
  | 101 => ⟨S_, .f32⟩
  | 102 => ⟨S16x2048x8x1, .f32⟩
  | 103 => ⟨S16x2048x8x1, .f32⟩
  | 104 => ⟨S_, .f32⟩
  | 105 => ⟨S16x2048x8x1, .f32⟩
  | 106 => ⟨S16x2048x8x1, .f32⟩
  | 107 => ⟨S16x2048x8x1, .f32⟩
  | 108 => ⟨S16x2048x8x64, .f32⟩
  | 109 => ⟨S16x2048x8x64, .f32⟩
  | 110 => ⟨S1x1x1x64, .f32⟩
  | 111 => ⟨S16x2048x8x64, .f32⟩
  | 112 => ⟨S16x2048x8x64, .f32⟩
  | 113 => ⟨S_, .f32⟩
  | 114 => ⟨S16x2048x8x64, .f32⟩
  | 115 => ⟨S16x2048x8x64, .f32⟩
  | 116 => ⟨S32768x512, .f32⟩
  | 117 => ⟨S32768x512, .bf16⟩
  | 118 => ⟨S32768x512, .f32⟩
  | 119 => ⟨S16x2048x8x64, .f32⟩
  | 120 => ⟨S16x2048x8x64, .f32⟩
  | 121 => ⟨S_, .f32⟩
  | 122 => ⟨S16x2048x8, .f32⟩
  | 123 => ⟨S16x2048x8x1, .f32⟩
  | 124 => ⟨S_, .f32⟩
  | 125 => ⟨S16x2048x8x1, .f32⟩
  | 126 => ⟨S16x2048x8x1, .f32⟩
  | 127 => ⟨S_, .f32⟩
  | _ => ⟨S32768x1024, .f32⟩

abbrev hbmTy0_1 (i : Nat) : BufTy := match i % 128 with
  | 0 => ⟨S16x2048x8x1, .f32⟩
  | 1 => ⟨S16x2048x8x1, .f32⟩
  | 2 => ⟨S16x2048x8x1, .f32⟩
  | 3 => ⟨S16x2048x8x64, .f32⟩
  | 4 => ⟨S16x2048x8x64, .f32⟩
  | 5 => ⟨S1x1x1x64, .f32⟩
  | 6 => ⟨S16x2048x8x64, .f32⟩
  | 7 => ⟨S16x2048x8x64, .f32⟩
  | 8 => ⟨S32768x512, .f32⟩
  | 9 => ⟨S32768x512, .bf16⟩
  | 10 => ⟨S32768x512, .f32⟩
  | 11 => ⟨S32768x512, .bf16⟩
  | 12 => ⟨S32768x128, .f32⟩
  | 13 => ⟨S32768x128, .f32⟩
  | 14 => ⟨S32768x128, .f32⟩
  | 15 => ⟨S32768x128, .f32⟩
  | 16 => ⟨S_, .f32⟩
  | 17 => ⟨S32768x128, .f32⟩
  | 18 => ⟨S32768x128, .f32⟩
  | 19 => ⟨S32768x128, .f32⟩
  | 20 => ⟨S32768x128, .f32⟩
  | 21 => ⟨S32768x128, .i1⟩
  | 22 => ⟨S32768x128, .f32⟩
  | 23 => ⟨S32768x128, .f32⟩
  | 24 => ⟨S32768x128, .f32⟩
  | 25 => ⟨S32768x128, .f32⟩
  | 26 => ⟨S32768x128, .f32⟩
  | 27 => ⟨S32768x128, .f32⟩
  | 28 => ⟨S32768x128, .f32⟩
  | 29 => ⟨S32768x128, .f32⟩
  | 30 => ⟨S32768x128, .f32⟩
  | 31 => ⟨S32768x1024, .f32⟩
  | 32 => ⟨S1x1024, .f32⟩
  | 33 => ⟨S32768x1024, .f32⟩
  | 34 => ⟨S32768x1024, .f32⟩
  | 35 => ⟨S32768x1024, .f32⟩
  | 36 => ⟨S32768x1024, .f32⟩
  | 37 => ⟨S_, .f32⟩
  | 38 => ⟨S32768x1024, .f32⟩
  | 39 => ⟨S32768x1024, .f32⟩
  | 40 => ⟨S_, .f32⟩
  | 41 => ⟨S32768x1024, .f32⟩
  | 42 => ⟨S32768x1024, .f32⟩
  | 43 => ⟨S32768x1024, .bf16⟩
  | 44 => ⟨S32768x1024, .f32⟩
  | 45 => ⟨S1x1024, .f32⟩
  | 46 => ⟨S32768x1024, .f32⟩
  | 47 => ⟨S32768x1024, .f32⟩
  | 48 => ⟨S32768x1024, .f32⟩
  | 49 => ⟨S32768x1024, .f32⟩
  | 50 => ⟨S_, .f32⟩
  | 51 => ⟨S32768x1024, .f32⟩
  | 52 => ⟨S32768x1024, .f32⟩
  | 53 => ⟨S_, .f32⟩
  | 54 => ⟨S32768x1024, .f32⟩
  | 55 => ⟨S32768x1024, .f32⟩
  | 56 => ⟨S32768x1024, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_5 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_6 : Ref sig .tc := ⟨.hbm, 67, rfl⟩
abbrev main_v49 : Ref sig .tc := ⟨.hbm, 68, rfl⟩
abbrev main_v50 : Ref sig .tc := ⟨.hbm, 69, rfl⟩
abbrev main_cst_7 : Ref sig .tc := ⟨.hbm, 70, rfl⟩
abbrev main_v51 : Ref sig .tc := ⟨.hbm, 71, rfl⟩
abbrev main_v52 : Ref sig .tc := ⟨.hbm, 72, rfl⟩
abbrev main_cst_8 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_9 : Ref sig .tc := ⟨.hbm, 98, rfl⟩
abbrev main_v77 : Ref sig .tc := ⟨.hbm, 99, rfl⟩
abbrev main_v78 : Ref sig .tc := ⟨.hbm, 100, rfl⟩
abbrev main_cst_10 : Ref sig .tc := ⟨.hbm, 101, rfl⟩
abbrev main_v79 : Ref sig .tc := ⟨.hbm, 102, rfl⟩
abbrev main_v80 : Ref sig .tc := ⟨.hbm, 103, rfl⟩
abbrev main_cst_11 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_12 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_cst_13 : Ref sig .tc := ⟨.hbm, 121, rfl⟩
abbrev main_v96 : Ref sig .tc := ⟨.hbm, 122, rfl⟩
abbrev main_v97 : Ref sig .tc := ⟨.hbm, 123, rfl⟩
abbrev main_cst_14 : Ref sig .tc := ⟨.hbm, 124, rfl⟩
abbrev main_v98 : Ref sig .tc := ⟨.hbm, 125, rfl⟩
abbrev main_v99 : Ref sig .tc := ⟨.hbm, 126, rfl⟩
abbrev main_cst_15 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_call0_v0 : Ref sig .tc := ⟨.hbm, 143, rfl⟩
abbrev main_call0_call0_cst : Ref sig .tc := ⟨.hbm, 144, rfl⟩
abbrev main_call0_call0_v0 : Ref sig .tc := ⟨.hbm, 145, rfl⟩
abbrev main_call0_call0_v1 : Ref sig .tc := ⟨.hbm, 146, rfl⟩
abbrev main_call0_call0_v2 : Ref sig .tc := ⟨.hbm, 147, rfl⟩
abbrev main_call0_call0_v3 : Ref sig .tc := ⟨.hbm, 148, rfl⟩
abbrev main_call0_call0_v4 : Ref sig .tc := ⟨.hbm, 149, rfl⟩
abbrev main_call0_call0_v5 : Ref sig .tc := ⟨.hbm, 150, rfl⟩
abbrev main_call0_call0_v6 : Ref sig .tc := ⟨.hbm, 151, rfl⟩
abbrev main_call0_call0_v7 : Ref sig .tc := ⟨.hbm, 152, rfl⟩
abbrev main_call0_call0_v8 : Ref sig .tc := ⟨.hbm, 153, rfl⟩
abbrev main_call0_call0_v9 : Ref sig .tc := ⟨.hbm, 154, rfl⟩
abbrev main_call0_call0_v10 : Ref sig .tc := ⟨.hbm, 155, rfl⟩
abbrev main_call0_call0_v11 : Ref sig .tc := ⟨.hbm, 156, rfl⟩
abbrev main_call0_v1 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_cst_16 : Ref sig .tc := ⟨.hbm, 165, rfl⟩
abbrev main_v122 : Ref sig .tc := ⟨.hbm, 166, rfl⟩
abbrev main_v123 : Ref sig .tc := ⟨.hbm, 167, rfl⟩
abbrev main_cst_17 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_cst_18 : Ref sig .tc := ⟨.hbm, 178, rfl⟩
abbrev main_v133 : Ref sig .tc := ⟨.hbm, 179, rfl⟩
abbrev main_v134 : Ref sig .tc := ⟨.hbm, 180, rfl⟩
abbrev main_cst_19 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩

abbrev nD : Nat := 1
abbrev τ : Topo := Topo.v7x

variable {F : FTy → Type} [FloatOps F]
-- ==== Kernel3.lean ====
abbrev S16x2048x512 : Shape := ⟨3, ![16, 2048, 512]⟩
abbrev S16x2048x1024 : Shape := ⟨3, ![16, 2048, 1024]⟩
abbrev S512x1024 : Shape := ⟨2, ![512, 1024]⟩
abbrev S1024x1024 : Shape := ⟨2, ![1024, 1024]⟩
abbrev S1x1024 : Shape := ⟨2, ![1, 1024]⟩
abbrev S1x512x512 : Shape := ⟨3, ![1, 512, 512]⟩
abbrev S1x512x1024 : Shape := ⟨3, ![1, 512, 1024]⟩
abbrev S512x512 : Shape := ⟨2, ![512, 512]⟩
abbrev S512 : Shape := ⟨1, ![512]⟩
abbrev S512x1 : Shape := ⟨2, ![512, 1]⟩

abbrev nBuf : Space → Nat
  | .hbm => 11
  | .vmem => 18
  | .smem => 0
  | _ => 0

abbrev bufTy : (tb : Table) → Fin (tcTables nBuf tb) → BufTy
  | .hbm, ⟨0, _⟩ => ⟨S16x2048x512, .bf16⟩
  | .hbm, ⟨1, _⟩ => ⟨S16x2048x512, .bf16⟩
  | .hbm, ⟨2, _⟩ => ⟨S16x2048x1024, .bf16⟩
  | .hbm, ⟨3, _⟩ => ⟨S16x2048x1024, .bf16⟩
  | .hbm, ⟨4, _⟩ => ⟨S16x2048x1024, .f32⟩
  | .hbm, ⟨5, _⟩ => ⟨S512x1024, .bf16⟩
  | .hbm, ⟨6, _⟩ => ⟨S512x1024, .bf16⟩
  | .hbm, ⟨7, _⟩ => ⟨S1024x1024, .bf16⟩
  | .hbm, ⟨8, _⟩ => ⟨S1x1024, .f32⟩
  | .hbm, ⟨9, _⟩ => ⟨S16x2048x1024, .f32⟩
  | .hbm, ⟨10, _⟩ => ⟨S16x2048x1024, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .f32⟩
  | .local _ .vmem, ⟨9, _⟩ => ⟨S1x512x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x512x1024, .bf16⟩
  | .local _ .vmem, ⟨17, _⟩ => ⟨S1x512x1024, .bf16⟩
  | _, _ => ⟨S16x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference3Ideal.lean ====
abbrev S16x2048x512 : Shape := ⟨3, ![16, 2048, 512]⟩
abbrev S16x2048x1024 : Shape := ⟨3, ![16, 2048, 1024]⟩
abbrev S512x1024 : Shape := ⟨2, ![512, 1024]⟩
abbrev S1024x1024 : Shape := ⟨2, ![1024, 1024]⟩
abbrev S1x1024 : Shape := ⟨2, ![1, 1024]⟩
abbrev S_ : Shape := ⟨0, ![]⟩
abbrev S16x2048 : Shape := ⟨2, ![16, 2048]⟩
abbrev S16x2048x1 : Shape := ⟨3, ![16, 2048, 1]⟩
abbrev S1024 : Shape := ⟨1, ![1024]⟩
abbrev S1x1x1024 : Shape := ⟨3, ![1, 1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S16x2048x512, .bf16⟩
  | .hbm, ⟨1, _⟩ => ⟨S16x2048x512, .bf16⟩
  | .hbm, ⟨2, _⟩ => ⟨S16x2048x1024, .bf16⟩
  | .hbm, ⟨3, _⟩ => ⟨S16x2048x1024, .bf16⟩
  | .hbm, ⟨4, _⟩ => ⟨S16x2048x1024, .f32⟩
  | .hbm, ⟨5, _⟩ => ⟨S512x1024, .bf16⟩
  | .hbm, ⟨6, _⟩ => ⟨S512x1024, .bf16⟩
  | .hbm, ⟨7, _⟩ => ⟨S1024x1024, .bf16⟩
  | .hbm, ⟨8, _⟩ => ⟨S1x1024, .f32⟩
  | .hbm, ⟨9, _⟩ => ⟨S16x2048x1024, .f32⟩
  | .hbm, ⟨10, _⟩ => ⟨S16x2048x512, .f32⟩
  | .hbm, ⟨11, _⟩ => ⟨S512x1024, .f32⟩
  | .hbm, ⟨12, _⟩ => ⟨S16x2048x1024, .f32⟩
  | .hbm, ⟨13, _⟩ => ⟨S16x2048x1024, .f32⟩
  | .hbm, ⟨14, _⟩ => ⟨S16x2048x1024, .f32⟩
  | .hbm, ⟨15, _⟩ => ⟨S16x2048x512, .f32⟩
  | .hbm, ⟨16, _⟩ => ⟨S512x1024, .f32⟩
  | .hbm, ⟨17, _⟩ => ⟨S16x2048x1024, .f32⟩
  | .hbm, ⟨18, _⟩ => ⟨S16x2048x1024, .f32⟩
  | .hbm, ⟨19, _⟩ => ⟨S16x2048x1024, .f32⟩
  | .hbm, ⟨20, _⟩ => ⟨S1024x1024, .f32⟩
  | .hbm, ⟨21, _⟩ => ⟨S16x2048x1024, .f32⟩
  | .hbm, ⟨22, _⟩ => ⟨S16x2048x1024, .f32⟩
  | .hbm, ⟨23, _⟩ => ⟨S16x2048x1024, .f32⟩
  | .hbm, ⟨24, _⟩ => ⟨S_, .f32⟩
  | .hbm, ⟨25, _⟩ => ⟨S16x2048, .f32⟩
  | .hbm, ⟨26, _⟩ => ⟨S16x2048x1, .f32⟩
  | .hbm, ⟨27, _⟩ => ⟨S_, .f32⟩
  | .hbm, ⟨28, _⟩ => ⟨S16x2048x1, .f32⟩
  | .hbm, ⟨29, _⟩ => ⟨S16x2048x1, .f32⟩
  | .hbm, ⟨30, _⟩ => ⟨S_, .f32⟩
  | .hbm, ⟨31, _⟩ => ⟨S16x2048x1, .f32⟩
  | .hbm, ⟨32, _⟩ => ⟨S16x2048x1, .f32⟩
  | .hbm, ⟨33, _⟩ => ⟨S16x2048x1, .f32⟩
  | .hbm, ⟨34, _⟩ => ⟨S16x2048x1024, .f32⟩
  | .hbm, ⟨35, _⟩ => ⟨S16x2048x1024, .f32⟩
  | .hbm, ⟨36, _⟩ => ⟨S1024, .f32⟩
  | .hbm, ⟨37, _⟩ => ⟨S1x1x1024, .f32⟩
  | .hbm, ⟨38, _⟩ => ⟨S16x2048x1024, .f32⟩
  | .hbm, ⟨39, _⟩ => ⟨S16x2048x1024, .f32⟩
  | .hbm, ⟨40, _⟩ => ⟨S16x2048x1024, .bf16⟩
  | _, _ => ⟨S16x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Kernel4.lean ====
abbrev S1 : Shape := ⟨1, ![1]⟩
abbrev S16x2048x512 : Shape := ⟨3, ![16, 2048, 512]⟩
abbrev S128x512 : Shape := ⟨2, ![128, 512]⟩
abbrev S16x2048x128 : Shape := ⟨3, ![16, 2048, 128]⟩
abbrev S16x8x2048 : Shape := ⟨3, ![16, 8, 2048]⟩
abbrev S16x8x128 : Shape := ⟨3, ![16, 8, 128]⟩
abbrev S16x8x1x2048 : Shape := ⟨4, ![16, 8, 1, 2048]⟩
abbrev S16x8x1x128 : Shape := ⟨4, ![16, 8, 1, 128]⟩
abbrev S1x512x512 : Shape := ⟨3, ![1, 512, 512]⟩
abbrev S1x2048x512 : Shape := ⟨3, ![1, 2048, 512]⟩
abbrev S1x512x128 : Shape := ⟨3, ![1, 512, 128]⟩
abbrev S1x8x1x2048 : Shape := ⟨4, ![1, 8, 1, 2048]⟩
abbrev S1x8x1x128 : Shape := ⟨4, ![1, 8, 1, 128]⟩
abbrev S512x128 : Shape := ⟨2, ![512, 128]⟩
abbrev S512x640 : Shape := ⟨2, ![512, 640]⟩
abbrev S128x128 : Shape := ⟨2, ![128, 128]⟩
abbrev S640x128 : Shape := ⟨2, ![640, 128]⟩
abbrev S1x1x1x512 : Shape := ⟨4, ![1, 1, 1, 512]⟩
abbrev S1x512 : Shape := ⟨2, ![1, 512]⟩
abbrev S512x1 : Shape := ⟨2, ![512, 1]⟩
abbrev S512x512 : Shape := ⟨2, ![512, 512]⟩
abbrev S1x1x1x128 : Shape := ⟨4, ![1, 1, 1, 128]⟩
abbrev S1x128 : Shape := ⟨2, ![1, 128]⟩
abbrev S512 : Shape := ⟨1, ![512]⟩

abbrev nBuf : Space → Nat
  | .hbm => 12
  | .vmem => 16
  | .smem => 1
  | _ => 0

abbrev bufTy : (tb : Table) → Fin (tcTables nBuf tb) → BufTy
  | .hbm, ⟨0, _⟩ => ⟨S1, .f32⟩
  | .hbm, ⟨1, _⟩ => ⟨S16x2048x512, .bf16⟩
  | .hbm, ⟨2, _⟩ => ⟨S16x2048x512, .bf16⟩
  | .hbm, ⟨3, _⟩ => ⟨S16x2048x512, .bf16⟩
  | .hbm, ⟨4, _⟩ => ⟨S128x512, .bf16⟩
  | .hbm, ⟨5, _⟩ => ⟨S128x512, .bf16⟩
  | .hbm, ⟨6, _⟩ => ⟨S16x2048x128, .f32⟩
  | .hbm, ⟨7, _⟩ => ⟨S16x8x2048, .f32⟩
  | .hbm, ⟨8, _⟩ => ⟨S16x8x128, .f32⟩
  | .hbm, ⟨9, _⟩ => ⟨S16x8x1x2048, .f32⟩
  | .hbm, ⟨10, _⟩ => ⟨S16x8x1x128, .f32⟩
  | .hbm, ⟨11, _⟩ => ⟨S16x2048x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S128x512, .bf16⟩
  | .local _ .vmem, ⟨7, _⟩ => ⟨S128x512, .bf16⟩
  | .local _ .vmem, ⟨8, _⟩ => ⟨S1x512x128, .f32⟩
  | .local _ .vmem, ⟨9, _⟩ => ⟨S1x512x128, .f32⟩
  | .local _ .vmem, ⟨10, _⟩ => ⟨S1x8x1x2048, .f32⟩
  | .local _ .vmem, ⟨11, _⟩ => ⟨S1x8x1x2048, .f32⟩
  | .local _ .vmem, ⟨12, _⟩ => ⟨S1x8x1x128, .f32⟩
  | .local _ .vmem, ⟨13, _⟩ => ⟨S1x8x1x128, .f32⟩
  | .local _ .vmem, ⟨14, _⟩ => ⟨S1x512x512, .bf16⟩
  | .local _ .vmem, ⟨15, _⟩ => ⟨S1x512x512, .bf16⟩
  | .local _ .smem, ⟨0, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c512_i32 : BitVec 32 := 512#32
  let v45 : BitVec 32 := Scalar.muli arg1 c512_i32
  v45
def k0_off1 (i : grid0.Coords) : Fin 3 → Nat :=
  let c0_25 : Index := 0#32
  let arg1 : BitVec 32 := BitVec.ofNat 32 (i 1).val
  let c512_i32 : BitVec 32 := 512#32
  let v45 : BitVec 32 := Scalar.muli arg1 c512_i32
  let v46 : BitVec 32 := v45
  let v56 : Index := Scalar.indexCast v46
  let c0_26 : Index := 0#32
  ![0, v56.toNat, 0]
def k0_off2 (i : grid0.Coords) : Fin 4 → Nat :=
  let c0_33 : Index := 0#32
  let c0_34 : Index := 0#32
  let c0_35 : Index := 0#32
  let arg1 : BitVec 32 := BitVec.ofNat 32 (i 1).val
  let c512_i32 : BitVec 32 := 512#32
  let v45 : BitVec 32 := Scalar.muli arg1 c512_i32
  let v46 : BitVec 32 := v45
  let v66 : Index := Scalar.indexCast v46
  ![0, 0, 0, v66.toNat]
def k0_off3 (i : grid0.Coords) : Fin 4 → Nat :=
  let c0_43 : Index := 0#32
  let c1 : Index := 1#32
  let c0_44 : Index := 0#32
  let arg1 : BitVec 32 := BitVec.ofNat 32 (i 1).val
  let c512_i32 : BitVec 32 := 512#32
  let v45 : BitVec 32 := Scalar.muli arg1 c512_i32
  let v46 : BitVec 32 := v45
  let v98 : Index := Scalar.indexCast v46
  ![0, 1, 0, v98.toNat]
def k0_off4 (i : grid0.Coords) : Fin 3 → Nat :=
  let c0_52 : Index := 0#32
  let arg1 : BitVec 32 := BitVec.ofNat 32 (i 1).val
  let c512_i32 : BitVec 32 := 512#32
  let v45 : BitVec 32 := Scalar.muli arg1 c512_i32
  let v46 : BitVec 32 := v45
  let v130 : Index := Scalar.indexCast v46
  let c128_53 : Index := 128#32
  ![0, v130.toNat, 128]
def k0_off5 (i : grid0.Coords) : Fin 4 → Nat :=
  let c0_60 : Index := 0#32
  let c2 : Index := 2#32
  let c0_61 : Index := 0#32
  let arg1 : BitVec 32 := BitVec.ofNat 32 (i 1).val
  let c512_i32 : BitVec 32 := 512#32
  let v45 : BitVec 32 := Scalar.muli arg1 c512_i32
  let v46 : BitVec 32 := v45
  let v140 : Index := Scalar.indexCast v46
  ![0, 2, 0, v140.toNat]
def k0_off6 (i : grid0.Coords) : Fin 4 → Nat :=
  let c0_69 : Index := 0#32
  let c3 : Index := 3#32
  let c0_70 : Index := 0#32
  let arg1 : BitVec 32 := BitVec.ofNat 32 (i 1).val
  let c512_i32 : BitVec 32 := 512#32
  let v45 : BitVec 32 := Scalar.muli arg1 c512_i32
  let v46 : BitVec 32 := v45
  let v172 : Index := Scalar.indexCast v46
  ![0, 3, 0, v172.toNat]
def k0_off7 (i : grid0.Coords) : Fin 3 → Nat :=
  let c0_78 : Index := 0#32
  let arg1 : BitVec 32 := BitVec.ofNat 32 (i 1).val
  let c512_i32 : BitVec 32 := 512#32
  let v45 : BitVec 32 := Scalar.muli arg1 c512_i32
  let v46 : BitVec 32 := v45
  let v204 : Index := Scalar.indexCast v46
  let c256_79 : Index := 256#32
  ![0, v204.toNat, 256]
def k0_off8 (i : grid0.Coords) : Fin 4 → Nat :=
  let c0_86 : Index := 0#32
  let c4 : Index := 4#32
  let c0_87 : Index := 0#32
  let arg1 : BitVec 32 := BitVec.ofNat 32 (i 1).val
  let c512_i32 : BitVec 32 := 512#32
  let v45 : BitVec 32 := Scalar.muli arg1 c512_i32
  let v46 : BitVec 32 := v45
  let v214 : Index := Scalar.indexCast v46
  ![0, 4, 0, v214.toNat]
def k0_off9 (i : grid0.Coords) : Fin 4 → Nat :=
  let c0_95 : Index := 0#32
  let c5 : Index := 5#32
  let c0_96 : Index := 0#32
  let arg1 : BitVec 32 := BitVec.ofNat 32 (i 1).val
  let c512_i32 : BitVec 32 := 512#32
  let v45 : BitVec 32 := Scalar.muli arg1 c512_i32
  let v46 : BitVec 32 := v45
  let v246 : Index := Scalar.indexCast v46
  ![0, 5, 0, v246.toNat]
def k0_off10 (i : grid0.Coords) : Fin 3 → Nat :=
  let c0_104 : Index := 0#32
  let arg1 : BitVec 32 := BitVec.ofNat 32 (i 1).val
  let c512_i32 : BitVec 32 := 512#32
  let v45 : BitVec 32 := Scalar.muli arg1 c512_i32
  let v46 : BitVec 32 := v45
  let v278 : Index := Scalar.indexCast v46
  let c384_105 : Index := 384#32
  ![0, v278.toNat, 384]
def k0_off11 (i : grid0.Coords) : Fin 4 → Nat :=
  let c0_112 : Index := 0#32
  let c6 : Index := 6#32
  let c0_113 : Index := 0#32
  let arg1 : BitVec 32 := BitVec.ofNat 32 (i 1).val
  let c512_i32 : BitVec 32 := 512#32
  let v45 : BitVec 32 := Scalar.muli arg1 c512_i32
  let v46 : BitVec 32 := v45
  let v288 : Index := Scalar.indexCast v46
  ![0, 6, 0, v288.toNat]
def k0_off12 (i : grid0.Coords) : Fin 4 → Nat :=
  let c0_121 : Index := 0#32
  let c7 : Index := 7#32
  let c0_122 : Index := 0#32
  let arg1 : BitVec 32 := BitVec.ofNat 32 (i 1).val
  let c512_i32 : BitVec 32 := 512#32
  let v45 : BitVec 32 := Scalar.muli arg1 c512_i32
  let v46 : BitVec 32 := v45
  let v320 : Index := Scalar.indexCast v46
  ![0, 7, 0, v320.toNat]
@[reducible] def k0_t1_loop (i : grid0.Coords) : Scf.Loop 32 :=
  let c0_i32_130 : BitVec 32 := 0#32
  let arg1 : BitVec 32 := BitVec.ofNat 32 (i 1).val
  let v352 : BitVec 32 := Scalar.subi arg1 c0_i32_130
  let c1_i32_131 : BitVec 32 := 1#32
  let v354 : BitVec 32 := Scalar.divsi v352 c1_i32_131
  let v355 : BitVec 32 := Scalar.muli v354 c1_i32_131
  let v356 : BitVec 32 := Scalar.addi c0_i32_130 v355
  let c1_i32_132 : BitVec 32 := 1#32
  ⟨c0_i32_130, v356, c1_i32_132⟩
def k0_mult2 (i : grid0.Coords) (k0_t1 : Fin (k0_t1_loop i).trips) : BitVec 32 :=
  let c0_i32_130 : BitVec 32 := 0#32
  let c1_i32_132 : BitVec 32 := 1#32
  let arg12 : BitVec 32 := Scf.iv c0_i32_130 c1_i32_132 k0_t1
  let c512_i32_155 : BitVec 32 := 512#32
  let v414 : BitVec 32 := Scalar.muli arg12 c512_i32_155
  v414
def k0_off13 (i : grid0.Coords) (k0_t1 : Fin (k0_t1_loop i).trips) : Fin 3 → Nat :=
  let c0_156 : Index := 0#32
  let c0_i32_130 : BitVec 32 := 0#32
  let c1_i32_132 : BitVec 32 := 1#32
  let arg12 : BitVec 32 := Scf.iv c0_i32_130 c1_i32_132 k0_t1
  let c512_i32_155 : BitVec 32 := 512#32
  let v414 : BitVec 32 := Scalar.muli arg12 c512_i32_155
  let v415 : BitVec 32 := v414
  let v416 : Index := Scalar.indexCast v415
  let c0_157 : Index := 0#32
  ![0, v416.toNat, 0]
def k0_off14 (i : grid0.Coords) (k0_t1 : Fin (k0_t1_loop i).trips) : Fin 4 → Nat :=
  let c0_160 : Index := 0#32
  let c0_161 : Index := 0#32
  let c0_162 : Index := 0#32
  let c0_i32_130 : BitVec 32 := 0#32
  let c1_i32_132 : BitVec 32 := 1#32
  let arg12 : BitVec 32 := Scf.iv c0_i32_130 c1_i32_132 k0_t1
  let c512_i32_155 : BitVec 32 := 512#32
  let v414 : BitVec 32 := Scalar.muli arg12 c512_i32_155
  let v415 : BitVec 32 := v414
  let v422 : Index := Scalar.indexCast v415
  ![0, 0, 0, v422.toNat]
def k0_off15 (i : grid0.Coords) (k0_t1 : Fin (k0_t1_loop i).trips) : Fin 4 → Nat :=
  let c0_165 : Index := 0#32
  let c1_166 : Index := 1#32
  let c0_167 : Index := 0#32
  let c0_i32_130 : BitVec 32 := 0#32
  let c1_i32_132 : BitVec 32 := 1#32
  let arg12 : BitVec 32 := Scf.iv c0_i32_130 c1_i32_132 k0_t1
  let c512_i32_155 : BitVec 32 := 512#32
  let v414 : BitVec 32 := Scalar.muli arg12 c512_i32_155
  let v415 : BitVec 32 := v414
  let v445 : Index := Scalar.indexCast v415
  ![0, 1, 0, v445.toNat]
def k0_off16 (i : grid0.Coords) (k0_t1 : Fin (k0_t1_loop i).trips) : Fin 3 → Nat :=
  let c0_170 : Index := 0#32
  let c0_i32_130 : BitVec 32 := 0#32
  let c1_i32_132 : BitVec 32 := 1#32
  let arg12 : BitVec 32 := Scf.iv c0_i32_130 c1_i32_132 k0_t1
  let c512_i32_155 : BitVec 32 := 512#32
  let v414 : BitVec 32 := Scalar.muli arg12 c512_i32_155
  let v415 : BitVec 32 := v414
  let v468 : Index := Scalar.indexCast v415
  let c128_171 : Index := 128#32
  ![0, v468.toNat, 128]
def k0_off17 (i : grid0.Coords) (k0_t1 : Fin (k0_t1_loop i).trips) : Fin 4 → Nat :=
  let c0_174 : Index := 0#32
  let c2_175 : Index := 2#32
  let c0_176 : Index := 0#32
  let c0_i32_130 : BitVec 32 := 0#32
  let c1_i32_132 : BitVec 32 := 1#32
  let arg12 : BitVec 32 := Scf.iv c0_i32_130 c1_i32_132 k0_t1
  let c512_i32_155 : BitVec 32 := 512#32
  let v414 : BitVec 32 := Scalar.muli arg12 c512_i32_155
  let v415 : BitVec 32 := v414
  let v474 : Index := Scalar.indexCast v415
  ![0, 2, 0, v474.toNat]
def k0_off18 (i : grid0.Coords) (k0_t1 : Fin (k0_t1_loop i).trips) : Fin 4 → Nat :=
  let c0_179 : Index := 0#32
  let c3_180 : Index := 3#32
  let c0_181 : Index := 0#32
  let c0_i32_130 : BitVec 32 := 0#32
  let c1_i32_132 : BitVec 32 := 1#32
  let arg12 : BitVec 32 := Scf.iv c0_i32_130 c1_i32_132 k0_t1
  let c512_i32_155 : BitVec 32 := 512#32
  let v414 : BitVec 32 := Scalar.muli arg12 c512_i32_155
  let v415 : BitVec 32 := v414
  let v497 : Index := Scalar.indexCast v415
  ![0, 3, 0, v497.toNat]
def k0_off19 (i : grid0.Coords) (k0_t1 : Fin (k0_t1_loop i).trips) : Fin 3 → Nat :=
  let c0_184 : Index := 0#32
  let c0_i32_130 : BitVec 32 := 0#32
  let c1_i32_132 : BitVec 32 := 1#32
  let arg12 : BitVec 32 := Scf.iv c0_i32_130 c1_i32_132 k0_t1
  let c512_i32_155 : BitVec 32 := 512#32
  let v414 : BitVec 32 := Scalar.muli arg12 c512_i32_155
  let v415 : BitVec 32 := v414
  let v520 : Index := Scalar.indexCast v415
  let c256_185 : Index := 256#32
  ![0, v520.toNat, 256]
def k0_off20 (i : grid0.Coords) (k0_t1 : Fin (k0_t1_loop i).trips) : Fin 4 → Nat :=
  let c0_188 : Index := 0#32
  let c4_189 : Index := 4#32
  let c0_190 : Index := 0#32
  let c0_i32_130 : BitVec 32 := 0#32
  let c1_i32_132 : BitVec 32 := 1#32
  let arg12 : BitVec 32 := Scf.iv c0_i32_130 c1_i32_132 k0_t1
  let c512_i32_155 : BitVec 32 := 512#32
  let v414 : BitVec 32 := Scalar.muli arg12 c512_i32_155
  let v415 : BitVec 32 := v414
  let v526 : Index := Scalar.indexCast v415
  ![0, 4, 0, v526.toNat]
def k0_off21 (i : grid0.Coords) (k0_t1 : Fin (k0_t1_loop i).trips) : Fin 4 → Nat :=
  let c0_193 : Index := 0#32
  let c5_194 : Index := 5#32
  let c0_195 : Index := 0#32
  let c0_i32_130 : BitVec 32 := 0#32
  let c1_i32_132 : BitVec 32 := 1#32
  let arg12 : BitVec 32 := Scf.iv c0_i32_130 c1_i32_132 k0_t1
  let c512_i32_155 : BitVec 32 := 512#32
  let v414 : BitVec 32 := Scalar.muli arg12 c512_i32_155
  let v415 : BitVec 32 := v414
  let v549 : Index := Scalar.indexCast v415
  ![0, 5, 0, v549.toNat]
def k0_off22 (i : grid0.Coords) (k0_t1 : Fin (k0_t1_loop i).trips) : Fin 3 → Nat :=
  let c0_198 : Index := 0#32
  let c0_i32_130 : BitVec 32 := 0#32
  let c1_i32_132 : BitVec 32 := 1#32
  let arg12 : BitVec 32 := Scf.iv c0_i32_130 c1_i32_132 k0_t1
  let c512_i32_155 : BitVec 32 := 512#32
  let v414 : BitVec 32 := Scalar.muli arg12 c512_i32_155
  let v415 : BitVec 32 := v414
  let v572 : Index := Scalar.indexCast v415
  let c384_199 : Index := 384#32
  ![0, v572.toNat, 384]
def k0_off23 (i : grid0.Coords) (k0_t1 : Fin (k0_t1_loop i).trips) : Fin 4 → Nat :=
  let c0_202 : Index := 0#32
  let c6_203 : Index := 6#32
  let c0_204 : Index := 0#32
  let c0_i32_130 : BitVec 32 := 0#32
  let c1_i32_132 : BitVec 32 := 1#32
  let arg12 : BitVec 32 := Scf.iv c0_i32_130 c1_i32_132 k0_t1
  let c512_i32_155 : BitVec 32 := 512#32
  let v414 : BitVec 32 := Scalar.muli arg12 c512_i32_155
  let v415 : BitVec 32 := v414
  let v578 : Index := Scalar.indexCast v415
  ![0, 6, 0, v578.toNat]
def k0_off24 (i : grid0.Coords) (k0_t1 : Fin (k0_t1_loop i).trips) : Fin 4 → Nat :=
  let c0_207 : Index := 0#32
  let c7_208 : Index := 7#32
  let c0_209 : Index := 0#32
  let c0_i32_130 : BitVec 32 := 0#32
  let c1_i32_132 : BitVec 32 := 1#32
  let arg12 : BitVec 32 := Scf.iv c0_i32_130 c1_i32_132 k0_t1
  let c512_i32_155 : BitVec 32 := 512#32
  let v414 : BitVec 32 := Scalar.muli arg12 c512_i32_155
  let v415 : BitVec 32 := v414
  let v601 : Index := Scalar.indexCast v415
  ![0, 7, 0, v601.toNat]
@[reducible] def k0_t2_loop (i : grid0.Coords) : Scf.Loop 32 :=
  let c0_i32_130 : BitVec 32 := 0#32
  let arg1 : BitVec 32 := BitVec.ofNat 32 (i 1).val
  let v352 : BitVec 32 := Scalar.subi arg1 c0_i32_130
  let c1_i32_131 : BitVec 32 := 1#32
  let v354 : BitVec 32 := Scalar.divsi v352 c1_i32_131
  let v355 : BitVec 32 := Scalar.muli v354 c1_i32_131
  let v356 : BitVec 32 := Scalar.addi c0_i32_130 v355
  let v353 : BitVec 32 := Scalar.addi c0_i32_130 v352
  let c1_i32_133 : BitVec 32 := 1#32
  ⟨v356, v353, c1_i32_133⟩
def k0_mult3 (i : grid0.Coords) (k0_t2 : Fin (k0_t2_loop i).trips) : BitVec 32 :=
  let c0_i32_130 : BitVec 32 := 0#32
  let arg1 : BitVec 32 := BitVec.ofNat 32 (i 1).val
  let v352 : BitVec 32 := Scalar.subi arg1 c0_i32_130
  let c1_i32_131 : BitVec 32 := 1#32
  let v354 : BitVec 32 := Scalar.divsi v352 c1_i32_131
  let v355 : BitVec 32 := Scalar.muli v354 c1_i32_131
  let v356 : BitVec 32 := Scalar.addi c0_i32_130 v355
  let c1_i32_133 : BitVec 32 := 1#32
  let arg12 : BitVec 32 := Scf.iv v356 c1_i32_133 k0_t2
  let c512_i32_155 : BitVec 32 := 512#32
  let v414 : BitVec 32 := Scalar.muli arg12 c512_i32_155
  v414
def k0_off25 (i : grid0.Coords) (k0_t2 : Fin (k0_t2_loop i).trips) : Fin 3 → Nat :=
  let c0_156 : Index := 0#32
  let c0_i32_130 : BitVec 32 := 0#32
  let arg1 : BitVec 32 := BitVec.ofNat 32 (i 1).val
  let v352 : BitVec 32 := Scalar.subi arg1 c0_i32_130
  let c1_i32_131 : BitVec 32 := 1#32
  let v354 : BitVec 32 := Scalar.divsi v352 c1_i32_131
  let v355 : BitVec 32 := Scalar.muli v354 c1_i32_131
  let v356 : BitVec 32 := Scalar.addi c0_i32_130 v355
  let c1_i32_133 : BitVec 32 := 1#32
  let arg12 : BitVec 32 := Scf.iv v356 c1_i32_133 k0_t2
  let c512_i32_155 : BitVec 32 := 512#32
  let v414 : BitVec 32 := Scalar.muli arg12 c512_i32_155
  let v415 : BitVec 32 := v414
  let v416 : Index := Scalar.indexCast v415
  let c0_157 : Index := 0#32
  ![0, v416.toNat, 0]
def k0_off26 (i : grid0.Coords) (k0_t2 : Fin (k0_t2_loop i).trips) : Fin 4 → Nat :=
  let c0_160 : Index := 0#32
  let c0_161 : Index := 0#32
  let c0_162 : Index := 0#32
  let c0_i32_130 : BitVec 32 := 0#32
  let arg1 : BitVec 32 := BitVec.ofNat 32 (i 1).val
  let v352 : BitVec 32 := Scalar.subi arg1 c0_i32_130
  let c1_i32_131 : BitVec 32 := 1#32
  let v354 : BitVec 32 := Scalar.divsi v352 c1_i32_131
  let v355 : BitVec 32 := Scalar.muli v354 c1_i32_131
  let v356 : BitVec 32 := Scalar.addi c0_i32_130 v355
  let c1_i32_133 : BitVec 32 := 1#32
  let arg12 : BitVec 32 := Scf.iv v356 c1_i32_133 k0_t2
  let c512_i32_155 : BitVec 32 := 512#32
  let v414 : BitVec 32 := Scalar.muli arg12 c512_i32_155
  let v415 : BitVec 32 := v414
  let v422 : Index := Scalar.indexCast v415
  ![0, 0, 0, v422.toNat]
def k0_off27 (i : grid0.Coords) (k0_t2 : Fin (k0_t2_loop i).trips) : Fin 4 → Nat :=
  let c0_165 : Index := 0#32
  let c1_166 : Index := 1#32
  let c0_167 : Index := 0#32
  let c0_i32_130 : BitVec 32 := 0#32
  let arg1 : BitVec 32 := BitVec.ofNat 32 (i 1).val
  let v352 : BitVec 32 := Scalar.subi arg1 c0_i32_130
  let c1_i32_131 : BitVec 32 := 1#32
  let v354 : BitVec 32 := Scalar.divsi v352 c1_i32_131
  let v355 : BitVec 32 := Scalar.muli v354 c1_i32_131
  let v356 : BitVec 32 := Scalar.addi c0_i32_130 v355
  let c1_i32_133 : BitVec 32 := 1#32
  let arg12 : BitVec 32 := Scf.iv v356 c1_i32_133 k0_t2
  let c512_i32_155 : BitVec 32 := 512#32
  let v414 : BitVec 32 := Scalar.muli arg12 c512_i32_155
  let v415 : BitVec 32 := v414
  let v445 : Index := Scalar.indexCast v415
  ![0, 1, 0, v445.toNat]
def k0_off28 (i : grid0.Coords) (k0_t2 : Fin (k0_t2_loop i).trips) : Fin 3 → Nat :=
  let c0_170 : Index := 0#32
  let c0_i32_130 : BitVec 32 := 0#32
  let arg1 : BitVec 32 := BitVec.ofNat 32 (i 1).val
  let v352 : BitVec 32 := Scalar.subi arg1 c0_i32_130
  let c1_i32_131 : BitVec 32 := 1#32
  let v354 : BitVec 32 := Scalar.divsi v352 c1_i32_131
  let v355 : BitVec 32 := Scalar.muli v354 c1_i32_131
  let v356 : BitVec 32 := Scalar.addi c0_i32_130 v355
  let c1_i32_133 : BitVec 32 := 1#32
  let arg12 : BitVec 32 := Scf.iv v356 c1_i32_133 k0_t2
  let c512_i32_155 : BitVec 32 := 512#32
  let v414 : BitVec 32 := Scalar.muli arg12 c512_i32_155
  let v415 : BitVec 32 := v414
  let v468 : Index := Scalar.indexCast v415
  let c128_171 : Index := 128#32
  ![0, v468.toNat, 128]
def k0_off29 (i : grid0.Coords) (k0_t2 : Fin (k0_t2_loop i).trips) : Fin 4 → Nat :=
  let c0_174 : Index := 0#32
  let c2_175 : Index := 2#32
  let c0_176 : Index := 0#32
  let c0_i32_130 : BitVec 32 := 0#32
  let arg1 : BitVec 32 := BitVec.ofNat 32 (i 1).val
  let v352 : BitVec 32 := Scalar.subi arg1 c0_i32_130
  let c1_i32_131 : BitVec 32 := 1#32
  let v354 : BitVec 32 := Scalar.divsi v352 c1_i32_131
  let v355 : BitVec 32 := Scalar.muli v354 c1_i32_131
  let v356 : BitVec 32 := Scalar.addi c0_i32_130 v355
  let c1_i32_133 : BitVec 32 := 1#32
  let arg12 : BitVec 32 := Scf.iv v356 c1_i32_133 k0_t2
  let c512_i32_155 : BitVec 32 := 512#32
  let v414 : BitVec 32 := Scalar.muli arg12 c512_i32_155
  let v415 : BitVec 32 := v414
  let v474 : Index := Scalar.indexCast v415
  ![0, 2, 0, v474.toNat]
def k0_off30 (i : grid0.Coords) (k0_t2 : Fin (k0_t2_loop i).trips) : Fin 4 → Nat :=
  let c0_179 : Index := 0#32
  let c3_180 : Index := 3#32
  let c0_181 : Index := 0#32
  let c0_i32_130 : BitVec 32 := 0#32
  let arg1 : BitVec 32 := BitVec.ofNat 32 (i 1).val
  let v352 : BitVec 32 := Scalar.subi arg1 c0_i32_130
  let c1_i32_131 : BitVec 32 := 1#32
  let v354 : BitVec 32 := Scalar.divsi v352 c1_i32_131
  let v355 : BitVec 32 := Scalar.muli v354 c1_i32_131
  let v356 : BitVec 32 := Scalar.addi c0_i32_130 v355
  let c1_i32_133 : BitVec 32 := 1#32
  let arg12 : BitVec 32 := Scf.iv v356 c1_i32_133 k0_t2
  let c512_i32_155 : BitVec 32 := 512#32
  let v414 : BitVec 32 := Scalar.muli arg12 c512_i32_155
  let v415 : BitVec 32 := v414
  let v497 : Index := Scalar.indexCast v415
  ![0, 3, 0, v497.toNat]
def k0_off31 (i : grid0.Coords) (k0_t2 : Fin (k0_t2_loop i).trips) : Fin 3 → Nat :=
  let c0_184 : Index := 0#32
  let c0_i32_130 : BitVec 32 := 0#32
  let arg1 : BitVec 32 := BitVec.ofNat 32 (i 1).val
  let v352 : BitVec 32 := Scalar.subi arg1 c0_i32_130
  let c1_i32_131 : BitVec 32 := 1#32
  let v354 : BitVec 32 := Scalar.divsi v352 c1_i32_131
  let v355 : BitVec 32 := Scalar.muli v354 c1_i32_131
  let v356 : BitVec 32 := Scalar.addi c0_i32_130 v355
  let c1_i32_133 : BitVec 32 := 1#32
  let arg12 : BitVec 32 := Scf.iv v356 c1_i32_133 k0_t2
  let c512_i32_155 : BitVec 32 := 512#32
  let v414 : BitVec 32 := Scalar.muli arg12 c512_i32_155
  let v415 : BitVec 32 := v414
  let v520 : Index := Scalar.indexCast v415
  let c256_185 : Index := 256#32
  ![0, v520.toNat, 256]
def k0_off32 (i : grid0.Coords) (k0_t2 : Fin (k0_t2_loop i).trips) : Fin 4 → Nat :=
  let c0_188 : Index := 0#32
  let c4_189 : Index := 4#32
  let c0_190 : Index := 0#32
  let c0_i32_130 : BitVec 32 := 0#32
  let arg1 : BitVec 32 := BitVec.ofNat 32 (i 1).val
  let v352 : BitVec 32 := Scalar.subi arg1 c0_i32_130
  let c1_i32_131 : BitVec 32 := 1#32
  let v354 : BitVec 32 := Scalar.divsi v352 c1_i32_131
  let v355 : BitVec 32 := Scalar.muli v354 c1_i32_131
  let v356 : BitVec 32 := Scalar.addi c0_i32_130 v355
  let c1_i32_133 : BitVec 32 := 1#32
  let arg12 : BitVec 32 := Scf.iv v356 c1_i32_133 k0_t2
  let c512_i32_155 : BitVec 32 := 512#32
  let v414 : BitVec 32 := Scalar.muli arg12 c512_i32_155
  let v415 : BitVec 32 := v414
  let v526 : Index := Scalar.indexCast v415
  ![0, 4, 0, v526.toNat]
def k0_off33 (i : grid0.Coords) (k0_t2 : Fin (k0_t2_loop i).trips) : Fin 4 → Nat :=
  let c0_193 : Index := 0#32
  let c5_194 : Index := 5#32
  let c0_195 : Index := 0#32
  let c0_i32_130 : BitVec 32 := 0#32
  let arg1 : BitVec 32 := BitVec.ofNat 32 (i 1).val
  let v352 : BitVec 32 := Scalar.subi arg1 c0_i32_130
  let c1_i32_131 : BitVec 32 := 1#32
  let v354 : BitVec 32 := Scalar.divsi v352 c1_i32_131
  let v355 : BitVec 32 := Scalar.muli v354 c1_i32_131
  let v356 : BitVec 32 := Scalar.addi c0_i32_130 v355
  let c1_i32_133 : BitVec 32 := 1#32
  let arg12 : BitVec 32 := Scf.iv v356 c1_i32_133 k0_t2
  let c512_i32_155 : BitVec 32 := 512#32
  let v414 : BitVec 32 := Scalar.muli arg12 c512_i32_155
  let v415 : BitVec 32 := v414
  let v549 : Index := Scalar.indexCast v415
  ![0, 5, 0, v549.toNat]
def k0_off34 (i : grid0.Coords) (k0_t2 : Fin (k0_t2_loop i).trips) : Fin 3 → Nat :=
  let c0_198 : Index := 0#32
  let c0_i32_130 : BitVec 32 := 0#32
  let arg1 : BitVec 32 := BitVec.ofNat 32 (i 1).val
  let v352 : BitVec 32 := Scalar.subi arg1 c0_i32_130
  let c1_i32_131 : BitVec 32 := 1#32
  let v354 : BitVec 32 := Scalar.divsi v352 c1_i32_131
  let v355 : BitVec 32 := Scalar.muli v354 c1_i32_131
  let v356 : BitVec 32 := Scalar.addi c0_i32_130 v355
  let c1_i32_133 : BitVec 32 := 1#32
  let arg12 : BitVec 32 := Scf.iv v356 c1_i32_133 k0_t2
  let c512_i32_155 : BitVec 32 := 512#32
  let v414 : BitVec 32 := Scalar.muli arg12 c512_i32_155
  let v415 : BitVec 32 := v414
  let v572 : Index := Scalar.indexCast v415
  let c384_199 : Index := 384#32
  ![0, v572.toNat, 384]
def k0_off35 (i : grid0.Coords) (k0_t2 : Fin (k0_t2_loop i).trips) : Fin 4 → Nat :=
  let c0_202 : Index := 0#32
  let c6_203 : Index := 6#32
  let c0_204 : Index := 0#32
  let c0_i32_130 : BitVec 32 := 0#32
  let arg1 : BitVec 32 := BitVec.ofNat 32 (i 1).val
  let v352 : BitVec 32 := Scalar.subi arg1 c0_i32_130
  let c1_i32_131 : BitVec 32 := 1#32
  let v354 : BitVec 32 := Scalar.divsi v352 c1_i32_131
  let v355 : BitVec 32 := Scalar.muli v354 c1_i32_131
  let v356 : BitVec 32 := Scalar.addi c0_i32_130 v355
  let c1_i32_133 : BitVec 32 := 1#32
  let arg12 : BitVec 32 := Scf.iv v356 c1_i32_133 k0_t2
  let c512_i32_155 : BitVec 32 := 512#32
  let v414 : BitVec 32 := Scalar.muli arg12 c512_i32_155
  let v415 : BitVec 32 := v414
  let v578 : Index := Scalar.indexCast v415
  ![0, 6, 0, v578.toNat]
def k0_off36 (i : grid0.Coords) (k0_t2 : Fin (k0_t2_loop i).trips) : Fin 4 → Nat :=
  let c0_207 : Index := 0#32
  let c7_208 : Index := 7#32
  let c0_209 : Index := 0#32
  let c0_i32_130 : BitVec 32 := 0#32
  let arg1 : BitVec 32 := BitVec.ofNat 32 (i 1).val
  let v352 : BitVec 32 := Scalar.subi arg1 c0_i32_130
  let c1_i32_131 : BitVec 32 := 1#32
  let v354 : BitVec 32 := Scalar.divsi v352 c1_i32_131
  let v355 : BitVec 32 := Scalar.muli v354 c1_i32_131
  let v356 : BitVec 32 := Scalar.addi c0_i32_130 v355
  let c1_i32_133 : BitVec 32 := 1#32
  let arg12 : BitVec 32 := Scf.iv v356 c1_i32_133 k0_t2
  let c512_i32_155 : BitVec 32 := 512#32
  let v414 : BitVec 32 := Scalar.muli arg12 c512_i32_155
  let v415 : BitVec 32 := v414
  let v601 : Index := Scalar.indexCast v415
  ![0, 7, 0, v601.toNat]
def k0_mult4 (i : grid0.Coords) : BitVec 32 :=
  let arg1 : BitVec 32 := BitVec.ofNat 32 (i 1).val
  let c512_i32 : BitVec 32 := 512#32
  let v45 : BitVec 32 := Scalar.muli arg1 c512_i32
  v45
def k0_off37 (i : grid0.Coords) : Fin 3 → Nat :=
  let c0_25 : Index := 0#32
  let arg1 : BitVec 32 := BitVec.ofNat 32 (i 1).val
  let c512_i32 : BitVec 32 := 512#32
  let v45 : BitVec 32 := Scalar.muli arg1 c512_i32
  let v46 : BitVec 32 := v45
  let v56 : Index := Scalar.indexCast v46
  let c0_26 : Index := 0#32
  ![0, v56.toNat, 0]
def k0_off38 (i : grid0.Coords) : Fin 4 → Nat :=
  let c0_33 : Index := 0#32
  let c0_34 : Index := 0#32
  let c0_35 : Index := 0#32
  let arg1 : BitVec 32 := BitVec.ofNat 32 (i 1).val
  let c512_i32 : BitVec 32 := 512#32
  let v45 : BitVec 32 := Scalar.muli arg1 c512_i32
  let v46 : BitVec 32 := v45
  let v66 : Index := Scalar.indexCast v46
  ![0, 0, 0, v66.toNat]
def k0_off39 (i : grid0.Coords) : Fin 4 → Nat :=
  let c0_45 : Index := 0#32
  let c1 : Index := 1#32
  let c0_46 : Index := 0#32
  let arg1 : BitVec 32 := BitVec.ofNat 32 (i 1).val
  let c512_i32 : BitVec 32 := 512#32
  let v45 : BitVec 32 := Scalar.muli arg1 c512_i32
  let v46 : BitVec 32 := v45
  let v93 : Index := Scalar.indexCast v46
  ![0, 1, 0, v93.toNat]
def k0_off40 (i : grid0.Coords) : Fin 3 → Nat :=
  let c0_56 : Index := 0#32
  let arg1 : BitVec 32 := BitVec.ofNat 32 (i 1).val
  let c512_i32 : BitVec 32 := 512#32
  let v45 : BitVec 32 := Scalar.muli arg1 c512_i32
  let v46 : BitVec 32 := v45
  let v120 : Index := Scalar.indexCast v46
  let c128_57 : Index := 128#32
  ![0, v120.toNat, 128]
def k0_off41 (i : grid0.Coords) : Fin 4 → Nat :=
  let c0_64 : Index := 0#32
  let c2 : Index := 2#32
  let c0_65 : Index := 0#32
  let arg1 : BitVec 32 := BitVec.ofNat 32 (i 1).val
  let c512_i32 : BitVec 32 := 512#32
  let v45 : BitVec 32 := Scalar.muli arg1 c512_i32
  let v46 : BitVec 32 := v45
  let v130 : Index := Scalar.indexCast v46
  ![0, 2, 0, v130.toNat]
def k0_off42 (i : grid0.Coords) : Fin 4 → Nat :=
  let c0_75 : Index := 0#32
  let c3 : Index := 3#32
  let c0_76 : Index := 0#32
  let arg1 : BitVec 32 := BitVec.ofNat 32 (i 1).val
  let c512_i32 : BitVec 32 := 512#32
  let v45 : BitVec 32 := Scalar.muli arg1 c512_i32
  let v46 : BitVec 32 := v45
  let v157 : Index := Scalar.indexCast v46
  ![0, 3, 0, v157.toNat]
def k0_off43 (i : grid0.Coords) : Fin 3 → Nat :=
  let c0_86 : Index := 0#32
  let arg1 : BitVec 32 := BitVec.ofNat 32 (i 1).val
  let c512_i32 : BitVec 32 := 512#32
  let v45 : BitVec 32 := Scalar.muli arg1 c512_i32
  let v46 : BitVec 32 := v45
  let v184 : Index := Scalar.indexCast v46
  let c256_87 : Index := 256#32
  ![0, v184.toNat, 256]
def k0_off44 (i : grid0.Coords) : Fin 4 → Nat :=
  let c0_94 : Index := 0#32
  let c4 : Index := 4#32
  let c0_95 : Index := 0#32
  let arg1 : BitVec 32 := BitVec.ofNat 32 (i 1).val
  let c512_i32 : BitVec 32 := 512#32
  let v45 : BitVec 32 := Scalar.muli arg1 c512_i32
  let v46 : BitVec 32 := v45
  let v194 : Index := Scalar.indexCast v46
  ![0, 4, 0, v194.toNat]
def k0_off45 (i : grid0.Coords) : Fin 4 → Nat :=
  let c0_105 : Index := 0#32
  let c5 : Index := 5#32
  let c0_106 : Index := 0#32
  let arg1 : BitVec 32 := BitVec.ofNat 32 (i 1).val
  let c512_i32 : BitVec 32 := 512#32
  let v45 : BitVec 32 := Scalar.muli arg1 c512_i32
  let v46 : BitVec 32 := v45
  let v221 : Index := Scalar.indexCast v46
  ![0, 5, 0, v221.toNat]
def k0_off46 (i : grid0.Coords) : Fin 3 → Nat :=
  let c0_116 : Index := 0#32
  let arg1 : BitVec 32 := BitVec.ofNat 32 (i 1).val
  let c512_i32 : BitVec 32 := 512#32
  let v45 : BitVec 32 := Scalar.muli arg1 c512_i32
  let v46 : BitVec 32 := v45
  let v248 : Index := Scalar.indexCast v46
  let c384_117 : Index := 384#32
  ![0, v248.toNat, 384]
def k0_off47 (i : grid0.Coords) : Fin 4 → Nat :=
  let c0_124 : Index := 0#32
  let c6 : Index := 6#32
  let c0_125 : Index := 0#32
  let arg1 : BitVec 32 := BitVec.ofNat 32 (i 1).val
  let c512_i32 : BitVec 32 := 512#32
  let v45 : BitVec 32 := Scalar.muli arg1 c512_i32
  let v46 : BitVec 32 := v45
  let v258 : Index := Scalar.indexCast v46
  ![0, 6, 0, v258.toNat]
def k0_off48 (i : grid0.Coords) : Fin 4 → Nat :=
  let c0_135 : Index := 0#32
  let c7 : Index := 7#32
  let c0_136 : Index := 0#32
  let arg1 : BitVec 32 := BitVec.ofNat 32 (i 1).val
  let c512_i32 : BitVec 32 := 512#32
  let v45 : BitVec 32 := Scalar.muli arg1 c512_i32
  let v46 : BitVec 32 := v45
  let v285 : Index := Scalar.indexCast v46
  ![0, 7, 0, v285.toNat]
@[reducible] def k0_t3_loop (i : grid0.Coords) : Scf.Loop 32 :=
  let c0_i32_146 : BitVec 32 := 0#32
  let arg1 : BitVec 32 := BitVec.ofNat 32 (i 1).val
  let v312 : BitVec 32 := Scalar.subi arg1 c0_i32_146
  let c1_i32_147 : BitVec 32 := 1#32
  let v314 : BitVec 32 := Scalar.divsi v312 c1_i32_147
  let v315 : BitVec 32 := Scalar.muli v314 c1_i32_147
  let v316 : BitVec 32 := Scalar.addi c0_i32_146 v315
  let c1_i32_148 : BitVec 32 := 1#32
  ⟨c0_i32_146, v316, c1_i32_148⟩
def k0_mult5 (i : grid0.Coords) (k0_t3 : Fin (k0_t3_loop i).trips) : BitVec 32 :=
  let c0_i32_146 : BitVec 32 := 0#32
  let c1_i32_148 : BitVec 32 := 1#32
  let arg12 : BitVec 32 := Scf.iv c0_i32_146 c1_i32_148 k0_t3
  let c512_i32_163 : BitVec 32 := 512#32
  let v358 : BitVec 32 := Scalar.muli arg12 c512_i32_163
  v358
def k0_off49 (i : grid0.Coords) (k0_t3 : Fin (k0_t3_loop i).trips) : Fin 3 → Nat :=
  let c0_164 : Index := 0#32
  let c0_i32_146 : BitVec 32 := 0#32
  let c1_i32_148 : BitVec 32 := 1#32
  let arg12 : BitVec 32 := Scf.iv c0_i32_146 c1_i32_148 k0_t3
  let c512_i32_163 : BitVec 32 := 512#32
  let v358 : BitVec 32 := Scalar.muli arg12 c512_i32_163
  let v359 : BitVec 32 := v358
  let v360 : Index := Scalar.indexCast v359
  let c0_165 : Index := 0#32
  ![0, v360.toNat, 0]
def k0_off50 (i : grid0.Coords) (k0_t3 : Fin (k0_t3_loop i).trips) : Fin 4 → Nat :=
  let c0_168 : Index := 0#32
  let c0_169 : Index := 0#32
  let c0_170 : Index := 0#32
  let c0_i32_146 : BitVec 32 := 0#32
  let c1_i32_148 : BitVec 32 := 1#32
  let arg12 : BitVec 32 := Scf.iv c0_i32_146 c1_i32_148 k0_t3
  let c512_i32_163 : BitVec 32 := 512#32
  let v358 : BitVec 32 := Scalar.muli arg12 c512_i32_163
  let v359 : BitVec 32 := v358
  let v366 : Index := Scalar.indexCast v359
  ![0, 0, 0, v366.toNat]
def k0_off51 (i : grid0.Coords) (k0_t3 : Fin (k0_t3_loop i).trips) : Fin 4 → Nat :=
  let c0_175 : Index := 0#32
  let c1_176 : Index := 1#32
  let c0_177 : Index := 0#32
  let c0_i32_146 : BitVec 32 := 0#32
  let c1_i32_148 : BitVec 32 := 1#32
  let arg12 : BitVec 32 := Scf.iv c0_i32_146 c1_i32_148 k0_t3
  let c512_i32_163 : BitVec 32 := 512#32
  let v358 : BitVec 32 := Scalar.muli arg12 c512_i32_163
  let v359 : BitVec 32 := v358
  let v392 : Index := Scalar.indexCast v359
  ![0, 1, 0, v392.toNat]
def k0_off52 (i : grid0.Coords) (k0_t3 : Fin (k0_t3_loop i).trips) : Fin 3 → Nat :=
  let c0_182 : Index := 0#32
  let c0_i32_146 : BitVec 32 := 0#32
  let c1_i32_148 : BitVec 32 := 1#32
  let arg12 : BitVec 32 := Scf.iv c0_i32_146 c1_i32_148 k0_t3
  let c512_i32_163 : BitVec 32 := 512#32
  let v358 : BitVec 32 := Scalar.muli arg12 c512_i32_163
  let v359 : BitVec 32 := v358
  let v418 : Index := Scalar.indexCast v359
  let c128_183 : Index := 128#32
  ![0, v418.toNat, 128]
def k0_off53 (i : grid0.Coords) (k0_t3 : Fin (k0_t3_loop i).trips) : Fin 4 → Nat :=
  let c0_186 : Index := 0#32
  let c2_187 : Index := 2#32
  let c0_188 : Index := 0#32
  let c0_i32_146 : BitVec 32 := 0#32
  let c1_i32_148 : BitVec 32 := 1#32
  let arg12 : BitVec 32 := Scf.iv c0_i32_146 c1_i32_148 k0_t3
  let c512_i32_163 : BitVec 32 := 512#32
  let v358 : BitVec 32 := Scalar.muli arg12 c512_i32_163
  let v359 : BitVec 32 := v358
  let v424 : Index := Scalar.indexCast v359
  ![0, 2, 0, v424.toNat]
def k0_off54 (i : grid0.Coords) (k0_t3 : Fin (k0_t3_loop i).trips) : Fin 4 → Nat :=
  let c0_193 : Index := 0#32
  let c3_194 : Index := 3#32
  let c0_195 : Index := 0#32
  let c0_i32_146 : BitVec 32 := 0#32
  let c1_i32_148 : BitVec 32 := 1#32
  let arg12 : BitVec 32 := Scf.iv c0_i32_146 c1_i32_148 k0_t3
  let c512_i32_163 : BitVec 32 := 512#32
  let v358 : BitVec 32 := Scalar.muli arg12 c512_i32_163
  let v359 : BitVec 32 := v358
  let v450 : Index := Scalar.indexCast v359
  ![0, 3, 0, v450.toNat]
def k0_off55 (i : grid0.Coords) (k0_t3 : Fin (k0_t3_loop i).trips) : Fin 3 → Nat :=
  let c0_200 : Index := 0#32
  let c0_i32_146 : BitVec 32 := 0#32
  let c1_i32_148 : BitVec 32 := 1#32
  let arg12 : BitVec 32 := Scf.iv c0_i32_146 c1_i32_148 k0_t3
  let c512_i32_163 : BitVec 32 := 512#32
  let v358 : BitVec 32 := Scalar.muli arg12 c512_i32_163
  let v359 : BitVec 32 := v358
  let v476 : Index := Scalar.indexCast v359
  let c256_201 : Index := 256#32
  ![0, v476.toNat, 256]
def k0_off56 (i : grid0.Coords) (k0_t3 : Fin (k0_t3_loop i).trips) : Fin 4 → Nat :=
  let c0_204 : Index := 0#32
  let c4_205 : Index := 4#32
  let c0_206 : Index := 0#32
  let c0_i32_146 : BitVec 32 := 0#32
  let c1_i32_148 : BitVec 32 := 1#32
  let arg12 : BitVec 32 := Scf.iv c0_i32_146 c1_i32_148 k0_t3
  let c512_i32_163 : BitVec 32 := 512#32
  let v358 : BitVec 32 := Scalar.muli arg12 c512_i32_163
  let v359 : BitVec 32 := v358
  let v482 : Index := Scalar.indexCast v359
  ![0, 4, 0, v482.toNat]
def k0_off57 (i : grid0.Coords) (k0_t3 : Fin (k0_t3_loop i).trips) : Fin 4 → Nat :=
  let c0_211 : Index := 0#32
  let c5_212 : Index := 5#32
  let c0_213 : Index := 0#32
  let c0_i32_146 : BitVec 32 := 0#32
  let c1_i32_148 : BitVec 32 := 1#32
  let arg12 : BitVec 32 := Scf.iv c0_i32_146 c1_i32_148 k0_t3
  let c512_i32_163 : BitVec 32 := 512#32
  let v358 : BitVec 32 := Scalar.muli arg12 c512_i32_163
  let v359 : BitVec 32 := v358
  let v508 : Index := Scalar.indexCast v359
  ![0, 5, 0, v508.toNat]
def k0_off58 (i : grid0.Coords) (k0_t3 : Fin (k0_t3_loop i).trips) : Fin 3 → Nat :=
  let c0_218 : Index := 0#32
  let c0_i32_146 : BitVec 32 := 0#32
  let c1_i32_148 : BitVec 32 := 1#32
  let arg12 : BitVec 32 := Scf.iv c0_i32_146 c1_i32_148 k0_t3
  let c512_i32_163 : BitVec 32 := 512#32
  let v358 : BitVec 32 := Scalar.muli arg12 c512_i32_163
  let v359 : BitVec 32 := v358
  let v534 : Index := Scalar.indexCast v359
  let c384_219 : Index := 384#32
  ![0, v534.toNat, 384]
def k0_off59 (i : grid0.Coords) (k0_t3 : Fin (k0_t3_loop i).trips) : Fin 4 → Nat :=
  let c0_222 : Index := 0#32
  let c6_223 : Index := 6#32
  let c0_224 : Index := 0#32
  let c0_i32_146 : BitVec 32 := 0#32
  let c1_i32_148 : BitVec 32 := 1#32
  let arg12 : BitVec 32 := Scf.iv c0_i32_146 c1_i32_148 k0_t3
  let c512_i32_163 : BitVec 32 := 512#32
  let v358 : BitVec 32 := Scalar.muli arg12 c512_i32_163
  let v359 : BitVec 32 := v358
  let v540 : Index := Scalar.indexCast v359
  ![0, 6, 0, v540.toNat]
def k0_off60 (i : grid0.Coords) (k0_t3 : Fin (k0_t3_loop i).trips) : Fin 4 → Nat :=
  let c0_229 : Index := 0#32
  let c7_230 : Index := 7#32
  let c0_231 : Index := 0#32
  let c0_i32_146 : BitVec 32 := 0#32
  let c1_i32_148 : BitVec 32 := 1#32
  let arg12 : BitVec 32 := Scf.iv c0_i32_146 c1_i32_148 k0_t3
  let c512_i32_163 : BitVec 32 := 512#32
  let v358 : BitVec 32 := Scalar.muli arg12 c512_i32_163
  let v359 : BitVec 32 := v358
  let v566 : Index := Scalar.indexCast v359
  ![0, 7, 0, v566.toNat]
@[reducible] def k0_t4_loop (i : grid0.Coords) : Scf.Loop 32 :=
  let c0_i32_146 : BitVec 32 := 0#32
  let arg1 : BitVec 32 := BitVec.ofNat 32 (i 1).val
  let v312 : BitVec 32 := Scalar.subi arg1 c0_i32_146
  let c1_i32_147 : BitVec 32 := 1#32
  let v314 : BitVec 32 := Scalar.divsi v312 c1_i32_147
  let v315 : BitVec 32 := Scalar.muli v314 c1_i32_147
  let v316 : BitVec 32 := Scalar.addi c0_i32_146 v315
  let v313 : BitVec 32 := Scalar.addi c0_i32_146 v312
  let c1_i32_149 : BitVec 32 := 1#32
  ⟨v316, v313, c1_i32_149⟩
def k0_mult6 (i : grid0.Coords) (k0_t4 : Fin (k0_t4_loop i).trips) : BitVec 32 :=
  let c0_i32_146 : BitVec 32 := 0#32
  let arg1 : BitVec 32 := BitVec.ofNat 32 (i 1).val
  let v312 : BitVec 32 := Scalar.subi arg1 c0_i32_146
  let c1_i32_147 : BitVec 32 := 1#32
  let v314 : BitVec 32 := Scalar.divsi v312 c1_i32_147
  let v315 : BitVec 32 := Scalar.muli v314 c1_i32_147
  let v316 : BitVec 32 := Scalar.addi c0_i32_146 v315
  let c1_i32_149 : BitVec 32 := 1#32
  let arg12 : BitVec 32 := Scf.iv v316 c1_i32_149 k0_t4
  let c512_i32_163 : BitVec 32 := 512#32
  let v358 : BitVec 32 := Scalar.muli arg12 c512_i32_163
  v358
def k0_off61 (i : grid0.Coords) (k0_t4 : Fin (k0_t4_loop i).trips) : Fin 3 → Nat :=
  let c0_164 : Index := 0#32
  let c0_i32_146 : BitVec 32 := 0#32
  let arg1 : BitVec 32 := BitVec.ofNat 32 (i 1).val
  let v312 : BitVec 32 := Scalar.subi arg1 c0_i32_146
  let c1_i32_147 : BitVec 32 := 1#32
  let v314 : BitVec 32 := Scalar.divsi v312 c1_i32_147
  let v315 : BitVec 32 := Scalar.muli v314 c1_i32_147
  let v316 : BitVec 32 := Scalar.addi c0_i32_146 v315
  let c1_i32_149 : BitVec 32 := 1#32
  let arg12 : BitVec 32 := Scf.iv v316 c1_i32_149 k0_t4
  let c512_i32_163 : BitVec 32 := 512#32
  let v358 : BitVec 32 := Scalar.muli arg12 c512_i32_163
  let v359 : BitVec 32 := v358
  let v360 : Index := Scalar.indexCast v359
  let c0_165 : Index := 0#32
  ![0, v360.toNat, 0]
def k0_off62 (i : grid0.Coords) (k0_t4 : Fin (k0_t4_loop i).trips) : Fin 4 → Nat :=
  let c0_168 : Index := 0#32
  let c0_169 : Index := 0#32
  let c0_170 : Index := 0#32
  let c0_i32_146 : BitVec 32 := 0#32
  let arg1 : BitVec 32 := BitVec.ofNat 32 (i 1).val
  let v312 : BitVec 32 := Scalar.subi arg1 c0_i32_146
  let c1_i32_147 : BitVec 32 := 1#32
  let v314 : BitVec 32 := Scalar.divsi v312 c1_i32_147
  let v315 : BitVec 32 := Scalar.muli v314 c1_i32_147
  let v316 : BitVec 32 := Scalar.addi c0_i32_146 v315
  let c1_i32_149 : BitVec 32 := 1#32
  let arg12 : BitVec 32 := Scf.iv v316 c1_i32_149 k0_t4
  let c512_i32_163 : BitVec 32 := 512#32
  let v358 : BitVec 32 := Scalar.muli arg12 c512_i32_163
  let v359 : BitVec 32 := v358
  let v366 : Index := Scalar.indexCast v359
  ![0, 0, 0, v366.toNat]
def k0_off63 (i : grid0.Coords) (k0_t4 : Fin (k0_t4_loop i).trips) : Fin 4 → Nat :=
  let c0_175 : Index := 0#32
  let c1_176 : Index := 1#32
  let c0_177 : Index := 0#32
  let c0_i32_146 : BitVec 32 := 0#32
  let arg1 : BitVec 32 := BitVec.ofNat 32 (i 1).val
  let v312 : BitVec 32 := Scalar.subi arg1 c0_i32_146
  let c1_i32_147 : BitVec 32 := 1#32
  let v314 : BitVec 32 := Scalar.divsi v312 c1_i32_147
  let v315 : BitVec 32 := Scalar.muli v314 c1_i32_147
  let v316 : BitVec 32 := Scalar.addi c0_i32_146 v315
  let c1_i32_149 : BitVec 32 := 1#32
  let arg12 : BitVec 32 := Scf.iv v316 c1_i32_149 k0_t4
  let c512_i32_163 : BitVec 32 := 512#32
  let v358 : BitVec 32 := Scalar.muli arg12 c512_i32_163
  let v359 : BitVec 32 := v358
  let v392 : Index := Scalar.indexCast v359
  ![0, 1, 0, v392.toNat]
def k0_off64 (i : grid0.Coords) (k0_t4 : Fin (k0_t4_loop i).trips) : Fin 3 → Nat :=
  let c0_182 : Index := 0#32
  let c0_i32_146 : BitVec 32 := 0#32
  let arg1 : BitVec 32 := BitVec.ofNat 32 (i 1).val
  let v312 : BitVec 32 := Scalar.subi arg1 c0_i32_146
  let c1_i32_147 : BitVec 32 := 1#32
  let v314 : BitVec 32 := Scalar.divsi v312 c1_i32_147
  let v315 : BitVec 32 := Scalar.muli v314 c1_i32_147
  let v316 : BitVec 32 := Scalar.addi c0_i32_146 v315
  let c1_i32_149 : BitVec 32 := 1#32
  let arg12 : BitVec 32 := Scf.iv v316 c1_i32_149 k0_t4
  let c512_i32_163 : BitVec 32 := 512#32
  let v358 : BitVec 32 := Scalar.muli arg12 c512_i32_163
  let v359 : BitVec 32 := v358
  let v418 : Index := Scalar.indexCast v359
  let c128_183 : Index := 128#32
  ![0, v418.toNat, 128]
def k0_off65 (i : grid0.Coords) (k0_t4 : Fin (k0_t4_loop i).trips) : Fin 4 → Nat :=
  let c0_186 : Index := 0#32
  let c2_187 : Index := 2#32
  let c0_188 : Index := 0#32
  let c0_i32_146 : BitVec 32 := 0#32
  let arg1 : BitVec 32 := BitVec.ofNat 32 (i 1).val
  let v312 : BitVec 32 := Scalar.subi arg1 c0_i32_146
  let c1_i32_147 : BitVec 32 := 1#32
  let v314 : BitVec 32 := Scalar.divsi v312 c1_i32_147
  let v315 : BitVec 32 := Scalar.muli v314 c1_i32_147
  let v316 : BitVec 32 := Scalar.addi c0_i32_146 v315
  let c1_i32_149 : BitVec 32 := 1#32
  let arg12 : BitVec 32 := Scf.iv v316 c1_i32_149 k0_t4
  let c512_i32_163 : BitVec 32 := 512#32
  let v358 : BitVec 32 := Scalar.muli arg12 c512_i32_163
  let v359 : BitVec 32 := v358
  let v424 : Index := Scalar.indexCast v359
  ![0, 2, 0, v424.toNat]
def k0_off66 (i : grid0.Coords) (k0_t4 : Fin (k0_t4_loop i).trips) : Fin 4 → Nat :=
  let c0_193 : Index := 0#32
  let c3_194 : Index := 3#32
  let c0_195 : Index := 0#32
  let c0_i32_146 : BitVec 32 := 0#32
  let arg1 : BitVec 32 := BitVec.ofNat 32 (i 1).val
  let v312 : BitVec 32 := Scalar.subi arg1 c0_i32_146
  let c1_i32_147 : BitVec 32 := 1#32
  let v314 : BitVec 32 := Scalar.divsi v312 c1_i32_147
  let v315 : BitVec 32 := Scalar.muli v314 c1_i32_147
  let v316 : BitVec 32 := Scalar.addi c0_i32_146 v315
  let c1_i32_149 : BitVec 32 := 1#32
  let arg12 : BitVec 32 := Scf.iv v316 c1_i32_149 k0_t4
  let c512_i32_163 : BitVec 32 := 512#32
  let v358 : BitVec 32 := Scalar.muli arg12 c512_i32_163
  let v359 : BitVec 32 := v358
  let v450 : Index := Scalar.indexCast v359
  ![0, 3, 0, v450.toNat]
def k0_off67 (i : grid0.Coords) (k0_t4 : Fin (k0_t4_loop i).trips) : Fin 3 → Nat :=
  let c0_200 : Index := 0#32
  let c0_i32_146 : BitVec 32 := 0#32
  let arg1 : BitVec 32 := BitVec.ofNat 32 (i 1).val
  let v312 : BitVec 32 := Scalar.subi arg1 c0_i32_146
  let c1_i32_147 : BitVec 32 := 1#32
  let v314 : BitVec 32 := Scalar.divsi v312 c1_i32_147
  let v315 : BitVec 32 := Scalar.muli v314 c1_i32_147
  let v316 : BitVec 32 := Scalar.addi c0_i32_146 v315
  let c1_i32_149 : BitVec 32 := 1#32
  let arg12 : BitVec 32 := Scf.iv v316 c1_i32_149 k0_t4
  let c512_i32_163 : BitVec 32 := 512#32
  let v358 : BitVec 32 := Scalar.muli arg12 c512_i32_163
  let v359 : BitVec 32 := v358
  let v476 : Index := Scalar.indexCast v359
  let c256_201 : Index := 256#32
  ![0, v476.toNat, 256]
def k0_off68 (i : grid0.Coords) (k0_t4 : Fin (k0_t4_loop i).trips) : Fin 4 → Nat :=
  let c0_204 : Index := 0#32
  let c4_205 : Index := 4#32
  let c0_206 : Index := 0#32
  let c0_i32_146 : BitVec 32 := 0#32
  let arg1 : BitVec 32 := BitVec.ofNat 32 (i 1).val
  let v312 : BitVec 32 := Scalar.subi arg1 c0_i32_146
  let c1_i32_147 : BitVec 32 := 1#32
  let v314 : BitVec 32 := Scalar.divsi v312 c1_i32_147
  let v315 : BitVec 32 := Scalar.muli v314 c1_i32_147
  let v316 : BitVec 32 := Scalar.addi c0_i32_146 v315
  let c1_i32_149 : BitVec 32 := 1#32
  let arg12 : BitVec 32 := Scf.iv v316 c1_i32_149 k0_t4
  let c512_i32_163 : BitVec 32 := 512#32
  let v358 : BitVec 32 := Scalar.muli arg12 c512_i32_163
  let v359 : BitVec 32 := v358
  let v482 : Index := Scalar.indexCast v359
  ![0, 4, 0, v482.toNat]
def k0_off69 (i : grid0.Coords) (k0_t4 : Fin (k0_t4_loop i).trips) : Fin 4 → Nat :=
  let c0_211 : Index := 0#32
  let c5_212 : Index := 5#32
  let c0_213 : Index := 0#32
  let c0_i32_146 : BitVec 32 := 0#32
  let arg1 : BitVec 32 := BitVec.ofNat 32 (i 1).val
  let v312 : BitVec 32 := Scalar.subi arg1 c0_i32_146
  let c1_i32_147 : BitVec 32 := 1#32
  let v314 : BitVec 32 := Scalar.divsi v312 c1_i32_147
  let v315 : BitVec 32 := Scalar.muli v314 c1_i32_147
  let v316 : BitVec 32 := Scalar.addi c0_i32_146 v315
  let c1_i32_149 : BitVec 32 := 1#32
  let arg12 : BitVec 32 := Scf.iv v316 c1_i32_149 k0_t4
  let c512_i32_163 : BitVec 32 := 512#32
  let v358 : BitVec 32 := Scalar.muli arg12 c512_i32_163
  let v359 : BitVec 32 := v358
  let v508 : Index := Scalar.indexCast v359
  ![0, 5, 0, v508.toNat]
def k0_off70 (i : grid0.Coords) (k0_t4 : Fin (k0_t4_loop i).trips) : Fin 3 → Nat :=
  let c0_218 : Index := 0#32
  let c0_i32_146 : BitVec 32 := 0#32
  let arg1 : BitVec 32 := BitVec.ofNat 32 (i 1).val
  let v312 : BitVec 32 := Scalar.subi arg1 c0_i32_146
  let c1_i32_147 : BitVec 32 := 1#32
  let v314 : BitVec 32 := Scalar.divsi v312 c1_i32_147
  let v315 : BitVec 32 := Scalar.muli v314 c1_i32_147
  let v316 : BitVec 32 := Scalar.addi c0_i32_146 v315
  let c1_i32_149 : BitVec 32 := 1#32
  let arg12 : BitVec 32 := Scf.iv v316 c1_i32_149 k0_t4
  let c512_i32_163 : BitVec 32 := 512#32
  let v358 : BitVec 32 := Scalar.muli arg12 c512_i32_163
  let v359 : BitVec 32 := v358
  let v534 : Index := Scalar.indexCast v359
  let c384_219 : Index := 384#32
  ![0, v534.toNat, 384]
def k0_off71 (i : grid0.Coords) (k0_t4 : Fin (k0_t4_loop i).trips) : Fin 4 → Nat :=
  let c0_222 : Index := 0#32
  let c6_223 : Index := 6#32
  let c0_224 : Index := 0#32
  let c0_i32_146 : BitVec 32 := 0#32
  let arg1 : BitVec 32 := BitVec.ofNat 32 (i 1).val
  let v312 : BitVec 32 := Scalar.subi arg1 c0_i32_146
  let c1_i32_147 : BitVec 32 := 1#32
  let v314 : BitVec 32 := Scalar.divsi v312 c1_i32_147
  let v315 : BitVec 32 := Scalar.muli v314 c1_i32_147
  let v316 : BitVec 32 := Scalar.addi c0_i32_146 v315
  let c1_i32_149 : BitVec 32 := 1#32
  let arg12 : BitVec 32 := Scf.iv v316 c1_i32_149 k0_t4
  let c512_i32_163 : BitVec 32 := 512#32
  let v358 : BitVec 32 := Scalar.muli arg12 c512_i32_163
  let v359 : BitVec 32 := v358
  let v540 : Index := Scalar.indexCast v359
  ![0, 6, 0, v540.toNat]
def k0_off72 (i : grid0.Coords) (k0_t4 : Fin (k0_t4_loop i).trips) : Fin 4 → Nat :=
  let c0_229 : Index := 0#32
  let c7_230 : Index := 7#32
  let c0_231 : Index := 0#32
  let c0_i32_146 : BitVec 32 := 0#32
  let arg1 : BitVec 32 := BitVec.ofNat 32 (i 1).val
  let v312 : BitVec 32 := Scalar.subi arg1 c0_i32_146
  let c1_i32_147 : BitVec 32 := 1#32
  let v314 : BitVec 32 := Scalar.divsi v312 c1_i32_147
  let v315 : BitVec 32 := Scalar.muli v314 c1_i32_147
  let v316 : BitVec 32 := Scalar.addi c0_i32_146 v315
  let c1_i32_149 : BitVec 32 := 1#32
  let arg12 : BitVec 32 := Scf.iv v316 c1_i32_149 k0_t4
  let c512_i32_163 : BitVec 32 := 512#32
  let v358 : BitVec 32 := Scalar.muli arg12 c512_i32_163
  let v359 : BitVec 32 := v358
  let v566 : Index := Scalar.indexCast v359
  ![0, 7, 0, v566.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x8x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Kernel4Ideal.lean ====
variable {F : FTy → Type} [FloatOps F] [Named F]
def κ : String → Option EReal := fun
  | "mask" => some ⊥
  | _ => none
-- ==== Reference4Ideal.lean ====
abbrev S1 : Shape := ⟨1, ![1]⟩
abbrev S16x2048x512 : Shape := ⟨3, ![16, 2048, 512]⟩
abbrev S128x512 : Shape := ⟨2, ![128, 512]⟩
abbrev S16x2048x128 : Shape := ⟨3, ![16, 2048, 128]⟩
abbrev S16x8x2048 : Shape := ⟨3, ![16, 8, 2048]⟩
abbrev S16x8x128 : Shape := ⟨3, ![16, 8, 128]⟩
abbrev S_ : Shape := ⟨0, ![]⟩
abbrev S16x512 : Shape := ⟨2, ![16, 512]⟩
abbrev S1x16x512 : Shape := ⟨3, ![1, 16, 512]⟩
abbrev S16x16x512 : Shape := ⟨3, ![16, 16, 512]⟩
abbrev S16x2064x512 : Shape := ⟨3, ![16, 2064, 512]⟩
abbrev S16x8x16 : Shape := ⟨3, ![16, 8, 16]⟩
abbrev S16x8x2064 : Shape := ⟨3, ![16, 8, 2064]⟩
abbrev S16x2048x8 : Shape := ⟨3, ![16, 2048, 8]⟩
abbrev S16x2048x8x64 : Shape := ⟨4, ![16, 2048, 8, 64]⟩
abbrev S16x2064x8x64 : Shape := ⟨4, ![16, 2064, 8, 64]⟩
abbrev S16x8x2048x2064 : Shape := ⟨4, ![16, 8, 2048, 2064]⟩
abbrev S16x8x2048x1 : Shape := ⟨4, ![16, 8, 2048, 1]⟩
abbrev S16x8x1x2064 : Shape := ⟨4, ![16, 8, 1, 2064]⟩
abbrev S2064 : Shape := ⟨1, ![2064]⟩
abbrev S1x2064 : Shape := ⟨2, ![1, 2064]⟩
abbrev S2048 : Shape := ⟨1, ![2048]⟩
abbrev S2048x1 : Shape := ⟨2, ![2048, 1]⟩
abbrev S2048x2064 : Shape := ⟨2, ![2048, 2064]⟩
abbrev S16x8x64x2048 : Shape := ⟨4, ![16, 8, 64, 2048]⟩

abbrev nBuf : Space → Nat
  | .hbm => 68
  | .vmem => 0
  | .smem => 0
  | _ => 0

abbrev bufTy : (tb : Table) → Fin (tcTables nBuf tb) → BufTy
  | .hbm, ⟨0, _⟩ => ⟨S1, .f32⟩
  | .hbm, ⟨1, _⟩ => ⟨S16x2048x512, .bf16⟩
  | .hbm, ⟨2, _⟩ => ⟨S16x2048x512, .bf16⟩
  | .hbm, ⟨3, _⟩ => ⟨S16x2048x512, .bf16⟩
  | .hbm, ⟨4, _⟩ => ⟨S128x512, .bf16⟩
  | .hbm, ⟨5, _⟩ => ⟨S128x512, .bf16⟩
  | .hbm, ⟨6, _⟩ => ⟨S16x2048x128, .f32⟩
  | .hbm, ⟨7, _⟩ => ⟨S16x8x2048, .f32⟩
  | .hbm, ⟨8, _⟩ => ⟨S16x8x128, .f32⟩
  | .hbm, ⟨9, _⟩ => ⟨S_, .f32⟩
  | .hbm, ⟨10, _⟩ => ⟨S_, .f32⟩
  | .hbm, ⟨11, _⟩ => ⟨S16x512, .bf16⟩
  | .hbm, ⟨12, _⟩ => ⟨S1x16x512, .bf16⟩
  | .hbm, ⟨13, _⟩ => ⟨S16x16x512, .bf16⟩
  | .hbm, ⟨14, _⟩ => ⟨S16x2064x512, .bf16⟩
  | .hbm, ⟨15, _⟩ => ⟨S16x512, .bf16⟩
  | .hbm, ⟨16, _⟩ => ⟨S1x16x512, .bf16⟩
  | .hbm, ⟨17, _⟩ => ⟨S16x16x512, .bf16⟩
  | .hbm, ⟨18, _⟩ => ⟨S16x2064x512, .bf16⟩
  | .hbm, ⟨19, _⟩ => ⟨S16x8x16, .f32⟩
  | .hbm, ⟨20, _⟩ => ⟨S16x8x2064, .f32⟩
  | .hbm, ⟨21, _⟩ => ⟨S16x2048x8, .f32⟩
  | .hbm, ⟨22, _⟩ => ⟨S16x8x2048, .f32⟩
  | .hbm, ⟨23, _⟩ => ⟨S16x2048x8x64, .bf16⟩
  | .hbm, ⟨24, _⟩ => ⟨S16x2048x8x64, .f32⟩
  | .hbm, ⟨25, _⟩ => ⟨S16x2064x8x64, .bf16⟩
  | .hbm, ⟨26, _⟩ => ⟨S16x2064x8x64, .f32⟩
  | .hbm, ⟨27, _⟩ => ⟨S16x8x2048x2064, .f32⟩
  | .hbm, ⟨28, _⟩ => ⟨S16x8x2048x1, .f32⟩
  | .hbm, ⟨29, _⟩ => ⟨S16x8x1x2064, .f32⟩
  | .hbm, ⟨30, _⟩ => ⟨S16x8x2048x2064, .f32⟩
  | .hbm, ⟨31, _⟩ => ⟨S16x8x2048x2064, .f32⟩
  | .hbm, ⟨32, _⟩ => ⟨S16x8x2048x2064, .f32⟩
  | .hbm, ⟨33, _⟩ => ⟨S16x8x2048x2064, .f32⟩
  | .hbm, ⟨34, _⟩ => ⟨S16x8x2048x2064, .f32⟩
  | .hbm, ⟨35, _⟩ => ⟨S16x8x2048x2064, .f32⟩
  | .hbm, ⟨36, _⟩ => ⟨S2064, .i32⟩
  | .hbm, ⟨37, _⟩ => ⟨S1x2064, .i32⟩
  | .hbm, ⟨38, _⟩ => ⟨S2048, .i32⟩
  | .hbm, ⟨39, _⟩ => ⟨S2048x1, .i32⟩
  | .hbm, ⟨40, _⟩ => ⟨S2048x2064, .i32⟩
  | .hbm, ⟨41, _⟩ => ⟨S2048x2064, .i32⟩
  | .hbm, ⟨42, _⟩ => ⟨S2048x2064, .i1⟩
  | .hbm, ⟨43, _⟩ => ⟨S_, .f32⟩
  | .hbm, ⟨44, _⟩ => ⟨S_, .f32⟩
  | .hbm, ⟨45, _⟩ => ⟨S16x8x2048x2064, .i1⟩
  | .hbm, ⟨46, _⟩ => ⟨S16x8x2048x2064, .f32⟩
  | .hbm, ⟨47, _⟩ => ⟨S16x8x2048x2064, .f32⟩
  | .hbm, ⟨48, _⟩ => ⟨S_, .f32⟩
  | .hbm, ⟨49, _⟩ => ⟨S16x8x2048, .f32⟩
  | .hbm, ⟨50, _⟩ => ⟨S_, .f32⟩
  | .hbm, ⟨51, _⟩ => ⟨S16x8x2048, .f32⟩
  | .hbm, ⟨52, _⟩ => ⟨S16x8x2048, .f32⟩
  | .hbm, ⟨53, _⟩ => ⟨S16x8x2048x1, .f32⟩
  | .hbm, ⟨54, _⟩ => ⟨S16x8x2048x2064, .f32⟩
  | .hbm, ⟨55, _⟩ => ⟨S16x8x2048x2064, .f32⟩
  | .hbm, ⟨56, _⟩ => ⟨S16x8x2048x2064, .f32⟩
  | .hbm, ⟨57, _⟩ => ⟨S_, .f32⟩
  | .hbm, ⟨58, _⟩ => ⟨S16x8x2048, .f32⟩
  | .hbm, ⟨59, _⟩ => ⟨S16x8x2048x1, .f32⟩
  | .hbm, ⟨60, _⟩ => ⟨S16x8x2048x2064, .f32⟩
  | .hbm, ⟨61, _⟩ => ⟨S16x8x2048x2064, .f32⟩
  | .hbm, ⟨62, _⟩ => ⟨S16x2064x8x64, .bf16⟩
  | .hbm, ⟨63, _⟩ => ⟨S16x2064x8x64, .f32⟩
  | .hbm, ⟨64, _⟩ => ⟨S16x8x64x2048, .f32⟩
  | .hbm, ⟨65, _⟩ => ⟨S16x2048x8x64, .f32⟩
  | .hbm, ⟨66, _⟩ => ⟨S16x2048x512, .f32⟩
  | .hbm, ⟨67, _⟩ => ⟨S16x2048x512, .bf16⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_0 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v33 : Ref sig .tc := ⟨.hbm, 47, rfl⟩
abbrev main_cst_1 : Ref sig .tc := ⟨.hbm, 48, rfl⟩
abbrev main_v34 : Ref sig .tc := ⟨.hbm, 49, rfl⟩
abbrev main_cst_2 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_3 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩

abbrev nD : Nat := 1
abbrev τ : Topo := Topo.v7x

variable {F : FTy → Type} [FloatOps F]
-- ==== Proof.KernelIdeal.Word.lean ====
/- The score bound as the kernel body reads it, and the two tests the body makes of it. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import Idealize.ShloMosaic.Lib.Tactic
public import Idealize.ShloMosaic.Lib.WholeRead

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The score bound: the one word of `x0`. -/
abbrev word (x0 : Vec F S1 .f32) : F .f32 := x0 (Shape.Idx.first (s := S1) (by decide))

/-- Whether the score bound is at most 60. -/
abbrev small (x0 : Vec F S1 .f32) : Prop :=
  Scalar.cmpf .ole (word x0) (Scalar.ofBits .f32 0x42700000#32) = 1#1

/-- The word the body reads from the whole buffer holding `x0`. -/
theorem readWord {κ : Kind} (m : Memref sig κ .smem S1 .f32) (h : m.IsWhole) (x0 : Vec F S1 .f32)
    (x : (Rect.unit (s := S1) ![0] S1.size inb_S1_S1_0).toLoadRect.shape.Idx) :
    View.readAt (Elt F) m.view (Rect.unit (s := S1) ![0] S1.size inb_S1_S1_0).toLoadRect (h.unread x0) x = word x0 := by
  rw [Memref.IsWhole.readAt_unread]
  refine congrArg x0 (funext fun a => Fin.ext ?_)
  have h1 : S1.size a = 1 := by revert a; decide
  have := ((Rect.unit (s := S1) ![0] S1.size inb_S1_S1_0).toLoadRect.idx x a).isLt
  have := (Shape.Idx.first (s := S1) (by decide) a).isLt
  omega

theorem bit_cases (b : BitVec 1) : (Scalar.cmpi .ne (Scalar.extui b : BitVec 32) 0#32 = 1#1) ↔ b = 1#1 := by
  revert b; decide

theorem bit_not (b : BitVec 1) : (Scalar.xori b 1#1 = 1#1) ↔ ¬ b = 1#1 := by
  revert b; decide

end Cert.KernelIdeal.Att
-- ==== Proof.KernelIdeal.RunFixed.lean ====
/- The body of the attention kernel run once on whole staging buffers, when the score bound is small: the softmax
   takes the bound as its shift. -/
module

public import proofs.«01_k».proof.Proof.KernelIdeal.Word

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- What the body leaves in the output block when the bound is small, as the list of its stores (last first), with the
    run itself: from the inputs held at `x0 … x7` the body reaches the continuation, the inputs unchanged. -/
noncomputable def runFixed (c : Dev nD) (i : grid0.Coords) (arg2 : Memref sig .tc .smem S1 .f32) (harg2 : arg2.IsWhole) (arg3 : Memref sig .tc .vmem S1x512x512 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S4x64 .f32) (harg8 : arg8.IsWhole) (arg9 : Memref sig .tc .vmem S1x128 .f32) (harg9 : arg9.IsWhole) (arg10 : Memref sig .tc .vmem S1x512x512 .bf16) (harg10 : arg10.IsWhole)
    (x0 : Vec F S1 .f32) (x1 : Vec F S1x512x512 .bf16) (x2 : Vec F S1x2048x512 .bf16) (x3 : Vec F S1x2048x512 .bf16) (x4 : Vec F S128x512 .bf16) (x5 : Vec F S128x512 .bf16) (x6 : Vec F S4x64 .f32) (x7 : Vec F S1x128 .f32) (hc : small (F := F) x0) :
    { L8 : List (View.Piece (Elt F) S1x512x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8)) -∗ K ⟨⟩))
          ⊢ wp frame (wpE (defs₀ (F := F)) Variants.none c none) E (cc0_diff_attn i arg2 harg2 arg3 harg3 arg4 harg4 arg5 harg5 arg6 harg6 arg7 harg7 arg8 harg8 arg9 harg9 arg10 harg10) K } := by
  refine ⟨?_, fun E K => ?run⟩
  case run =>
    simp only [cc0_diff_attn_eq_skeleton]; unfold cc0_diff_attn_skel
    simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec
    have hr : runFixed.sl.r c arg2 harg2 x0 = word x0 := readWord arg2 harg2 x0 _
    rw [if_pos ((bit_cases _).2 (hr ▸ hc))]
    sl_exec
    beta_reduce
    rw [if_neg (fun h => (bit_not _).1 ((bit_cases _).1 h) (hr ▸ hc))]
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact H8

end Cert.KernelIdeal.Att
-- ==== Proof.KernelIdeal.RunOnline.lean ====
/- The body of the attention kernel run once on whole staging buffers, when the score bound is not small: the softmax
   keeps a running maximum. -/
module

public import proofs.«01_k».proof.Proof.KernelIdeal.Word

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- What the body leaves in the output block when the bound is not small, as the list of its stores (last first), with the
    run itself: from the inputs held at `x0 … x7` the body reaches the continuation, the inputs unchanged. -/
noncomputable def runOnline (c : Dev nD) (i : grid0.Coords) (arg2 : Memref sig .tc .smem S1 .f32) (harg2 : arg2.IsWhole) (arg3 : Memref sig .tc .vmem S1x512x512 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S4x64 .f32) (harg8 : arg8.IsWhole) (arg9 : Memref sig .tc .vmem S1x128 .f32) (harg9 : arg9.IsWhole) (arg10 : Memref sig .tc .vmem S1x512x512 .bf16) (harg10 : arg10.IsWhole)
    (x0 : Vec F S1 .f32) (x1 : Vec F S1x512x512 .bf16) (x2 : Vec F S1x2048x512 .bf16) (x3 : Vec F S1x2048x512 .bf16) (x4 : Vec F S128x512 .bf16) (x5 : Vec F S128x512 .bf16) (x6 : Vec F S4x64 .f32) (x7 : Vec F S1x128 .f32) (hc : ¬ small (F := F) x0) :
    { L8 : List (View.Piece (Elt F) S1x512x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8)) -∗ K ⟨⟩))
          ⊢ wp frame (wpE (defs₀ (F := F)) Variants.none c none) E (cc0_diff_attn i arg2 harg2 arg3 harg3 arg4 harg4 arg5 harg5 arg6 harg6 arg7 harg7 arg8 harg8 arg9 harg9 arg10 harg10) K } := by
  refine ⟨?_, fun E K => ?run⟩
  case run =>
    simp only [cc0_diff_attn_eq_skeleton]; unfold cc0_diff_attn_skel
    simp only [k0_part22_eq_skeleton, k0_part23_eq_skeleton, k0_part24_eq_skeleton, k0_part25_eq_skeleton, k0_part26_eq_skeleton, k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec
    have hr : runOnline.sl.r c arg2 harg2 x0 = word x0 := readWord arg2 harg2 x0 _
    have hn : ¬ Scalar.cmpf .ole (runOnline.sl.r c arg2 harg2 x0) (Scalar.ofBits .f32 0x42700000#32) = 1#1 := hr ▸ hc
    rw [if_neg (fun h => hn ((bit_cases _).1 h))]
    rw [if_pos ((bit_cases _).2 ((bit_not _).2 hn))]
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact H8

end Cert.KernelIdeal.Att
-- ==== Proof.KernelIdeal.Frame.lean ====
/- The attention kernel's launch runs, leaves its argument arrays as they were, and leaves in its result what the body
   stores: the frame, from the two runs of the body. -/
module

public import proofs.«01_k».proof.Proof.KernelIdeal.RunFixed
public import proofs.«01_k».proof.Proof.KernelIdeal.RunOnline
public import Idealize.ShloMosaic.Lib.Pipeline.FrameBody
public import Idealize.ShloMosaic.Lib.Ring
public import Idealize.ShloMosaic.Lib.Claim

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The view of one of the output's staging buffers. -/
abbrev VO : View sig .tc .vmem S1x512x512 .bf16 := (Memref.whole cc0_stg8_0 : Memref sig .tc .vmem S1x512x512 .bf16).view

/-- The four stores of the fixed-shift body cover the output block. -/
theorem cover_fixed (c : Dev nD) (i : grid0.Coords) (arg2 : Memref sig .tc .smem S1 .f32) (harg2 : arg2.IsWhole) (arg3 : Memref sig .tc .vmem S1x512x512 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S4x64 .f32) (harg8 : arg8.IsWhole) (arg9 : Memref sig .tc .vmem S1x128 .f32) (harg9 : arg9.IsWhole) (arg10 : Memref sig .tc .vmem S1x512x512 .bf16) (harg10 : arg10.IsWhole)
    (x0 : Vec F S1 .f32) (x1 : Vec F S1x512x512 .bf16) (x2 : Vec F S1x2048x512 .bf16) (x3 : Vec F S1x2048x512 .bf16) (x4 : Vec F S128x512 .bf16) (x5 : Vec F S128x512 .bf16) (x6 : Vec F S4x64 .f32) (x7 : Vec F S1x128 .f32) (hc : small (F := F) x0) (y : S1x512x512.Idx) :
    ∃ pc ∈ (runFixed c i arg2 harg2 arg3 harg3 arg4 harg4 arg5 harg5 arg6 harg6 arg7 harg7 arg8 harg8 arg9 harg9 arg10 harg10 x0 x1 x2 x3 x4 x5 x6 x7 hc).1, y ∈ pc.1.set :=
  View.cover_of_tiledL (runFixed c i arg2 harg2 arg3 harg3 arg4 harg4 arg5 harg5 arg6 harg6 arg7 harg7 arg8 harg8 arg9 harg9 arg10 harg10 x0 x1 x2 x3 x4 x5 x6 x7 hc).1 S1x512x128.size (by sl_kernel_rfl) y

/-- The four stores of the running-maximum body cover the output block. -/
theorem cover_online (c : Dev nD) (i : grid0.Coords) (arg2 : Memref sig .tc .smem S1 .f32) (harg2 : arg2.IsWhole) (arg3 : Memref sig .tc .vmem S1x512x512 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S4x64 .f32) (harg8 : arg8.IsWhole) (arg9 : Memref sig .tc .vmem S1x128 .f32) (harg9 : arg9.IsWhole) (arg10 : Memref sig .tc .vmem S1x512x512 .bf16) (harg10 : arg10.IsWhole)
    (x0 : Vec F S1 .f32) (x1 : Vec F S1x512x512 .bf16) (x2 : Vec F S1x2048x512 .bf16) (x3 : Vec F S1x2048x512 .bf16) (x4 : Vec F S128x512 .bf16) (x5 : Vec F S128x512 .bf16) (x6 : Vec F S4x64 .f32) (x7 : Vec F S1x128 .f32) (hc : ¬ small (F := F) x0) (y : S1x512x512.Idx) :
    ∃ pc ∈ (runOnline c i arg2 harg2 arg3 harg3 arg4 harg4 arg5 harg5 arg6 harg6 arg7 harg7 arg8 harg8 arg9 harg9 arg10 harg10 x0 x1 x2 x3 x4 x5 x6 x7 hc).1, y ∈ pc.1.set :=
  View.cover_of_tiledL (runOnline c i arg2 harg2 arg3 harg3 arg4 harg4 arg5 harg5 arg6 harg6 arg7 harg7 arg8 harg8 arg9 harg9 arg10 harg10 x0 x1 x2 x3 x4 x5 x6 x7 hc).1 S1x512x128.size (by sl_kernel_rfl) y

open Classical in
/-- What the body leaves in the output block. -/
def outBlk (c : Dev nD) (i : grid0.Coords) (arg2 : Memref sig .tc .smem S1 .f32) (harg2 : arg2.IsWhole) (arg3 : Memref sig .tc .vmem S1x512x512 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S4x64 .f32) (harg8 : arg8.IsWhole) (arg9 : Memref sig .tc .vmem S1x128 .f32) (harg9 : arg9.IsWhole) (arg10 : Memref sig .tc .vmem S1x512x512 .bf16) (harg10 : arg10.IsWhole)
    (x0 : Vec F S1 .f32) (x1 : Vec F S1x512x512 .bf16) (x2 : Vec F S1x2048x512 .bf16) (x3 : Vec F S1x2048x512 .bf16) (x4 : Vec F S128x512 .bf16) (x5 : Vec F S128x512 .bf16) (x6 : Vec F S4x64 .f32) (x7 : Vec F S1x128 .f32) : Vec F S1x512x512 .bf16 :=
  if hc : small (F := F) x0 then VO.read (Elt F) (VO.writes (Elt F) VO.junk (runFixed c i arg2 harg2 arg3 harg3 arg4 harg4 arg5 harg5 arg6 harg6 arg7 harg7 arg8 harg8 arg9 harg9 arg10 harg10 x0 x1 x2 x3 x4 x5 x6 x7 hc).1)
  else VO.read (Elt F) (VO.writes (Elt F) VO.junk (runOnline c i arg2 harg2 arg3 harg3 arg4 harg4 arg5 harg5 arg6 harg6 arg7 harg7 arg8 harg8 arg9 harg9 arg10 harg10 x0 x1 x2 x3 x4 x5 x6 x7 hc).1)

/-- The body's run, whichever branch the bound takes: the output's buffer ends at `outBlk`. -/
theorem run_any (c : Dev nD) (i : grid0.Coords) (arg2 : Memref sig .tc .smem S1 .f32) (harg2 : arg2.IsWhole) (arg3 : Memref sig .tc .vmem S1x512x512 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S4x64 .f32) (harg8 : arg8.IsWhole) (arg9 : Memref sig .tc .vmem S1x128 .f32) (harg9 : arg9.IsWhole) (arg10 : Memref sig .tc .vmem S1x512x512 .bf16) (harg10 : arg10.IsWhole)
    (x0 : Vec F S1 .f32) (x1 : Vec F S1x512x512 .bf16) (x2 : Vec F S1x2048x512 .bf16) (x3 : Vec F S1x2048x512 .bf16) (x4 : Vec F S128x512 .bf16) (x5 : Vec F S128x512 .bf16) (x6 : Vec F S4x64 .f32) (x7 : Vec F S1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (outBlk c i arg2 harg2 arg3 harg3 arg4 harg4 arg5 harg5 arg6 harg6 arg7 harg7 arg8 harg8 arg9 harg9 arg10 harg10 x0 x1 x2 x3 x4 x5 x6 x7)) -∗ K ⟨⟩))
      ⊢ wp frame (wpE (defs₀ (F := F)) Variants.none c none) E (cc0_diff_attn i arg2 harg2 arg3 harg3 arg4 harg4 arg5 harg5 arg6 harg6 arg7 harg7 arg8 harg8 arg9 harg9 arg10 harg10) K := by
  iintro ⟨H0, H1, H2, H3, H4, H5, H6, H7, ⟨%d8, H8⟩, Hk⟩
  by_cases hc : small (F := F) x0
  · iapply ((runFixed c i arg2 harg2 arg3 harg3 arg4 harg4 arg5 harg5 arg6 harg6 arg7 harg7 arg8 harg8 arg9 harg9 arg10 harg10 x0 x1 x2 x3 x4 x5 x6 x7 hc).2 E K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iintro ⟨H0, H1, H2, H3, H4, H5, H6, H7, ⟨%e8, H8⟩⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro
    rw [outBlk, dif_pos hc]
    exact View.read_writes_of_cover _ _ _ _ _ (cover_fixed c i arg2 harg2 arg3 harg3 arg4 harg4 arg5 harg5 arg6 harg6 arg7 harg7 arg8 harg8 arg9 harg9 arg10 harg10 x0 x1 x2 x3 x4 x5 x6 x7 hc)
  · iapply ((runOnline c i arg2 harg2 arg3 harg3 arg4 harg4 arg5 harg5 arg6 harg6 arg7 harg7 arg8 harg8 arg9 harg9 arg10 harg10 x0 x1 x2 x3 x4 x5 x6 x7 hc).2 E K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iintro ⟨H0, H1, H2, H3, H4, H5, H6, H7, ⟨%e8, H8⟩⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro
    rw [outBlk, dif_neg hc]
    exact View.read_writes_of_cover _ _ _ _ _ (cover_online c i arg2 harg2 arg3 harg3 arg4 harg4 arg5 harg5 arg6 harg6 arg7 harg7 arg8 harg8 arg9 harg9 arg10 harg10 x0 x1 x2 x3 x4 x5 x6 x7 hc)

variable (m : (ℓ : Loc nD τ sig) → Buf (Elt F) ℓ) (ρ : Dev nD → PrngReg)

/-- What the body leaves in the output's buffer at point `t`. -/
def outAt (c : Dev nD) (t : Fin cfg0.N) : Vec F S1x512x512 .bf16 :=
  outBlk c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8))
    (iblk m c 0 t) (iblk m c 1 t) (iblk m c 2 t) (iblk m c 3 t) (iblk m c 4 t) (iblk m c 5 t) (iblk m c 6 t) (iblk m c 7 t)

/-- The proof data of the launch on core `c`: the arrays as found; after the body each input's buffer at its block and
    the output's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- No window is idle at any point. -/
theorem live : ∀ (w : Fin cfg0.W) (t : Fin cfg0.N), cfg0.idle w (grid0.coords t) = false :=
  (by decide +kernel : ∀ (w : Fin 9) (t : Fin grid0.N), cfg0.idle w (grid0.coords t) = false)

/-- What a window's buffer holds when the body returns. -/
theorem leaves_eq (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact; rw [live w t]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What the body returns at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl]
  simp only [leaves_eq, after_0, after_1, after_2, after_3, after_4, after_5, after_6, after_7, after_8]
  unfold outAt
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_any c (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch runs to the pipeline's final arrays, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The launch runs, its argument arrays end unchanged, and every counter ends at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.KernelIdeal.Att
-- ==== Proof.KernelIdeal.Stage.lean ====
/- The attention body's loads, read off the contents of its staging buffers, and the state of its loop over the key
   blocks before the diagonal: each of the eight maps (four head groups, two halves) runs its own recursion, written here
   once, over the blocks of keys and values. -/
module

public import proofs.«01_k».proof.Proof.KernelIdeal.Word
public import proofs.«01_k».proof.Proof.Gen.KernelIdeal.Loops
public import Idealize.ShloMosaic.Lib.WholeRead
public import Idealize.ShloMosaic.Lib.Pointwise

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The block of 512 rows and 128 lanes of `x` that starts at `off`. -/
def cut (x : Vec F S1x2048x512 .bf16) (off : Fin 3 → ℕ) : Vec F S1x512x128 .bf16 := fun j =>
  x (ix3 0 ⟨(off 1 + (j 1).val) % 2048, Nat.mod_lt _ (by decide)⟩ ⟨(off 2 + (j 2).val) % 512, Nat.mod_lt _ (by decide)⟩)

/-- Rows `512 n …`, lanes `128 g …` of the keys or the values of one batch entry. -/
abbrev blk (x : Vec F S1x2048x512 .bf16) (n g : ℕ) : Vec F S1x512x128 .bf16 := cut x ![0, 512 * n, 128 * g]

/-- Lanes `128 g …` of the queries of one block. -/
def qblk (x : Vec F S1x512x512 .bf16) (g : ℕ) : Vec F S1x512x128 .bf16 := fun j =>
  x (ix3 0 (j 1) ⟨(128 * g + (j 2).val) % 512, Nat.mod_lt _ (by decide)⟩)

/-- Lanes `128 g …` of the rows every query sees. -/
def mblk (x : Vec F S128x512 .bf16) (g : ℕ) : Vec F S128x128 .bf16 := fun j =>
  x (ix2 (j 0) ⟨(128 * g + (j 1).val) % 512, Nat.mod_lt _ (by decide)⟩)

theorem read_cut {m : Memref sig .tc .vmem S1x2048x512 .bf16} (h : m.IsWhole) (x : Vec F S1x2048x512 .bf16)
    (off : Fin 3 → ℕ) (inb : ∀ a, off a + (![1, 512, 128] : Fin 3 → ℕ) a ≤ S1x2048x512.size a) :
    View.readAt (Elt F) m.view (Rect.unit (s := S1x2048x512) off ![1, 512, 128] inb).toLoadRect (h.unread x)
      = cut x off := by
  funext j
  rw [Memref.IsWhole.readAt_unread]
  refine congrArg x (funext fun a => Fin.ext ?_)
  have h0 := inb 0; have h1 := inb 1; have h2 := inb 2
  have j0 := (j 0).isLt; have j1 := (j 1).isLt; have j2 := (j 2).isLt
  change off 0 + 1 ≤ 1 at h0; change off 1 + 512 ≤ 2048 at h1; change off 2 + 128 ≤ 512 at h2
  change (j 0).val < 1 at j0; change (j 1).val < 512 at j1; change (j 2).val < 128 at j2
  match a with
  | 0 => show off 0 + 1 * (j 0).val = 0; omega
  | 1 => show off 1 + 1 * (j 1).val = (off 1 + (j 1).val) % 2048; omega
  | 2 => show off 2 + 1 * (j 2).val = (off 2 + (j 2).val) % 512; omega

theorem read_q {m : Memref sig .tc .vmem S1x512x512 .bf16} (h : m.IsWhole) (x : Vec F S1x512x512 .bf16) (o g : ℕ)
    (ho : o = 128 * g) (inb : ∀ a, (![0, 0, o] : Fin 3 → ℕ) a + (![1, 512, 128] : Fin 3 → ℕ) a ≤ S1x512x512.size a) :
    View.readAt (Elt F) m.view (Rect.unit (s := S1x512x512) ![0, 0, o] ![1, 512, 128] inb).toLoadRect (h.unread x)
      = qblk x g := by
  subst ho; funext j
  rw [Memref.IsWhole.readAt_unread]
  refine congrArg x (funext fun a => Fin.ext ?_)
  have h2 := inb 2
  have j0 := (j 0).isLt; have j1 := (j 1).isLt; have j2 := (j 2).isLt
  change 128 * g + 128 ≤ 512 at h2
  change (j 0).val < 1 at j0; change (j 1).val < 512 at j1; change (j 2).val < 128 at j2
  match a with
  | 0 => show 0 + 1 * (j 0).val = 0; omega
  | 1 => show 0 + 1 * (j 1).val = (j 1).val; omega
  | 2 => show 128 * g + 1 * (j 2).val = (128 * g + (j 2).val) % 512; omega

theorem read_m {m : Memref sig .tc .vmem S128x512 .bf16} (h : m.IsWhole) (x : Vec F S128x512 .bf16) (o g : ℕ)
    (ho : o = 128 * g) (inb : ∀ a, (![0, o] : Fin 2 → ℕ) a + (![128, 128] : Fin 2 → ℕ) a ≤ S128x512.size a) :
    View.readAt (Elt F) m.view (Rect.unit (s := S128x512) ![0, o] ![128, 128] inb).toLoadRect (h.unread x)
      = mblk x g := by
  subst ho; funext j
  rw [Memref.IsWhole.readAt_unread]
  refine congrArg x (funext fun a => Fin.ext ?_)
  have h2 := inb 1
  have j0 := (j 0).isLt; have j1 := (j 1).isLt
  change 128 * g + 128 ≤ 512 at h2
  change (j 0).val < 128 at j0; change (j 1).val < 128 at j1
  match a with
  | 0 => show 0 + 1 * (j 0).val = (j 0).val; omega
  | 1 => show 128 * g + 1 * (j 1).val = (128 * g + (j 1).val) % 512; omega

/-- A load of a whole buffer reads its contents. -/
theorem read_all {κ : Kind} {sp : Space} {n : ℕ} {d : Fin n → ℕ} {e : EltTy} {m : Memref sig κ sp ⟨n, d⟩ e}
    (h : m.IsWhole) (x : Vec F ⟨n, d⟩ e) (off : Fin n → ℕ) (ho : ∀ a, off a = 0) (inb : ∀ a, off a + d a ≤ d a) :
    View.readAt (Elt F) m.view (Rect.unit (s := ⟨n, d⟩) off d inb).toLoadRect (h.unread x) = x := by
  funext j
  rw [Memref.IsWhole.readAt_unread]
  refine congrArg x (funext fun a => Fin.ext ?_)
  show off a + 1 * (j a).val = (j a).val
  rw [ho a, Nat.zero_add, Nat.one_mul]

theorem block_lt (i : grid0.Coords) : (i 1).val < 4 := (i 1).isLt

theorem loop_trips (i : grid0.Coords) : (k0_t1_loop i).trips = (i 1).val := by
  have h := block_lt i
  unfold k0_t1_loop
  generalize (i 1).val = n at h
  interval_cases n <;> decide

theorem loop_trips' (i : grid0.Coords) : (k0_t3_loop i).trips = (i 1).val := loop_trips i

theorem rest_trips (i : grid0.Coords) : (k0_t2_loop i).trips = 0 := by
  have h := block_lt i
  unfold k0_t2_loop
  generalize (i 1).val = n at h
  interval_cases n <;> decide

theorem rest_trips' (i : grid0.Coords) : (k0_t4_loop i).trips = 0 := rest_trips i

/-- The row the body computes for the block `n`. -/
theorem row_word {n : ℕ} (h : n < 4) : (Scalar.indexCast (Scalar.muli (BitVec.ofNat 32 n) 512#32)).toNat = 512 * n := by
  interval_cases n <;> rfl

/-- The row the body computes in the loop's turn `n`. -/
theorem row_iv {n : ℕ} (h : n < 4) :
    (Scalar.indexCast (Scalar.muli (Scf.iv 0#32 1#32 n) 512#32)).toNat = 512 * n := by
  interval_cases n <;> rfl

theorem off1_eq (i : grid0.Coords) : k0_off1 i = ![0, 512 * (i 1).val, 128 * 0] := by
  show ![0, _, _] = _; rw [row_word (block_lt i)]

theorem off2_eq (i : grid0.Coords) : k0_off2 i = ![0, 512 * (i 1).val, 128 * 1] := by
  show ![0, _, _] = _; rw [row_word (block_lt i)]

theorem off3_eq (i : grid0.Coords) : k0_off3 i = ![0, 512 * (i 1).val, 128 * 2] := by
  show ![0, _, _] = _; rw [row_word (block_lt i)]

theorem off4_eq (i : grid0.Coords) : k0_off4 i = ![0, 512 * (i 1).val, 128 * 3] := by
  show ![0, _, _] = _; rw [row_word (block_lt i)]

theorem off13_eq (i : grid0.Coords) : k0_off13 i = ![0, 512 * (i 1).val, 128 * 0] := by
  show ![0, _, _] = _; rw [row_word (block_lt i)]

theorem off14_eq (i : grid0.Coords) : k0_off14 i = ![0, 512 * (i 1).val, 128 * 1] := by
  show ![0, _, _] = _; rw [row_word (block_lt i)]

theorem off15_eq (i : grid0.Coords) : k0_off15 i = ![0, 512 * (i 1).val, 128 * 2] := by
  show ![0, _, _] = _; rw [row_word (block_lt i)]

theorem off16_eq (i : grid0.Coords) : k0_off16 i = ![0, 512 * (i 1).val, 128 * 3] := by
  show ![0, _, _] = _; rw [row_word (block_lt i)]

theorem off5_eq (i : grid0.Coords) (k : Fin (k0_t1_loop i).trips) : k0_off5 i k = ![0, 512 * k.val, 128 * 0] := by
  have h : k.val < 4 := lt_of_lt_of_le k.isLt (loop_trips i ▸ (block_lt i).le)
  show ![0, _, _] = _; rw [row_iv h]

theorem off6_eq (i : grid0.Coords) (k : Fin (k0_t1_loop i).trips) : k0_off6 i k = ![0, 512 * k.val, 128 * 1] := by
  have h : k.val < 4 := lt_of_lt_of_le k.isLt (loop_trips i ▸ (block_lt i).le)
  show ![0, _, _] = _; rw [row_iv h]

theorem off7_eq (i : grid0.Coords) (k : Fin (k0_t1_loop i).trips) : k0_off7 i k = ![0, 512 * k.val, 128 * 2] := by
  have h : k.val < 4 := lt_of_lt_of_le k.isLt (loop_trips i ▸ (block_lt i).le)
  show ![0, _, _] = _; rw [row_iv h]

theorem off8_eq (i : grid0.Coords) (k : Fin (k0_t1_loop i).trips) : k0_off8 i k = ![0, 512 * k.val, 128 * 3] := by
  have h : k.val < 4 := lt_of_lt_of_le k.isLt (loop_trips i ▸ (block_lt i).le)
  show ![0, _, _] = _; rw [row_iv h]

theorem off17_eq (i : grid0.Coords) (k : Fin (k0_t3_loop i).trips) : k0_off17 i k = ![0, 512 * k.val, 128 * 0] := by
  have h : k.val < 4 := lt_of_lt_of_le k.isLt (loop_trips' i ▸ (block_lt i).le)
  show ![0, _, _] = _; rw [row_iv h]

theorem off18_eq (i : grid0.Coords) (k : Fin (k0_t3_loop i).trips) : k0_off18 i k = ![0, 512 * k.val, 128 * 1] := by
  have h : k.val < 4 := lt_of_lt_of_le k.isLt (loop_trips' i ▸ (block_lt i).le)
  show ![0, _, _] = _; rw [row_iv h]

theorem off19_eq (i : grid0.Coords) (k : Fin (k0_t3_loop i).trips) : k0_off19 i k = ![0, 512 * k.val, 128 * 2] := by
  have h : k.val < 4 := lt_of_lt_of_le k.isLt (loop_trips' i ▸ (block_lt i).le)
  show ![0, _, _] = _; rw [row_iv h]

theorem off20_eq (i : grid0.Coords) (k : Fin (k0_t3_loop i).trips) : k0_off20 i k = ![0, 512 * k.val, 128 * 3] := by
  have h : k.val < 4 := lt_of_lt_of_le k.isLt (loop_trips' i ▸ (block_lt i).le)
  show ![0, _, _] = _; rw [row_iv h]

/-- The per-lane sums of the weights, with a fixed shift `b`: from `p`, after `n` blocks of keys. -/
def fixPart (b : Elt F .f32) (q : FVec F S512x128 .bf16) (p : FVec F S512x128 .f32) (K : ℕ → Vec F S1x512x128 .bf16) :
    ℕ → FVec F S512x128 .f32
  | 0 => p
  | n + 1 => k0_pay5 b q (fixPart b q p K n) (K n)

/-- The weighted sums of the values, with a fixed shift `b`. -/
def fixAcc (b : Elt F .f32) (q : FVec F S512x128 .bf16) (a : FVec F S512x128 .f32) (K V : ℕ → Vec F S1x512x128 .bf16) :
    ℕ → FVec F S512x128 .f32
  | 0 => a
  | n + 1 => k0_pay6 b q (fixAcc b q a K V n) (K n) (V n)

/-- The running maxima, with no bound to rely on: from `m`, after `n` blocks of keys. -/
def onlMax (q : FVec F S512x128 .bf16) (m : FVec F S512x1 .f32) (K : ℕ → Vec F S1x512x128 .bf16) : ℕ → FVec F S512x1 .f32
  | 0 => m
  | n + 1 => k0_pay299 q (onlMax q m K n) (k0_pay3 (K n))

/-- The sums of the weights relative to the running maxima. -/
def onlSum (q : FVec F S512x128 .bf16) (m l : FVec F S512x1 .f32) (K : ℕ → Vec F S1x512x128 .bf16) :
    ℕ → FVec F S512x1 .f32
  | 0 => l
  | n + 1 => k0_pay302 q (onlMax q m K n) (onlSum q m l K n) (k0_pay3 (K n))

/-- The weighted sums of the values relative to the running maxima. -/
def onlAcc (q : FVec F S512x128 .bf16) (m : FVec F S512x1 .f32) (a : FVec F S512x128 .f32)
    (K V : ℕ → Vec F S1x512x128 .bf16) : ℕ → FVec F S512x128 .f32
  | 0 => a
  | n + 1 => k0_pay303 q (onlMax q m K n) (onlAcc q m a K V n) (k0_pay3 (K n)) (k0_pay3 (V n))

set_option maxHeartbeats 1000000 in
/-- One turn of the loop with the bound as shift, as the body's own loads. -/
theorem trip_fixed (𝒱 : Variants) (c : Dev nD) (bd : Option 𝒱.V) (i : grid0.Coords) (arg2 : Memref sig .tc .smem S1 .f32) (harg2 : arg2.IsWhole) (arg3 : Memref sig .tc .vmem S1x512x512 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S4x64 .f32) (harg8 : arg8.IsWhole) (arg9 : Memref sig .tc .vmem S1x128 .f32) (harg9 : arg9.IsWhole) (arg10 : Memref sig .tc .vmem S1x512x512 .bf16) (harg10 : arg10.IsWhole)  (arg1 : BitVec 32) (v0 : Elt F .f32) (v13 : FVec F S512x128 .bf16) (v15 : FVec F S512x128 .bf16) (v22 : FVec F S512x128 .bf16) (v24 : FVec F S512x128 .bf16) (v31 : FVec F S512x128 .bf16) (v33 : FVec F S512x128 .bf16) (v40 : FVec F S512x128 .bf16) (v42 : FVec F S512x128 .bf16) (v79 : IVec S512x640 1) (v104 : FVec F S512x128 .f32) (v106 : FVec F S512x128 .f32) (v121 : FVec F S512x128 .f32) (v123 : FVec F S512x128 .f32) (v148 : FVec F S512x128 .f32) (v150 : FVec F S512x128 .f32) (v165 : FVec F S512x128 .f32) (v167 : FVec F S512x128 .f32) (v192 : FVec F S512x128 .f32) (v194 : FVec F S512x128 .f32) (v209 : FVec F S512x128 .f32) (v211 : FVec F S512x128 .f32) (v216 : FVec F S640x128 .bf16) (v219 : FVec F S512x128 .bf16) (v220 : Vec F S128x128 .bf16)
    (x2 x3 : Vec F S1x2048x512 .bf16) (k : Fin (k0_t1_loop i).trips) (acc : FVec F S512x128 .f32 × FVec F S512x128 .f32 × FVec F S512x128 .f32 × FVec F S512x128 .f32 × FVec F S512x128 .f32 × FVec F S512x128 .f32 × FVec F S512x128 .f32 × FVec F S512x128 .f32 × FVec F S512x128 .f32 × FVec F S512x128 .f32 × FVec F S512x128 .f32 × FVec F S512x128 .f32 × FVec F S512x128 .f32 × FVec F S512x128 .f32 × FVec F S512x128 .f32 × FVec F S512x128 .f32) :
    tripR_k0_t1 (F := F) 𝒱 c bd i arg2 harg2 arg3 harg3 arg4 harg4 arg5 harg5 arg6 harg6 arg7 harg7 arg8 harg8 arg9 harg9 arg10 harg10 arg1 v0 v13 v15 v22 v24 v31 v33 v40 v42 v79 v104 v106 v121 v123 v148 v150 v165 v167 v192 v194 v209 v211 v216 v219 v220 (harg4.unread x2) (harg5.unread x3) k acc
      = (k0_pay5 v0 v13 acc.1 (View.readAt (Elt F) arg4.view (Rect.unit (s := S1x2048x512) (k0_off5 i k) S1x512x128.size (k0_off5_inb i k)).toLoadRect (harg4.unread x2)),
         k0_pay6 v0 v13 acc.2.1 (View.readAt (Elt F) arg4.view (Rect.unit (s := S1x2048x512) (k0_off5 i k) S1x512x128.size (k0_off5_inb i k)).toLoadRect (harg4.unread x2)) (View.readAt (Elt F) arg5.view (Rect.unit (s := S1x2048x512) (k0_off5 i k) S1x512x128.size (k0_off5_inb i k)).toLoadRect (harg5.unread x3)),
         k0_pay5 v0 v15 acc.2.2.1 (View.readAt (Elt F) arg4.view (Rect.unit (s := S1x2048x512) (k0_off5 i k) S1x512x128.size (k0_off5_inb i k)).toLoadRect (harg4.unread x2)),
         k0_pay6 v0 v15 acc.2.2.2.1 (View.readAt (Elt F) arg4.view (Rect.unit (s := S1x2048x512) (k0_off5 i k) S1x512x128.size (k0_off5_inb i k)).toLoadRect (harg4.unread x2)) (View.readAt (Elt F) arg5.view (Rect.unit (s := S1x2048x512) (k0_off5 i k) S1x512x128.size (k0_off5_inb i k)).toLoadRect (harg5.unread x3)),
         k0_pay5 v0 v22 acc.2.2.2.2.1 (View.readAt (Elt F) arg4.view (Rect.unit (s := S1x2048x512) (k0_off6 i k) S1x512x128.size (k0_off6_inb i k)).toLoadRect (harg4.unread x2)),
         k0_pay6 v0 v22 acc.2.2.2.2.2.1 (View.readAt (Elt F) arg4.view (Rect.unit (s := S1x2048x512) (k0_off6 i k) S1x512x128.size (k0_off6_inb i k)).toLoadRect (harg4.unread x2)) (View.readAt (Elt F) arg5.view (Rect.unit (s := S1x2048x512) (k0_off6 i k) S1x512x128.size (k0_off6_inb i k)).toLoadRect (harg5.unread x3)),
         k0_pay5 v0 v24 acc.2.2.2.2.2.2.1 (View.readAt (Elt F) arg4.view (Rect.unit (s := S1x2048x512) (k0_off6 i k) S1x512x128.size (k0_off6_inb i k)).toLoadRect (harg4.unread x2)),
         k0_pay6 v0 v24 acc.2.2.2.2.2.2.2.1 (View.readAt (Elt F) arg4.view (Rect.unit (s := S1x2048x512) (k0_off6 i k) S1x512x128.size (k0_off6_inb i k)).toLoadRect (harg4.unread x2)) (View.readAt (Elt F) arg5.view (Rect.unit (s := S1x2048x512) (k0_off6 i k) S1x512x128.size (k0_off6_inb i k)).toLoadRect (harg5.unread x3)),
         k0_pay5 v0 v31 acc.2.2.2.2.2.2.2.2.1 (View.readAt (Elt F) arg4.view (Rect.unit (s := S1x2048x512) (k0_off7 i k) S1x512x128.size (k0_off7_inb i k)).toLoadRect (harg4.unread x2)),
         k0_pay6 v0 v31 acc.2.2.2.2.2.2.2.2.2.1 (View.readAt (Elt F) arg4.view (Rect.unit (s := S1x2048x512) (k0_off7 i k) S1x512x128.size (k0_off7_inb i k)).toLoadRect (harg4.unread x2)) (View.readAt (Elt F) arg5.view (Rect.unit (s := S1x2048x512) (k0_off7 i k) S1x512x128.size (k0_off7_inb i k)).toLoadRect (harg5.unread x3)),
         k0_pay5 v0 v33 acc.2.2.2.2.2.2.2.2.2.2.1 (View.readAt (Elt F) arg4.view (Rect.unit (s := S1x2048x512) (k0_off7 i k) S1x512x128.size (k0_off7_inb i k)).toLoadRect (harg4.unread x2)),
         k0_pay6 v0 v33 acc.2.2.2.2.2.2.2.2.2.2.2.1 (View.readAt (Elt F) arg4.view (Rect.unit (s := S1x2048x512) (k0_off7 i k) S1x512x128.size (k0_off7_inb i k)).toLoadRect (harg4.unread x2)) (View.readAt (Elt F) arg5.view (Rect.unit (s := S1x2048x512) (k0_off7 i k) S1x512x128.size (k0_off7_inb i k)).toLoadRect (harg5.unread x3)),
         k0_pay5 v0 v40 acc.2.2.2.2.2.2.2.2.2.2.2.2.1 (View.readAt (Elt F) arg4.view (Rect.unit (s := S1x2048x512) (k0_off8 i k) S1x512x128.size (k0_off8_inb i k)).toLoadRect (harg4.unread x2)),
         k0_pay6 v0 v40 acc.2.2.2.2.2.2.2.2.2.2.2.2.2.1 (View.readAt (Elt F) arg4.view (Rect.unit (s := S1x2048x512) (k0_off8 i k) S1x512x128.size (k0_off8_inb i k)).toLoadRect (harg4.unread x2)) (View.readAt (Elt F) arg5.view (Rect.unit (s := S1x2048x512) (k0_off8 i k) S1x512x128.size (k0_off8_inb i k)).toLoadRect (harg5.unread x3)),
         k0_pay5 v0 v42 acc.2.2.2.2.2.2.2.2.2.2.2.2.2.2.1 (View.readAt (Elt F) arg4.view (Rect.unit (s := S1x2048x512) (k0_off8 i k) S1x512x128.size (k0_off8_inb i k)).toLoadRect (harg4.unread x2)),
         k0_pay6 v0 v42 acc.2.2.2.2.2.2.2.2.2.2.2.2.2.2.2 (View.readAt (Elt F) arg4.view (Rect.unit (s := S1x2048x512) (k0_off8 i k) S1x512x128.size (k0_off8_inb i k)).toLoadRect (harg4.unread x2)) (View.readAt (Elt F) arg5.view (Rect.unit (s := S1x2048x512) (k0_off8 i k) S1x512x128.size (k0_off8_inb i k)).toLoadRect (harg5.unread x3))) := by
  unfold tripR_k0_t1 trip_k0_t1; rfl

set_option maxHeartbeats 1000000 in
/-- The loop's state after `n` turns with the bound as shift. -/
theorem st_fixed (𝒱 : Variants) (c : Dev nD) (bd : Option 𝒱.V) (i : grid0.Coords) (arg2 : Memref sig .tc .smem S1 .f32) (harg2 : arg2.IsWhole) (arg3 : Memref sig .tc .vmem S1x512x512 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S4x64 .f32) (harg8 : arg8.IsWhole) (arg9 : Memref sig .tc .vmem S1x128 .f32) (harg9 : arg9.IsWhole) (arg10 : Memref sig .tc .vmem S1x512x512 .bf16) (harg10 : arg10.IsWhole)  (arg1 : BitVec 32) (v0 : Elt F .f32) (v13 : FVec F S512x128 .bf16) (v15 : FVec F S512x128 .bf16) (v22 : FVec F S512x128 .bf16) (v24 : FVec F S512x128 .bf16) (v31 : FVec F S512x128 .bf16) (v33 : FVec F S512x128 .bf16) (v40 : FVec F S512x128 .bf16) (v42 : FVec F S512x128 .bf16) (v79 : IVec S512x640 1) (v104 : FVec F S512x128 .f32) (v106 : FVec F S512x128 .f32) (v121 : FVec F S512x128 .f32) (v123 : FVec F S512x128 .f32) (v148 : FVec F S512x128 .f32) (v150 : FVec F S512x128 .f32) (v165 : FVec F S512x128 .f32) (v167 : FVec F S512x128 .f32) (v192 : FVec F S512x128 .f32) (v194 : FVec F S512x128 .f32) (v209 : FVec F S512x128 .f32) (v211 : FVec F S512x128 .f32) (v216 : FVec F S640x128 .bf16) (v219 : FVec F S512x128 .bf16) (v220 : Vec F S128x128 .bf16)
    (x2 x3 : Vec F S1x2048x512 .bf16) (p0 a0 p1 a1 p2 a2 p3 a3 p4 a4 p5 a5 p6 a6 p7 a7 : FVec F S512x128 .f32) (n : ℕ) (hn : n ≤ (k0_t1_loop i).trips) :
    st_k0_t1 (F := F) 𝒱 c bd i arg2 harg2 arg3 harg3 arg4 harg4 arg5 harg5 arg6 harg6 arg7 harg7 arg8 harg8 arg9 harg9 arg10 harg10 arg1 v0 v13 v15 v22 v24 v31 v33 v40 v42 v79 v104 v106 v121 v123 v148 v150 v165 v167 v192 v194 v209 v211 v216 v219 v220 (harg4.unread x2) (harg5.unread x3) (p0, a0, p1, a1, p2, a2, p3, a3, p4, a4, p5, a5, p6, a6, p7, a7) n
      = (fixPart v0 v13 p0 (fun n => blk x2 n 0) n,
         fixAcc v0 v13 a0 (fun n => blk x2 n 0) (fun n => blk x3 n 0) n,
         fixPart v0 v15 p1 (fun n => blk x2 n 0) n,
         fixAcc v0 v15 a1 (fun n => blk x2 n 0) (fun n => blk x3 n 0) n,
         fixPart v0 v22 p2 (fun n => blk x2 n 1) n,
         fixAcc v0 v22 a2 (fun n => blk x2 n 1) (fun n => blk x3 n 1) n,
         fixPart v0 v24 p3 (fun n => blk x2 n 1) n,
         fixAcc v0 v24 a3 (fun n => blk x2 n 1) (fun n => blk x3 n 1) n,
         fixPart v0 v31 p4 (fun n => blk x2 n 2) n,
         fixAcc v0 v31 a4 (fun n => blk x2 n 2) (fun n => blk x3 n 2) n,
         fixPart v0 v33 p5 (fun n => blk x2 n 2) n,
         fixAcc v0 v33 a5 (fun n => blk x2 n 2) (fun n => blk x3 n 2) n,
         fixPart v0 v40 p6 (fun n => blk x2 n 3) n,
         fixAcc v0 v40 a6 (fun n => blk x2 n 3) (fun n => blk x3 n 3) n,
         fixPart v0 v42 p7 (fun n => blk x2 n 3) n,
         fixAcc v0 v42 a7 (fun n => blk x2 n 3) (fun n => blk x3 n 3) n) := by
  induction n with
  | zero => rfl
  | succ n ih =>
    refine (st_k0_t1_succ 𝒱 c bd i arg2 harg2 arg3 harg3 arg4 harg4 arg5 harg5 arg6 harg6 arg7 harg7 arg8 harg8 arg9 harg9 arg10 harg10 arg1 v0 v13 v15 v22 v24 v31 v33 v40 v42 v79 v104 v106 v121 v123 v148 v150 v165 v167 v192 v194 v209 v211 v216 v219 v220 (harg4.unread x2) (harg5.unread x3) _ ⟨n, hn⟩).trans ?_
    rw [ih (Nat.le_of_succ_le hn), trip_fixed]
    simp only [read_cut, off5_eq, off6_eq, off7_eq, off8_eq, fixPart, fixAcc]

set_option maxHeartbeats 1000000 in
/-- One turn of the loop with running maxima, as the body's own loads. -/
theorem trip_online (𝒱 : Variants) (c : Dev nD) (bd : Option 𝒱.V) (i : grid0.Coords) (arg2 : Memref sig .tc .smem S1 .f32) (harg2 : arg2.IsWhole) (arg3 : Memref sig .tc .vmem S1x512x512 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S4x64 .f32) (harg8 : arg8.IsWhole) (arg9 : Memref sig .tc .vmem S1x128 .f32) (harg9 : arg9.IsWhole) (arg10 : Memref sig .tc .vmem S1x512x512 .bf16) (harg10 : arg10.IsWhole)  (arg1 : BitVec 32) (v13 : FVec F S512x128 .bf16) (v15 : FVec F S512x128 .bf16) (v22 : FVec F S512x128 .bf16) (v24 : FVec F S512x128 .bf16) (v31 : FVec F S512x128 .bf16) (v33 : FVec F S512x128 .bf16) (v40 : FVec F S512x128 .bf16) (v42 : FVec F S512x128 .bf16) (v79 : IVec S512x640 1) (v94 : FVec F S512x1 .f32) (v99 : FVec F S512x1 .f32) (v101 : FVec F S512x128 .f32) (v106 : FVec F S512x1 .f32) (v111 : FVec F S512x1 .f32) (v113 : FVec F S512x128 .f32) (v128 : FVec F S512x1 .f32) (v133 : FVec F S512x1 .f32) (v135 : FVec F S512x128 .f32) (v140 : FVec F S512x1 .f32) (v145 : FVec F S512x1 .f32) (v147 : FVec F S512x128 .f32) (v162 : FVec F S512x1 .f32) (v167 : FVec F S512x1 .f32) (v169 : FVec F S512x128 .f32) (v174 : FVec F S512x1 .f32) (v179 : FVec F S512x1 .f32) (v181 : FVec F S512x128 .f32) (v186 : FVec F S640x128 .bf16) (v191 : FVec F S640x128 .bf16) (v196 : FVec F S512x1 .f32) (v201 : FVec F S512x1 .f32) (v203 : FVec F S512x128 .f32)
    (x2 x3 : Vec F S1x2048x512 .bf16) (k : Fin (k0_t3_loop i).trips) (acc : FVec F S512x1 .f32 × FVec F S512x1 .f32 × FVec F S512x128 .f32 × FVec F S512x1 .f32 × FVec F S512x1 .f32 × FVec F S512x128 .f32 × FVec F S512x1 .f32 × FVec F S512x1 .f32 × FVec F S512x128 .f32 × FVec F S512x1 .f32 × FVec F S512x1 .f32 × FVec F S512x128 .f32 × FVec F S512x1 .f32 × FVec F S512x1 .f32 × FVec F S512x128 .f32 × FVec F S512x1 .f32 × FVec F S512x1 .f32 × FVec F S512x128 .f32 × FVec F S512x1 .f32 × FVec F S512x1 .f32 × FVec F S512x128 .f32 × FVec F S512x1 .f32 × FVec F S512x1 .f32 × FVec F S512x128 .f32) :
    tripR_k0_t3 (F := F) 𝒱 c bd i arg2 harg2 arg3 harg3 arg4 harg4 arg5 harg5 arg6 harg6 arg7 harg7 arg8 harg8 arg9 harg9 arg10 harg10 arg1 v13 v15 v22 v24 v31 v33 v40 v42 v79 v94 v99 v101 v106 v111 v113 v128 v133 v135 v140 v145 v147 v162 v167 v169 v174 v179 v181 v186 v191 v196 v201 v203 (harg4.unread x2) (harg5.unread x3) k acc
      = (k0_pay299 v13 acc.1 (k0_pay3 (View.readAt (Elt F) arg4.view (Rect.unit (s := S1x2048x512) (k0_off17 i k) S1x512x128.size (k0_off17_inb i k)).toLoadRect (harg4.unread x2))),
         k0_pay302 v13 acc.1 acc.2.1 (k0_pay3 (View.readAt (Elt F) arg4.view (Rect.unit (s := S1x2048x512) (k0_off17 i k) S1x512x128.size (k0_off17_inb i k)).toLoadRect (harg4.unread x2))),
         k0_pay303 v13 acc.1 acc.2.2.1 (k0_pay3 (View.readAt (Elt F) arg4.view (Rect.unit (s := S1x2048x512) (k0_off17 i k) S1x512x128.size (k0_off17_inb i k)).toLoadRect (harg4.unread x2))) (k0_pay3 (View.readAt (Elt F) arg5.view (Rect.unit (s := S1x2048x512) (k0_off17 i k) S1x512x128.size (k0_off17_inb i k)).toLoadRect (harg5.unread x3))),
         k0_pay299 v15 acc.2.2.2.1 (k0_pay3 (View.readAt (Elt F) arg4.view (Rect.unit (s := S1x2048x512) (k0_off17 i k) S1x512x128.size (k0_off17_inb i k)).toLoadRect (harg4.unread x2))),
         k0_pay302 v15 acc.2.2.2.1 acc.2.2.2.2.1 (k0_pay3 (View.readAt (Elt F) arg4.view (Rect.unit (s := S1x2048x512) (k0_off17 i k) S1x512x128.size (k0_off17_inb i k)).toLoadRect (harg4.unread x2))),
         k0_pay303 v15 acc.2.2.2.1 acc.2.2.2.2.2.1 (k0_pay3 (View.readAt (Elt F) arg4.view (Rect.unit (s := S1x2048x512) (k0_off17 i k) S1x512x128.size (k0_off17_inb i k)).toLoadRect (harg4.unread x2))) (k0_pay3 (View.readAt (Elt F) arg5.view (Rect.unit (s := S1x2048x512) (k0_off17 i k) S1x512x128.size (k0_off17_inb i k)).toLoadRect (harg5.unread x3))),
         k0_pay299 v22 acc.2.2.2.2.2.2.1 (k0_pay3 (View.readAt (Elt F) arg4.view (Rect.unit (s := S1x2048x512) (k0_off18 i k) S1x512x128.size (k0_off18_inb i k)).toLoadRect (harg4.unread x2))),
         k0_pay302 v22 acc.2.2.2.2.2.2.1 acc.2.2.2.2.2.2.2.1 (k0_pay3 (View.readAt (Elt F) arg4.view (Rect.unit (s := S1x2048x512) (k0_off18 i k) S1x512x128.size (k0_off18_inb i k)).toLoadRect (harg4.unread x2))),
         k0_pay303 v22 acc.2.2.2.2.2.2.1 acc.2.2.2.2.2.2.2.2.1 (k0_pay3 (View.readAt (Elt F) arg4.view (Rect.unit (s := S1x2048x512) (k0_off18 i k) S1x512x128.size (k0_off18_inb i k)).toLoadRect (harg4.unread x2))) (k0_pay3 (View.readAt (Elt F) arg5.view (Rect.unit (s := S1x2048x512) (k0_off18 i k) S1x512x128.size (k0_off18_inb i k)).toLoadRect (harg5.unread x3))),
         k0_pay299 v24 acc.2.2.2.2.2.2.2.2.2.1 (k0_pay3 (View.readAt (Elt F) arg4.view (Rect.unit (s := S1x2048x512) (k0_off18 i k) S1x512x128.size (k0_off18_inb i k)).toLoadRect (harg4.unread x2))),
         k0_pay302 v24 acc.2.2.2.2.2.2.2.2.2.1 acc.2.2.2.2.2.2.2.2.2.2.1 (k0_pay3 (View.readAt (Elt F) arg4.view (Rect.unit (s := S1x2048x512) (k0_off18 i k) S1x512x128.size (k0_off18_inb i k)).toLoadRect (harg4.unread x2))),
         k0_pay303 v24 acc.2.2.2.2.2.2.2.2.2.1 acc.2.2.2.2.2.2.2.2.2.2.2.1 (k0_pay3 (View.readAt (Elt F) arg4.view (Rect.unit (s := S1x2048x512) (k0_off18 i k) S1x512x128.size (k0_off18_inb i k)).toLoadRect (harg4.unread x2))) (k0_pay3 (View.readAt (Elt F) arg5.view (Rect.unit (s := S1x2048x512) (k0_off18 i k) S1x512x128.size (k0_off18_inb i k)).toLoadRect (harg5.unread x3))),
         k0_pay299 v31 acc.2.2.2.2.2.2.2.2.2.2.2.2.1 (k0_pay3 (View.readAt (Elt F) arg4.view (Rect.unit (s := S1x2048x512) (k0_off19 i k) S1x512x128.size (k0_off19_inb i k)).toLoadRect (harg4.unread x2))),
         k0_pay302 v31 acc.2.2.2.2.2.2.2.2.2.2.2.2.1 acc.2.2.2.2.2.2.2.2.2.2.2.2.2.1 (k0_pay3 (View.readAt (Elt F) arg4.view (Rect.unit (s := S1x2048x512) (k0_off19 i k) S1x512x128.size (k0_off19_inb i k)).toLoadRect (harg4.unread x2))),
         k0_pay303 v31 acc.2.2.2.2.2.2.2.2.2.2.2.2.1 acc.2.2.2.2.2.2.2.2.2.2.2.2.2.2.1 (k0_pay3 (View.readAt (Elt F) arg4.view (Rect.unit (s := S1x2048x512) (k0_off19 i k) S1x512x128.size (k0_off19_inb i k)).toLoadRect (harg4.unread x2))) (k0_pay3 (View.readAt (Elt F) arg5.view (Rect.unit (s := S1x2048x512) (k0_off19 i k) S1x512x128.size (k0_off19_inb i k)).toLoadRect (harg5.unread x3))),
         k0_pay299 v33 acc.2.2.2.2.2.2.2.2.2.2.2.2.2.2.2.1 (k0_pay3 (View.readAt (Elt F) arg4.view (Rect.unit (s := S1x2048x512) (k0_off19 i k) S1x512x128.size (k0_off19_inb i k)).toLoadRect (harg4.unread x2))),
         k0_pay302 v33 acc.2.2.2.2.2.2.2.2.2.2.2.2.2.2.2.1 acc.2.2.2.2.2.2.2.2.2.2.2.2.2.2.2.2.1 (k0_pay3 (View.readAt (Elt F) arg4.view (Rect.unit (s := S1x2048x512) (k0_off19 i k) S1x512x128.size (k0_off19_inb i k)).toLoadRect (harg4.unread x2))),
         k0_pay303 v33 acc.2.2.2.2.2.2.2.2.2.2.2.2.2.2.2.1 acc.2.2.2.2.2.2.2.2.2.2.2.2.2.2.2.2.2.1 (k0_pay3 (View.readAt (Elt F) arg4.view (Rect.unit (s := S1x2048x512) (k0_off19 i k) S1x512x128.size (k0_off19_inb i k)).toLoadRect (harg4.unread x2))) (k0_pay3 (View.readAt (Elt F) arg5.view (Rect.unit (s := S1x2048x512) (k0_off19 i k) S1x512x128.size (k0_off19_inb i k)).toLoadRect (harg5.unread x3))),
         k0_pay299 v40 acc.2.2.2.2.2.2.2.2.2.2.2.2.2.2.2.2.2.2.1 (k0_pay3 (View.readAt (Elt F) arg4.view (Rect.unit (s := S1x2048x512) (k0_off20 i k) S1x512x128.size (k0_off20_inb i k)).toLoadRect (harg4.unread x2))),
         k0_pay302 v40 acc.2.2.2.2.2.2.2.2.2.2.2.2.2.2.2.2.2.2.1 acc.2.2.2.2.2.2.2.2.2.2.2.2.2.2.2.2.2.2.2.1 (k0_pay3 (View.readAt (Elt F) arg4.view (Rect.unit (s := S1x2048x512) (k0_off20 i k) S1x512x128.size (k0_off20_inb i k)).toLoadRect (harg4.unread x2))),
         k0_pay303 v40 acc.2.2.2.2.2.2.2.2.2.2.2.2.2.2.2.2.2.2.1 acc.2.2.2.2.2.2.2.2.2.2.2.2.2.2.2.2.2.2.2.2.1 (k0_pay3 (View.readAt (Elt F) arg4.view (Rect.unit (s := S1x2048x512) (k0_off20 i k) S1x512x128.size (k0_off20_inb i k)).toLoadRect (harg4.unread x2))) (k0_pay3 (View.readAt (Elt F) arg5.view (Rect.unit (s := S1x2048x512) (k0_off20 i k) S1x512x128.size (k0_off20_inb i k)).toLoadRect (harg5.unread x3))),
         k0_pay299 v42 acc.2.2.2.2.2.2.2.2.2.2.2.2.2.2.2.2.2.2.2.2.2.1 (k0_pay3 (View.readAt (Elt F) arg4.view (Rect.unit (s := S1x2048x512) (k0_off20 i k) S1x512x128.size (k0_off20_inb i k)).toLoadRect (harg4.unread x2))),
         k0_pay302 v42 acc.2.2.2.2.2.2.2.2.2.2.2.2.2.2.2.2.2.2.2.2.2.1 acc.2.2.2.2.2.2.2.2.2.2.2.2.2.2.2.2.2.2.2.2.2.2.1 (k0_pay3 (View.readAt (Elt F) arg4.view (Rect.unit (s := S1x2048x512) (k0_off20 i k) S1x512x128.size (k0_off20_inb i k)).toLoadRect (harg4.unread x2))),
         k0_pay303 v42 acc.2.2.2.2.2.2.2.2.2.2.2.2.2.2.2.2.2.2.2.2.2.1 acc.2.2.2.2.2.2.2.2.2.2.2.2.2.2.2.2.2.2.2.2.2.2.2 (k0_pay3 (View.readAt (Elt F) arg4.view (Rect.unit (s := S1x2048x512) (k0_off20 i k) S1x512x128.size (k0_off20_inb i k)).toLoadRect (harg4.unread x2))) (k0_pay3 (View.readAt (Elt F) arg5.view (Rect.unit (s := S1x2048x512) (k0_off20 i k) S1x512x128.size (k0_off20_inb i k)).toLoadRect (harg5.unread x3)))) := by
  unfold tripR_k0_t3 trip_k0_t3; rfl

set_option maxHeartbeats 1000000 in
/-- The loop's state after `n` turns with running maxima. -/
theorem st_online (𝒱 : Variants) (c : Dev nD) (bd : Option 𝒱.V) (i : grid0.Coords) (arg2 : Memref sig .tc .smem S1 .f32) (harg2 : arg2.IsWhole) (arg3 : Memref sig .tc .vmem S1x512x512 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S4x64 .f32) (harg8 : arg8.IsWhole) (arg9 : Memref sig .tc .vmem S1x128 .f32) (harg9 : arg9.IsWhole) (arg10 : Memref sig .tc .vmem S1x512x512 .bf16) (harg10 : arg10.IsWhole)  (arg1 : BitVec 32) (v13 : FVec F S512x128 .bf16) (v15 : FVec F S512x128 .bf16) (v22 : FVec F S512x128 .bf16) (v24 : FVec F S512x128 .bf16) (v31 : FVec F S512x128 .bf16) (v33 : FVec F S512x128 .bf16) (v40 : FVec F S512x128 .bf16) (v42 : FVec F S512x128 .bf16) (v79 : IVec S512x640 1) (v94 : FVec F S512x1 .f32) (v99 : FVec F S512x1 .f32) (v101 : FVec F S512x128 .f32) (v106 : FVec F S512x1 .f32) (v111 : FVec F S512x1 .f32) (v113 : FVec F S512x128 .f32) (v128 : FVec F S512x1 .f32) (v133 : FVec F S512x1 .f32) (v135 : FVec F S512x128 .f32) (v140 : FVec F S512x1 .f32) (v145 : FVec F S512x1 .f32) (v147 : FVec F S512x128 .f32) (v162 : FVec F S512x1 .f32) (v167 : FVec F S512x1 .f32) (v169 : FVec F S512x128 .f32) (v174 : FVec F S512x1 .f32) (v179 : FVec F S512x1 .f32) (v181 : FVec F S512x128 .f32) (v186 : FVec F S640x128 .bf16) (v191 : FVec F S640x128 .bf16) (v196 : FVec F S512x1 .f32) (v201 : FVec F S512x1 .f32) (v203 : FVec F S512x128 .f32)
    (x2 x3 : Vec F S1x2048x512 .bf16) (m0 l0 m1 l1 m2 l2 m3 l3 m4 l4 m5 l5 m6 l6 m7 l7 : FVec F S512x1 .f32) (a0 a1 a2 a3 a4 a5 a6 a7 : FVec F S512x128 .f32)
    (n : ℕ) (hn : n ≤ (k0_t3_loop i).trips) :
    st_k0_t3 (F := F) 𝒱 c bd i arg2 harg2 arg3 harg3 arg4 harg4 arg5 harg5 arg6 harg6 arg7 harg7 arg8 harg8 arg9 harg9 arg10 harg10 arg1 v13 v15 v22 v24 v31 v33 v40 v42 v79 v94 v99 v101 v106 v111 v113 v128 v133 v135 v140 v145 v147 v162 v167 v169 v174 v179 v181 v186 v191 v196 v201 v203 (harg4.unread x2) (harg5.unread x3) (m0, l0, a0, m1, l1, a1, m2, l2, a2, m3, l3, a3, m4, l4, a4, m5, l5, a5, m6, l6, a6, m7, l7, a7) n
      = (onlMax v13 m0 (fun n => blk x2 n 0) n,
         onlSum v13 m0 l0 (fun n => blk x2 n 0) n,
         onlAcc v13 m0 a0 (fun n => blk x2 n 0) (fun n => blk x3 n 0) n,
         onlMax v15 m1 (fun n => blk x2 n 0) n,
         onlSum v15 m1 l1 (fun n => blk x2 n 0) n,
         onlAcc v15 m1 a1 (fun n => blk x2 n 0) (fun n => blk x3 n 0) n,
         onlMax v22 m2 (fun n => blk x2 n 1) n,
         onlSum v22 m2 l2 (fun n => blk x2 n 1) n,
         onlAcc v22 m2 a2 (fun n => blk x2 n 1) (fun n => blk x3 n 1) n,
         onlMax v24 m3 (fun n => blk x2 n 1) n,
         onlSum v24 m3 l3 (fun n => blk x2 n 1) n,
         onlAcc v24 m3 a3 (fun n => blk x2 n 1) (fun n => blk x3 n 1) n,
         onlMax v31 m4 (fun n => blk x2 n 2) n,
         onlSum v31 m4 l4 (fun n => blk x2 n 2) n,
         onlAcc v31 m4 a4 (fun n => blk x2 n 2) (fun n => blk x3 n 2) n,
         onlMax v33 m5 (fun n => blk x2 n 2) n,
         onlSum v33 m5 l5 (fun n => blk x2 n 2) n,
         onlAcc v33 m5 a5 (fun n => blk x2 n 2) (fun n => blk x3 n 2) n,
         onlMax v40 m6 (fun n => blk x2 n 3) n,
         onlSum v40 m6 l6 (fun n => blk x2 n 3) n,
         onlAcc v40 m6 a6 (fun n => blk x2 n 3) (fun n => blk x3 n 3) n,
         onlMax v42 m7 (fun n => blk x2 n 3) n,
         onlSum v42 m7 l7 (fun n => blk x2 n 3) n,
         onlAcc v42 m7 a7 (fun n => blk x2 n 3) (fun n => blk x3 n 3) n) := by
  induction n with
  | zero => rfl
  | succ n ih =>
    refine (st_k0_t3_succ 𝒱 c bd i arg2 harg2 arg3 harg3 arg4 harg4 arg5 harg5 arg6 harg6 arg7 harg7 arg8 harg8 arg9 harg9 arg10 harg10 arg1 v13 v15 v22 v24 v31 v33 v40 v42 v79 v94 v99 v101 v106 v111 v113 v128 v133 v135 v140 v145 v147 v162 v167 v169 v174 v179 v181 v186 v191 v196 v201 v203 (harg4.unread x2) (harg5.unread x3) _ ⟨n, hn⟩).trans ?_
    rw [ih (Nat.le_of_succ_le hn), trip_online]
    simp only [read_cut, off17_eq, off18_eq, off19_eq, off20_eq, onlMax, onlSum, onlAcc]

end Cert.KernelIdeal.Att
end
-- ==== Proof.Softmax.lean ====
/- The arithmetic of a softmax over the extended reals, free of any program: weights `2^(s - M)` of scores that are real
   or `-∞`, the quotient of a weighted sum by the sum of the weights, and its independence of the shift `M`. The values
   weighted are any extended reals. -/
module

public import Idealize.ShloMosaic.PureOps.Ideal
public import Idealize.ShloMosaic.PureOps.Ideal.Laws

@[expose] public section

noncomputable section

namespace Cert.Att

open Idealize.ShloMosaic

/-- The weight of a score `s` under the shift `M`. -/
def wt (M : ℝ) (s : EReal) : EReal := Ideal.exp2 (s - (M : EReal))

theorem wt_bot (M : ℝ) : wt M ⊥ = 0 := by rw [wt, EReal.bot_sub, Ideal.exp2_bot]

theorem wt_coe (M x : ℝ) : wt M (x : EReal) = (((2 : ℝ) ^ (x - M) : ℝ) : EReal) := by
  rw [wt, ← EReal.coe_sub, Ideal.exp2_coe]; rfl

/-- Every weight is a nonnegative real. -/
theorem wt_real (M : ℝ) {s : EReal} (hs : s ≠ ⊤) : ∃ w : ℝ, 0 ≤ w ∧ (s ≠ ⊥ → 0 < w) ∧ wt M s = (w : EReal) := by
  induction s with
  | bot => exact ⟨0, le_rfl, fun h => absurd rfl h, by rw [wt_bot]; rfl⟩
  | top => exact absurd rfl hs
  | coe x => exact ⟨(2 : ℝ) ^ (x - M), by positivity, fun _ => by positivity, wt_coe M x⟩

/-- Changing the shift multiplies every weight by the same positive real. -/
theorem wt_shift (M N : ℝ) {s : EReal} (hs : s ≠ ⊤) :
    (((2 : ℝ) ^ (N - M) : ℝ) : EReal) * wt N s = wt M s := by
  induction s with
  | bot => rw [wt_bot, wt_bot, mul_zero]
  | top => exact absurd rfl hs
  | coe x =>
    rw [wt_coe, wt_coe, ← EReal.coe_mul, ← Real.rpow_add (by norm_num : (0 : ℝ) < 2)]
    congr 2; ring

/-- A nonnegative real factor goes into a sum of any extended reals. -/
theorem coe_mul_sum {ι : Type*} (S : Finset ι) {r : ℝ} (hr : 0 ≤ r) (f : ι → EReal) :
    (r : EReal) * ∑ j ∈ S, f j = ∑ j ∈ S, (r : EReal) * f j := by
  classical
  induction S using Finset.induction_on with
  | empty => simp
  | insert a S ha ih =>
    rw [Finset.sum_insert ha, Finset.sum_insert ha, ← ih]
    exact EReal.left_distrib_of_nonneg_of_ne_top (by exact_mod_cast hr) (EReal.coe_ne_top r) _ _

theorem coe_mul_add {r : ℝ} (hr : 0 ≤ r) (a b : EReal) : (r : EReal) * (a + b) = r * a + r * b :=
  EReal.left_distrib_of_nonneg_of_ne_top (by exact_mod_cast hr) (EReal.coe_ne_top r) _ _

/-- The weighted sum of the values `v` under the scores `s`. -/
def wsum {ι : Type*} [Fintype ι] (M : ℝ) (s v : ι → EReal) : EReal := ∑ j, wt M (s j) * v j

theorem wsum_shift {ι : Type*} [Fintype ι] (M N : ℝ) {s : ι → EReal} (hs : ∀ j, s j ≠ ⊤) (v : ι → EReal) :
    (((2 : ℝ) ^ (N - M) : ℝ) : EReal) * wsum N s v = wsum M s v := by
  rw [wsum, wsum, coe_mul_sum _ (by positivity)]
  exact Finset.sum_congr rfl fun j _ => by rw [← mul_assoc, wt_shift M N (hs j)]

/-- The sum of the weights is a positive real as soon as one score is real. -/
theorem sum_wt_pos {ι : Type*} [Fintype ι] (M : ℝ) {s : ι → EReal} (hs : ∀ j, s j ≠ ⊤) (h : ∃ j, s j ≠ ⊥) :
    ∃ L : ℝ, 0 < L ∧ (∑ j, wt M (s j)) = (L : EReal) := by
  choose w hw0 hw1 hw using fun j => wt_real M (hs j)
  obtain ⟨j, hj⟩ := h
  refine ⟨∑ j, w j, Finset.sum_pos' (fun j _ => hw0 j) ⟨j, Finset.mem_univ j, hw1 j hj⟩, ?_⟩
  rw [Finset.sum_congr rfl fun j _ => hw j]
  exact (map_sum (⟨⟨Real.toEReal, rfl⟩, EReal.coe_add⟩ : ℝ →+ EReal) w _).symm

/-- The softmax average of the values `v`. -/
def att {ι : Type*} [Fintype ι] (M : ℝ) (s v : ι → EReal) : EReal := Ideal.div (wsum M s v) (∑ j, wt M (s j))

/-- The average does not depend on the shift. -/
theorem att_shift {ι : Type*} [Fintype ι] (M N : ℝ) {s : ι → EReal} (hs : ∀ j, s j ≠ ⊤) (h : ∃ j, s j ≠ ⊥)
    (v : ι → EReal) : att M s v = att N s v := by
  obtain ⟨L, hL, hLe⟩ := sum_wt_pos N hs h
  have hp : (0 : ℝ) < (2 : ℝ) ^ (N - M) := by positivity
  have hden : (∑ j, wt M (s j)) = (((2 : ℝ) ^ (N - M) * L : ℝ) : EReal) := by
    rw [EReal.coe_mul, ← hLe, coe_mul_sum _ hp.le]
    exact Finset.sum_congr rfl fun j _ => (wt_shift M N (hs j)).symm
  rw [att, att, hden, hLe, Ideal.div_coe (mul_pos hp hL).ne', Ideal.div_coe hL.ne', ← wsum_shift M N hs v,
    mul_comm (((2 : ℝ) ^ (N - M) : ℝ) : EReal), mul_assoc, ← EReal.coe_mul]
  congr 2; field_simp

/-- Normalising each weight first gives the same average. -/
theorem att_normalised {ι : Type*} [Fintype ι] (M : ℝ) {s : ι → EReal} (hs : ∀ j, s j ≠ ⊤) (h : ∃ j, s j ≠ ⊥)
    (v : ι → EReal) : ∑ j, Ideal.div (wt M (s j)) (∑ k, wt M (s k)) * v j = att M s v := by
  obtain ⟨L, hL, hLe⟩ := sum_wt_pos M hs h
  rw [att, hLe, Ideal.div_coe hL.ne', wsum, mul_comm _ ((1 / L : ℝ) : EReal), coe_mul_sum _ (by positivity)]
  exact Finset.sum_congr rfl fun j _ => by rw [Ideal.div_coe hL.ne', mul_comm (wt M (s j)), mul_assoc]

/-- A natural exponential of scores multiplied by `log 2` is a power of two. -/
theorem exp_log_two (R : ℝ) {s : EReal} (hs : s ≠ ⊤) :
    Ideal.exp (s * ((Real.log 2 : ℝ) : EReal) - (R : EReal)) = wt (R / Real.log 2) s := by
  have hl : 0 < Real.log 2 := Real.log_pos (by norm_num)
  induction s with
  | bot => rw [wt_bot, EReal.bot_mul_coe_of_pos hl, EReal.bot_sub, Ideal.exp_bot]
  | top => exact absurd rfl hs
  | coe x =>
    rw [wt_coe, ← EReal.coe_mul, ← EReal.coe_sub, Ideal.exp_coe, Real.rpow_def_of_pos (by norm_num : (0 : ℝ) < 2)]
    congr 2; field_simp

/-- The greatest of finitely many scores, one of them real and none `⊤`, is real. -/
theorem fold_max_real {ι : Type*} [Fintype ι] {s : ι → EReal} (hs : ∀ j, s j ≠ ⊤) (h : ∃ j, s j ≠ ⊥) :
    ∃ M : ℝ, Finset.univ.fold max ⊥ s = (M : EReal) := by
  have hb : Finset.univ.fold max ⊥ s ≠ ⊥ := by
    obtain ⟨j, hj⟩ := h
    exact fun hc => hj (le_bot_iff.mp (hc ▸ (Finset.le_fold_max (s j)).mpr (.inr ⟨j, Finset.mem_univ j, le_rfl⟩)))
  have ht : Finset.univ.fold max ⊥ s ≠ ⊤ := by
    refine (Finset.fold_max_lt (f := s) (s := Finset.univ) (b := ⊥) ⊤ |>.mpr ⟨bot_lt_top, fun j _ => ?_⟩).ne
    exact lt_top_iff_ne_top.mpr (hs j)
  exact ⟨_, (EReal.coe_toReal ht hb).symm⟩

/-! A sum taken block by block: a first block `s0`, then the blocks `s m`. -/

/-- The weighted sum over the first block and the `n` blocks after it. -/
def bsum {p q : ℕ} (n : ℕ) (M : ℝ) (s0 v0 : Fin p → EReal) (s v : ℕ → Fin q → EReal) : EReal :=
  wsum M s0 v0 + ∑ m ∈ Finset.range n, wsum M (s m) (v m)

theorem bsum_succ {p q : ℕ} (n : ℕ) (M : ℝ) (s0 v0 : Fin p → EReal) (s v : ℕ → Fin q → EReal) :
    bsum (n + 1) M s0 v0 s v = bsum n M s0 v0 s v + wsum M (s n) (v n) := by
  rw [bsum, bsum, Finset.sum_range_succ, add_assoc]

theorem bsum_shift {p q : ℕ} (n : ℕ) (M N : ℝ) {s0 : Fin p → EReal} {s : ℕ → Fin q → EReal} (h0 : ∀ c, s0 c ≠ ⊤)
    (hs : ∀ m < n, ∀ c, s m c ≠ ⊤) (v0 : Fin p → EReal) (v : ℕ → Fin q → EReal) :
    (((2 : ℝ) ^ (N - M) : ℝ) : EReal) * bsum n N s0 v0 s v = bsum n M s0 v0 s v := by
  rw [bsum, bsum, coe_mul_add (by positivity), coe_mul_sum _ (by positivity), wsum_shift M N h0]
  exact congrArg _ (Finset.sum_congr rfl fun m hm => wsum_shift M N (hs m (Finset.mem_range.mp hm)) _)

/-- One block of an online softmax: the running maximum `m`, sum `l` and weighted sum `a` of `n` blocks, taken to
    the next block, whose scores are real. -/
theorem online_step {p q : ℕ} (hq : 0 < q) (n : ℕ) {s0 : Fin p → EReal} {s : ℕ → Fin q → EReal}
    (h0 : ∀ c, s0 c ≠ ⊤) (hs : ∀ m < n, ∀ c, s m c ≠ ⊤) (hn : ∀ c, s n c ≠ ⊤ ∧ s n c ≠ ⊥) (M : ℝ) :
    ∃ M' : ℝ, max (M : EReal) (Finset.univ.fold max ⊥ (s n)) = (M' : EReal) ∧
      ∀ (v0 : Fin p → EReal) (v : ℕ → Fin q → EReal),
        Ideal.exp2 ((M : EReal) - (M' : EReal)) * bsum n M s0 v0 s v + wsum M' (s n) (v n)
          = bsum (n + 1) M' s0 v0 s v := by
  obtain ⟨B, hB⟩ := fold_max_real (fun c => (hn c).1) ⟨⟨0, hq⟩, (hn ⟨0, hq⟩).2⟩
  refine ⟨max M B, by rw [hB]; exact (EReal.coe_strictMono.monotone.map_max).symm, fun v0 v => ?_⟩
  have he : Ideal.exp2 ((M : EReal) - ((max M B : ℝ) : EReal)) = (((2 : ℝ) ^ (M - max M B) : ℝ) : EReal) :=
    wt_coe _ _
  rw [he, bsum_shift n (max M B) M h0 hs, bsum_succ]

/-- The first block holds the 512 keys of the query's own block and then the 16 keys every query sees; the later blocks
    hold the keys before: together all the keys of which the query sees any. -/
theorem bsum_regroup (i : ℕ) (hi : i < 4) (M : ℝ) (S V : ℕ → EReal) (s0 v0 : Fin 640 → EReal)
    (s v : ℕ → Fin 512 → EReal)
    (hs0 : ∀ c : Fin 640, s0 c = if c.1 < 512 then S (16 + 512 * i + c.1) else if c.1 < 528 then S (c.1 - 512) else ⊥)
    (hv0 : ∀ c : Fin 640, c.1 < 528 → v0 c = if c.1 < 512 then V (16 + 512 * i + c.1) else V (c.1 - 512))
    (hs : ∀ m < i, ∀ c, s m c = S (16 + 512 * m + c.1)) (hv : ∀ m < i, ∀ c, v m c = V (16 + 512 * m + c.1))
    (hS : ∀ j, 16 + 512 * (i + 1) ≤ j → j < 2064 → S j = ⊥) :
    bsum i M s0 v0 s v = wsum M (fun j : Fin 2064 => S j.1) (fun j => V j.1) := by
  set g : ℕ → EReal := fun j => wt M (S j) * V j with hg
  have e0 : wsum M s0 v0 = ∑ c ∈ Finset.range 512, g (16 + 512 * i + c) + ∑ c ∈ Finset.range 16, g c := by
    have : wsum M s0 v0 = ∑ c ∈ Finset.range (512 + (16 + 112)),
        (if c < 512 then g (16 + 512 * i + c) else if c < 528 then g (c - 512) else 0) := by
      rw [← Fin.sum_univ_eq_sum_range (fun c : ℕ => if c < 512 then g (16 + 512 * i + c) else
        if c < 528 then g (c - 512) else 0) (512 + (16 + 112)), wsum]
      refine Finset.sum_congr rfl fun c _ => ?_
      rw [hs0 c]
      rcases Nat.lt_or_ge c.1 528 with h | h
      · rw [hv0 c h]
        rcases Nat.lt_or_ge c.1 512 with h' | h'
        · rw [if_pos h', if_pos h', if_pos h']
        · have a : ¬ c.1 < 512 := by omega
          rw [if_neg a, if_neg a, if_neg a, if_pos h, if_pos h]
      · have a : ¬ c.1 < 512 := by omega
        have b : ¬ c.1 < 528 := by omega
        rw [if_neg a, if_neg a, if_neg b, if_neg b, wt_bot, zero_mul]
    rw [this, Finset.sum_range_add, Finset.sum_range_add]
    have z : ∑ x ∈ Finset.range 112, (if 512 + (16 + x) < 512 then g (16 + 512 * i + (512 + (16 + x))) else
        if 512 + (16 + x) < 528 then g (512 + (16 + x) - 512) else 0) = 0 :=
      Finset.sum_eq_zero fun x _ => by rw [if_neg (by omega), if_neg (by omega)]
    rw [z, add_zero]
    congr 1
  have e1 : ∀ n : ℕ, ∑ m ∈ Finset.range n, ∑ c ∈ Finset.range 512, g (16 + 512 * m + c)
      = ∑ c ∈ Finset.range (512 * n), g (16 + c) := by
    intro n
    induction n with
    | zero => simp
    | succ n ih =>
      rw [Finset.sum_range_succ, ih, Nat.mul_succ, Finset.sum_range_add]
      exact congrArg _ (Finset.sum_congr rfl fun c _ => by rw [add_assoc])
  have e2 : wsum M (fun j : Fin 2064 => S j.1) (fun j => V j.1) = ∑ j ∈ Finset.range (16 + 512 * (i + 1)), g j := by
    rw [wsum, Fin.sum_univ_eq_sum_range g 2064]
    refine (Finset.sum_subset (Finset.range_mono (by omega)) fun j hj hj' => ?_).symm
    rw [Finset.mem_range] at hj hj'
    rw [hg]
    show wt M (S j) * V j = 0
    rw [hS j (by omega) hj, wt_bot, zero_mul]
  have e3 : ∑ m ∈ Finset.range i, wsum M (s m) (v m)
      = ∑ m ∈ Finset.range i, ∑ c ∈ Finset.range 512, g (16 + 512 * m + c) := by
    refine Finset.sum_congr rfl fun m hm => ?_
    rw [← Fin.sum_univ_eq_sum_range (fun c : ℕ => g (16 + 512 * m + c)) 512, wsum]
    exact Finset.sum_congr rfl fun c _ => by rw [hs m (Finset.mem_range.mp hm), hv m (Finset.mem_range.mp hm)]
  rw [bsum, e0, e2, e3, Finset.sum_range_add, ← e1,
    Finset.sum_range_succ (fun m => ∑ c ∈ Finset.range 512, g (16 + 512 * m + c)) i]
  abel

end Cert.Att
end
-- ==== Proof.Spec.lean ====
/- The differential attention as a formula over the extended reals: what one query row of one head receives, and the
   output of the head. Keys and values are 16 rows that every query sees and 2048 rows cut in chunks of 64; a query sees
   the chunks up to its own. -/
module

public import proofs.«01_k».proof.Proof.Softmax

@[expose] public section

noncomputable section

namespace Cert.Att

open Idealize.ShloMosaic

/-- An extended real that is a real number. -/
def Real' (x : EReal) : Prop := x ≠ ⊥ ∧ x ≠ ⊤

theorem Real'.lift {x : EReal} (h : Real' x) : ∃ r : ℝ, x = (r : EReal) :=
  ⟨x.toReal, (EReal.coe_toReal h.2 h.1).symm⟩

theorem real_coe (r : ℝ) : Real' (r : EReal) := ⟨EReal.coe_ne_bot r, EReal.coe_ne_top r⟩

theorem real_sum {ι : Type*} [Fintype ι] {a b : ι → EReal} (ha : ∀ d, Real' (a d)) (hb : ∀ d, Real' (b d)) :
    Real' (∑ d, a d * b d) := by
  choose x hx using fun d => (ha d).lift
  choose y hy using fun d => (hb d).lift
  have : (∑ d, a d * b d) = ((∑ d, x d * y d : ℝ) : EReal) := by
    rw [Finset.sum_congr rfl fun d _ => show a d * b d = ((x d * y d : ℝ) : EReal) by rw [hx, hy, EReal.coe_mul]]
    exact (map_sum (⟨⟨Real.toEReal, rfl⟩, EReal.coe_add⟩ : ℝ →+ EReal) _ _).symm
  rw [this]; exact real_coe _

/-- Key `j` (the 16 shared rows first) is seen by query `t`. -/
def vis (t j : ℕ) : Prop := (if j < 16 then 0 else 1 + (j - 16) / 64) ≤ 1 + t / 64

instance (t j : ℕ) : Decidable (vis t j) := by unfold vis; infer_instance

/-- Row `j` of the shared rows `M` followed by the rows `K`. -/
def row {α : Type*} (M K : ℕ → α) (j : ℕ) : α := if j < 16 then M j else K (j - 16)

/-- The score of key `j` for query `t`. -/
def score (q : Fin 64 → EReal) (M K : ℕ → Fin 64 → EReal) (t j : ℕ) : EReal :=
  if vis t j then ∑ d, q d * row M K j d else ⊥

/-- What query `t` receives from one map: the average of the values under the softmax of the scores. -/
def mapOut (q : Fin 64 → EReal) (M K : ℕ → Fin 64 → EReal) (MV KV : ℕ → EReal) (t : ℕ) : EReal :=
  att 0 (fun j : Fin 2064 => score q M K t j) (fun j : Fin 2064 => row MV KV j)

theorem score_top {q : Fin 64 → EReal} {M K : ℕ → Fin 64 → EReal} (hq : ∀ d, Real' (q d)) (hM : ∀ j d, j < 16 → Real' (M j d))
    (hK : ∀ j d, Real' (K j d)) (t j : ℕ) : score q M K t j ≠ ⊤ := by
  unfold score
  split
  · refine (real_sum hq fun d => ?_).2
    unfold row; split
    · exact hM _ _ ‹_›
    · exact hK _ _
  · exact bot_ne_top

theorem score_bot {q : Fin 64 → EReal} {M K : ℕ → Fin 64 → EReal} (hq : ∀ d, Real' (q d)) (hM : ∀ j d, j < 16 → Real' (M j d))
    (hK : ∀ j d, Real' (K j d)) (t j : ℕ) (h : vis t j) : score q M K t j ≠ ⊥ := by
  unfold score
  rw [if_pos h]
  refine (real_sum hq fun d => ?_).1
  unfold row; split
  · exact hM _ _ ‹_›
  · exact hK _ _

/-- The weight of the second map. -/
def lamOf (a : Fin 4 → Fin 64 → EReal) : EReal :=
  Ideal.exp (∑ d, a 0 d * a 1 d) - Ideal.exp (∑ d, a 2 d * a 3 d) + Ideal.ofBits .f32 0x3E4CCCCD#32

/-- The head's output at lane `d`, from its two maps `o`, the weight `lam` and the lanes' gains `w`. -/
def normed (o : Bool → Fin 128 → EReal) (lam : EReal) (w : Fin 128 → EReal) (d : Fin 128) : EReal :=
  (o false d - lam * o true d)
    * Ideal.rsqrt (Ideal.div (∑ x, (o false x - lam * o true x) * (o false x - lam * o true x)) (Ideal.ofBits .f32 0x43000000#32)
        + Ideal.ofBits .f32 0x358637BD#32)
    * w d * Ideal.ofBits .f32 0x3F4CCCCD#32

/-- What one map of query `t` of batch `b` averages for lane `d` of the head holding lane `l`: the queries `q`, the keys `k`
    after the shared keys `km`, the values `v` after the shared values `vm`; map `e` takes the head's lower or upper half. -/
def mapAt (q k v : Fin 16 → Fin 2048 → Fin 512 → EReal) (km vm : Fin 128 → Fin 512 → EReal)
    (b : Fin 16) (t : Fin 2048) (g : ℕ) (e : Bool) (d : Fin 128) : EReal :=
  mapOut (fun d => q b t (Fin.ofNat 512 (128 * g + (64 * e.toNat + d.val))))
    (fun j d => km (Fin.ofNat 128 j) (Fin.ofNat 512 (128 * g + (64 * e.toNat + d.val))))
    (fun j d => k b (Fin.ofNat 2048 j) (Fin.ofNat 512 (128 * g + (64 * e.toNat + d.val))))
    (fun j => vm (Fin.ofNat 128 j) (Fin.ofNat 512 (128 * g + d.val)))
    (fun j => v b (Fin.ofNat 2048 j) (Fin.ofNat 512 (128 * g + d.val))) t

/-- The differential attention at lane `l` of query `t` of batch `b`. -/
def outSpec (q k v : Fin 16 → Fin 2048 → Fin 512 → EReal) (km vm : Fin 128 → Fin 512 → EReal)
    (a : Fin 4 → Fin 64 → EReal) (w : Fin 128 → EReal) (b : Fin 16) (t : Fin 2048) (l : Fin 512) : EReal :=
  normed (fun e d => mapAt q k v km vm b t (l.val / 128) e d) (lamOf a) w (Fin.ofNat 128 (l.val % 128))

end Cert.Att
end
-- ==== Proof.KernelIdeal.Read.lean ====
/- One query row of the attention body over the reals: each payload read at an index, the two ways of accumulating
   summed up over the blocks of keys. -/
module

public import proofs.«01_k».proof.Proof.KernelIdeal.Stage
public import proofs.«01_k».proof.Proof.Spec

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Att

theorem mask_bot : (Named.named (F := Ideal) (φ := .f32) κ "mask" 0xF149F2CA#32 : EReal) = ⊥ :=
  IdealRules.named_const.ideal_named_scalar _ _ _ _ rfl

theorem neg_inf : Ideal.ofBits .f32 0xFF800000#32 = (⊥ : EReal) := by
  simp [Ideal.ofBits, Ideal.ieee]

/-- The score of one key. -/
def dot (q : FVec Ideal S512x128 .bf16) (k : Fin 128 → EReal) (r : Fin 512) : EReal := ∑ x, q (ix2 r x) * k x

/-- The scores of the keys of a whole block. -/
def blockScore (q : FVec Ideal S512x128 .bf16) (K : Vec Ideal S1x512x128 .bf16) (r c : Fin 512) : EReal :=
  dot q (fun x => K (ix3 0 c x)) r

/-- The scores of the first block, the keys the row does not see at `-∞`. -/
def firstScore (q : FVec Ideal S512x128 .bf16) (M : IVec S512x640 1) (K : FVec Ideal S640x128 .bf16) (r : Fin 512)
    (c : Fin 640) : EReal := if M (ix2 r c) = 1#1 then dot q (fun x => K (ix2 c x)) r else ⊥

theorem pay3_at (K : Vec Ideal S1x512x128 .bf16) (c : Fin 512) (x : Fin 128) : k0_pay3 K (ix2 c x) = K (ix3 0 c x) := by
  pointwise [k0_pay3]

theorem pay4_at (b : Elt Ideal .f32) (q : FVec Ideal S512x128 .bf16) (K : Vec Ideal S1x512x128 .bf16) (r c : Fin 512) :
    k0_pay4 b q K (ix2 r c) = Ideal.exp2 (blockScore q K r c - b) := by
  pointwise [k0_pay4, k0_pay2, blockScore, dot]
  rfl

theorem pay87_at (b : Elt Ideal .f32) (q : FVec Ideal S512x128 .bf16) (M : IVec S512x640 1) (K : FVec Ideal S640x128 .bf16)
    (r : Fin 512) (c : Fin 640) : k0_pay87 b q M K (ix2 r c) = Ideal.exp2 (firstScore q M K r c - b) := by
  pointwise [k0_pay87, firstScore, dot]
  rw [mask_bot]; rfl

theorem pay246_at (q : FVec Ideal S512x128 .bf16) (M : IVec S512x640 1) (K : FVec Ideal S640x128 .bf16)
    (r : Fin 512) (c : Fin 640) : k0_pay246 q M K (ix2 r c) = firstScore q M K r c := by
  pointwise [k0_pay246, firstScore, dot]
  rw [mask_bot]; rfl

theorem pay298_at (q : FVec Ideal S512x128 .bf16) (K : Vec Ideal S1x512x128 .bf16) (r c : Fin 512) :
    k0_pay298 q (k0_pay3 K) (ix2 r c) = blockScore q K r c := by
  pointwise [k0_pay298, blockScore, dot, k0_pay3]

/-! ### Sums over lane groups -/

theorem sum_tiles {n : ℕ} (f : Fin (n * 128) → EReal) :
    ∑ c, f c = ∑ l : Fin 128, ∑ a : Fin n, f (finProdFinEquiv (a, l)) := by
  rw [← Equiv.sum_comp finProdFinEquiv f, Fintype.sum_prod_type, Finset.sum_comm]

theorem sum_four (f : Fin 512 → EReal) :
    ∑ l : Fin 128, (f ⟨l, by omega⟩ + f ⟨128 + l, by omega⟩ + f ⟨256 + l, by omega⟩ + f ⟨384 + l, by omega⟩) = ∑ c, f c := by
  rw [show (∑ c, f c) = _ from sum_tiles (n := 4) f]
  refine Finset.sum_congr rfl fun l _ => ?_
  rw [Fin.sum_univ_four]
  refine congr (congrArg _ (congr (congrArg _ (congr (congrArg _ ?_) ?_)) ?_)) ?_ <;>
    exact congrArg f (Fin.ext (by simp [finProdFinEquiv] <;> omega))

theorem sum_five (f : Fin 640 → EReal) :
    ∑ l : Fin 128, (f ⟨l, by omega⟩ + f ⟨128 + l, by omega⟩ + f ⟨256 + l, by omega⟩ + f ⟨384 + l, by omega⟩
      + f ⟨512 + l, by omega⟩) = ∑ c, f c := by
  rw [show (∑ c, f c) = _ from sum_tiles (n := 5) f]
  refine Finset.sum_congr rfl fun l _ => ?_
  rw [Fin.sum_univ_five]
  refine congr (congrArg _ (congr (congrArg _ (congr (congrArg _ (congr (congrArg _ ?_) ?_)) ?_)) ?_)) ?_ <;>
    exact congrArg f (Fin.ext (by simp [finProdFinEquiv] <;> omega))

/-! ### The fixed shift -/

variable (q : FVec Ideal S512x128 .bf16) (M : IVec S512x640 1) (K0 V0 : FVec Ideal S640x128 .bf16)
  (K V : ℕ → Vec Ideal S1x512x128 .bf16) (r : Fin 512)

theorem fixPart_sum (b : ℝ) (n : ℕ) :
    ∑ l : Fin 128, fixPart (F := Ideal) (b : EReal) q (k0_pay88 (b : EReal) q M K0) K n (ix2 r l)
      = bsum n b (firstScore q M K0 r) (fun _ => 1) (fun m => blockScore q (K m) r) (fun _ _ => 1) := by
  induction n with
  | zero =>
    simp only [fixPart, bsum, Finset.range_zero, Finset.sum_empty, add_zero, wsum, mul_one]
    rw [← sum_five]
    refine Finset.sum_congr rfl fun l _ => ?_
    pointwise [k0_pay88]
    simp only [pay87_at]; rfl
  | succ n ih =>
    rw [bsum_succ, ← ih, wsum]
    simp only [mul_one]
    rw [← sum_four, ← Finset.sum_add_distrib]
    refine Finset.sum_congr rfl fun l _ => ?_
    rw [fixPart]
    pointwise [k0_pay5]
    simp only [pay4_at]; rfl

theorem fixAcc_at (b : ℝ) (V00 : Vec Ideal S1x512x128 .bf16) (V01 : Vec Ideal S128x128 .bf16) (d : Fin 128) (n : ℕ) :
    fixAcc (F := Ideal) (b : EReal) q (k0_pay89 (b : EReal) q M K0 V00 V01) K V n (ix2 r d)
      = bsum n b (firstScore q M K0 r) (fun c => k0_pay86 V00 V01 (ix2 c d)) (fun m => blockScore q (K m) r)
          (fun m c => V m (ix3 0 c d)) := by
  induction n with
  | zero =>
    simp only [fixAcc, bsum, Finset.range_zero, Finset.sum_empty, add_zero, wsum]
    pointwise [k0_pay89]
    simp only [pay87_at]; rfl
  | succ n ih =>
    rw [bsum_succ, ← ih, wsum, fixAcc]
    pointwise [k0_pay6]
    simp only [pay4_at, pay3_at]; rfl

/-! ### Running maxima -/

theorem onl_at (hM : ∃ c, firstScore q M K0 r c ≠ ⊥) (hT : ∀ c, firstScore q M K0 r c ≠ ⊤) (n : ℕ)
    (hK : ∀ m < n, ∀ c, Real' (blockScore q (K m) r c)) (V00 : Vec Ideal S1x512x128 .bf16) (V01 : Vec Ideal S128x128 .bf16) :
    ∃ b : ℝ, onlMax (F := Ideal) q (k0_pay247 q M K0) K n (ix2 r 0) = (b : EReal)
      ∧ onlSum (F := Ideal) q (k0_pay247 q M K0) (k0_pay249 q M K0) K n (ix2 r 0)
          = bsum n b (firstScore q M K0 r) (fun _ => 1) (fun m => blockScore q (K m) r) (fun _ _ => 1)
      ∧ ∀ d, onlAcc (F := Ideal) q (k0_pay247 q M K0) (k0_pay250 q M K0 V00 V01) K V n (ix2 r d)
          = bsum n b (firstScore q M K0 r) (fun c => k0_pay86 V00 V01 (ix2 c d)) (fun m => blockScore q (K m) r)
              (fun m c => V m (ix3 0 c d)) := by
  induction n with
  | zero =>
    obtain ⟨b, hb⟩ := fold_max_real hT hM
    have h0 : k0_pay247 q M K0 (ix2 r 0) = (b : EReal) := by
      pointwise [k0_pay247]
      simp only [pay246_at, neg_inf]; exact hb
    refine ⟨b, h0, ?_, fun d => ?_⟩
    · simp only [onlSum, bsum, Finset.range_zero, Finset.sum_empty, add_zero, wsum, mul_one]
      pointwise [k0_pay249, k0_pay248]
      simp only [pay246_at, h0]; rfl
    · simp only [onlAcc, bsum, Finset.range_zero, Finset.sum_empty, add_zero, wsum]
      pointwise [k0_pay250, k0_pay248]
      simp only [pay246_at, h0]; rfl
  | succ n ih =>
    obtain ⟨b, hm, hl, ha⟩ := ih fun m hm => hK m (by omega)
    obtain ⟨b', hb', hstep⟩ := online_step (by decide : 0 < 512) n (s0 := firstScore q M K0 r)
      (s := fun m => blockScore q (K m) r) hT (fun m hm c => (hK m (by omega) c).2)
      (fun c => ⟨(hK n (by omega) c).2, (hK n (by omega) c).1⟩) b
    have h1 : k0_pay299 q (onlMax (F := Ideal) q (k0_pay247 q M K0) K n) (k0_pay3 (K n)) (ix2 r 0) = (b' : EReal) := by
      pointwise [k0_pay299]
      simp only [pay298_at, neg_inf, hm]; exact hb'
    refine ⟨b', h1, ?_, fun d => ?_⟩
    · rw [onlSum, ← hstep, ← hl, wsum]
      pointwise [k0_pay302, k0_pay300, k0_pay301]
      simp only [pay298_at, h1, hm, mul_one]; rfl
    · rw [onlAcc, ← hstep, ← ha, wsum]
      pointwise [k0_pay303, k0_pay300, k0_pay301]
      simp only [pay298_at, h1, hm, pay3_at]; rfl

end Cert.KernelIdeal.Att
end
-- ==== Proof.KernelIdeal.Pieces.lean ====
/- What each branch of the attention body stores: the list of its four stores, one head of 128 lanes each, as plain
   functions of the contents of the input buffers. -/
module

public import proofs.«01_k».proof.Proof.KernelIdeal.Stage
public import proofs.«01_k».proof.Proof.KernelIdeal.RunFixed
public import proofs.«01_k».proof.Proof.KernelIdeal.RunOnline

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The half `e` of the queries of a head, the other half's lanes zero. -/
def qhalf (x1 : Vec F S1x512x512 .bf16) (g : ℕ) (e : Bool) : FVec F S512x128 .bf16 :=
  if e then k0_pay71 (qblk x1 g) else k0_pay70 (qblk x1 g)

/-- The keys of the first block: the diagonal's 512, then the rows every query sees. -/
def keys0 (x2 : Vec F S1x2048x512 .bf16) (x4 : Vec F S128x512 .bf16) (n g : ℕ) : FVec F S640x128 .bf16 :=
  k0_pay85 (blk x2 n g) (mblk x4 g)

/-- The attention output of one map with the shift `b`. -/
def fixOut (b : Elt F .f32) (x1 : Vec F S1x512x512 .bf16) (x2 x3 : Vec F S1x2048x512 .bf16) (x4 x5 : Vec F S128x512 .bf16)
    (n g : ℕ) (e : Bool) : FVec F S512x128 .f32 :=
  k0_pay119
    (fixPart b (qhalf x1 g e) (k0_pay88 b (qhalf x1 g e) k0_pay84 (keys0 x2 x4 n g)) (fun k => blk x2 k g) n)
    (fixAcc b (qhalf x1 g e) (k0_pay89 b (qhalf x1 g e) k0_pay84 (keys0 x2 x4 n g) (blk x3 n g) (mblk x5 g))
      (fun k => blk x2 k g) (fun k => blk x3 k g) n)

/-- The attention output of one map with running maxima. -/
def onlOut (x1 : Vec F S1x512x512 .bf16) (x2 x3 : Vec F S1x2048x512 .bf16) (x4 x5 : Vec F S128x512 .bf16)
    (n g : ℕ) (e : Bool) : FVec F S512x128 .f32 :=
  k0_pay315
    (onlSum (qhalf x1 g e) (k0_pay247 (qhalf x1 g e) k0_pay84 (keys0 x2 x4 n g))
      (k0_pay249 (qhalf x1 g e) k0_pay84 (keys0 x2 x4 n g)) (fun k => blk x2 k g) n)
    (onlAcc (qhalf x1 g e) (k0_pay247 (qhalf x1 g e) k0_pay84 (keys0 x2 x4 n g))
      (k0_pay250 (qhalf x1 g e) k0_pay84 (keys0 x2 x4 n g) (blk x3 n g) (mblk x5 g))
      (fun k => blk x2 k g) (fun k => blk x3 k g) n)

/-- One head's output from its two maps. -/
def headOut (o : ℕ → Bool → FVec F S512x128 .f32) (x6 : Vec F S4x64 .f32) (x7 : Vec F S1x128 .f32) (g : ℕ) :
    Vec F S1x512x128 .bf16 := k0_pay131 (o g false) (o g true) (k0_pay127 x6) x7

/-- The four stores, last first, of heads whose maps' outputs are `o`. -/
def stores (o : ℕ → Bool → FVec F S512x128 .f32) (x6 : Vec F S4x64 .f32) (x7 : Vec F S1x128 .f32) :
    List (View.Piece (Elt F) S1x512x512 .bf16) :=
  [⟨Rect.unit (s := S1x512x512) ![0, 0, 384] S1x512x128.size inb_S1x512x512_S1x512x128_0_0_384, headOut o x6 x7 3⟩,
   ⟨Rect.unit (s := S1x512x512) ![0, 0, 256] S1x512x128.size inb_S1x512x512_S1x512x128_0_0_256, headOut o x6 x7 2⟩,
   ⟨Rect.unit (s := S1x512x512) ![0, 0, 128] S1x512x128.size inb_S1x512x512_S1x512x128_0_0_128, headOut o x6 x7 1⟩,
   ⟨Rect.unit (s := S1x512x512) ![0, 0, 0] S1x512x128.size inb_S1x512x512_S1x512x128_0_0_0, headOut o x6 x7 0⟩]

/-- The maps' outputs from the loop's final state, the bound as shift. -/
def mapsFixed (T : FVec F S512x128 .f32 × FVec F S512x128 .f32 × FVec F S512x128 .f32 × FVec F S512x128 .f32 × FVec F S512x128 .f32 × FVec F S512x128 .f32 × FVec F S512x128 .f32 × FVec F S512x128 .f32 × FVec F S512x128 .f32 × FVec F S512x128 .f32 × FVec F S512x128 .f32 × FVec F S512x128 .f32 × FVec F S512x128 .f32 × FVec F S512x128 .f32 × FVec F S512x128 .f32 × FVec F S512x128 .f32) : ℕ → Bool → FVec F S512x128 .f32
  | 0, false => k0_pay119 (T.1) (T.2.1)
  | 0, true => k0_pay119 (T.2.2.1) (T.2.2.2.1)
  | 1, false => k0_pay119 (T.2.2.2.2.1) (T.2.2.2.2.2.1)
  | 1, true => k0_pay119 (T.2.2.2.2.2.2.1) (T.2.2.2.2.2.2.2.1)
  | 2, false => k0_pay119 (T.2.2.2.2.2.2.2.2.1) (T.2.2.2.2.2.2.2.2.2.1)
  | 2, true => k0_pay119 (T.2.2.2.2.2.2.2.2.2.2.1) (T.2.2.2.2.2.2.2.2.2.2.2.1)
  | _, false => k0_pay119 (T.2.2.2.2.2.2.2.2.2.2.2.2.1) (T.2.2.2.2.2.2.2.2.2.2.2.2.2.1)
  | _, true => k0_pay119 (T.2.2.2.2.2.2.2.2.2.2.2.2.2.2.1) (T.2.2.2.2.2.2.2.2.2.2.2.2.2.2.2)

/-- The maps' outputs from the loop's final state, with running maxima. -/
def mapsOnline (T : FVec F S512x1 .f32 × FVec F S512x1 .f32 × FVec F S512x128 .f32 × FVec F S512x1 .f32 × FVec F S512x1 .f32 × FVec F S512x128 .f32 × FVec F S512x1 .f32 × FVec F S512x1 .f32 × FVec F S512x128 .f32 × FVec F S512x1 .f32 × FVec F S512x1 .f32 × FVec F S512x128 .f32 × FVec F S512x1 .f32 × FVec F S512x1 .f32 × FVec F S512x128 .f32 × FVec F S512x1 .f32 × FVec F S512x1 .f32 × FVec F S512x128 .f32 × FVec F S512x1 .f32 × FVec F S512x1 .f32 × FVec F S512x128 .f32 × FVec F S512x1 .f32 × FVec F S512x1 .f32 × FVec F S512x128 .f32) : ℕ → Bool → FVec F S512x128 .f32
  | 0, false => k0_pay315 (T.2.1) (T.2.2.1)
  | 0, true => k0_pay315 (T.2.2.2.2.1) (T.2.2.2.2.2.1)
  | 1, false => k0_pay315 (T.2.2.2.2.2.2.2.1) (T.2.2.2.2.2.2.2.2.1)
  | 1, true => k0_pay315 (T.2.2.2.2.2.2.2.2.2.2.1) (T.2.2.2.2.2.2.2.2.2.2.2.1)
  | 2, false => k0_pay315 (T.2.2.2.2.2.2.2.2.2.2.2.2.2.1) (T.2.2.2.2.2.2.2.2.2.2.2.2.2.2.1)
  | 2, true => k0_pay315 (T.2.2.2.2.2.2.2.2.2.2.2.2.2.2.2.2.1) (T.2.2.2.2.2.2.2.2.2.2.2.2.2.2.2.2.2.1)
  | _, false => k0_pay315 (T.2.2.2.2.2.2.2.2.2.2.2.2.2.2.2.2.2.2.2.1) (T.2.2.2.2.2.2.2.2.2.2.2.2.2.2.2.2.2.2.2.2.1)
  | _, true => k0_pay315 (T.2.2.2.2.2.2.2.2.2.2.2.2.2.2.2.2.2.2.2.2.2.2.1) (T.2.2.2.2.2.2.2.2.2.2.2.2.2.2.2.2.2.2.2.2.2.2.2)

theorem stores_congr {o o' : ℕ → Bool → FVec F S512x128 .f32} {x6 : Vec F S4x64 .f32} {x7 : Vec F S1x128 .f32}
    (h : ∀ (g : Fin 4) (e : Bool), o g.val e = o' g.val e) : stores o x6 x7 = stores o' x6 x7 := by
  have h0 : ∀ e, o 0 e = o' 0 e := h 0
  have h1 : ∀ e, o 1 e = o' 1 e := h 1
  have h2 : ∀ e, o 2 e = o' 2 e := h 2
  have h3 : ∀ e, o 3 e = o' 3 e := h 3
  simp only [stores, headOut, h0, h1, h2, h3]

set_option maxHeartbeats 4000000 in
/-- The stores when the bound is small. -/
theorem stores_fixed (c : Dev nD) (i : grid0.Coords) (arg2 : Memref sig .tc .smem S1 .f32) (harg2 : arg2.IsWhole) (arg3 : Memref sig .tc .vmem S1x512x512 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S4x64 .f32) (harg8 : arg8.IsWhole) (arg9 : Memref sig .tc .vmem S1x128 .f32) (harg9 : arg9.IsWhole) (arg10 : Memref sig .tc .vmem S1x512x512 .bf16) (harg10 : arg10.IsWhole)
    (x0 : Vec F S1 .f32) (x1 : Vec F S1x512x512 .bf16) (x2 : Vec F S1x2048x512 .bf16) (x3 : Vec F S1x2048x512 .bf16) (x4 : Vec F S128x512 .bf16) (x5 : Vec F S128x512 .bf16) (x6 : Vec F S4x64 .f32) (x7 : Vec F S1x128 .f32)
    (hc : small (F := F) x0) :
    (runFixed c i arg2 harg2 arg3 harg3 arg4 harg4 arg5 harg5 arg6 harg6 arg7 harg7 arg8 harg8 arg9 harg9 arg10 harg10 x0 x1 x2 x3 x4 x5 x6 x7 hc).1 = stores (fixOut (word x0) x1 x2 x3 x4 x5 (i 1).val) x6 x7 := by
  have e1 := st_fixed Variants.none c none i arg2 harg2 arg3 harg3 arg4 harg4 arg5 harg5 arg6 harg6 arg7 harg7 arg8 harg8 arg9
      harg9 arg10 harg10 (BitVec.ofNat 32 ↑(i 1)) (runFixed.sl.r c arg2 harg2 x0) (runFixed.sl.r_29 c arg3 harg3
      x1) (runFixed.sl.r_30 c arg3 harg3 x1) (runFixed.sl.r_31 c arg3 harg3 x1) (runFixed.sl.r_32 c arg3 harg3
      x1) (runFixed.sl.r_33 c arg3 harg3 x1) (runFixed.sl.r_34 c arg3 harg3 x1) (runFixed.sl.r_35 c arg3 harg3
      x1) (runFixed.sl.r_36 c arg3 harg3 x1) k0_pay84 (runFixed.sl.r_38 c i arg2 harg2 arg3 harg3 arg4 harg4
      arg6 harg6 x0 x1 x2 x4) (runFixed.sl.r_39 c i arg2 harg2 arg3 harg3 arg4 harg4 arg5 harg5 arg6 harg6 arg7
      harg7 x0 x1 x2 x3 x4 x5) (runFixed.sl.r_40 c i arg2 harg2 arg3 harg3 arg4 harg4 arg6 harg6 x0 x1 x2 x4)
      (runFixed.sl.r_41 c i arg2 harg2 arg3 harg3 arg4 harg4 arg5 harg5 arg6 harg6 arg7 harg7 x0 x1 x2 x3 x4 x5)
      (runFixed.sl.r_44 c i arg2 harg2 arg3 harg3 arg4 harg4 arg6 harg6 x0 x1 x2 x4) (runFixed.sl.r_45 c i arg2
      harg2 arg3 harg3 arg4 harg4 arg5 harg5 arg6 harg6 arg7 harg7 x0 x1 x2 x3 x4 x5) (runFixed.sl.r_46 c i arg2
      harg2 arg3 harg3 arg4 harg4 arg6 harg6 x0 x1 x2 x4) (runFixed.sl.r_47 c i arg2 harg2 arg3 harg3 arg4 harg4
      arg5 harg5 arg6 harg6 arg7 harg7 x0 x1 x2 x3 x4 x5) (runFixed.sl.r_50 c i arg2 harg2 arg3 harg3 arg4 harg4
      arg6 harg6 x0 x1 x2 x4) (runFixed.sl.r_51 c i arg2 harg2 arg3 harg3 arg4 harg4 arg5 harg5 arg6 harg6 arg7
      harg7 x0 x1 x2 x3 x4 x5) (runFixed.sl.r_52 c i arg2 harg2 arg3 harg3 arg4 harg4 arg6 harg6 x0 x1 x2 x4)
      (runFixed.sl.r_53 c i arg2 harg2 arg3 harg3 arg4 harg4 arg5 harg5 arg6 harg6 arg7 harg7 x0 x1 x2 x3 x4 x5)
      (runFixed.sl.r_54 c i arg4 harg4 arg6 harg6 x2 x4) (runFixed.sl.r_55 c i arg5 harg5 x3) (runFixed.sl.r_56
      c arg7 harg7 x5) x2 x3
      (runFixed.sl.r_38 c i arg2 harg2 arg3 harg3 arg4 harg4 arg6 harg6 x0 x1 x2 x4) (runFixed.sl.r_39 c i arg2
      harg2 arg3 harg3 arg4 harg4 arg5 harg5 arg6 harg6 arg7 harg7 x0 x1 x2 x3 x4 x5) (runFixed.sl.r_40 c i arg2
      harg2 arg3 harg3 arg4 harg4 arg6 harg6 x0 x1 x2 x4) (runFixed.sl.r_41 c i arg2 harg2 arg3 harg3 arg4 harg4
      arg5 harg5 arg6 harg6 arg7 harg7 x0 x1 x2 x3 x4 x5) (runFixed.sl.r_44 c i arg2 harg2 arg3 harg3 arg4 harg4
      arg6 harg6 x0 x1 x2 x4) (runFixed.sl.r_45 c i arg2 harg2 arg3 harg3 arg4 harg4 arg5 harg5 arg6 harg6 arg7
      harg7 x0 x1 x2 x3 x4 x5) (runFixed.sl.r_46 c i arg2 harg2 arg3 harg3 arg4 harg4 arg6 harg6 x0 x1 x2 x4)
      (runFixed.sl.r_47 c i arg2 harg2 arg3 harg3 arg4 harg4 arg5 harg5 arg6 harg6 arg7 harg7 x0 x1 x2 x3 x4 x5)
      (runFixed.sl.r_50 c i arg2 harg2 arg3 harg3 arg4 harg4 arg6 harg6 x0 x1 x2 x4) (runFixed.sl.r_51 c i arg2
      harg2 arg3 harg3 arg4 harg4 arg5 harg5 arg6 harg6 arg7 harg7 x0 x1 x2 x3 x4 x5) (runFixed.sl.r_52 c i arg2
      harg2 arg3 harg3 arg4 harg4 arg6 harg6 x0 x1 x2 x4) (runFixed.sl.r_53 c i arg2 harg2 arg3 harg3 arg4 harg4
      arg5 harg5 arg6 harg6 arg7 harg7 x0 x1 x2 x3 x4 x5) (k0_pay114 (runFixed.sl.r c arg2 harg2 x0)
      (runFixed.sl.r_35 c arg3 harg3 x1) k0_pay84 (runFixed.sl.r_54 c i arg4 harg4 arg6 harg6 x2 x4)) (k0_pay115
      (runFixed.sl.r c arg2 harg2 x0) (runFixed.sl.r_35 c arg3 harg3 x1) k0_pay84 (runFixed.sl.r_54 c i arg4
      harg4 arg6 harg6 x2 x4) (runFixed.sl.r_55 c i arg5 harg5 x3) (runFixed.sl.r_56 c arg7 harg7 x5))
      (k0_pay117 (runFixed.sl.r c arg2 harg2 x0) (runFixed.sl.r_36 c arg3 harg3 x1) k0_pay84 (runFixed.sl.r_54 c
      i arg4 harg4 arg6 harg6 x2 x4)) (k0_pay118 (runFixed.sl.r c arg2 harg2 x0) (runFixed.sl.r_36 c arg3 harg3
      x1) k0_pay84 (runFixed.sl.r_54 c i arg4 harg4 arg6 harg6 x2 x4) (runFixed.sl.r_55 c i arg5 harg5 x3)
      (runFixed.sl.r_56 c arg7 harg7 x5))
      (Scf.trips (k0_t1_loop i).lb (k0_t1_loop i).ub (k0_t1_loop i).st) le_rfl
  have e0 : (st_k0_t2 Variants.none c none i arg2 harg2 arg3 harg3 arg4 harg4 arg5 harg5 arg6 harg6 arg7 harg7 arg8
      harg8 arg9 harg9 arg10 harg10 (BitVec.ofNat 32 ↑(i 1)) (runFixed.sl.r c arg2 harg2 x0) (runFixed.sl.r_29 c
      arg3 harg3 x1) (runFixed.sl.r_30 c arg3 harg3 x1) (runFixed.sl.r_31 c arg3 harg3 x1) (runFixed.sl.r_32 c
      arg3 harg3 x1) (runFixed.sl.r_33 c arg3 harg3 x1) (runFixed.sl.r_34 c arg3 harg3 x1) (runFixed.sl.r_35 c
      arg3 harg3 x1) (runFixed.sl.r_36 c arg3 harg3 x1) k0_pay84 (runFixed.sl.r_38 c i arg2 harg2 arg3 harg3
      arg4 harg4 arg6 harg6 x0 x1 x2 x4) (runFixed.sl.r_39 c i arg2 harg2 arg3 harg3 arg4 harg4 arg5 harg5 arg6
      harg6 arg7 harg7 x0 x1 x2 x3 x4 x5) (runFixed.sl.r_40 c i arg2 harg2 arg3 harg3 arg4 harg4 arg6 harg6 x0
      x1 x2 x4) (runFixed.sl.r_41 c i arg2 harg2 arg3 harg3 arg4 harg4 arg5 harg5 arg6 harg6 arg7 harg7 x0 x1 x2
      x3 x4 x5) (runFixed.sl.r_44 c i arg2 harg2 arg3 harg3 arg4 harg4 arg6 harg6 x0 x1 x2 x4) (runFixed.sl.r_45
      c i arg2 harg2 arg3 harg3 arg4 harg4 arg5 harg5 arg6 harg6 arg7 harg7 x0 x1 x2 x3 x4 x5) (runFixed.sl.r_46
      c i arg2 harg2 arg3 harg3 arg4 harg4 arg6 harg6 x0 x1 x2 x4) (runFixed.sl.r_47 c i arg2 harg2 arg3 harg3
      arg4 harg4 arg5 harg5 arg6 harg6 arg7 harg7 x0 x1 x2 x3 x4 x5) (runFixed.sl.r_50 c i arg2 harg2 arg3 harg3
      arg4 harg4 arg6 harg6 x0 x1 x2 x4) (runFixed.sl.r_51 c i arg2 harg2 arg3 harg3 arg4 harg4 arg5 harg5 arg6
      harg6 arg7 harg7 x0 x1 x2 x3 x4 x5) (runFixed.sl.r_52 c i arg2 harg2 arg3 harg3 arg4 harg4 arg6 harg6 x0
      x1 x2 x4) (runFixed.sl.r_53 c i arg2 harg2 arg3 harg3 arg4 harg4 arg5 harg5 arg6 harg6 arg7 harg7 x0 x1 x2
      x3 x4 x5) (runFixed.sl.r_54 c i arg4 harg4 arg6 harg6 x2 x4) (runFixed.sl.r_55 c i arg5 harg5 x3)
      (runFixed.sl.r_56 c arg7 harg7 x5) (runFixed.sl.v260_1 i) (harg4.unread x2) (harg5.unread x3)
      (st_k0_t1 Variants.none c none i arg2 harg2 arg3 harg3 arg4 harg4 arg5 harg5 arg6 harg6 arg7 harg7 arg8
      harg8 arg9 harg9 arg10 harg10 (BitVec.ofNat 32 ↑(i 1)) (runFixed.sl.r c arg2 harg2 x0) (runFixed.sl.r_29 c
      arg3 harg3 x1) (runFixed.sl.r_30 c arg3 harg3 x1) (runFixed.sl.r_31 c arg3 harg3 x1) (runFixed.sl.r_32 c
      arg3 harg3 x1) (runFixed.sl.r_33 c arg3 harg3 x1) (runFixed.sl.r_34 c arg3 harg3 x1) (runFixed.sl.r_35 c
      arg3 harg3 x1) (runFixed.sl.r_36 c arg3 harg3 x1) k0_pay84 (runFixed.sl.r_38 c i arg2 harg2 arg3 harg3
      arg4 harg4 arg6 harg6 x0 x1 x2 x4) (runFixed.sl.r_39 c i arg2 harg2 arg3 harg3 arg4 harg4 arg5 harg5 arg6
      harg6 arg7 harg7 x0 x1 x2 x3 x4 x5) (runFixed.sl.r_40 c i arg2 harg2 arg3 harg3 arg4 harg4 arg6 harg6 x0
      x1 x2 x4) (runFixed.sl.r_41 c i arg2 harg2 arg3 harg3 arg4 harg4 arg5 harg5 arg6 harg6 arg7 harg7 x0 x1 x2
      x3 x4 x5) (runFixed.sl.r_44 c i arg2 harg2 arg3 harg3 arg4 harg4 arg6 harg6 x0 x1 x2 x4) (runFixed.sl.r_45
      c i arg2 harg2 arg3 harg3 arg4 harg4 arg5 harg5 arg6 harg6 arg7 harg7 x0 x1 x2 x3 x4 x5) (runFixed.sl.r_46
      c i arg2 harg2 arg3 harg3 arg4 harg4 arg6 harg6 x0 x1 x2 x4) (runFixed.sl.r_47 c i arg2 harg2 arg3 harg3
      arg4 harg4 arg5 harg5 arg6 harg6 arg7 harg7 x0 x1 x2 x3 x4 x5) (runFixed.sl.r_50 c i arg2 harg2 arg3 harg3
      arg4 harg4 arg6 harg6 x0 x1 x2 x4) (runFixed.sl.r_51 c i arg2 harg2 arg3 harg3 arg4 harg4 arg5 harg5 arg6
      harg6 arg7 harg7 x0 x1 x2 x3 x4 x5) (runFixed.sl.r_52 c i arg2 harg2 arg3 harg3 arg4 harg4 arg6 harg6 x0
      x1 x2 x4) (runFixed.sl.r_53 c i arg2 harg2 arg3 harg3 arg4 harg4 arg5 harg5 arg6 harg6 arg7 harg7 x0 x1 x2
      x3 x4 x5) (runFixed.sl.r_54 c i arg4 harg4 arg6 harg6 x2 x4) (runFixed.sl.r_55 c i arg5 harg5 x3)
      (runFixed.sl.r_56 c arg7 harg7 x5) (harg4.unread x2) (harg5.unread x3) (runFixed.sl.r_38 c i arg2 harg2
      arg3 harg3 arg4 harg4 arg6 harg6 x0 x1 x2 x4, runFixed.sl.r_39 c i arg2 harg2 arg3 harg3 arg4 harg4 arg5
      harg5 arg6 harg6 arg7 harg7 x0 x1 x2 x3 x4 x5, runFixed.sl.r_40 c i arg2 harg2 arg3 harg3 arg4 harg4 arg6
      harg6 x0 x1 x2 x4, runFixed.sl.r_41 c i arg2 harg2 arg3 harg3 arg4 harg4 arg5 harg5 arg6 harg6 arg7 harg7
      x0 x1 x2 x3 x4 x5, runFixed.sl.r_44 c i arg2 harg2 arg3 harg3 arg4 harg4 arg6 harg6 x0 x1 x2 x4,
      runFixed.sl.r_45 c i arg2 harg2 arg3 harg3 arg4 harg4 arg5 harg5 arg6 harg6 arg7 harg7 x0 x1 x2 x3 x4 x5,
      runFixed.sl.r_46 c i arg2 harg2 arg3 harg3 arg4 harg4 arg6 harg6 x0 x1 x2 x4, runFixed.sl.r_47 c i arg2
      harg2 arg3 harg3 arg4 harg4 arg5 harg5 arg6 harg6 arg7 harg7 x0 x1 x2 x3 x4 x5, runFixed.sl.r_50 c i arg2
      harg2 arg3 harg3 arg4 harg4 arg6 harg6 x0 x1 x2 x4, runFixed.sl.r_51 c i arg2 harg2 arg3 harg3 arg4 harg4
      arg5 harg5 arg6 harg6 arg7 harg7 x0 x1 x2 x3 x4 x5, runFixed.sl.r_52 c i arg2 harg2 arg3 harg3 arg4 harg4
      arg6 harg6 x0 x1 x2 x4, runFixed.sl.r_53 c i arg2 harg2 arg3 harg3 arg4 harg4 arg5 harg5 arg6 harg6 arg7
      harg7 x0 x1 x2 x3 x4 x5, k0_pay114 (runFixed.sl.r c arg2 harg2 x0) (runFixed.sl.r_35 c arg3 harg3 x1)
      k0_pay84 (runFixed.sl.r_54 c i arg4 harg4 arg6 harg6 x2 x4), k0_pay115 (runFixed.sl.r c arg2 harg2 x0)
      (runFixed.sl.r_35 c arg3 harg3 x1) k0_pay84 (runFixed.sl.r_54 c i arg4 harg4 arg6 harg6 x2 x4)
      (runFixed.sl.r_55 c i arg5 harg5 x3) (runFixed.sl.r_56 c arg7 harg7 x5), k0_pay117 (runFixed.sl.r c arg2
      harg2 x0) (runFixed.sl.r_36 c arg3 harg3 x1) k0_pay84 (runFixed.sl.r_54 c i arg4 harg4 arg6 harg6 x2 x4),
      k0_pay118 (runFixed.sl.r c arg2 harg2 x0) (runFixed.sl.r_36 c arg3 harg3 x1) k0_pay84 (runFixed.sl.r_54 c
      i arg4 harg4 arg6 harg6 x2 x4) (runFixed.sl.r_55 c i arg5 harg5 x3) (runFixed.sl.r_56 c arg7 harg7 x5))
      (Scf.trips (k0_t1_loop i).lb (k0_t1_loop i).ub (k0_t1_loop i).st))
      (Scf.trips (k0_t2_loop i).lb (k0_t2_loop i).ub (k0_t2_loop i).st))
      = (st_k0_t1 Variants.none c none i arg2 harg2 arg3 harg3 arg4 harg4 arg5 harg5 arg6 harg6 arg7 harg7 arg8
      harg8 arg9 harg9 arg10 harg10 (BitVec.ofNat 32 ↑(i 1)) (runFixed.sl.r c arg2 harg2 x0) (runFixed.sl.r_29 c
      arg3 harg3 x1) (runFixed.sl.r_30 c arg3 harg3 x1) (runFixed.sl.r_31 c arg3 harg3 x1) (runFixed.sl.r_32 c
      arg3 harg3 x1) (runFixed.sl.r_33 c arg3 harg3 x1) (runFixed.sl.r_34 c arg3 harg3 x1) (runFixed.sl.r_35 c
      arg3 harg3 x1) (runFixed.sl.r_36 c arg3 harg3 x1) k0_pay84 (runFixed.sl.r_38 c i arg2 harg2 arg3 harg3
      arg4 harg4 arg6 harg6 x0 x1 x2 x4) (runFixed.sl.r_39 c i arg2 harg2 arg3 harg3 arg4 harg4 arg5 harg5 arg6
      harg6 arg7 harg7 x0 x1 x2 x3 x4 x5) (runFixed.sl.r_40 c i arg2 harg2 arg3 harg3 arg4 harg4 arg6 harg6 x0
      x1 x2 x4) (runFixed.sl.r_41 c i arg2 harg2 arg3 harg3 arg4 harg4 arg5 harg5 arg6 harg6 arg7 harg7 x0 x1 x2
      x3 x4 x5) (runFixed.sl.r_44 c i arg2 harg2 arg3 harg3 arg4 harg4 arg6 harg6 x0 x1 x2 x4) (runFixed.sl.r_45
      c i arg2 harg2 arg3 harg3 arg4 harg4 arg5 harg5 arg6 harg6 arg7 harg7 x0 x1 x2 x3 x4 x5) (runFixed.sl.r_46
      c i arg2 harg2 arg3 harg3 arg4 harg4 arg6 harg6 x0 x1 x2 x4) (runFixed.sl.r_47 c i arg2 harg2 arg3 harg3
      arg4 harg4 arg5 harg5 arg6 harg6 arg7 harg7 x0 x1 x2 x3 x4 x5) (runFixed.sl.r_50 c i arg2 harg2 arg3 harg3
      arg4 harg4 arg6 harg6 x0 x1 x2 x4) (runFixed.sl.r_51 c i arg2 harg2 arg3 harg3 arg4 harg4 arg5 harg5 arg6
      harg6 arg7 harg7 x0 x1 x2 x3 x4 x5) (runFixed.sl.r_52 c i arg2 harg2 arg3 harg3 arg4 harg4 arg6 harg6 x0
      x1 x2 x4) (runFixed.sl.r_53 c i arg2 harg2 arg3 harg3 arg4 harg4 arg5 harg5 arg6 harg6 arg7 harg7 x0 x1 x2
      x3 x4 x5) (runFixed.sl.r_54 c i arg4 harg4 arg6 harg6 x2 x4) (runFixed.sl.r_55 c i arg5 harg5 x3)
      (runFixed.sl.r_56 c arg7 harg7 x5) (harg4.unread x2) (harg5.unread x3) (runFixed.sl.r_38 c i arg2 harg2
      arg3 harg3 arg4 harg4 arg6 harg6 x0 x1 x2 x4, runFixed.sl.r_39 c i arg2 harg2 arg3 harg3 arg4 harg4 arg5
      harg5 arg6 harg6 arg7 harg7 x0 x1 x2 x3 x4 x5, runFixed.sl.r_40 c i arg2 harg2 arg3 harg3 arg4 harg4 arg6
      harg6 x0 x1 x2 x4, runFixed.sl.r_41 c i arg2 harg2 arg3 harg3 arg4 harg4 arg5 harg5 arg6 harg6 arg7 harg7
      x0 x1 x2 x3 x4 x5, runFixed.sl.r_44 c i arg2 harg2 arg3 harg3 arg4 harg4 arg6 harg6 x0 x1 x2 x4,
      runFixed.sl.r_45 c i arg2 harg2 arg3 harg3 arg4 harg4 arg5 harg5 arg6 harg6 arg7 harg7 x0 x1 x2 x3 x4 x5,
      runFixed.sl.r_46 c i arg2 harg2 arg3 harg3 arg4 harg4 arg6 harg6 x0 x1 x2 x4, runFixed.sl.r_47 c i arg2
      harg2 arg3 harg3 arg4 harg4 arg5 harg5 arg6 harg6 arg7 harg7 x0 x1 x2 x3 x4 x5, runFixed.sl.r_50 c i arg2
      harg2 arg3 harg3 arg4 harg4 arg6 harg6 x0 x1 x2 x4, runFixed.sl.r_51 c i arg2 harg2 arg3 harg3 arg4 harg4
      arg5 harg5 arg6 harg6 arg7 harg7 x0 x1 x2 x3 x4 x5, runFixed.sl.r_52 c i arg2 harg2 arg3 harg3 arg4 harg4
      arg6 harg6 x0 x1 x2 x4, runFixed.sl.r_53 c i arg2 harg2 arg3 harg3 arg4 harg4 arg5 harg5 arg6 harg6 arg7
      harg7 x0 x1 x2 x3 x4 x5, k0_pay114 (runFixed.sl.r c arg2 harg2 x0) (runFixed.sl.r_35 c arg3 harg3 x1)
      k0_pay84 (runFixed.sl.r_54 c i arg4 harg4 arg6 harg6 x2 x4), k0_pay115 (runFixed.sl.r c arg2 harg2 x0)
      (runFixed.sl.r_35 c arg3 harg3 x1) k0_pay84 (runFixed.sl.r_54 c i arg4 harg4 arg6 harg6 x2 x4)
      (runFixed.sl.r_55 c i arg5 harg5 x3) (runFixed.sl.r_56 c arg7 harg7 x5), k0_pay117 (runFixed.sl.r c arg2
      harg2 x0) (runFixed.sl.r_36 c arg3 harg3 x1) k0_pay84 (runFixed.sl.r_54 c i arg4 harg4 arg6 harg6 x2 x4),
      k0_pay118 (runFixed.sl.r c arg2 harg2 x0) (runFixed.sl.r_36 c arg3 harg3 x1) k0_pay84 (runFixed.sl.r_54 c
      i arg4 harg4 arg6 harg6 x2 x4) (runFixed.sl.r_55 c i arg5 harg5 x3) (runFixed.sl.r_56 c arg7 harg7 x5))
      (Scf.trips (k0_t1_loop i).lb (k0_t1_loop i).ub (k0_t1_loop i).st)) := by
    rw [show (Scf.trips (k0_t2_loop i).lb (k0_t2_loop i).ub (k0_t2_loop i).st) = 0 from rest_trips i]; rfl
  have e := e0.trans e1
  have hr : runFixed.sl.r c arg2 harg2 x0 = word x0 := readWord arg2 harg2 x0 _
  have h8 : (View.readAt (Elt F) arg8.view (Rect.unit (s := S4x64) ![0, 0] S4x64.size inb_S4x64_S4x64_0_0).toLoadRect (harg8.unread x6)) = x6 := read_all harg8 x6 ![0, 0] (by decide) _
  have h9 : (View.readAt (Elt F) arg9.view (Rect.unit (s := S1x128) ![0, 0] S1x128.size inb_S1x128_S1x128_0_0).toLoadRect (harg9.unread x7)) = x7 := read_all harg9 x7 ![0, 0] (by decide) _
  refine Eq.trans ?_ ((congrArg (fun T => stores (mapsFixed T) (View.readAt (Elt F) arg8.view (Rect.unit (s := S4x64) ![0, 0] S4x64.size inb_S4x64_S4x64_0_0).toLoadRect (harg8.unread x6)) (View.readAt (Elt F) arg9.view (Rect.unit (s := S1x128) ![0, 0] S1x128.size inb_S1x128_S1x128_0_0).toLoadRect (harg9.unread x7))) e).trans ?_)
  · rfl
  · rw [h8, h9, show (Scf.trips (k0_t1_loop i).lb (k0_t1_loop i).ub (k0_t1_loop i).st) = (i 1).val from loop_trips i]
    refine stores_congr fun g e => ?_
    fin_cases g <;> cases e <;> simp only [mapsFixed, fixOut, qhalf, keys0, runFixed.sl.r_29, runFixed.sl.r_30, runFixed.sl.r_31, runFixed.sl.r_32, runFixed.sl.r_33, runFixed.sl.r_34, runFixed.sl.r_35, runFixed.sl.r_36, runFixed.sl.r_37, runFixed.sl.r_38, runFixed.sl.r_39, runFixed.sl.r_40, runFixed.sl.r_41, runFixed.sl.r_42, runFixed.sl.r_43, runFixed.sl.r_44, runFixed.sl.r_45, runFixed.sl.r_46, runFixed.sl.r_47, runFixed.sl.r_48, runFixed.sl.r_49, runFixed.sl.r_50, runFixed.sl.r_51, runFixed.sl.r_52, runFixed.sl.r_53, runFixed.sl.r_54, runFixed.sl.r_55, runFixed.sl.r_56, read_cut,
      read_q _ _ 0 0 rfl, read_q _ _ 128 1 rfl, read_q _ _ 256 2 rfl, read_q _ _ 384 3 rfl,
      read_m _ _ 0 0 rfl, read_m _ _ 128 1 rfl, read_m _ _ 256 2 rfl, read_m _ _ 384 3 rfl,
      off1_eq, off2_eq, off3_eq, off4_eq, hr,  if_true, if_false] <;> rfl

set_option maxHeartbeats 4000000 in
/-- The stores when it is not. -/
theorem stores_online (c : Dev nD) (i : grid0.Coords) (arg2 : Memref sig .tc .smem S1 .f32) (harg2 : arg2.IsWhole) (arg3 : Memref sig .tc .vmem S1x512x512 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S4x64 .f32) (harg8 : arg8.IsWhole) (arg9 : Memref sig .tc .vmem S1x128 .f32) (harg9 : arg9.IsWhole) (arg10 : Memref sig .tc .vmem S1x512x512 .bf16) (harg10 : arg10.IsWhole)
    (x0 : Vec F S1 .f32) (x1 : Vec F S1x512x512 .bf16) (x2 : Vec F S1x2048x512 .bf16) (x3 : Vec F S1x2048x512 .bf16) (x4 : Vec F S128x512 .bf16) (x5 : Vec F S128x512 .bf16) (x6 : Vec F S4x64 .f32) (x7 : Vec F S1x128 .f32)
    (hc : ¬ small (F := F) x0) :
    (runOnline c i arg2 harg2 arg3 harg3 arg4 harg4 arg5 harg5 arg6 harg6 arg7 harg7 arg8 harg8 arg9 harg9 arg10 harg10 x0 x1 x2 x3 x4 x5 x6 x7 hc).1 = stores (onlOut x1 x2 x3 x4 x5 (i 1).val) x6 x7 := by
  have e1 := st_online Variants.none c none i arg2 harg2 arg3 harg3 arg4 harg4 arg5 harg5 arg6 harg6 arg7 harg7 arg8 harg8 arg9
      harg9 arg10 harg10 (BitVec.ofNat 32 ↑(i 1)) (runOnline.sl.r_20 c arg3 harg3 x1) (runOnline.sl.r_21 c arg3
      harg3 x1) (runOnline.sl.r_22 c arg3 harg3 x1) (runOnline.sl.r_23 c arg3 harg3 x1) (runOnline.sl.r_24 c
      arg3 harg3 x1) (runOnline.sl.r_25 c arg3 harg3 x1) (runOnline.sl.r_26 c arg3 harg3 x1) (runOnline.sl.r_27
      c arg3 harg3 x1) k0_pay243 (runOnline.sl.r_29 c i arg3 harg3 arg4 harg4 arg6 harg6 x1 x2 x4)
      (runOnline.sl.r_30 c i arg3 harg3 arg4 harg4 arg6 harg6 x1 x2 x4) (runOnline.sl.r_31 c i arg3 harg3 arg4
      harg4 arg5 harg5 arg6 harg6 arg7 harg7 x1 x2 x3 x4 x5) (runOnline.sl.r_32 c i arg3 harg3 arg4 harg4 arg6
      harg6 x1 x2 x4) (runOnline.sl.r_33 c i arg3 harg3 arg4 harg4 arg6 harg6 x1 x2 x4) (runOnline.sl.r_34 c i
      arg3 harg3 arg4 harg4 arg5 harg5 arg6 harg6 arg7 harg7 x1 x2 x3 x4 x5) (runOnline.sl.r_37 c i arg3 harg3
      arg4 harg4 arg6 harg6 x1 x2 x4) (runOnline.sl.r_38 c i arg3 harg3 arg4 harg4 arg6 harg6 x1 x2 x4)
      (runOnline.sl.r_39 c i arg3 harg3 arg4 harg4 arg5 harg5 arg6 harg6 arg7 harg7 x1 x2 x3 x4 x5)
      (runOnline.sl.r_40 c i arg3 harg3 arg4 harg4 arg6 harg6 x1 x2 x4) (runOnline.sl.r_41 c i arg3 harg3 arg4
      harg4 arg6 harg6 x1 x2 x4) (runOnline.sl.r_42 c i arg3 harg3 arg4 harg4 arg5 harg5 arg6 harg6 arg7 harg7
      x1 x2 x3 x4 x5) (runOnline.sl.r_46 c i arg3 harg3 arg4 harg4 arg6 harg6 x1 x2 x4) (runOnline.sl.r_48 c i
      arg3 harg3 arg4 harg4 arg6 harg6 x1 x2 x4) (runOnline.sl.r_49 c i arg3 harg3 arg4 harg4 arg5 harg5 arg6
      harg6 arg7 harg7 x1 x2 x3 x4 x5) (runOnline.sl.r_50 c i arg3 harg3 arg4 harg4 arg6 harg6 x1 x2 x4)
      (runOnline.sl.r_51 c i arg3 harg3 arg4 harg4 arg6 harg6 x1 x2 x4) (runOnline.sl.r_52 c i arg3 harg3 arg4
      harg4 arg5 harg5 arg6 harg6 arg7 harg7 x1 x2 x3 x4 x5) (runOnline.sl.r_53 c i arg4 harg4 arg6 harg6 x2 x4)
      (runOnline.sl.r_54 c i arg5 harg5 arg7 harg7 x3 x5) (runOnline.sl.r_55 c i arg3 harg3 arg4 harg4 arg6
      harg6 x1 x2 x4) (runOnline.sl.r_56 c i arg3 harg3 arg4 harg4 arg6 harg6 x1 x2 x4) (runOnline.sl.r_57 c i
      arg3 harg3 arg4 harg4 arg5 harg5 arg6 harg6 arg7 harg7 x1 x2 x3 x4 x5) x2 x3
      (runOnline.sl.r_29 c i arg3 harg3 arg4 harg4 arg6 harg6 x1 x2 x4) (runOnline.sl.r_30 c i arg3 harg3 arg4
      harg4 arg6 harg6 x1 x2 x4) (runOnline.sl.r_32 c i arg3 harg3 arg4 harg4 arg6 harg6 x1 x2 x4)
      (runOnline.sl.r_33 c i arg3 harg3 arg4 harg4 arg6 harg6 x1 x2 x4) (runOnline.sl.r_37 c i arg3 harg3 arg4
      harg4 arg6 harg6 x1 x2 x4) (runOnline.sl.r_38 c i arg3 harg3 arg4 harg4 arg6 harg6 x1 x2 x4)
      (runOnline.sl.r_40 c i arg3 harg3 arg4 harg4 arg6 harg6 x1 x2 x4) (runOnline.sl.r_41 c i arg3 harg3 arg4
      harg4 arg6 harg6 x1 x2 x4) (runOnline.sl.r_46 c i arg3 harg3 arg4 harg4 arg6 harg6 x1 x2 x4)
      (runOnline.sl.r_48 c i arg3 harg3 arg4 harg4 arg6 harg6 x1 x2 x4) (runOnline.sl.r_50 c i arg3 harg3 arg4
      harg4 arg6 harg6 x1 x2 x4) (runOnline.sl.r_51 c i arg3 harg3 arg4 harg4 arg6 harg6 x1 x2 x4)
      (runOnline.sl.r_55 c i arg3 harg3 arg4 harg4 arg6 harg6 x1 x2 x4) (runOnline.sl.r_56 c i arg3 harg3 arg4
      harg4 arg6 harg6 x1 x2 x4) (k0_pay289 (runOnline.sl.r_27 c arg3 harg3 x1) k0_pay243 (runOnline.sl.r_53 c i
      arg4 harg4 arg6 harg6 x2 x4)) (k0_pay291 (runOnline.sl.r_27 c arg3 harg3 x1) k0_pay243 (runOnline.sl.r_53
      c i arg4 harg4 arg6 harg6 x2 x4)) (runOnline.sl.r_31 c i arg3 harg3 arg4 harg4 arg5 harg5 arg6 harg6 arg7
      harg7 x1 x2 x3 x4 x5) (runOnline.sl.r_34 c i arg3 harg3 arg4 harg4 arg5 harg5 arg6 harg6 arg7 harg7 x1 x2
      x3 x4 x5) (runOnline.sl.r_39 c i arg3 harg3 arg4 harg4 arg5 harg5 arg6 harg6 arg7 harg7 x1 x2 x3 x4 x5)
      (runOnline.sl.r_42 c i arg3 harg3 arg4 harg4 arg5 harg5 arg6 harg6 arg7 harg7 x1 x2 x3 x4 x5)
      (runOnline.sl.r_49 c i arg3 harg3 arg4 harg4 arg5 harg5 arg6 harg6 arg7 harg7 x1 x2 x3 x4 x5)
      (runOnline.sl.r_52 c i arg3 harg3 arg4 harg4 arg5 harg5 arg6 harg6 arg7 harg7 x1 x2 x3 x4 x5)
      (runOnline.sl.r_57 c i arg3 harg3 arg4 harg4 arg5 harg5 arg6 harg6 arg7 harg7 x1 x2 x3 x4 x5) (k0_pay292
      (runOnline.sl.r_27 c arg3 harg3 x1) k0_pay243 (runOnline.sl.r_53 c i arg4 harg4 arg6 harg6 x2 x4)
      (runOnline.sl.r_54 c i arg5 harg5 arg7 harg7 x3 x5))
      (Scf.trips (k0_t3_loop i).lb (k0_t3_loop i).ub (k0_t3_loop i).st) le_rfl
  have e0 : (st_k0_t4 Variants.none c none i arg2 harg2 arg3 harg3 arg4 harg4 arg5 harg5 arg6 harg6 arg7 harg7 arg8
      harg8 arg9 harg9 arg10 harg10 (BitVec.ofNat 32 ↑(i 1)) (runOnline.sl.r_20 c arg3 harg3 x1)
      (runOnline.sl.r_21 c arg3 harg3 x1) (runOnline.sl.r_22 c arg3 harg3 x1) (runOnline.sl.r_23 c arg3 harg3
      x1) (runOnline.sl.r_24 c arg3 harg3 x1) (runOnline.sl.r_25 c arg3 harg3 x1) (runOnline.sl.r_26 c arg3
      harg3 x1) (runOnline.sl.r_27 c arg3 harg3 x1) k0_pay243 (runOnline.sl.r_29 c i arg3 harg3 arg4 harg4 arg6
      harg6 x1 x2 x4) (runOnline.sl.r_30 c i arg3 harg3 arg4 harg4 arg6 harg6 x1 x2 x4) (runOnline.sl.r_31 c i
      arg3 harg3 arg4 harg4 arg5 harg5 arg6 harg6 arg7 harg7 x1 x2 x3 x4 x5) (runOnline.sl.r_32 c i arg3 harg3
      arg4 harg4 arg6 harg6 x1 x2 x4) (runOnline.sl.r_33 c i arg3 harg3 arg4 harg4 arg6 harg6 x1 x2 x4)
      (runOnline.sl.r_34 c i arg3 harg3 arg4 harg4 arg5 harg5 arg6 harg6 arg7 harg7 x1 x2 x3 x4 x5)
      (runOnline.sl.r_37 c i arg3 harg3 arg4 harg4 arg6 harg6 x1 x2 x4) (runOnline.sl.r_38 c i arg3 harg3 arg4
      harg4 arg6 harg6 x1 x2 x4) (runOnline.sl.r_39 c i arg3 harg3 arg4 harg4 arg5 harg5 arg6 harg6 arg7 harg7
      x1 x2 x3 x4 x5) (runOnline.sl.r_40 c i arg3 harg3 arg4 harg4 arg6 harg6 x1 x2 x4) (runOnline.sl.r_41 c i
      arg3 harg3 arg4 harg4 arg6 harg6 x1 x2 x4) (runOnline.sl.r_42 c i arg3 harg3 arg4 harg4 arg5 harg5 arg6
      harg6 arg7 harg7 x1 x2 x3 x4 x5) (runOnline.sl.r_46 c i arg3 harg3 arg4 harg4 arg6 harg6 x1 x2 x4)
      (runOnline.sl.r_48 c i arg3 harg3 arg4 harg4 arg6 harg6 x1 x2 x4) (runOnline.sl.r_49 c i arg3 harg3 arg4
      harg4 arg5 harg5 arg6 harg6 arg7 harg7 x1 x2 x3 x4 x5) (runOnline.sl.r_50 c i arg3 harg3 arg4 harg4 arg6
      harg6 x1 x2 x4) (runOnline.sl.r_51 c i arg3 harg3 arg4 harg4 arg6 harg6 x1 x2 x4) (runOnline.sl.r_52 c i
      arg3 harg3 arg4 harg4 arg5 harg5 arg6 harg6 arg7 harg7 x1 x2 x3 x4 x5) (runOnline.sl.r_53 c i arg4 harg4
      arg6 harg6 x2 x4) (runOnline.sl.r_54 c i arg5 harg5 arg7 harg7 x3 x5) (runOnline.sl.r_55 c i arg3 harg3
      arg4 harg4 arg6 harg6 x1 x2 x4) (runOnline.sl.r_56 c i arg3 harg3 arg4 harg4 arg6 harg6 x1 x2 x4)
      (runOnline.sl.r_57 c i arg3 harg3 arg4 harg4 arg5 harg5 arg6 harg6 arg7 harg7 x1 x2 x3 x4 x5)
      (runOnline.sl.v220 i) (harg4.unread x2) (harg5.unread x3)
      (st_k0_t3 Variants.none c none i arg2 harg2 arg3 harg3 arg4 harg4 arg5 harg5 arg6 harg6 arg7 harg7 arg8
      harg8 arg9 harg9 arg10 harg10 (BitVec.ofNat 32 ↑(i 1)) (runOnline.sl.r_20 c arg3 harg3 x1)
      (runOnline.sl.r_21 c arg3 harg3 x1) (runOnline.sl.r_22 c arg3 harg3 x1) (runOnline.sl.r_23 c arg3 harg3
      x1) (runOnline.sl.r_24 c arg3 harg3 x1) (runOnline.sl.r_25 c arg3 harg3 x1) (runOnline.sl.r_26 c arg3
      harg3 x1) (runOnline.sl.r_27 c arg3 harg3 x1) k0_pay243 (runOnline.sl.r_29 c i arg3 harg3 arg4 harg4 arg6
      harg6 x1 x2 x4) (runOnline.sl.r_30 c i arg3 harg3 arg4 harg4 arg6 harg6 x1 x2 x4) (runOnline.sl.r_31 c i
      arg3 harg3 arg4 harg4 arg5 harg5 arg6 harg6 arg7 harg7 x1 x2 x3 x4 x5) (runOnline.sl.r_32 c i arg3 harg3
      arg4 harg4 arg6 harg6 x1 x2 x4) (runOnline.sl.r_33 c i arg3 harg3 arg4 harg4 arg6 harg6 x1 x2 x4)
      (runOnline.sl.r_34 c i arg3 harg3 arg4 harg4 arg5 harg5 arg6 harg6 arg7 harg7 x1 x2 x3 x4 x5)
      (runOnline.sl.r_37 c i arg3 harg3 arg4 harg4 arg6 harg6 x1 x2 x4) (runOnline.sl.r_38 c i arg3 harg3 arg4
      harg4 arg6 harg6 x1 x2 x4) (runOnline.sl.r_39 c i arg3 harg3 arg4 harg4 arg5 harg5 arg6 harg6 arg7 harg7
      x1 x2 x3 x4 x5) (runOnline.sl.r_40 c i arg3 harg3 arg4 harg4 arg6 harg6 x1 x2 x4) (runOnline.sl.r_41 c i
      arg3 harg3 arg4 harg4 arg6 harg6 x1 x2 x4) (runOnline.sl.r_42 c i arg3 harg3 arg4 harg4 arg5 harg5 arg6
      harg6 arg7 harg7 x1 x2 x3 x4 x5) (runOnline.sl.r_46 c i arg3 harg3 arg4 harg4 arg6 harg6 x1 x2 x4)
      (runOnline.sl.r_48 c i arg3 harg3 arg4 harg4 arg6 harg6 x1 x2 x4) (runOnline.sl.r_49 c i arg3 harg3 arg4
      harg4 arg5 harg5 arg6 harg6 arg7 harg7 x1 x2 x3 x4 x5) (runOnline.sl.r_50 c i arg3 harg3 arg4 harg4 arg6
      harg6 x1 x2 x4) (runOnline.sl.r_51 c i arg3 harg3 arg4 harg4 arg6 harg6 x1 x2 x4) (runOnline.sl.r_52 c i
      arg3 harg3 arg4 harg4 arg5 harg5 arg6 harg6 arg7 harg7 x1 x2 x3 x4 x5) (runOnline.sl.r_53 c i arg4 harg4
      arg6 harg6 x2 x4) (runOnline.sl.r_54 c i arg5 harg5 arg7 harg7 x3 x5) (runOnline.sl.r_55 c i arg3 harg3
      arg4 harg4 arg6 harg6 x1 x2 x4) (runOnline.sl.r_56 c i arg3 harg3 arg4 harg4 arg6 harg6 x1 x2 x4)
      (runOnline.sl.r_57 c i arg3 harg3 arg4 harg4 arg5 harg5 arg6 harg6 arg7 harg7 x1 x2 x3 x4 x5)
      (harg4.unread x2) (harg5.unread x3) (runOnline.sl.r_29 c i arg3 harg3 arg4 harg4 arg6 harg6 x1 x2 x4,
      runOnline.sl.r_30 c i arg3 harg3 arg4 harg4 arg6 harg6 x1 x2 x4, runOnline.sl.r_31 c i arg3 harg3 arg4
      harg4 arg5 harg5 arg6 harg6 arg7 harg7 x1 x2 x3 x4 x5, runOnline.sl.r_32 c i arg3 harg3 arg4 harg4 arg6
      harg6 x1 x2 x4, runOnline.sl.r_33 c i arg3 harg3 arg4 harg4 arg6 harg6 x1 x2 x4, runOnline.sl.r_34 c i
      arg3 harg3 arg4 harg4 arg5 harg5 arg6 harg6 arg7 harg7 x1 x2 x3 x4 x5, runOnline.sl.r_37 c i arg3 harg3
      arg4 harg4 arg6 harg6 x1 x2 x4, runOnline.sl.r_38 c i arg3 harg3 arg4 harg4 arg6 harg6 x1 x2 x4,
      runOnline.sl.r_39 c i arg3 harg3 arg4 harg4 arg5 harg5 arg6 harg6 arg7 harg7 x1 x2 x3 x4 x5,
      runOnline.sl.r_40 c i arg3 harg3 arg4 harg4 arg6 harg6 x1 x2 x4, runOnline.sl.r_41 c i arg3 harg3 arg4
      harg4 arg6 harg6 x1 x2 x4, runOnline.sl.r_42 c i arg3 harg3 arg4 harg4 arg5 harg5 arg6 harg6 arg7 harg7 x1
      x2 x3 x4 x5, runOnline.sl.r_46 c i arg3 harg3 arg4 harg4 arg6 harg6 x1 x2 x4, runOnline.sl.r_48 c i arg3
      harg3 arg4 harg4 arg6 harg6 x1 x2 x4, runOnline.sl.r_49 c i arg3 harg3 arg4 harg4 arg5 harg5 arg6 harg6
      arg7 harg7 x1 x2 x3 x4 x5, runOnline.sl.r_50 c i arg3 harg3 arg4 harg4 arg6 harg6 x1 x2 x4,
      runOnline.sl.r_51 c i arg3 harg3 arg4 harg4 arg6 harg6 x1 x2 x4, runOnline.sl.r_52 c i arg3 harg3 arg4
      harg4 arg5 harg5 arg6 harg6 arg7 harg7 x1 x2 x3 x4 x5, runOnline.sl.r_55 c i arg3 harg3 arg4 harg4 arg6
      harg6 x1 x2 x4, runOnline.sl.r_56 c i arg3 harg3 arg4 harg4 arg6 harg6 x1 x2 x4, runOnline.sl.r_57 c i
      arg3 harg3 arg4 harg4 arg5 harg5 arg6 harg6 arg7 harg7 x1 x2 x3 x4 x5, k0_pay289 (runOnline.sl.r_27 c arg3
      harg3 x1) k0_pay243 (runOnline.sl.r_53 c i arg4 harg4 arg6 harg6 x2 x4), k0_pay291 (runOnline.sl.r_27 c
      arg3 harg3 x1) k0_pay243 (runOnline.sl.r_53 c i arg4 harg4 arg6 harg6 x2 x4), k0_pay292 (runOnline.sl.r_27
      c arg3 harg3 x1) k0_pay243 (runOnline.sl.r_53 c i arg4 harg4 arg6 harg6 x2 x4) (runOnline.sl.r_54 c i arg5
      harg5 arg7 harg7 x3 x5)) (Scf.trips (k0_t3_loop i).lb (k0_t3_loop i).ub (k0_t3_loop i).st))
      (Scf.trips (k0_t4_loop i).lb (k0_t4_loop i).ub (k0_t4_loop i).st))
      = (st_k0_t3 Variants.none c none i arg2 harg2 arg3 harg3 arg4 harg4 arg5 harg5 arg6 harg6 arg7 harg7 arg8
      harg8 arg9 harg9 arg10 harg10 (BitVec.ofNat 32 ↑(i 1)) (runOnline.sl.r_20 c arg3 harg3 x1)
      (runOnline.sl.r_21 c arg3 harg3 x1) (runOnline.sl.r_22 c arg3 harg3 x1) (runOnline.sl.r_23 c arg3 harg3
      x1) (runOnline.sl.r_24 c arg3 harg3 x1) (runOnline.sl.r_25 c arg3 harg3 x1) (runOnline.sl.r_26 c arg3
      harg3 x1) (runOnline.sl.r_27 c arg3 harg3 x1) k0_pay243 (runOnline.sl.r_29 c i arg3 harg3 arg4 harg4 arg6
      harg6 x1 x2 x4) (runOnline.sl.r_30 c i arg3 harg3 arg4 harg4 arg6 harg6 x1 x2 x4) (runOnline.sl.r_31 c i
      arg3 harg3 arg4 harg4 arg5 harg5 arg6 harg6 arg7 harg7 x1 x2 x3 x4 x5) (runOnline.sl.r_32 c i arg3 harg3
      arg4 harg4 arg6 harg6 x1 x2 x4) (runOnline.sl.r_33 c i arg3 harg3 arg4 harg4 arg6 harg6 x1 x2 x4)
      (runOnline.sl.r_34 c i arg3 harg3 arg4 harg4 arg5 harg5 arg6 harg6 arg7 harg7 x1 x2 x3 x4 x5)
      (runOnline.sl.r_37 c i arg3 harg3 arg4 harg4 arg6 harg6 x1 x2 x4) (runOnline.sl.r_38 c i arg3 harg3 arg4
      harg4 arg6 harg6 x1 x2 x4) (runOnline.sl.r_39 c i arg3 harg3 arg4 harg4 arg5 harg5 arg6 harg6 arg7 harg7
      x1 x2 x3 x4 x5) (runOnline.sl.r_40 c i arg3 harg3 arg4 harg4 arg6 harg6 x1 x2 x4) (runOnline.sl.r_41 c i
      arg3 harg3 arg4 harg4 arg6 harg6 x1 x2 x4) (runOnline.sl.r_42 c i arg3 harg3 arg4 harg4 arg5 harg5 arg6
      harg6 arg7 harg7 x1 x2 x3 x4 x5) (runOnline.sl.r_46 c i arg3 harg3 arg4 harg4 arg6 harg6 x1 x2 x4)
      (runOnline.sl.r_48 c i arg3 harg3 arg4 harg4 arg6 harg6 x1 x2 x4) (runOnline.sl.r_49 c i arg3 harg3 arg4
      harg4 arg5 harg5 arg6 harg6 arg7 harg7 x1 x2 x3 x4 x5) (runOnline.sl.r_50 c i arg3 harg3 arg4 harg4 arg6
      harg6 x1 x2 x4) (runOnline.sl.r_51 c i arg3 harg3 arg4 harg4 arg6 harg6 x1 x2 x4) (runOnline.sl.r_52 c i
      arg3 harg3 arg4 harg4 arg5 harg5 arg6 harg6 arg7 harg7 x1 x2 x3 x4 x5) (runOnline.sl.r_53 c i arg4 harg4
      arg6 harg6 x2 x4) (runOnline.sl.r_54 c i arg5 harg5 arg7 harg7 x3 x5) (runOnline.sl.r_55 c i arg3 harg3
      arg4 harg4 arg6 harg6 x1 x2 x4) (runOnline.sl.r_56 c i arg3 harg3 arg4 harg4 arg6 harg6 x1 x2 x4)
      (runOnline.sl.r_57 c i arg3 harg3 arg4 harg4 arg5 harg5 arg6 harg6 arg7 harg7 x1 x2 x3 x4 x5)
      (harg4.unread x2) (harg5.unread x3) (runOnline.sl.r_29 c i arg3 harg3 arg4 harg4 arg6 harg6 x1 x2 x4,
      runOnline.sl.r_30 c i arg3 harg3 arg4 harg4 arg6 harg6 x1 x2 x4, runOnline.sl.r_31 c i arg3 harg3 arg4
      harg4 arg5 harg5 arg6 harg6 arg7 harg7 x1 x2 x3 x4 x5, runOnline.sl.r_32 c i arg3 harg3 arg4 harg4 arg6
      harg6 x1 x2 x4, runOnline.sl.r_33 c i arg3 harg3 arg4 harg4 arg6 harg6 x1 x2 x4, runOnline.sl.r_34 c i
      arg3 harg3 arg4 harg4 arg5 harg5 arg6 harg6 arg7 harg7 x1 x2 x3 x4 x5, runOnline.sl.r_37 c i arg3 harg3
      arg4 harg4 arg6 harg6 x1 x2 x4, runOnline.sl.r_38 c i arg3 harg3 arg4 harg4 arg6 harg6 x1 x2 x4,
      runOnline.sl.r_39 c i arg3 harg3 arg4 harg4 arg5 harg5 arg6 harg6 arg7 harg7 x1 x2 x3 x4 x5,
      runOnline.sl.r_40 c i arg3 harg3 arg4 harg4 arg6 harg6 x1 x2 x4, runOnline.sl.r_41 c i arg3 harg3 arg4
      harg4 arg6 harg6 x1 x2 x4, runOnline.sl.r_42 c i arg3 harg3 arg4 harg4 arg5 harg5 arg6 harg6 arg7 harg7 x1
      x2 x3 x4 x5, runOnline.sl.r_46 c i arg3 harg3 arg4 harg4 arg6 harg6 x1 x2 x4, runOnline.sl.r_48 c i arg3
      harg3 arg4 harg4 arg6 harg6 x1 x2 x4, runOnline.sl.r_49 c i arg3 harg3 arg4 harg4 arg5 harg5 arg6 harg6
      arg7 harg7 x1 x2 x3 x4 x5, runOnline.sl.r_50 c i arg3 harg3 arg4 harg4 arg6 harg6 x1 x2 x4,
      runOnline.sl.r_51 c i arg3 harg3 arg4 harg4 arg6 harg6 x1 x2 x4, runOnline.sl.r_52 c i arg3 harg3 arg4
      harg4 arg5 harg5 arg6 harg6 arg7 harg7 x1 x2 x3 x4 x5, runOnline.sl.r_55 c i arg3 harg3 arg4 harg4 arg6
      harg6 x1 x2 x4, runOnline.sl.r_56 c i arg3 harg3 arg4 harg4 arg6 harg6 x1 x2 x4, runOnline.sl.r_57 c i
      arg3 harg3 arg4 harg4 arg5 harg5 arg6 harg6 arg7 harg7 x1 x2 x3 x4 x5, k0_pay289 (runOnline.sl.r_27 c arg3
      harg3 x1) k0_pay243 (runOnline.sl.r_53 c i arg4 harg4 arg6 harg6 x2 x4), k0_pay291 (runOnline.sl.r_27 c
      arg3 harg3 x1) k0_pay243 (runOnline.sl.r_53 c i arg4 harg4 arg6 harg6 x2 x4), k0_pay292 (runOnline.sl.r_27
      c arg3 harg3 x1) k0_pay243 (runOnline.sl.r_53 c i arg4 harg4 arg6 harg6 x2 x4) (runOnline.sl.r_54 c i arg5
      harg5 arg7 harg7 x3 x5)) (Scf.trips (k0_t3_loop i).lb (k0_t3_loop i).ub (k0_t3_loop i).st)) := by
    rw [show (Scf.trips (k0_t4_loop i).lb (k0_t4_loop i).ub (k0_t4_loop i).st) = 0 from rest_trips' i]; rfl
  have e := e0.trans e1
  have h8 : (View.readAt (Elt F) arg8.view (Rect.unit (s := S4x64) ![0, 0] S4x64.size inb_S4x64_S4x64_0_0).toLoadRect (harg8.unread x6)) = x6 := read_all harg8 x6 ![0, 0] (by decide) _
  have h9 : (View.readAt (Elt F) arg9.view (Rect.unit (s := S1x128) ![0, 0] S1x128.size inb_S1x128_S1x128_0_0).toLoadRect (harg9.unread x7)) = x7 := read_all harg9 x7 ![0, 0] (by decide) _
  refine Eq.trans ?_ ((congrArg (fun T => stores (mapsOnline T) (View.readAt (Elt F) arg8.view (Rect.unit (s := S4x64) ![0, 0] S4x64.size inb_S4x64_S4x64_0_0).toLoadRect (harg8.unread x6)) (View.readAt (Elt F) arg9.view (Rect.unit (s := S1x128) ![0, 0] S1x128.size inb_S1x128_S1x128_0_0).toLoadRect (harg9.unread x7))) e).trans ?_)
  · rfl
  · rw [h8, h9, show (Scf.trips (k0_t3_loop i).lb (k0_t3_loop i).ub (k0_t3_loop i).st) = (i 1).val from loop_trips' i]
    refine stores_congr fun g e => ?_
    fin_cases g <;> cases e <;> simp only [mapsOnline, onlOut, qhalf, keys0, runOnline.sl.r_20, runOnline.sl.r_21, runOnline.sl.r_22, runOnline.sl.r_23, runOnline.sl.r_24, runOnline.sl.r_25, runOnline.sl.r_26, runOnline.sl.r_27, runOnline.sl.r_28, runOnline.sl.r_29, runOnline.sl.r_30, runOnline.sl.r_31, runOnline.sl.r_32, runOnline.sl.r_33, runOnline.sl.r_34, runOnline.sl.r_35, runOnline.sl.r_36, runOnline.sl.r_37, runOnline.sl.r_38, runOnline.sl.r_39, runOnline.sl.r_40, runOnline.sl.r_41, runOnline.sl.r_42, runOnline.sl.r_43, runOnline.sl.r_44, runOnline.sl.r_45, runOnline.sl.r_46, runOnline.sl.r_47, runOnline.sl.r_48, runOnline.sl.r_49, runOnline.sl.r_50, runOnline.sl.r_51, runOnline.sl.r_52, runOnline.sl.r_53, runOnline.sl.r_54, runOnline.sl.r_55, runOnline.sl.r_56, runOnline.sl.r_57, read_cut,
      read_q _ _ 0 0 rfl, read_q _ _ 128 1 rfl, read_q _ _ 256 2 rfl, read_q _ _ 384 3 rfl,
      read_m _ _ 0 0 rfl, read_m _ _ 128 1 rfl, read_m _ _ 256 2 rfl, read_m _ _ 384 3 rfl,
      off13_eq, off14_eq, off15_eq, off16_eq,  if_true, if_false] <;> rfl

end Cert.KernelIdeal.Att
end
-- ==== Proof.KernelIdeal.BlockOut.lean ====
/- The attention body over the reals, one query row at a time: what either branch stores is the formula of the
   differential attention. -/
module

public import proofs.«01_k».proof.Proof.KernelIdeal.Read
public import proofs.«01_k».proof.Proof.KernelIdeal.Pieces

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Att

/-- The last key of row `r`'s chunk within its block, as the body's words compute it. -/
theorem limit_word : ∀ r : Fin 512,
    IntOp.muli (IntOp.addi
            (Scalar.select
              (IntOp.andi
                (IntOp.cmpi CmpIPredicate.ne
                  (IntOp.subi (BitVec.setWidth 32 (IntOp.cmpi CmpIPredicate.sgt (BitVec.ofNat 32 ↑r) 0#32))
                    (BitVec.setWidth 32 (IntOp.cmpi CmpIPredicate.slt (BitVec.ofNat 32 ↑r) 0#32)))
                  (Scalar.subi (Scalar.extui (Scalar.cmpi CmpIPredicate.sgt 64#32 0#32))
                    (Scalar.extui (Scalar.cmpi CmpIPredicate.slt 64#32 0#32))))
                (IntOp.cmpi CmpIPredicate.ne (IntOp.remsi ArithUnit.vector (BitVec.ofNat 32 ↑r) 64#32) 0#32))
              (IntOp.subi (IntOp.divsi ArithUnit.vector (BitVec.ofNat 32 ↑r) 64#32) 1#32)
              (IntOp.divsi ArithUnit.vector (BitVec.ofNat 32 ↑r) 64#32))
            1#32) 64#32 = BitVec.ofNat 32 ((r.val / 64 + 1) * 64) := by
  decide +kernel

theorem mask_at (r : Fin 512) (c : Fin 640) :
    k0_pay84 (ix2 r c) = 1#1 ↔ (c.val < 512 ∧ c.val / 64 ≤ r.val / 64) ∨ (512 ≤ c.val ∧ c.val < 528) := by
  pointwise [k0_pay84]
  rw [limit_word r]
  rw [WordCmp.cmpi_slt_ofNat (w := 32) (a := c.val) (b := 512) (by omega) (by omega)]
  by_cases h : c.val < 512
  · rw [show Scalar.select (BitVec.ofBool (decide (c.val < 512))) (BitVec.ofNat 32 ((r.val / 64 + 1) * 64)) 528#32
        = BitVec.ofNat 32 ((r.val / 64 + 1) * 64) by simp [Scalar.select, h],
      WordCmp.cmpi_slt_ofNat_eq_one_iff (w := 32) (by omega) (by omega)]
    omega
  · rw [show Scalar.select (BitVec.ofBool (decide (c.val < 512))) (BitVec.ofNat 32 ((r.val / 64 + 1) * 64)) 528#32
        = BitVec.ofNat 32 528 by simp [Scalar.select, h],
      WordCmp.cmpi_slt_ofNat_eq_one_iff (w := 32) (by omega) (by omega)]
    omega

/-- The queries' lanes of map `e` of head `g`. -/
def Qr (x1 : Vec Ideal S1x512x512 .bf16) (g : ℕ) (e : Bool) (r : Fin 512) (d : Fin 64) : EReal :=
  x1 (ix3 0 r (Fin.ofNat 512 (128 * g + (64 * e.toNat + d.val))))
/-- The same lanes of a row of the shared keys. -/
def Km (x4 : Vec Ideal S128x512 .bf16) (g : ℕ) (e : Bool) (j : ℕ) (d : Fin 64) : EReal :=
  x4 (ix2 (Fin.ofNat 128 j) (Fin.ofNat 512 (128 * g + (64 * e.toNat + d.val))))
/-- The same lanes of a row of the keys. -/
def Kr (x2 : Vec Ideal S1x2048x512 .bf16) (g : ℕ) (e : Bool) (j : ℕ) (d : Fin 64) : EReal :=
  x2 (ix3 0 (Fin.ofNat 2048 j) (Fin.ofNat 512 (128 * g + (64 * e.toNat + d.val))))
/-- Lane `d` of the head of the shared values. -/
def Vm (x5 : Vec Ideal S128x512 .bf16) (g : ℕ) (d : Fin 128) (j : ℕ) : EReal :=
  x5 (ix2 (Fin.ofNat 128 j) (Fin.ofNat 512 (128 * g + d.val)))
/-- Lane `d` of the head of the values. -/
def Vr (x3 : Vec Ideal S1x2048x512 .bf16) (g : ℕ) (d : Fin 128) (j : ℕ) : EReal :=
  x3 (ix3 0 (Fin.ofNat 2048 j) (Fin.ofNat 512 (128 * g + d.val)))

theorem qhalf_at (x1 : Vec Ideal S1x512x512 .bf16) (g : ℕ) (e : Bool) (r : Fin 512) (k : Fin 128) :
    qhalf x1 g e (ix2 r k) = if k.val / 64 = e.toNat then x1 (ix3 0 r (Fin.ofNat 512 (128 * g + k.val))) else 0 := by
  have hk : (IntOp.cmpi .slt (BitVec.ofNat 32 k.val) 64#32) = BitVec.ofBool (decide (k.val < 64)) :=
    WordCmp.cmpi_slt_ofNat (w := 32) (a := k.val) (b := 64) (by omega) (by omega)
  have hq : qblk x1 g (ix3 0 r k) = x1 (ix3 0 r (Fin.ofNat 512 (128 * g + k.val))) := rfl
  cases e
  · rw [qhalf, if_neg (by decide)]
    pointwise [k0_pay70, k0_pay69, k0_pay68]
    rw [hk, hq, Scalar.select]
    by_cases h : k.val < 64
    · rw [if_pos (by simp [h]), if_pos (by simp; omega)]
    · rw [if_neg (by simp [h]), if_neg (by simp; omega)]
  · rw [qhalf, if_pos rfl]
    pointwise [k0_pay71, k0_pay69, k0_pay68]
    rw [hk, hq, Scalar.select]
    by_cases h : k.val < 64
    · rw [if_pos (by simp [h]), if_neg (by simp; omega)]
    · rw [if_neg (by simp [h]), if_pos (by simp; omega)]

theorem dot_half (x1 : Vec Ideal S1x512x512 .bf16) (g : ℕ) (e : Bool) (r : Fin 512) (k : Fin 128 → EReal) :
    dot (qhalf x1 g e) k r = ∑ d : Fin 64, Qr x1 g e r d * k ⟨64 * e.toNat + d, by cases e <;> simp <;> omega⟩ := by
  have hs : ∀ f : Fin 128 → EReal, ∑ x, f x = ∑ d : Fin 64, (f ⟨d, by omega⟩ + f ⟨64 + d, by omega⟩) := by
    intro f
    rw [Finset.sum_add_distrib]
    exact Fin.sum_univ_add (a := 64) (b := 64) f
  rw [dot, hs]
  refine Finset.sum_congr rfl fun d _ => ?_
  simp only [qhalf_at, Qr]
  cases e
  · rw [if_pos (show d.val / 64 = false.toNat by simp <;> omega), if_neg (show ¬ (64 + d.val) / 64 = false.toNat by simp <;> omega), zero_mul, add_zero]
    simp
  · rw [if_neg (show ¬ d.val / 64 = true.toNat by simp <;> omega), if_pos (show (64 + d.val) / 64 = true.toNat by simp <;> omega), zero_mul, zero_add]
    simp

theorem pay85_at (x : Vec Ideal S1x512x128 .bf16) (y : Vec Ideal S128x128 .bf16) (c : Fin 640) (k : Fin 128) :
    k0_pay85 x y (ix2 c k) = if h : c.val < 512 then x (ix3 0 ⟨c, h⟩ k) else y (ix2 ⟨c - 512, by omega⟩ k) := by
  pointwise [k0_pay85]

theorem pay86_at (x : Vec Ideal S1x512x128 .bf16) (y : Vec Ideal S128x128 .bf16) (c : Fin 640) (k : Fin 128) :
    k0_pay86 x y (ix2 c k) = if h : c.val < 512 then x (ix3 0 ⟨c, h⟩ k) else y (ix2 ⟨c - 512, by omega⟩ k) := by
  pointwise [k0_pay86]

theorem blk_at (x : Vec Ideal S1x2048x512 .bf16) (m g : ℕ) (c : Fin 512) (k : Fin 128) :
    blk x m g (ix3 0 c k) = x (ix3 0 (Fin.ofNat 2048 (512 * m + c)) (Fin.ofNat 512 (128 * g + k))) := rfl

theorem mblk_at (x : Vec Ideal S128x512 .bf16) (g : ℕ) (c : Fin 128) (k : Fin 128) :
    mblk x g (ix2 c k) = x (ix2 c (Fin.ofNat 512 (128 * g + k))) := rfl

section
variable (x1 : Vec Ideal S1x512x512 .bf16) (x2 x3 : Vec Ideal S1x2048x512 .bf16) (x4 x5 : Vec Ideal S128x512 .bf16)
  (n g : ℕ) (hn : n < 4) (e : Bool) (r : Fin 512)

include hn in
theorem first_eq (c : Fin 640) :
    firstScore (qhalf x1 g e) k0_pay84 (keys0 x2 x4 n g) r c
      = if c.val < 512 then score (Qr x1 g e r) (Km x4 g e) (Kr x2 g e) (512 * n + r) (16 + 512 * n + c)
        else if c.val < 528 then score (Qr x1 g e r) (Km x4 g e) (Kr x2 g e) (512 * n + r) (c - 512) else ⊥ := by
  rw [firstScore, dot_half]
  simp only [mask_at, score]
  by_cases h : c.val < 512
  · have hv : vis (512 * n + r) (16 + 512 * n + c) ↔ c.val / 64 ≤ r.val / 64 := by
      unfold vis; rw [if_neg (by omega)]; omega
    rw [if_pos h]
    simp only [hv]
    refine if_congr (by omega) (Finset.sum_congr rfl fun d _ => congrArg _ ?_) rfl
    rw [keys0, pay85_at, dif_pos h, row, if_neg (by omega), show 16 + 512 * n + c.val - 16 = 512 * n + c.val by omega]
    rfl
  · rw [if_neg h]
    by_cases h2 : c.val < 528
    · have hv : vis (512 * n + r) (c - 512) := by
        unfold vis; rw [if_pos (by omega)]; omega
      rw [if_pos h2, if_pos hv, if_pos (by omega)]
      refine Finset.sum_congr rfl fun d _ => congrArg _ ?_
      rw [keys0, pay85_at, dif_neg h, row, if_pos (by omega), mblk_at, Km,
        show (⟨c.val - 512, by omega⟩ : Fin 128) = Fin.ofNat 128 (c.val - 512) from
          Fin.ext (show c.val - 512 = (c.val - 512) % 128 by omega)]
    · rw [if_neg h2, if_neg (by omega)]

theorem block_eq (m : ℕ) (hm : m < n) (c : Fin 512) :
    blockScore (qhalf x1 g e) (blk x2 m g) r c
      = score (Qr x1 g e r) (Km x4 g e) (Kr x2 g e) (512 * n + r) (16 + 512 * m + c) := by
  have hv : vis (512 * n + r) (16 + 512 * m + c) := by
    unfold vis; rw [if_neg (by omega)]; omega
  rw [blockScore, dot_half, score, if_pos hv]
  refine Finset.sum_congr rfl fun d _ => congrArg _ ?_
  rw [row, if_neg (by omega), show 16 + 512 * m + c.val - 16 = 512 * m + c.val by omega]
  rfl

/-- The numbers the scores are made of are real. -/
structure Fine : Prop where
  hq : ∀ d, Real' (Qr x1 g e r d)
  hm : ∀ j d, j < 16 → Real' (Km x4 g e j d)
  hk : ∀ j d, Real' (Kr x2 g e j d)

include hn in
/-- The quotient of the two accumulated sums is the softmax average. -/
theorem quotient_eq (h : Fine x1 x2 x4 g e r) (b : ℝ) (d : Fin 128) :
    Ideal.div
        (bsum n b (firstScore (qhalf x1 g e) k0_pay84 (keys0 x2 x4 n g) r) (fun c => k0_pay86 (blk x3 n g) (mblk x5 g) (ix2 c d))
          (fun m => blockScore (qhalf x1 g e) (blk x2 m g) r) (fun m c => blk x3 m g (ix3 0 c d)))
        (bsum n b (firstScore (qhalf x1 g e) k0_pay84 (keys0 x2 x4 n g) r) (fun _ => 1)
          (fun m => blockScore (qhalf x1 g e) (blk x2 m g) r) (fun _ _ => 1))
      = mapOut (Qr x1 g e r) (Km x4 g e) (Kr x2 g e) (Vm x5 g d) (Vr x3 g d) (512 * n + r) := by
  have hS : ∀ j, 16 + 512 * (n + 1) ≤ j → j < 2064 →
      score (Qr x1 g e r) (Km x4 g e) (Kr x2 g e) (512 * n + r) j = ⊥ := by
    intro j h1 h2
    rw [score, if_neg]
    unfold vis; rw [if_neg (by omega)]; omega
  rw [bsum_regroup n hn b _ (row (Vm x5 g d) (Vr x3 g d)) _ _ _ _ (first_eq x1 x2 x4 n g hn e r) ?_
      (fun m hm => block_eq x1 x2 x4 n g e r m hm) ?_ hS,
    bsum_regroup n hn b _ (fun _ => 1) _ _ _ _ (first_eq x1 x2 x4 n g hn e r) (fun c _ => by simp)
      (fun m hm => block_eq x1 x2 x4 n g e r m hm) (fun _ _ _ => rfl) hS]
  · rw [mapOut, att_shift 0 b (fun j => score_top h.hq h.hm h.hk _ _)
      ⟨⟨0, by decide⟩, score_bot h.hq h.hm h.hk _ _ (by simp [vis])⟩, att]
    simp only [wsum, mul_one]
  · intro c hc
    rw [pay86_at]
    by_cases h : c.val < 512
    · rw [dif_pos h, if_pos h, row, if_neg (by omega), show 16 + 512 * n + c.val - 16 = 512 * n + c.val by omega]
      rfl
    · rw [dif_neg h, if_neg h, row, if_pos (by omega), mblk_at, Vm]
      rw [show (⟨c.val - 512, by omega⟩ : Fin 128) = Fin.ofNat 128 (c.val - 512) from
        Fin.ext (show c.val - 512 = (c.val - 512) % 128 by omega)]
  · intro m hm c
    rw [row, if_neg (by omega), show 16 + 512 * m + c.val - 16 = 512 * m + c.val by omega]
    rfl

include hn in
theorem fixOut_at (h : Fine x1 x2 x4 g e r) (b : ℝ) (d : Fin 128) :
    fixOut (F := Ideal) (b : EReal) x1 x2 x3 x4 x5 n g e (ix2 r d)
      = mapOut (Qr x1 g e r) (Km x4 g e) (Kr x2 g e) (Vm x5 g d) (Vr x3 g d) (512 * n + r) := by
  rw [← quotient_eq x1 x2 x3 x4 x5 n g hn e r h b d, fixOut]
  pointwise [k0_pay119]
  rw [fixPart_sum, fixAcc_at]

include hn in
theorem onlOut_at (h : Fine x1 x2 x4 g e r) (d : Fin 128) :
    onlOut (F := Ideal) x1 x2 x3 x4 x5 n g e (ix2 r d)
      = mapOut (Qr x1 g e r) (Km x4 g e) (Kr x2 g e) (Vm x5 g d) (Vr x3 g d) (512 * n + r) := by
  have hT : ∀ c, firstScore (qhalf x1 g e) k0_pay84 (keys0 x2 x4 n g) r c ≠ ⊤ := by
    intro c
    rw [first_eq x1 x2 x4 n g hn e r c]
    split
    · exact score_top h.hq h.hm h.hk _ _
    · split
      · exact score_top h.hq h.hm h.hk _ _
      · exact bot_ne_top
  have hB : ∃ c, firstScore (qhalf x1 g e) k0_pay84 (keys0 x2 x4 n g) r c ≠ ⊥ := by
    refine ⟨⟨512, by decide⟩, ?_⟩
    rw [first_eq x1 x2 x4 n g hn e r, if_neg (by simp), if_pos (by simp)]
    exact score_bot h.hq h.hm h.hk _ _ (by simp [vis])
  obtain ⟨b, -, hl, ha⟩ := onl_at (qhalf x1 g e) k0_pay84 (keys0 x2 x4 n g) (fun k => blk x2 k g) (fun k => blk x3 k g) r
    hB hT n (fun m hm c => by
      rw [block_eq x1 x2 x4 n g e r m hm c]
      refine ⟨score_bot h.hq h.hm h.hk _ _ ?_, score_top h.hq h.hm h.hk _ _⟩
      unfold vis; rw [if_neg (by omega)]; omega) (blk x3 n g) (mblk x5 g)
  rw [← quotient_eq x1 x2 x3 x4 x5 n g hn e r h b d, onlOut]
  pointwise [k0_pay315]
  rw [hl, ha]

/-- The head's output of the block, from its maps' outputs row by row. -/
theorem headOut_at (o : ℕ → Bool → FVec Ideal S512x128 .f32) (x6 : Vec Ideal S4x64 .f32) (x7 : Vec Ideal S1x128 .f32) (d : Fin 128) :
    headOut o x6 x7 g (ix3 0 r d)
      = normed (fun e d => o g e (ix2 r d)) (lamOf fun a d => x6 (ix2 a d)) (fun d => x7 (ix2 0 d)) d := by
  have hl : k0_pay127 x6 (ix2 0 0) = lamOf fun a d => x6 (ix2 a d) := by
    pointwise [k0_pay127]
    rfl
  rw [headOut]
  pointwise [k0_pay131]
  rw [hl]; rfl
end

end Cert.KernelIdeal.Att
end
-- ==== Proof.KernelIdeal.Output.lean ====
/- The output of the attention's launch over the reals: every block it writes, and so the whole array, is the formula of
   the differential attention of its arguments. -/
module

public import proofs.«01_k».proof.Proof.KernelIdeal.BlockOut
public import proofs.«01_k».proof.Proof.KernelIdeal.Frame
public import Idealize.ShloMosaic.Lib.Pipeline.ValueKit.Geometry

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Att

/-- The output block of heads whose maps' outputs are `o`. -/
def heads (o : ℕ → Bool → FVec Ideal S512x128 .f32) (x6 : Vec Ideal S4x64 .f32) (x7 : Vec Ideal S1x128 .f32)
    (y : S1x512x512.Idx) : EReal :=
  headOut o x6 x7 ((y 2).val / 128) (ix3 0 (y 1) (Fin.ofNat 128 ((y 2).val % 128)))

theorem head_piece (o : ℕ → Bool → FVec Ideal S512x128 .f32) (x6 : Vec Ideal S4x64 .f32) (x7 : Vec Ideal S1x128 .f32)
    (g k : ℕ) (hk : k = 128 * g) (inb : ∀ a, (![0, 0, k] : Fin 3 → ℕ) a + S1x512x128.size a ≤ S1x512x512.size a)
    (x : S1x512x128.Idx) :
    headOut o x6 x7 g x = heads o x6 x7 ((Rect.unit (s := S1x512x512) ![0, 0, k] S1x512x128.size inb).emb x) := by
  have h2 : (x 2).val < 128 := (x 2).isLt
  have h0 : (x 0).val < 1 := (x 0).isLt
  have e2 : (((Rect.unit (s := S1x512x512) ![0, 0, k] S1x512x128.size inb).emb x 2 : Fin _) : ℕ) = k + (x 2).val :=
    Idealize.ShloMosaic.ValueKit.rect_emb_unit_val (s := S1x512x512) ![0, 0, k] S1x512x128.size inb x 2
  have e1 : (((Rect.unit (s := S1x512x512) ![0, 0, k] S1x512x128.size inb).emb x 1 : Fin _) : ℕ) = 0 + (x 1).val :=
    Idealize.ShloMosaic.ValueKit.rect_emb_unit_val (s := S1x512x512) ![0, 0, k] S1x512x128.size inb x 1
  unfold heads
  rw [e2, show (k + (x 2).val) / 128 = g by omega, show (k + (x 2).val) % 128 = (x 2).val by omega]
  refine congrArg (headOut o x6 x7 g) (funext fun a => Fin.ext ?_)
  match a with
  | ⟨0, _⟩ => exact Nat.lt_one_iff.1 h0
  | ⟨1, _⟩ => exact ((e1.trans (Nat.zero_add _)).symm :)
  | ⟨2, _⟩ => exact (Nat.mod_eq_of_lt h2).symm

/-- The four stores read back. -/
theorem stores_read (o : ℕ → Bool → FVec Ideal S512x128 .f32) (x6 : Vec Ideal S4x64 .f32) (x7 : Vec Ideal S1x128 .f32)
    (y : S1x512x512.Idx) (hc : ∃ p ∈ stores (F := Ideal) o x6 x7, y ∈ p.1.set) :
    VO.read (Elt Ideal) (VO.writes (Elt Ideal) VO.junk (stores (F := Ideal) o x6 x7)) y = heads o x6 x7 y := by
  refine View.read_writes_apply_of_pieces _ _ (heads o x6 x7) _ (fun p hp x => ?_) y hc
  simp only [stores, List.mem_cons, List.not_mem_nil, or_false] at hp
  rcases hp with rfl | rfl | rfl | rfl
  · exact head_piece o x6 x7 3 384 rfl inb_S1x512x512_S1x512x128_0_0_384 x
  · exact head_piece o x6 x7 2 256 rfl inb_S1x512x512_S1x512x128_0_0_256 x
  · exact head_piece o x6 x7 1 128 rfl inb_S1x512x512_S1x512x128_0_0_128 x
  · exact head_piece o x6 x7 0 0 rfl inb_S1x512x512_S1x512x128_0_0_0 x

/-- A number at most a real is not `⊤`. -/
theorem small_real (x0 : Vec Ideal S1 .f32) (hb : word (F := Ideal) x0 ≠ ⊥) (hc : small (F := Ideal) x0) :
    ∃ b : ℝ, word (F := Ideal) x0 = (b : EReal) := by
  refine Real'.lift ⟨hb, fun h => ?_⟩
  unfold small at hc
  rw [h] at hc
  revert hc
  simp [Ideal.cmp, Ideal.ofBits, Ideal.ieee]
  rw [decide_eq_false (by rw [← EReal.coe_mul]; exact EReal.coe_ne_top _)]
  decide

/-- What the body leaves in the output block, at row `r` and lane `l`. -/
theorem outBlk_at (c : Dev nD) (i : grid0.Coords) (arg2 : Memref sig .tc .smem S1 .f32) (harg2 : arg2.IsWhole) (arg3 : Memref sig .tc .vmem S1x512x512 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S4x64 .f32) (harg8 : arg8.IsWhole) (arg9 : Memref sig .tc .vmem S1x128 .f32) (harg9 : arg9.IsWhole) (arg10 : Memref sig .tc .vmem S1x512x512 .bf16) (harg10 : arg10.IsWhole)
    (x0 : Vec Ideal S1 .f32) (x1 : Vec Ideal S1x512x512 .bf16) (x2 : Vec Ideal S1x2048x512 .bf16) (x3 : Vec Ideal S1x2048x512 .bf16) (x4 : Vec Ideal S128x512 .bf16) (x5 : Vec Ideal S128x512 .bf16) (x6 : Vec Ideal S4x64 .f32) (x7 : Vec Ideal S1x128 .f32)
    (r : Fin 512) (l : Fin 512) (hb : word (F := Ideal) x0 ≠ ⊥)
    (hf : ∀ e, Fine x1 x2 x4 (l.val / 128) e r) :
    outBlk (F := Ideal) c i arg2 harg2 arg3 harg3 arg4 harg4 arg5 harg5 arg6 harg6 arg7 harg7 arg8 harg8 arg9 harg9 arg10 harg10 x0 x1 x2 x3 x4 x5 x6 x7 (ix3 0 r l)
      = normed (fun e d => mapOut (Qr x1 (l.val / 128) e r) (Km x4 (l.val / 128) e) (Kr x2 (l.val / 128) e)
            (Vm x5 (l.val / 128) d) (Vr x3 (l.val / 128) d) (512 * (i 1).val + r.val))
          (lamOf fun a d => x6 (ix2 a d)) (fun d => x7 (ix2 0 d)) (Fin.ofNat 128 (l.val % 128)) := by
  have hH : ∀ o : ℕ → Bool → FVec Ideal S512x128 .f32, heads o x6 x7 (ix3 0 r l)
      = normed (fun e d => o (l.val / 128) e (ix2 r d)) (lamOf fun a d => x6 (ix2 a d)) (fun d => x7 (ix2 0 d))
          (Fin.ofNat 128 (l.val % 128)) := fun o => headOut_at (l.val / 128) r o x6 x7 (Fin.ofNat 128 (l.val % 128))
  unfold outBlk
  by_cases hc : small (F := Ideal) x0
  · have hs := stores_fixed (F := Ideal) c i arg2 harg2 arg3 harg3 arg4 harg4 arg5 harg5 arg6 harg6 arg7 harg7 arg8 harg8 arg9 harg9 arg10 harg10 x0 x1 x2 x3 x4 x5 x6 x7 hc
    have hv := cover_fixed (F := Ideal) c i arg2 harg2 arg3 harg3 arg4 harg4 arg5 harg5 arg6 harg6 arg7 harg7 arg8 harg8 arg9 harg9 arg10 harg10 x0 x1 x2 x3 x4 x5 x6 x7 hc (ix3 0 r l)
    rw [dif_pos hc, hs]
    rw [hs] at hv
    rw [stores_read _ _ _ _ hv, hH]
    obtain ⟨b, hb'⟩ := small_real x0 hb hc
    congr 1
    funext e d
    rw [hb']
    exact fixOut_at x1 x2 x3 x4 x5 (i 1).val (l.val / 128) (block_lt i) e r (hf e) b d
  · have hs := stores_online (F := Ideal) c i arg2 harg2 arg3 harg3 arg4 harg4 arg5 harg5 arg6 harg6 arg7 harg7 arg8 harg8 arg9 harg9 arg10 harg10 x0 x1 x2 x3 x4 x5 x6 x7 hc
    have hv := cover_online (F := Ideal) c i arg2 harg2 arg3 harg3 arg4 harg4 arg5 harg5 arg6 harg6 arg7 harg7 arg8 harg8 arg9 harg9 arg10 harg10 x0 x1 x2 x3 x4 x5 x6 x7 hc (ix3 0 r l)
    rw [dif_neg hc, hs]
    rw [hs] at hv
    rw [stores_read _ _ _ _ hv, hH]
    congr 1
    funext e d
    exact onlOut_at x1 x2 x3 x4 x5 (i 1).val (l.val / 128) (block_lt i) e r (hf e) d

end Cert.KernelIdeal.Att
end
-- ==== Proof.KernelIdeal.Array.lean ====
/- The attention's launch over the reals: the array it leaves is the formula of the differential attention of its
   arguments, which are unchanged. -/
module

public import proofs.«01_k».proof.Proof.KernelIdeal.Output

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Att

variable (m : (ℓ : Loc nD τ sig) → Buf (Elt Ideal) ℓ) (ρ : Dev nD → PrngReg)

/-- The arguments by their coordinates. -/
abbrev Q (c : Dev nD) (b : Fin 16) (t : Fin 2048) (l : Fin 512) : EReal := m ((c : Thread nD τ).loc main_arg1) (ix3 b t l)
abbrev K (c : Dev nD) (b : Fin 16) (t : Fin 2048) (l : Fin 512) : EReal := m ((c : Thread nD τ).loc main_arg2) (ix3 b t l)
abbrev V' (c : Dev nD) (b : Fin 16) (t : Fin 2048) (l : Fin 512) : EReal := m ((c : Thread nD τ).loc main_arg3) (ix3 b t l)
abbrev KM (c : Dev nD) (j : Fin 128) (l : Fin 512) : EReal := m ((c : Thread nD τ).loc main_arg4) (ix2 j l)
abbrev VM (c : Dev nD) (j : Fin 128) (l : Fin 512) : EReal := m ((c : Thread nD τ).loc main_arg5) (ix2 j l)
abbrev L (c : Dev nD) (a : Fin 4) (d : Fin 64) : EReal := m ((c : Thread nD τ).loc main_arg6) (ix2 a d)
abbrev G (c : Dev nD) (d : Fin 128) : EReal := m ((c : Thread nD τ).loc main_arg7) (ix2 0 d)
/-- The score bound. -/
abbrev bound (c : Dev nD) : EReal := m ((c : Thread nD τ).loc main_arg0) (ix1 0)

/-- What the claim asks of the arguments: the bound above `⊥`, the queries and every key a query sees real. -/
structure Sound (c : Dev nD) : Prop where
  hb : bound m c ≠ ⊥
  hq : ∀ b t l, Real' (Q m c b t l)
  hk : ∀ b t l, Real' (K m c b t l)
  hm : ∀ (j : Fin 128) l, j.val < 16 → Real' (KM m c j l)

/-- The array the launch leaves. -/
def result (c : Dev nD) : Buf (Elt Ideal) ((c : Thread nD τ).loc main_v0) := fun i : S16x2048x512.Idx =>
  outSpec (Q m c) (K m c) (V' m c) (KM m c) (VM m c) (L m c) (G m c) (i 0) (i 1) (i 2)

variable (c : Dev nD) (t : Fin cfg0.N)

/-- The batch and the tile of queries of a point. -/
def batch : Fin 16 := ⟨(grid0.coords t 0).val, (grid0.coords t 0).isLt⟩
def tile : Fin 4 := ⟨(grid0.coords t 1).val, (grid0.coords t 1).isLt⟩
/-- Row `r` of the tile of queries. -/
def row512 (r : Fin 512) : Fin 2048 := ⟨512 * (tile t).val + r.val, by have := (tile t).isLt; omega⟩

theorem base_eq (x s y : ℕ) {z : ℕ} (h : x < 2 ^ 32) (hz : z = x * s + y) : (BitVec.ofNat 32 x).toNat * s + 1 * y = z := by
  rw [BitVec.toNat_ofNat, Nat.mod_eq_of_lt h, one_mul, hz]

theorem whole_eq (s y : ℕ) : (0#32 : BitVec 32).toNat * s + 1 * y = y := by simp

theorem blk_1 (r : Fin 512) (l : Fin 512) :
    iblk m c 1 t (ix3 0 r l) = m ((c : Thread nD τ).loc main_arg1) (ix3 (batch t) (row512 t r) l) := by
  refine congrArg (m ((c : Thread nD τ).loc main_arg1)) (funext fun a => Fin.ext ?_)
  match a with
  | ⟨0, _⟩ => exact base_eq _ 1 0 (by have := (batch t).isLt; exact Nat.lt_trans this (by decide)) (by show (batch t).val = _; exact (by simp : (batch t).val = (batch t).val * 1 + 0))
  | ⟨1, _⟩ => exact base_eq _ 512 r.val (by have := (tile t).isLt; exact Nat.lt_trans this (by decide)) (show 512 * (tile t).val + r.val = (tile t).val * 512 + r.val by omega)
  | ⟨2, _⟩ => exact whole_eq 512 l.val

theorem blk_2 (r : Fin 2048) (l : Fin 512) :
    iblk m c 2 t (ix3 0 r l) = m ((c : Thread nD τ).loc main_arg2) (ix3 (batch t) r l) := by
  refine congrArg (m ((c : Thread nD τ).loc main_arg2)) (funext fun a => Fin.ext ?_)
  match a with
  | ⟨0, _⟩ => exact base_eq _ 1 0 (by have := (batch t).isLt; exact Nat.lt_trans this (by decide)) (by show (batch t).val = _; exact (by simp : (batch t).val = (batch t).val * 1 + 0))
  | ⟨1, _⟩ => exact whole_eq 2048 r.val
  | ⟨2, _⟩ => exact whole_eq 512 l.val

theorem blk_3 (r : Fin 2048) (l : Fin 512) :
    iblk m c 3 t (ix3 0 r l) = m ((c : Thread nD τ).loc main_arg3) (ix3 (batch t) r l) := by
  refine congrArg (m ((c : Thread nD τ).loc main_arg3)) (funext fun a => Fin.ext ?_)
  match a with
  | ⟨0, _⟩ => exact base_eq _ 1 0 (by have := (batch t).isLt; exact Nat.lt_trans this (by decide)) (by show (batch t).val = _; exact (by simp : (batch t).val = (batch t).val * 1 + 0))
  | ⟨1, _⟩ => exact whole_eq 2048 r.val
  | ⟨2, _⟩ => exact whole_eq 512 l.val

theorem blk_4 (j : Fin 128) (l : Fin 512) : iblk m c 4 t (ix2 j l) = m ((c : Thread nD τ).loc main_arg4) (ix2 j l) := by
  refine congrArg (m ((c : Thread nD τ).loc main_arg4)) (funext fun a => Fin.ext ?_)
  match a with
  | ⟨0, _⟩ => exact whole_eq 128 j.val
  | ⟨1, _⟩ => exact whole_eq 512 l.val

theorem blk_5 (j : Fin 128) (l : Fin 512) : iblk m c 5 t (ix2 j l) = m ((c : Thread nD τ).loc main_arg5) (ix2 j l) := by
  refine congrArg (m ((c : Thread nD τ).loc main_arg5)) (funext fun a => Fin.ext ?_)
  match a with
  | ⟨0, _⟩ => exact whole_eq 128 j.val
  | ⟨1, _⟩ => exact whole_eq 512 l.val

theorem blk_6 (j : Fin 4) (l : Fin 64) : iblk m c 6 t (ix2 j l) = m ((c : Thread nD τ).loc main_arg6) (ix2 j l) := by
  refine congrArg (m ((c : Thread nD τ).loc main_arg6)) (funext fun a => Fin.ext ?_)
  match a with
  | ⟨0, _⟩ => exact whole_eq 4 j.val
  | ⟨1, _⟩ => exact whole_eq 64 l.val

theorem blk_7 (j : Fin 1) (l : Fin 128) : iblk m c 7 t (ix2 j l) = m ((c : Thread nD τ).loc main_arg7) (ix2 j l) := by
  refine congrArg (m ((c : Thread nD τ).loc main_arg7)) (funext fun a => Fin.ext ?_)
  match a with
  | ⟨0, _⟩ => exact whole_eq 1 j.val
  | ⟨1, _⟩ => exact whole_eq 128 l.val

theorem blk_0 : word (F := Ideal) (iblk m c 0 t) = bound m c := by
  refine congrArg (m ((c : Thread nD τ).loc main_arg0)) (funext fun a => Fin.ext ?_)
  match a with
  | ⟨0, _⟩ => exact whole_eq 1 0

/-- Row `r`'s queries and keys are real. -/
theorem fine (h : Sound m c) (g : ℕ) (e : Bool) (r : Fin 512) :
    Fine (iblk m c 1 t) (iblk m c 2 t) (iblk m c 4 t) g e r where
  hq d := by unfold Qr; rw [blk_1]; exact h.hq _ _ _
  hm j d hj := by
    unfold Km; rw [blk_4]
    exact h.hm _ _ (by show j % 128 < 16; omega)
  hk j d := by unfold Kr; rw [blk_2]; exact h.hk _ _ _

/-- What point `t` leaves in the output block. -/
theorem outAt_at (h : Sound m c) (r l : Fin 512) :
    outAt (F := Ideal) m c t (ix3 0 r l)
      = outSpec (Q m c) (K m c) (V' m c) (KM m c) (VM m c) (L m c) (G m c) (batch t) (row512 t r) l := by
  unfold outAt
  rw [outBlk_at _ _ _ _ _ _ _ _ _ _ _ _ _ _ _ _ _ _ _ _ _ _ _ _ _ _ _ _ r l (by rw [blk_0]; exact h.hb) (fun e => fine m c t h _ e r)]
  unfold outSpec mapAt
  have e1 : ∀ g e, Qr (iblk m c 1 t) g e r = fun d => Q m c (batch t) (row512 t r) (Fin.ofNat 512 (128 * g + (64 * e.toNat + d.val))) :=
    fun g e => funext fun d => blk_1 m c t r _
  have e2 : ∀ g e, Kr (iblk m c 2 t) g e = fun j d => K m c (batch t) (Fin.ofNat 2048 j) (Fin.ofNat 512 (128 * g + (64 * e.toNat + d.val))) :=
    fun g e => funext fun j => funext fun d => blk_2 m c t _ _
  have e3 : ∀ g d, Vr (iblk m c 3 t) g d = fun j => V' m c (batch t) (Fin.ofNat 2048 j) (Fin.ofNat 512 (128 * g + d.val)) :=
    fun g d => funext fun j => blk_3 m c t _ _
  have e4 : ∀ g e, Km (iblk m c 4 t) g e = fun j d => KM m c (Fin.ofNat 128 j) (Fin.ofNat 512 (128 * g + (64 * e.toNat + d.val))) :=
    fun g e => funext fun j => funext fun d => blk_4 m c t _ _
  have e5 : ∀ g d, Vm (iblk m c 5 t) g d = fun j => VM m c (Fin.ofNat 128 j) (Fin.ofNat 512 (128 * g + d.val)) :=
    fun g d => funext fun j => blk_5 m c t _ _
  have e6 : (fun a d => iblk m c 6 t (ix2 a d) : Fin 4 → Fin 64 → EReal) = L m c := funext fun a => funext fun d => blk_6 m c t a d
  have e7 : (fun d => iblk m c 7 t (ix2 0 d) : Fin 128 → EReal) = G m c := funext fun d => blk_7 m c t 0 d
  simp only [e1, e2, e3, e4, e5]
  rw [e6, e7]
  rfl

/-- What point `t` writes back is its block of the result. -/
theorem flushed_eq (h : Sound m c) :
    (dats (F := Ideal) m 0 c).flushed 8 t = ((cfg0.win 8).blk t).view.read (Elt Ideal) (result m c) := by
  show (cfg0.win 8).cut (grid0.coords t) ((dats m 0 c).after 8 t) = _
  rw [after_8]
  funext y
  have hy : (y : S1x512x512.Idx) = ix3 0 (y 1) (y 2) := by
    funext a
    refine Fin.ext ?_
    match a with
    | ⟨0, _⟩ => exact Nat.lt_one_iff.1 (y 0).isLt
    | ⟨1, _⟩ => rfl
    | ⟨2, _⟩ => rfl
  have h1 : outAt (F := Ideal) m c t y = outSpec (Q m c) (K m c) (V' m c) (KM m c) (VM m c) (L m c) (G m c) (batch t) (row512 t (y 1)) (y 2) :=
    (congrArg (outAt (F := Ideal) m c t) hy).trans (outAt_at m c t h (y 1) (y 2))
  refine h1.trans ?_
  have hz : (y 0).val = 0 := Nat.lt_one_iff.1 (y 0).isLt
  show _ = result m c (((cfg0.win 8).blk t).view.emb y)
  unfold result
  congr 1
  · refine Fin.ext ?_
    exact (base_eq _ 1 (y 0).val (Nat.lt_trans (batch t).isLt (by decide)) (by show (batch t).val = (batch t).val * 1 + (y 0).val; omega)).symm
  · refine Fin.ext ?_
    exact (base_eq _ 512 (y 1).val (Nat.lt_trans (tile t).isLt (by decide)) (by show 512 * (tile t).val + (y 1).val = (tile t).val * 512 + (y 1).val; omega)).symm
  · refine Fin.ext ?_
    exact (whole_eq 512 (y 2).val).symm

theorem coords_val : ∀ t : Fin grid0.N, (grid0.coords t 0).val = t.val / 4 ∧ (grid0.coords t 1).val = t.val % 4 := by
  decide +kernel

/-- The blocks cover the array. -/
theorem cover (i : S16x2048x512.Idx) :
    ∃ t : Fin cfg0.N, (cfg0.win 8).flush t = true ∧ i ∈ ((cfg0.win 8).blk t).view.set := by
  have h0 : (i 0).val < 16 := (i 0).isLt
  have h1 : (i 1).val < 2048 := (i 1).isLt
  have h2 : (i 2).val < 512 := (i 2).isLt
  have hN : cfg0.N = 64 := N_0
  have ht : 4 * (i 0).val + (i 1).val / 512 < cfg0.N := by omega
  refine ⟨⟨_, ht⟩, flush0_8 _, ?_⟩
  obtain ⟨c0, c1⟩ := coords_val ⟨4 * (i 0).val + (i 1).val / 512, ht⟩
  rw [show (4 * (i 0).val + (i 1).val / 512) / 4 = (i 0).val by omega] at c0
  rw [show (4 * (i 0).val + (i 1).val / 512) % 4 = (i 1).val / 512 by omega] at c1
  show i ∈ ((View.whole main_v0).slice (win0_8.rect ⟨_, ht⟩)).set
  rw [View.set_slice_whole, Rect.mem_set_unit]
  have key : ∀ x s y : ℕ, x < 2 ^ 32 → x * s ≤ y → y < x * s + s →
      (BitVec.ofNat 32 x).toNat * s ≤ y ∧ y < (BitVec.ofNat 32 x).toNat * s + s := by
    intro x s y hx a b
    rw [BitVec.toNat_ofNat, Nat.mod_eq_of_lt hx]; exact ⟨a, b⟩
  intro a
  match a with
  | ⟨0, _⟩ => exact key _ 1 (i 0).val (by rw [c0]; omega) (by rw [c0]; omega) (by rw [c0]; omega)
  | ⟨1, _⟩ => exact key _ 512 (i 1).val (by rw [c1]; omega) (by rw [c1]; omega) (by rw [c1]; omega)
  | ⟨2, _⟩ => exact key 0 512 (i 2).val (by decide) (by omega) (by omega)

/-- The launch leaves the formula's array. -/
theorem final (h : Sound m c) : (dats (F := Ideal) m 0 c).arrAt 8 cfg0.N = result m c :=
  (dats m 0 c).arrAt_eq_of_cover 8 (result m c) (fun t _ => flushed_eq m c t h) cover

end Cert.KernelIdeal.Att
end
-- ==== Proof.KernelIdeal.Run.lean ====
/- The launch of the kernel over the reals, and the array it leaves. -/
module

public import proofs.«01_k».proof.Proof.KernelIdeal.Array

@[expose] public section

noncomputable section

namespace Cert.KernelIdeal.Att

open Cert.KernelIdeal Cert.KernelIdeal.Gen
open Idealize.ShloMosaic Idealize.ShloMosaic.TcCoe Idealize.SL.Sem

theorem run (m : (ℓ : Loc nD τ sig) → Buf (Elt Ideal) ℓ) (ρ : Dev nD → PrngReg) (h : ∀ c, Sound m c) :
    θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ hr c => ⟨((hr c).1 8).trans (final m c (h c)),
    ((hr c).1 0).trans ((dats m 0 c).arrAt_in 0 rfl _),
    ((hr c).1 1).trans ((dats m 0 c).arrAt_in 1 rfl _),
    ((hr c).1 2).trans ((dats m 0 c).arrAt_in 2 rfl _),
    ((hr c).1 3).trans ((dats m 0 c).arrAt_in 3 rfl _),
    ((hr c).1 4).trans ((dats m 0 c).arrAt_in 4 rfl _),
    ((hr c).1 5).trans ((dats m 0 c).arrAt_in 5 rfl _),
    ((hr c).1 6).trans ((dats m 0 c).arrAt_in 6 rfl _),
    ((hr c).1 7).trans ((dats m 0 c).arrAt_in 7 rfl _)⟩)
    (run_main m ρ)

end Cert.KernelIdeal.Att
end
-- ==== Proof.ReferenceIdeal.Chunk.lean ====
/- The reference's vector of chunk numbers, read at a key. -/
module

public import proofs.«01_k».proof.Proof.Gen.ReferenceIdeal.Run
public import Idealize.ShloMosaic.Lib.Pointwise

@[expose] public section

set_option maxRecDepth 16384

noncomputable section

namespace Cert.ReferenceIdeal.Att

open Cert.ReferenceIdeal Cert.ReferenceIdeal.Gen Cert.ReferenceIdeal.Value
open Idealize.ShloMosaic Idealize.ShloMosaic.TcCoe Idealize.ShloMosaic.Tactic

/-- The chunk of key `j`: the shared keys first, then the chunks of 64. -/
def chunk (j : ℕ) : ℕ := if j < 16 then 0 else 1 + (j - 16) / 64

variable (V0 : Valuation τ sig (Elt Ideal))

theorem chunk_at (j : Fin 2064) : res_main_v26 V0 (ix1 j) = BitVec.ofNat 32 (chunk j) := by
  pointwise [res_main_v26, res_main_v18, res_main_v22, res_main_call0_v0, res_main_call0_v2]
  revert j; decide +kernel

theorem chunk_lt (j : Fin 2064) : chunk j < 2 ^ (32 - 1) := by unfold chunk; split <;> omega

end Cert.ReferenceIdeal.Att
end
-- ==== Proof.ReferenceIdeal.Scores.lean ====
/- The reference over the reals, read at an index: the scores. -/
module

public import proofs.«01_k».proof.Proof.ReferenceIdeal.Chunk
public import proofs.«01_k».proof.Proof.Spec
public import Idealize.ShloMosaic.Lib.Pointwise
public import Idealize.ShloMosaic.Lib.WordCmp

@[expose] public section

set_option maxRecDepth 16384

noncomputable section

namespace Cert.ReferenceIdeal.Att

open Cert.ReferenceIdeal Cert.ReferenceIdeal.Gen Cert.ReferenceIdeal.Value
open Idealize.ShloMosaic Idealize.ShloMosaic.TcCoe Idealize.ShloMosaic.Tactic
open Cert.Att

variable (V0 : Valuation τ sig (Elt Ideal))

/-- The arguments by their coordinates. -/
abbrev Q (b : Fin 16) (t : Fin 2048) (l : Fin 512) : EReal := V0 (Proc.devRef .tc main_arg1) (ix3 b t l)
abbrev K (b : Fin 16) (t : Fin 2048) (l : Fin 512) : EReal := V0 (Proc.devRef .tc main_arg2) (ix3 b t l)
abbrev V (b : Fin 16) (t : Fin 2048) (l : Fin 512) : EReal := V0 (Proc.devRef .tc main_arg3) (ix3 b t l)
abbrev KM (j : Fin 128) (l : Fin 512) : EReal := V0 (Proc.devRef .tc main_arg4) (ix2 j l)
abbrev VM (j : Fin 128) (l : Fin 512) : EReal := V0 (Proc.devRef .tc main_arg5) (ix2 j l)
abbrev L (a : Fin 4) (d : Fin 64) : EReal := V0 (Proc.devRef .tc main_arg6) (ix2 a d)
abbrev G (d : Fin 128) : EReal := V0 (Proc.devRef .tc main_arg7) (ix2 0 d)

set_option maxHeartbeats 4000000 in
/-- The masked scores. -/
theorem v33_read (b : Fin 16) (e : Fin 2) (g : Fin 4) (t : Fin 2048) (j : Fin 2064) :
    @Eq EReal (res_main_v33 V0 (ix5 b e g t j))
      (Scalar.select (IntOp.cmpi CmpIPredicate.sle (res_main_v26 V0 (ix1 j)) (res_main_v26 V0 (ix1 ⟨16 + t.val, by omega⟩)))
        ((∑ x : Fin 64, Q V0 b t ⟨g.val * 128 + e.val * 64 + x.val, by omega⟩
            * (if h : j.val < 16 then KM V0 ⟨j.val, by omega⟩ ⟨g.val * 128 + e.val * 64 + x.val, by omega⟩
               else K V0 b ⟨j.val - 16, by omega⟩ ⟨g.val * 128 + e.val * 64 + x.val, by omega⟩))
          * Ideal.log (Ideal.ofBits .f32 0x40000000#32))
        (Ideal.ofBits .f32 0xFF800000#32)) := by
  pointwise [res_main_v33]
  rfl

end Cert.ReferenceIdeal.Att
end
-- ==== Proof.ReferenceIdeal.Averages.lean ====
/- The reference over the reals, read at an index: the averages. -/
module

public import proofs.«01_k».proof.Proof.Gen.ReferenceIdeal.Run
public import proofs.«01_k».proof.Proof.Spec
public import Idealize.ShloMosaic.Lib.Pointwise
public import Idealize.ShloMosaic.Lib.WordCmp

@[expose] public section

set_option maxRecDepth 16384

noncomputable section

namespace Cert.ReferenceIdeal.Att

open Cert.ReferenceIdeal Cert.ReferenceIdeal.Gen Cert.ReferenceIdeal.Value
open Idealize.ShloMosaic Idealize.ShloMosaic.TcCoe Idealize.ShloMosaic.Tactic
open Cert.Att

/-- The averages from the weights and the values. -/
def averages (p : FVec Ideal S16x2x4x2048x2064 .f32) (vm : FVec Ideal S128x512 .bf16) (v : FVec Ideal S16x2048x512 .bf16) :
    FVec Ideal S16x2x4x2048x128 .f32 :=
  transpose S16x2x4x2048x128 [0, 3, 1, 4, 2] (Host.dotGeneral dot_S16x2064x4x128_S16x2x4x2048x2064_S16x4x128x2x2048_1_4_3_13_02_02 none (extf .f32 (shapeCast _ (concatenate S16x2064x512 1 [⟨S16x16x512, (broadcastInDim S16x16x512 ![0, 1, 2] bcast_S1x16x512_S16x16x512_0_1_2 (broadcastInDim S1x16x512 ![1, 2] bcast_S16x512_S1x16x512_1_2 (extractStridedSlice S16x512 ![0, 0] vm slices_S128x512_S16x512_0_0)))⟩, ⟨S16x2048x512, v⟩] concatenates_S16x16x512_S16x2048x512_S16x2064x512_d1) shapeCasts_S16x2064x512_S16x2064x4x128) bitsLt_bf16_f32) (Host.divf p (broadcastInDim S16x2x4x2048x2064 ![0, 1, 2, 3, 4] bcast_S16x2x4x2048x1_S16x2x4x2048x2064_0_1_2_3_4 (broadcastInDim S16x2x4x2048x1 ![0, 1, 2, 3] bcast_S16x2x4x2048_S16x2x4x2048x1_0_1_2_3 (Host.reduceAdd p (constant S_ .f32 0x00000000#32) reducesTo_S16x2x4x2048x2064_S16x2x4x2048_d4 h_S_))))) transposes_S16x4x128x2x2048_S16x2x4x2048x128_0_3_1_4_2

set_option maxHeartbeats 4000000 in
theorem averages_at (p : FVec Ideal S16x2x4x2048x2064 .f32) (vm : FVec Ideal S128x512 .bf16) (v : FVec Ideal S16x2048x512 .bf16)
    (b : Fin 16) (e : Fin 2) (g : Fin 4) (t : Fin 2048) (d : Fin 128) :
    @Eq EReal (averages p vm v (ix5 b e g t d))
     (∑ x : Fin 16,
        vm (ix2 ⟨x.val, by omega⟩ ⟨g.val * 128 + d.val, by omega⟩) *
          Ideal.div (p (ix5 b e g t ⟨x.val, by omega⟩)) (∑ x, p (ix5 b e g t x)) +
      ∑ x : Fin 2048,
        v (ix3 b x ⟨g.val * 128 + d.val, by omega⟩) *
          Ideal.div (p (ix5 b e g t ⟨16 + x.val, by omega⟩)) (∑ x, p (ix5 b e g t x))) := by
  pointwise [averages]

end Cert.ReferenceIdeal.Att
end
-- ==== Proof.ReferenceIdeal.Weights.lean ====
/- The reference over the reals, read at an index: the weights from the scores. -/
module

public import proofs.«01_k».proof.Proof.Gen.ReferenceIdeal.Run
public import proofs.«01_k».proof.Proof.Spec
public import Idealize.ShloMosaic.Lib.Pointwise
public import Idealize.ShloMosaic.Lib.WordCmp

@[expose] public section

set_option maxRecDepth 16384

noncomputable section

namespace Cert.ReferenceIdeal.Att

open Cert.ReferenceIdeal Cert.ReferenceIdeal.Gen Cert.ReferenceIdeal.Value
open Idealize.ShloMosaic Idealize.ShloMosaic.TcCoe Idealize.ShloMosaic.Tactic
open Cert.Att

/-- The weights from the scores and a shift of each row. -/
def weightsFrom (s : FVec Ideal S16x2x4x2048x2064 .f32) (r : FVec Ideal S16x2x4x2048 .f32) : FVec Ideal S16x2x4x2048x2064 .f32 :=
  Host.exp (subf s (broadcastInDim S16x2x4x2048x2064 ![0, 1, 2, 3, 4] bcast_S16x2x4x2048x1_S16x2x4x2048x2064_0_1_2_3_4 (broadcastInDim S16x2x4x2048x1 ![0, 1, 2, 3] bcast_S16x2x4x2048_S16x2x4x2048x1_0_1_2_3 (maximumf (broadcastInDim S16x2x4x2048 ![] bcast_S_S16x2x4x2048 (constant S_ .f32 0xFF800000#32)) r))))

/-- The greatest score of each row. -/
def rowMax (s : FVec Ideal S16x2x4x2048x2064 .f32) : FVec Ideal S16x2x4x2048 .f32 :=
  Host.reduce FloatOps.maximumf s (constant S_ .f32 0xFF800000#32) reducesTo_S16x2x4x2048x2064_S16x2x4x2048_d4 h_S_

theorem weightsFrom_at (s : FVec Ideal S16x2x4x2048x2064 .f32) (r : FVec Ideal S16x2x4x2048 .f32)
    (b : Fin 16) (e : Fin 2) (g : Fin 4) (t : Fin 2048) (j : Fin 2064) :
    @Eq EReal (weightsFrom s r (ix5 b e g t j))
      (Ideal.exp (s (ix5 b e g t j) - max (Ideal.ofBits FTy.f32 0xFF800000#32) (r (ix4 b e g t)))) := by
  pointwise [weightsFrom]

theorem drop_ix (b : Fin 16) (e : Fin 2) (g : Fin 4) (t : Fin 2048) (j : Fin 2064) :
    reducesTo_S16x2x4x2048x2064_S16x2x4x2048_d4.drop (ix5 b e g t j) = ix4 b e g t := by
  funext a
  refine Fin.ext ?_
  fin_cases a <;> rfl

/-- The largest of finitely many scores, none `⊤` and one above `⊥`, is real. -/
theorem fold_max_real_on {ι : Type*} (S : Finset ι) {s : ι → EReal} (hs : ∀ j, s j ≠ ⊤) (h : ∃ j ∈ S, s j ≠ ⊥) :
    ∃ M : ℝ, S.fold max ⊥ s = (M : EReal) := by
  classical
  obtain ⟨j, hj, hj'⟩ := h
  obtain ⟨M, hM⟩ := fold_max_real (s := fun i : S => s i) (fun i => hs i) ⟨⟨j, hj⟩, hj'⟩
  refine ⟨M, ?_⟩
  rw [← hM, ← Finset.attach_eq_univ]
  conv_lhs => rw [← Finset.attach_image_val (s := S)]
  exact Finset.fold_image (fun a _ b _ hab => Subtype.ext hab)

/-- The greatest score of a row is real when no score is `⊤` and one is above `⊥`. -/
theorem rowMax_real (s : FVec Ideal S16x2x4x2048x2064 .f32) (b : Fin 16) (e : Fin 2) (g : Fin 4) (t : Fin 2048)
    (hs : ∀ i, (s i : EReal) ≠ ⊤) (h : ∃ j, (s (ix5 b e g t j) : EReal) ≠ ⊥) :
    ∃ M : ℝ, @Eq EReal (rowMax s (ix4 b e g t)) (M : EReal) := by
  obtain ⟨j, hj⟩ := h
  have hc : ((constant (F := Ideal) S_ .f32 0xFF800000#32) (Shape.Idx.first h_S_) : EReal) = ⊥ := by
    show Ideal.ofBits .f32 0xFF800000#32 = ⊥
    simp [Ideal.ofBits, Ideal.ieee]
  unfold rowMax
  rw [Host.reduce_eq_fold, hc]
  exact fold_max_real_on _ hs ⟨_, Finset.mem_filter.mpr ⟨Finset.mem_univ _, drop_ix b e g t j⟩, hj⟩

end Cert.ReferenceIdeal.Att
end
-- ==== Proof.ReferenceIdeal.Heads.lean ====
/- The reference over the reals, read at an index: the heads from the averages. -/
module

public import proofs.«01_k».proof.Proof.Gen.ReferenceIdeal.Run
public import proofs.«01_k».proof.Proof.Spec
public import Idealize.ShloMosaic.Lib.Pointwise
public import Idealize.ShloMosaic.Lib.WordCmp

@[expose] public section

set_option maxRecDepth 16384

noncomputable section

namespace Cert.ReferenceIdeal.Att

open Cert.ReferenceIdeal Cert.ReferenceIdeal.Gen Cert.ReferenceIdeal.Value
open Idealize.ShloMosaic Idealize.ShloMosaic.TcCoe Idealize.ShloMosaic.Tactic
open Cert.Att

/-- The difference of the two maps' averages. -/
def difference (o : FVec Ideal S16x2x4x2048x128 .f32) (a : FVec Ideal S4x64 .f32) : FVec Ideal S16x4x2048x128 .f32 :=
  subf (shapeCast _ (extractStridedSlice S16x1x4x2048x128 ![0, 0, 0, 0, 0] o slices_S16x2x4x2048x128_S16x1x4x2048x128_0_0_0_0_0) shapeCasts_S16x1x4x2048x128_S16x4x2048x128) (mulf (broadcastInDim S16x4x2048x128 ![] bcast_S_S16x4x2048x128 (addf (subf (Host.exp (Host.reduceAdd (mulf (shapeCast _ (extractStridedSlice S1x64 ![0, 0] a slices_S4x64_S1x64_0_0) shapeCasts_S1x64_S64) (shapeCast _ (extractStridedSlice S1x64 ![1, 0] a slices_S4x64_S1x64_1_0) shapeCasts_S1x64_S64)) (constant S_ .f32 0x00000000#32) reducesTo_S64_S_d0 h_S_)) (Host.exp (Host.reduceAdd (mulf (shapeCast _ (extractStridedSlice S1x64 ![2, 0] a slices_S4x64_S1x64_2_0) shapeCasts_S1x64_S64) (shapeCast _ (extractStridedSlice S1x64 ![3, 0] a slices_S4x64_S1x64_3_0) shapeCasts_S1x64_S64)) (constant S_ .f32 0x00000000#32) reducesTo_S64_S_d0 h_S_))) (constant S_ .f32 0x3E4CCCCD#32))) (shapeCast _ (extractStridedSlice S16x1x4x2048x128 ![0, 1, 0, 0, 0] o slices_S16x2x4x2048x128_S16x1x4x2048x128_0_1_0_0_0) shapeCasts_S16x1x4x2048x128_S16x4x2048x128))

/-- The normalised heads side by side. -/
def joined (o : FVec Ideal S16x4x2048x128 .f32) (w : FVec Ideal S1x128 .f32) : FVec Ideal S16x2048x512 .bf16 :=
  truncf .bf16 (shapeCast _ (transpose S16x2048x4x128 [0, 2, 1, 3] (mulf (mulf (mulf o (broadcastInDim S16x4x2048x128 ![0, 1, 2, 3] bcast_S16x4x2048x1_S16x4x2048x128_0_1_2_3 (Host.rsqrt (addf (Host.divf (broadcastInDim S16x4x2048x1 ![0, 1, 2] bcast_S16x4x2048_S16x4x2048x1_0_1_2 (Host.reduceAdd (mulf o o) (constant S_ .f32 0x00000000#32) reducesTo_S16x4x2048x128_S16x4x2048_d3 h_S_)) (broadcastInDim S16x4x2048x1 ![] bcast_S_S16x4x2048x1 (constant S_ .f32 0x43000000#32))) (broadcastInDim S16x4x2048x1 ![] bcast_S_S16x4x2048x1 (constant S_ .f32 0x358637BD#32)))))) (broadcastInDim S16x4x2048x128 ![0, 1, 2, 3] bcast_S1x1x1x128_S16x4x2048x128_0_1_2_3 (broadcastInDim S1x1x1x128 ![3] bcast_S128_S1x1x1x128_3 (shapeCast _ w shapeCasts_S1x128_S128)))) (broadcastInDim S16x4x2048x128 ![] bcast_S_S16x4x2048x128 (constant S_ .f32 0x3F4CCCCD#32))) transposes_S16x4x2048x128_S16x2048x4x128_0_2_1_3) shapeCasts_S16x2048x4x128_S16x2048x512) bitsLt_bf16_f32

set_option maxHeartbeats 4000000 in
theorem difference_at (o : FVec Ideal S16x2x4x2048x128 .f32) (a : FVec Ideal S4x64 .f32) (b : Fin 16) (g : Fin 4) (t : Fin 2048)
    (d : Fin 128) : @Eq EReal (difference o a (ix4 b g t d))
      (o (ix5 b 0 g t d) - lamOf (fun i d => a (ix2 i d)) * o (ix5 b 1 g t d)) := by
  pointwise [difference]
  rfl

set_option maxHeartbeats 4000000 in
theorem joined_at (o : FVec Ideal S16x4x2048x128 .f32) (w : FVec Ideal S1x128 .f32) (b : Fin 16) (t : Fin 2048) (l : Fin 512) :
    @Eq EReal (joined o w (ix3 b t l))
      (o (ix4 b ⟨l.val / 128, by omega⟩ t ⟨l.val % 128, by omega⟩) *
          Ideal.rsqrt
            (Ideal.div (∑ x, o (ix4 b ⟨l.val / 128, by omega⟩ t x) * o (ix4 b ⟨l.val / 128, by omega⟩ t x))
                (Ideal.ofBits FTy.f32 0x43000000#32) +
              Ideal.ofBits FTy.f32 0x358637BD#32) *
        w (ix2 0 ⟨l.val % 128, by omega⟩) *
      Ideal.ofBits FTy.f32 0x3F4CCCCD#32) := by
  pointwise [joined]

end Cert.ReferenceIdeal.Att
end
-- ==== Proof.ReferenceIdeal.Read.lean ====
/- The reference over the reals, read at an index: the result at each lane is the formula of the differential attention. -/
module

public import proofs.«01_k».proof.Proof.ReferenceIdeal.Chunk
public import proofs.«01_k».proof.Proof.ReferenceIdeal.Scores
public import proofs.«01_k».proof.Proof.ReferenceIdeal.Averages
public import proofs.«01_k».proof.Proof.ReferenceIdeal.Weights
public import proofs.«01_k».proof.Proof.ReferenceIdeal.Heads
public import proofs.«01_k».proof.Proof.Spec
public import Idealize.ShloMosaic.Lib.Pointwise
public import Idealize.ShloMosaic.Lib.WordCmp

@[expose] public section

set_option maxRecDepth 16384

noncomputable section

namespace Cert.ReferenceIdeal.Att

open Cert.ReferenceIdeal Cert.ReferenceIdeal.Gen Cert.ReferenceIdeal.Value
open Idealize.ShloMosaic Idealize.ShloMosaic.TcCoe Idealize.ShloMosaic.Tactic
open Cert.Att

variable (V0 : Valuation τ sig (Elt Ideal))

theorem v40_eq : res_main_v40 V0 = weightsFrom (res_main_v33 V0) (rowMax (res_main_v33 V0)) := rfl

theorem v46_eq : res_main_v46 V0
    = averages (res_main_v40 V0) (V0 (Proc.devRef .tc main_arg5)) (V0 (Proc.devRef .tc main_arg3)) := rfl

theorem v69_eq : res_main_v69 V0 = difference (res_main_v46 V0) (V0 (Proc.devRef .tc main_arg6)) := rfl

theorem sum_split {n m k : ℕ} (h : n = m + k) (f : Fin n → EReal) :
    ∑ j, f j = (∑ x : Fin m, f ⟨x.val, by omega⟩) + ∑ x : Fin k, f ⟨m + x.val, by omega⟩ := by
  subst h
  exact Fin.sum_univ_add f

/-- The half a map takes. -/
def half (e : Bool) : Fin 2 := if e then 1 else 0

theorem half_onto (e : Fin 2) : ∃ x, half x = e := by
  fin_cases e
  · exact ⟨false, rfl⟩
  · exact ⟨true, rfl⟩

theorem half_val (e : Bool) : (half e).val = e.toNat := by cases e <;> rfl

/-- The scores of one query. -/
def sc (b : Fin 16) (t : Fin 2048) (g : ℕ) (e : Bool) (j : Fin 2064) : EReal :=
  score (fun d => Q V0 b t (Fin.ofNat 512 (128 * g + (64 * e.toNat + d.val))))
    (fun j d => KM V0 (Fin.ofNat 128 j) (Fin.ofNat 512 (128 * g + (64 * e.toNat + d.val))))
    (fun j d => K V0 b (Fin.ofNat 2048 j) (Fin.ofNat 512 (128 * g + (64 * e.toNat + d.val)))) t j

theorem log_two_real : Ideal.log (Ideal.ofBits .f32 0x40000000#32) = ((Real.log 2 : ℝ) : EReal) := by
  have : Ideal.ofBits .f32 0x40000000#32 = ((2 : ℝ) : EReal) := by
    simp [Ideal.ofBits, Ideal.ieee]
    rw [← EReal.coe_mul]; norm_num
  rw [this, Ideal.log_coe, if_neg (by norm_num)]

theorem neg_inf : Ideal.ofBits .f32 0xFF800000#32 = (⊥ : EReal) := by
  simp [Ideal.ofBits, Ideal.ieee]

/-- The words of the mask compare as the chunks. -/
theorem mask_word (t : Fin 2048) (j : Fin 2064) :
    IntOp.cmpi CmpIPredicate.sle (BitVec.ofNat 32 (chunk j)) (BitVec.ofNat 32 (chunk (16 + t.val))) = 1#1 ↔ vis t j := by
  have h1 : chunk (16 + t.val) = 1 + t.val / 64 := by unfold chunk; rw [if_neg (by omega)]; congr 2; omega
  have h2 := t.isLt
  rw [WordCmp.cmpi_sle_ofNat_eq_one_iff (w := 32) (chunk_lt j) (by rw [h1]; omega), h1]
  rfl

theorem v33_at (b : Fin 16) (e : Bool) (g : Fin 4) (t : Fin 2048) (j : Fin 2064) :
    @Eq EReal (res_main_v33 V0 (ix5 b (half e) g t j)) (sc V0 b t g e j * ((Real.log 2 : ℝ) : EReal)) := by
  have hl : 0 < Real.log 2 := Real.log_pos (by norm_num)
  have hlane : ∀ x : Fin 64, (⟨g.val * 128 + (half e).val * 64 + x.val, by have := (half e).isLt; omega⟩ : Fin 512)
      = Fin.ofNat 512 (128 * g.val + (64 * e.toNat + x.val)) := by
    intro x
    have := half_val e
    have := (half e).isLt
    refine Fin.ext ?_
    simp only [Fin.ofNat]
    omega
  rw [v33_read, chunk_at, chunk_at, log_two_real, neg_inf]
  simp only [hlane]
  unfold sc score
  by_cases h : vis t j
  · rw [if_pos h, (mask_word t j).mpr h]
    refine (if_pos rfl).trans ?_
    refine congrArg (· * _) (Finset.sum_congr rfl fun x _ => ?_)
    unfold row
    by_cases hj : j.val < 16
    · rw [dif_pos hj, if_pos hj]
      have : (⟨j.val, by omega⟩ : Fin 128) = Fin.ofNat 128 j.val := Fin.ext (Nat.mod_eq_of_lt (by omega)).symm
      dsimp only
      rw [← this]
    · rw [dif_neg hj, if_neg hj]
      have : (⟨j.val - 16, by omega⟩ : Fin 2048) = Fin.ofNat 2048 (j.val - 16) := Fin.ext (Nat.mod_eq_of_lt (by omega)).symm
      dsimp only
      rw [← this]
  · rw [if_neg h, EReal.bot_mul_coe_of_pos hl]
    exact if_neg fun hw => h ((mask_word t j).mp hw)

/-- What the claim asks of the arguments: the queries and every key a query sees real. -/
structure Sound : Prop where
  hq : ∀ b t l, Real' (Q V0 b t l)
  hk : ∀ b t l, Real' (K V0 b t l)
  hm : ∀ (j : Fin 128) l, j.val < 16 → Real' (KM V0 j l)

variable {V0} (h : Sound V0) (b : Fin 16) (e : Bool) (g : Fin 4) (t : Fin 2048)
include h

theorem sc_top (j : Fin 2064) : sc V0 b t g e j ≠ ⊤ :=
  score_top (fun d => h.hq _ _ _) (fun j d hj => h.hm _ _ (by show j % 128 < 16; omega)) (fun j d => h.hk _ _ _) _ _

theorem sc_bot : sc V0 b t g e 0 ≠ ⊥ :=
  score_bot (fun d => h.hq _ _ _) (fun j d hj => h.hm _ _ (by show j % 128 < 16; omega)) (fun j d => h.hk _ _ _) _ _
    (by unfold vis; simp)

/-- The weights are those of the softmax, some real the shift. -/
theorem v40_at : ∃ M : ℝ, ∀ j : Fin 2064, @Eq EReal (res_main_v40 V0 (ix5 b (half e) g t j)) (wt M (sc V0 b t g e j)) := by
  have hl : 0 < Real.log 2 := Real.log_pos (by norm_num)
  have hm : ∀ x : EReal, x ≠ ⊤ → x * ((Real.log 2 : ℝ) : EReal) ≠ ⊤ := by
    intro x hx
    induction x with
    | bot => rw [EReal.bot_mul_coe_of_pos hl]; exact bot_ne_top
    | top => exact absurd rfl hx
    | coe x => rw [← EReal.coe_mul]; exact EReal.coe_ne_top _
  have htop : ∀ i, @Ne EReal (res_main_v33 V0 i) ⊤ := by
    intro i
    obtain ⟨b', e', g', t', j', rfl⟩ : ∃ b' e' g' t' j', i = ix5 b' e' g' t' j' := ⟨_, _, _, _, _, (eq_ix5 i)⟩
    obtain ⟨e, rfl⟩ := half_onto e'
    rw [v33_at]
    exact hm _ (sc_top h _ _ _ _ _)
  obtain ⟨M, hM⟩ := rowMax_real (res_main_v33 V0) b (half e) g t htop ⟨0, by
    rw [v33_at]
    obtain ⟨r, hr⟩ := Real'.lift ⟨sc_bot h b e g t, sc_top h b e g t 0⟩
    rw [hr, ← EReal.coe_mul]
    exact EReal.coe_ne_bot _⟩
  refine ⟨M / Real.log 2, fun j => ?_⟩
  rw [v40_eq, weightsFrom_at, hM, v33_at, neg_inf, max_eq_right bot_le]
  exact exp_log_two M (sc_top h b e g t j)

/-- The averages. -/
theorem v46_at (d : Fin 128) : @Eq EReal (res_main_v46 V0 (ix5 b (half e) g t d))
    (mapAt (Q V0) (K V0) (V V0) (KM V0) (VM V0) b t g e d) := by
  obtain ⟨M, hM⟩ := v40_at h b e g t
  have ht := sc_top h b e g t
  have hb : ∃ j, sc V0 b t g e j ≠ ⊥ := ⟨0, sc_bot h b e g t⟩
  rw [v46_eq, averages_at]
  simp only [hM]
  refine Eq.trans ?_ (att_shift M 0 ht hb _)
  rw [← att_normalised M ht hb]
  refine Eq.trans ?_ (sum_split (m := 16) (k := 2048) rfl _).symm
  have hlane : (⟨g.val * 128 + d.val, by omega⟩ : Fin 512) = Fin.ofNat 512 (128 * g.val + d.val) := by
    refine Fin.ext ?_; simp only [Fin.ofNat]; omega
  refine congrArg₂ (· + ·) (Finset.sum_congr rfl fun x _ => ?_) (Finset.sum_congr rfl fun x _ => ?_)
  · rw [mul_comm, hlane]
    refine congrArg₂ (· * ·) rfl ?_
    unfold row
    rw [if_pos (by show x.val < 16; exact x.isLt)]
    refine congrArg (fun y => VM V0 y _) (Fin.ext ?_)
    exact (Nat.mod_eq_of_lt (by have := x.isLt; show x.val < 128; omega)).symm
  · rw [mul_comm, hlane]
    refine congrArg₂ (· * ·) rfl ?_
    unfold row
    rw [if_neg (by show ¬ 16 + x.val < 16; omega)]
    refine congrArg (fun y => V V0 b y _) (Fin.ext ?_)
    show x.val = (16 + x.val - 16) % 2048
    have := x.isLt
    omega

/-- The result at each lane. -/
theorem result_at (l : Fin 512) : @Eq EReal (joined (res_main_v69 V0) (V0 (Proc.devRef .tc main_arg7)) (ix3 b t l))
    (outSpec (Q V0) (K V0) (V V0) (KM V0) (VM V0) (L V0) (G V0) b t l) := by
  have hd : ∀ d : Fin 128, @Eq EReal (res_main_v69 V0 (ix4 b ⟨l.val / 128, by omega⟩ t d))
      (mapAt (Q V0) (K V0) (V V0) (KM V0) (VM V0) b t (l.val / 128) false d
        - lamOf (L V0) * mapAt (Q V0) (K V0) (V V0) (KM V0) (VM V0) b t (l.val / 128) true d) := by
    intro d
    rw [v69_eq, difference_at]
    refine congrArg₂ (· - ·) (v46_at h b false ⟨l.val / 128, by omega⟩ t d) (congrArg₂ (· * ·) rfl (v46_at h b true ⟨l.val / 128, by omega⟩ t d))
  rw [joined_at]
  simp only [hd]
  have hl : (⟨l.val % 128, by omega⟩ : Fin 128) = Fin.ofNat 128 (l.val % 128) := by
    refine Fin.ext ?_; simp only [Fin.ofNat]; omega
  rw [hl]
  rfl

end Cert.ReferenceIdeal.Att
end
-- ==== Proof.ReferenceIdeal.Result.lean ====
/- The run of the reference over the reals, and the array it leaves. -/
module

public import proofs.«01_k».proof.Proof.ReferenceIdeal.Read

@[expose] public section

noncomputable section

namespace Cert.ReferenceIdeal.Att

open Cert.ReferenceIdeal Cert.ReferenceIdeal.Gen Cert.ReferenceIdeal.Value
open Idealize.ShloMosaic Idealize.ShloMosaic.TcCoe Idealize.SL.Sem Idealize.ShloMosaic.StableHlo
open Cert.Att

/-- The array the run leaves. -/
def result (V0 : Valuation τ sig (Elt Ideal)) : FVec Ideal S16x2048x512 .bf16 := fun i =>
  outSpec (Q V0) (K V0) (V V0) (KM V0) (VM V0) (L V0) (G V0) (i 0) (i 1) (i 2)

theorem result_eq {V0 : Valuation τ sig (Elt Ideal)} (h : Sound V0) :
    joined (res_main_v69 V0) (V0 (Proc.devRef .tc main_arg7)) = result V0 := by
  funext i
  obtain ⟨b, t, l, rfl⟩ : ∃ b t l, i = ix3 b t l := ⟨_, _, _, eq_ix3 i⟩
  exact result_at h b t l

theorem run_result (m : (ℓ : Loc nD τ sig) → Buf (Elt Ideal) ℓ) (ρ : Dev nD → PrngReg)
    (h : ∀ c, Sound (launchContents m c)) :
    θ_run defs (onTc (τ := τ) (main (F := Ideal))) ⟨m, fun _ => 0, ρ⟩ fun r => ∀ c : Dev nD,
      r.2.mem ((c.tc : Thread nD τ).loc main_v88) = result (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r hr c => ⟨(show r.2.mem ((c.tc : Thread nD τ).loc main_v88)
      = joined (res_main_v69 (launchContents m c)) (launchContents m c (Proc.devRef .tc main_arg7)) from (hr c).1).trans (result_eq (h c)), (hr c).2⟩)
    (run (F := Ideal) m ρ)

end Cert.ReferenceIdeal.Att
end
-- ==== Proof.Precondition.lean ====
/- What the precondition says of the arguments, entry by entry. -/
module

public import proofs.«01_k».proof.Defs
public import proofs.«01_k».proof.Proof.Gen.Pre_finite
public import proofs.«01_k».proof.Proof.KernelIdeal.Array
public import Idealize.ShloMosaic.Lib.ReduceAll
public import Idealize.ShloMosaic.Lib.Pointwise

@[expose] public section

set_option maxRecDepth 16384

noncomputable section

namespace Cert.Att

open Idealize.ShloMosaic Idealize.ShloMosaic.TcCoe

/-- An absolute value below `⊤` is of a real. -/
theorem real_of_lt {x : EReal} (h : Ideal.cmp .olt (max x (-x)) (Ideal.ofBits .f32 0x7F800000#32) = 1#1) : Real' x := by
  induction x with
  | bot => revert h; simp [Ideal.cmp, Ideal.ofBits, Ideal.ieee]
  | top => revert h; simp [Ideal.cmp, Ideal.ofBits, Ideal.ieee]
  | coe x => exact ⟨EReal.coe_ne_bot x, EReal.coe_ne_top x⟩

theorem bot_lt_of {x : EReal} (h : Ideal.cmp .ogt x (Ideal.ofBits .f32 0xFF800000#32) = 1#1) : x ≠ ⊥ := by
  rintro rfl
  revert h
  simp [Ideal.cmp]

theorem andi_one (a b : BitVec 1) (h : IntOp.andi a b = 1#1) : a = 1#1 ∧ b = 1#1 := by
  revert a b; decide

open Cert.Pre_finite in
/-- The precondition entry by entry. -/
theorem entries [Facts] (a0 : FVec Ideal S1 .f32) (a1 a2 a3 : FVec Ideal S16x2048x512 .bf16) (a4 a5 : FVec Ideal S128x512 .bf16)
    (a6 : FVec Ideal S4x64 .f32) (a7 : FVec Ideal S1x128 .f32) (h : fn (F := Ideal) a0 a1 a2 a3 a4 a5 a6 a7 = fun _ => 1#1) :
    (∀ i, a0 i ≠ (⊥ : EReal)) ∧ (∀ i, Real' (a1 i)) ∧ (∀ i, Real' (a2 i))
      ∧ ∀ (j : Fin 16) (l : Fin 512), Real' (a4 (ix2 ⟨j.val, by omega⟩ l)) := by
  have h := congrFun h ix0
  have : Subsingleton S_.Idx := ⟨fun a b => funext fun x => x.elim0⟩
  obtain ⟨h, h4⟩ := andi_one _ _ h
  obtain ⟨h, h2⟩ := andi_one _ _ h
  obtain ⟨h0, h1⟩ := andi_one _ _ h
  refine ⟨fun i => bot_lt_of (Host.reduce_andi_all _ _ _ _ _ h0 i), fun i => real_of_lt (Host.reduce_andi_all _ _ _ _ _ h1 i),
    fun i => real_of_lt (Host.reduce_andi_all _ _ _ _ _ h2 i), fun j l => ?_⟩
  have := Host.reduce_andi_all _ _ _ _ _ h4 (ix2 j l)
  have e : ∀ y : FVec Ideal S128x512 .bf16, extractStridedSlice S16x512 ![0, 0] y Facts.slices_S128x512_S16x512_0_0 (ix2 j l)
      = y (ix2 ⟨j.val, by omega⟩ l) := by
    intro y
    pointwise
  rw [← e a4]
  exact real_of_lt this

end Cert.Att
end
-- ==== Proof.Projection.Spec.lean ====
/- What the projections of the rows of the model's input come to, over the reals: the formulas both programs are
   read against. -/
module

public import Idealize.ShloMosaic.Lib.Pointwise

@[expose] public section

noncomputable section

namespace Cert.Projection

open Idealize.ShloMosaic

/-- Lane `k` of a row divided by the root of its mean square, times the gain. -/
def normed (x g : Fin 1024 → EReal) (k : Fin 1024) : EReal :=
  x k * Ideal.rsqrt (Ideal.div (∑ j, x j * x j) (Ideal.ofBits .f32 0x44800000#32) + Ideal.ofBits .f32 0x358637BD#32) * g k

/-- Column `l` of the normalised row's product with the weights. -/
def proj (x g : Fin 1024 → EReal) (w : Fin 1024 → Fin 5248 → EReal) (l : Fin 5248) : EReal :=
  ∑ k, normed x g k * w k l

/-- The sum of the squares of the 64 lanes of the head that lane `l` lies in. -/
def square (y : Fin 512 → EReal) (l : Fin 512) : EReal :=
  ∑ d : Fin 64, y (Fin.ofNat 512 (64 * (l.val / 64) + d.val)) * y (Fin.ofNat 512 (64 * (l.val / 64) + d.val))

/-- Lane `l` divided by the root of the mean square of its head's 64 lanes, times the gain. -/
def headed (y : Fin 512 → EReal) (g : Fin 64 → EReal) (l : Fin 512) : EReal :=
  y l * Ideal.rsqrt (Ideal.div (square y l) (Ideal.ofBits .f32 0x42800000#32) + Ideal.ofBits .f32 0x358637BD#32)
    * g ⟨l.val % 64, Nat.mod_lt _ (by decide)⟩

/-- The rotation by position: the two halves of a head's lanes turned by the angle of lane `l % 32`. -/
def turned (y : Fin 512 → EReal) (c s : Fin 32 → EReal) (l : Fin 512) : EReal :=
  y l * c ⟨l.val % 32, Nat.mod_lt _ (by decide)⟩
    + (if l.val % 64 < 32 then -y (Fin.ofNat 512 (l.val + 32)) else y (Fin.ofNat 512 (l.val - 32)))
      * s ⟨l.val % 32, Nat.mod_lt _ (by decide)⟩

/-- The queries' scale. -/
def scale : EReal := Ideal.ofBits .f32 0x3E38AA3B#32

/-- The logarithm of the logistic function. -/
def logGate (z : EReal) : EReal := min z 0 - Ideal.log1p (Ideal.exp (-max z (-z)))

/-- The 512 columns of the product from column `o` on. -/
def part (x g : Fin 1024 → EReal) (w : Fin 1024 → Fin 5248 → EReal) (o : ℕ) (l : Fin 512) : EReal :=
  proj x g w (Fin.ofNat 5248 (o + l.val))

/-- The position of a row in its sequence. -/
def pos (n : Fin 32768) : Fin 2048 := ⟨n.val % 2048, Nat.mod_lt _ (by decide)⟩

/-- An array of rows, by its coordinates. -/
def table {n : ℕ} (f : Fin 32768 → Fin n → EReal) : (⟨2, ![32768, n]⟩ : Shape).Idx → EReal := fun i => f (i 0) (i 1)

section
variable (x : Fin 32768 → Fin 1024 → EReal) (g : Fin 1024 → EReal) (w : Fin 1024 → Fin 5248 → EReal)
  (cos sin : Fin 2048 → Fin 32 → EReal) (gain : Fin 64 → EReal) (b : Fin 128 → EReal) (b2 : Fin 2048 → EReal) (n : Fin 32768)

/-- The differential attention's queries. -/
def queries (l : Fin 512) : EReal := turned (headed (part (x n) g w 0) gain) (cos (pos n)) (sin (pos n)) l * scale

/-- Its keys. -/
def keys (l : Fin 512) : EReal := turned (headed (part (x n) g w 512) gain) (cos (pos n)) (sin (pos n)) l

/-- The values of an attention, its columns from `o` on. -/
def values (o : ℕ) (l : Fin 512) : EReal := part (x n) g w o l

/-- The forgetting attention's queries. -/
def plainQueries (l : Fin 512) : EReal := headed (part (x n) g w 1536) gain l * scale

/-- Its keys. -/
def plainKeys (l : Fin 512) : EReal := headed (part (x n) g w 2048) gain l

/-- The logarithms of its forget gates. -/
def forget (l : Fin 128) : EReal := logGate (proj (x n) g w (Fin.ofNat 5248 (3072 + l.val)) + b l)

/-- The gates of a branch: the columns from `o` on, the bias from lane `p` on. -/
def gate (o p : ℕ) (l : Fin 1024) : EReal :=
  Ideal.logistic (proj (x n) g w (Fin.ofNat 5248 (o + l.val)) + b2 (Fin.ofNat 2048 (p + l.val)))
end

/-- A sum over the 512 lanes against the indicator of `l`'s head is the sum over that head. -/
theorem sum_head (f : Fin 512 → EReal) (gm : Fin 512 → EReal) (l : Fin 512)
    (h : ∀ j : Fin 512, gm j = if j.val / 64 = l.val / 64 then 1 else 0) :
    ∑ j, f j * gm j = ∑ d : Fin 64, f (Fin.ofNat 512 (64 * (l.val / 64) + d.val)) := by
  have h1 : ∀ j, f j * gm j = if j.val / 64 = l.val / 64 then f j else 0 := by
    intro j
    rw [h j]
    split <;> simp
  rw [Finset.sum_congr rfl fun j _ => h1 j, ← Finset.sum_filter]
  refine Finset.sum_bij' (fun j _ => (⟨j.val % 64, Nat.mod_lt _ (by decide)⟩ : Fin 64))
    (fun d _ => Fin.ofNat 512 (64 * (l.val / 64) + d.val)) ?_ ?_ ?_ ?_ ?_
  · intro j _; exact Finset.mem_univ _
  · intro d _
    have hl := l.isLt
    have hd := d.isLt
    simp only [Finset.mem_filter, Finset.mem_univ, true_and, Fin.val_ofNat]
    omega
  · intro j hj
    have hj' : j.val / 64 = l.val / 64 := (Finset.mem_filter.1 hj).2
    have hl := j.isLt
    refine Fin.ext ?_
    simp only [Fin.val_ofNat]
    omega
  · intro d _
    have hl := l.isLt
    have hd := d.isLt
    refine Fin.ext ?_
    simp only [Fin.val_ofNat]
    omega
  · intro j hj
    have hj' : j.val / 64 = l.val / 64 := (Finset.mem_filter.1 hj).2
    have hl := j.isLt
    refine congrArg f (Fin.ext ?_)
    simp only [Fin.val_ofNat]
    omega

/-- A product with the word of 1/64 is the quotient by the word of 64. -/
theorem mul_inv_64 (x : EReal) :
    x * Ideal.ofBits .f32 0x3C800000#32 = Ideal.div x (Ideal.ofBits .f32 0x42800000#32) := by
  have a : Ideal.ofBits .f32 0x42800000#32 = ((64 : ℝ) : EReal) := by
    simp [Ideal.ofBits, Ideal.ieee]; rw [← EReal.coe_mul]; norm_num
  have b : Ideal.ofBits .f32 0x3C800000#32 = (((64 : ℝ)⁻¹ : ℝ) : EReal) := by
    simp [Ideal.ofBits, Ideal.ieee]; rw [← EReal.coe_mul]; norm_num
  rw [a, b, Ideal.div, if_neg (by norm_num), EReal.coe_inv]

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee]; rw [← EReal.coe_mul]; norm_num

theorem min_zero (z : EReal) : min z 0 = -max (-z) 0 := by
  rcases le_total z 0 with h | h
  · rw [min_eq_left h, max_eq_left (by simpa using EReal.neg_le_neg_iff.2 h), neg_neg]
  · rw [min_eq_right h, max_eq_right (by simpa using EReal.neg_le_neg_iff.2 h), neg_zero]

/-- The logarithm of one more than an exponential is never `⊥`. -/
theorem log1p_exp_ne_bot (z : EReal) : Ideal.log1p (Ideal.exp z) ≠ ⊥ := by
  induction z using EReal.rec with
  | bot =>
    rw [Ideal.log1p, Ideal.exp_bot, add_zero, ← EReal.coe_one, Ideal.log_coe, if_neg (by norm_num)]
    exact EReal.coe_ne_bot _
  | top =>
    rw [Ideal.log1p, Ideal.exp_top, ← EReal.coe_one, EReal.coe_add_top]
    exact top_ne_bot
  | coe r =>
    have h : (1 : EReal) + ((Real.exp r : ℝ) : EReal) = ((1 + Real.exp r : ℝ) : EReal) := by
      rw [EReal.coe_add, EReal.coe_one]
    simp only [Ideal.log1p, Ideal.exp_coe, h, Ideal.log_coe]
    rw [if_neg (not_le.2 (by positivity))]
    exact EReal.coe_ne_bot _

/-- The logarithm of the logistic function, as the negative of a softplus. -/
theorem neg_softplus (z : EReal) :
    -(max (-z) 0 + Ideal.log1p (Ideal.exp (-max (-z) (- -z)))) = logGate z := by
  rw [EReal.neg_add (.inl (ne_of_gt (lt_of_lt_of_le EReal.bot_lt_zero (le_max_right _ _)))) (.inr (log1p_exp_ne_bot _)),
    ← min_zero, neg_neg, max_comm (-z) z]
  rfl

end Cert.Projection
end
-- ==== Proof.Kernel2Ideal.Payloads.lean ====
/- The projections' kernel over the reals, read at an index: the row's normalisation, the products, the heads'
   normalisation and the rotation of one tile of rows. -/
module

public import proofs.«01_k».proof.Proof.Gen.Kernel2Ideal.Skeleton
public import proofs.«01_k».proof.Proof.Projection.Spec
public import Idealize.ShloMosaic.Lib.Pointwise
public import Idealize.ShloMosaic.Lib.WordCmp

@[expose] public section

set_option maxRecDepth 16384

noncomputable section

namespace Cert.Kernel2Ideal.Rows

open Cert.Kernel2Ideal Cert.Kernel2Ideal.Gen
open Idealize.ShloMosaic Idealize.ShloMosaic.Tactic
open Cert.Projection

set_option maxHeartbeats 4000000 in
theorem norm_at (x : FVec Ideal S512x1024 .f32) (g : FVec Ideal S1x1024 .f32) (r : Fin 512) (k : Fin 1024) :
    @Eq EReal (k0_pay4 (F := Ideal) x g (ix2 r k)) (normed (fun j => x (ix2 r j)) (fun j => g (ix2 0 j)) k) := by
  pointwise [k0_pay4]
  unfold normed
  rfl

set_option maxHeartbeats 4000000 in
theorem product_at (h : FVec Ideal S512x1024 .bf16) (w : FVec Ideal S1024x512 .bf16) (r l : Fin 512) :
    @Eq EReal (k0_pay16 h w (ix2 r l)) (∑ k : Fin 1024, h (ix2 r k) * w (ix2 k l)) := by
  pointwise [k0_pay16]

set_option maxHeartbeats 4000000 in
theorem value_at (h : FVec Ideal S512x1024 .bf16) (w : FVec Ideal S1024x512 .bf16) (r l : Fin 512) :
    @Eq EReal (k0_pay14 h w (ix2 r l)) (∑ k : Fin 1024, h (ix2 r k) * w (ix2 k l)) := by
  pointwise [k0_pay14]

set_option maxHeartbeats 4000000 in
/-- The heads' normalisation of a tile `y`. -/
theorem heads_at (gm : FVec Ideal S512x512 .bf16) (y : FVec Ideal S512x512 .f32) (g : FVec Ideal S1x512 .f32) (r l : Fin 512) :
    @Eq EReal (k0_pay18 gm y g (ix2 r l))
      (y (ix2 r l) * Ideal.rsqrt ((∑ j, y (ix2 r j) * y (ix2 r j) * gm (ix2 j l)) * Ideal.ofBits .f32 0x3C800000#32
        + Ideal.ofBits .f32 0x358637BD#32) * g (ix2 0 l)) := by
  pointwise [k0_pay18]

/-- The bit that tells a head's first 32 lanes. -/
theorem half_bit : ∀ l : Fin 512, IntOp.cmpi CmpIPredicate.slt (IntOp.andi (BitVec.ofNat 32 l.val) 63#32) 32#32
    = if l.val % 64 < 32 then 1#1 else 0#1 := by
  decide +kernel

/-- A lane's partner, chosen by the bit. -/
theorem partner (y : Fin 512 → EReal) (l : Fin 512) :
    Scalar.select (IntOp.cmpi CmpIPredicate.slt (IntOp.andi (BitVec.ofNat 32 l.val) 63#32) 32#32)
        (0 - y ⟨(l.val + 512 - 480) % 512, Nat.mod_lt _ (by decide)⟩) (y ⟨(l.val + 512 - 32) % 512, Nat.mod_lt _ (by decide)⟩)
      = if l.val % 64 < 32 then -y (Fin.ofNat 512 (l.val + 32)) else y (Fin.ofNat 512 (l.val - 32)) := by
  rw [half_bit, zero_sub]
  by_cases h : l.val % 64 < 32
  · rw [if_pos h, if_pos h]
    refine (if_pos rfl).trans ?_
    refine congrArg (fun z => -y z) (Fin.ext ?_)
    rw [Fin.val_ofNat]
    show (l.val + 512 - 480) % 512 = (l.val + 32) % 512
    omega
  · rw [if_neg h, if_neg h]
    refine (if_neg (by decide)).trans ?_
    refine congrArg y (Fin.ext ?_)
    rw [Fin.val_ofNat]
    show (l.val + 512 - 32) % 512 = (l.val - 32) % 512
    omega

set_option maxHeartbeats 4000000 in
/-- The rotation of a tile `y`, scaled. -/
theorem turnScaled_at (c s y : FVec Ideal S512x512 .f32) (r l : Fin 512) :
    @Eq EReal (k0_pay9 c s y (iota .tc S512x512 32 [1] iota_S512x512_d1_w32) 63#32 (ix2 r l))
      ((y (ix2 r l) * c (ix2 r l)
        + (if l.val % 64 < 32 then -y (ix2 r (Fin.ofNat 512 (l.val + 32))) else y (ix2 r (Fin.ofNat 512 (l.val - 32))))
          * s (ix2 r l)) * scale) := by
  pointwise [k0_pay9]
  rw [← partner (fun l => y (ix2 r l)) l]
  rfl

/-- The rotation of a tile `y`. -/
def turn (c s y : FVec Ideal S512x512 .f32) : FVec Ideal S512x512 .bf16 :=
  k0_pay13 c s y k0_pay11 (subf (broadcast S512x512 (Scalar.ofBits .f32 0x00000000#32)) (dynamicRotate 1 480#32 none y rotates_S512x512_d1)) 32#32

set_option maxHeartbeats 4000000 in
theorem turn_at (c s y : FVec Ideal S512x512 .f32) (r l : Fin 512) :
    @Eq EReal (turn c s y (ix2 r l))
      (y (ix2 r l) * c (ix2 r l)
        + (if l.val % 64 < 32 then -y (ix2 r (Fin.ofNat 512 (l.val + 32))) else y (ix2 r (Fin.ofNat 512 (l.val - 32))))
          * s (ix2 r l)) := by
  pointwise [turn, k0_pay13, k0_pay11]
  rw [← partner (fun l => y (ix2 r l)) l]

set_option maxHeartbeats 4000000 in
theorem table_at (c : FVec Ideal S512x128 .f32) (r l : Fin 512) :
    @Eq EReal (k0_pay6 (F := Ideal) c (ix2 r l)) (c (ix2 r ⟨l.val % 128, Nat.mod_lt _ (by decide)⟩)) := by
  pointwise [k0_pay6]
  have hl := l.isLt
  split
  · exact congrArg (fun z => c (ix2 r z)) (Fin.ext (by show l.val = l.val % 128; omega))
  · split
    · exact congrArg (fun z => c (ix2 r z)) (Fin.ext (by show l.val - 128 = l.val % 128; omega))
    · split
      · exact congrArg (fun z => c (ix2 r z)) (Fin.ext (by show l.val - 128 - 128 = l.val % 128; omega))
      · exact congrArg (fun z => c (ix2 r z)) (Fin.ext (by show l.val - 128 - 128 - 128 = l.val % 128; omega))

set_option maxHeartbeats 4000000 in
theorem logGate_at (h : FVec Ideal S512x1024 .bf16) (w : FVec Ideal S1024x128 .bf16) (b : FVec Ideal S1x128 .f32) (r : Fin 512) (l : Fin 128) :
    @Eq EReal (k0_pay20 h w b (ix2 r l)) (logGate (∑ k : Fin 1024, h (ix2 r k) * w (ix2 k l) + b (ix2 0 l))) := by
  pointwise [k0_pay20]
  rw [zero_sub]
  rfl

/-- The word of a tile's place in its sequence. -/
def tileWord (t : Fin 64) : BitVec 32 :=
  Scalar.remsi (BitVec.ofNat 32 t.val) (Scalar.select (Scalar.cmpi .eq 4#32 0#32) 1#32 4#32)

set_option maxHeartbeats 4000000 in
theorem mask_at (y : FVec Ideal S512x128 .f32) (t : Fin 64) (r : Fin 512) (l : Fin 128) :
    @Eq EReal (k0_pay1 y (Scalar.select (Scalar.cmpi .eq 4#32 0#32) 1#32 4#32) (tileWord t) (Scalar.cmpi .ne (tileWord t) 0#32)
      (Scalar.cmpi .slt (tileWord t) 0#32) 0#32 (ix2 r l)) (y (ix2 r l)) := by
  have hw : ∀ t : Fin 64, tileWord t = BitVec.ofNat 32 (t.val % 4) := by decide +kernel
  rw [hw]
  pointwise [k0_pay1]
  have hb : ∀ (q : Fin 4) (r : Fin 512), IntOp.cmpi CmpIPredicate.slt (IntOp.addi (Scalar.muli (Scalar.select
      (Scalar.andi (Scalar.xori (Scalar.cmpi CmpIPredicate.slt (BitVec.ofNat 32 q.val) 0#32)
        (Scalar.cmpi CmpIPredicate.slt (Scalar.select (Scalar.cmpi CmpIPredicate.eq 4#32 0#32) 1#32 4#32) 0#32))
        (Scalar.cmpi CmpIPredicate.ne (BitVec.ofNat 32 q.val) 0#32))
      (Scalar.addi (BitVec.ofNat 32 q.val) (Scalar.select (Scalar.cmpi CmpIPredicate.eq 4#32 0#32) 1#32 4#32))
      (BitVec.ofNat 32 q.val)) 512#32) (BitVec.ofNat 32 r.val)) 2048#32 = 1#1 := by decide +kernel
  have hb' := hb ⟨t.val % 4, Nat.mod_lt _ (by decide)⟩ r
  dsimp only at hb'
  rw [hb']
  exact if_pos rfl

set_option maxHeartbeats 4000000 in
theorem gateA_at (h : FVec Ideal S512x1024 .bf16) (w : FVec Ideal S1024x1024 .bf16) (b : FVec Ideal S1x1024 .f32) (r : Fin 512) (l : Fin 1024) :
    @Eq EReal (k0_pay2 h w b (ix2 r l)) (Ideal.logistic (∑ k : Fin 1024, h (ix2 r k) * w (ix2 k l) + b (ix2 0 l))) := by
  pointwise [k0_pay2]

theorem table_eq (c : FVec Ideal S512x128 .f32) : k0_pay7 (F := Ideal) c = k0_pay6 c := rfl

theorem scaledHeads_eq (h : FVec Ideal S512x1024 .bf16) (gm : FVec Ideal S512x512 .bf16) (w : FVec Ideal S1024x512 .bf16)
    (g : FVec Ideal S1x512 .f32) (i : S512x512.Idx) :
    @Eq EReal (k0_pay15 (F := Ideal) h gm w g i) (HMul.hMul (α := EReal) (β := EReal) (k0_pay18 (F := Ideal) gm (k0_pay16 h w) g i) scale) := by
  unfold k0_pay15
  simp only [shapeCast_id]
  rfl

theorem queryHeads_eq (x : FVec Ideal S512x1024 .f32) (g : FVec Ideal S1x1024 .f32) (gm : FVec Ideal S512x512 .bf16)
    (w : FVec Ideal S1024x512 .bf16) (gn : FVec Ideal S1x512 .f32) (i : S512x512.Idx) :
    @Eq EReal (k0_pay8 (F := Ideal) x g gm w gn i) (k0_pay18 (F := Ideal) gm (k0_pay16 (k0_pay4 x g) w) gn i) := by
  unfold k0_pay8 k0_pay5
  simp only [shapeCast_id]
  rfl

theorem keyHeads_eq (h : FVec Ideal S512x1024 .bf16) (gm : FVec Ideal S512x512 .bf16)
    (w : FVec Ideal S1024x512 .bf16) (gn : FVec Ideal S1x512 .f32) (i : S512x512.Idx) :
    @Eq EReal (k0_pay10 (F := Ideal) h gm w gn i) (k0_pay18 (F := Ideal) gm (k0_pay16 h w) gn i) := by
  unfold k0_pay10
  simp only [shapeCast_id]
  rfl

end Cert.Kernel2Ideal.Rows
end
-- ==== Proof.Kernel2Ideal.Tiles.lean ====
/- The projections' kernel over the reals: what it leaves in each output's block, from the blocks it reads. -/
module

public import proofs.«01_k».proof.Proof.Gen.Kernel2Ideal.Frame
public import proofs.«01_k».proof.Proof.Kernel2Ideal.Payloads
public import Idealize.ShloMosaic.Lib.Pipeline.ValueKit.Basic

@[expose] public section

set_option maxRecDepth 16384

noncomputable section

namespace Cert.Kernel2Ideal.Rows

open Cert.Kernel2Ideal Cert.Kernel2Ideal.Gen
open Idealize.ShloMosaic Idealize.ShloMosaic.Tactic
open Cert.Projection

/-- The heads' normalisation of a tile, by the formula. -/
theorem heads_eq (gm : FVec Ideal S512x512 .bf16) (y : FVec Ideal S512x512 .f32) (g : FVec Ideal S1x512 .f32)
    (Y : Fin 512 → EReal) (G : Fin 64 → EReal) (r l : Fin 512)
    (hgm : ∀ j l : Fin 512, @Eq EReal (gm (ix2 j l)) (if j.val / 64 = l.val / 64 then 1 else 0))
    (hy : ∀ l : Fin 512, @Eq EReal (y (ix2 r l)) (Y l))
    (hg : ∀ l : Fin 512, @Eq EReal (g (ix2 0 l)) (G ⟨l.val % 64, Nat.mod_lt _ (by decide)⟩)) :
    @Eq EReal (k0_pay18 gm y g (ix2 r l)) (headed Y G l) := by
  rw [heads_at, mul_inv_64]
  have hs : (∑ j, y (ix2 r j) * y (ix2 r j) * gm (ix2 j l) : EReal) = square Y l := by
    refine (sum_head (fun j => y (ix2 r j) * y (ix2 r j)) (fun j => gm (ix2 j l)) l (fun j => hgm j l)).trans ?_
    unfold square
    exact Finset.sum_congr rfl fun d _ => by rw [hy]
  rw [hs, hy, hg]
  rfl

/-- A column of the product of the normalised tile with some columns of the weights. -/
theorem column_eq {n : ℕ} (x : FVec Ideal S512x1024 .f32) (g : FVec Ideal S1x1024 .f32) (w : FVec Ideal ⟨2, ![1024, n]⟩ .bf16)
    (X Gn : Fin 1024 → EReal) (W : Fin 1024 → Fin 5248 → EReal) (r : Fin 512) (l : Fin n) (o : Fin 5248)
    (hx : ∀ k, @Eq EReal (x (ix2 r k)) (X k)) (hg : ∀ k, @Eq EReal (g (ix2 0 k)) (Gn k))
    (hw : ∀ k, @Eq EReal (w (ix2 k l)) (W k o)) :
    @Eq EReal (∑ k : Fin 1024, k0_pay4 (F := Ideal) x g (ix2 r k) * w (ix2 k l)) (proj X Gn W o) := by
  have e1 : (fun k => x (ix2 r k) : Fin 1024 → EReal) = X := funext hx
  have e2 : (fun k => g (ix2 0 k) : Fin 1024 → EReal) = Gn := funext hg
  unfold proj
  refine Finset.sum_congr rfl fun k _ => ?_
  rw [norm_at, hw, e1, e2]

/-- The 512 columns of the weights' block from column `o` on. -/
def cols (x2 : FVec Ideal S1024x5248 .bf16) (o : ℕ) (inb : ∀ a, (![0, o] : Fin 2 → ℕ) a + S1024x512.size a ≤ S1024x5248.size a) :
    FVec Ideal S1024x512 .bf16 :=
  View.ld (Val := Elt Ideal) (e' := .bf16) x2 (Rect.unit (s := S1024x5248) ![0, o] S1024x512.size inb)

theorem cols_at (x2 : FVec Ideal S1024x5248 .bf16) (o : ℕ) (inb : ∀ a, (![0, o] : Fin 2 → ℕ) a + S1024x512.size a ≤ S1024x5248.size a)
    (k : Fin 1024) (l : Fin 512) :
    @Eq EReal (cols x2 o inb (ix2 k l)) (x2 (ix2 k (Fin.ofNat 5248 (o + l.val)))) := by
  have h1 : o + 512 ≤ 5248 := inb 1
  have hl := l.isLt
  refine congrArg x2 (funext fun a => Fin.ext ?_)
  match a with
  | ⟨0, _⟩ => show 0 + 1 * k.val = k.val; omega
  | ⟨1, _⟩ => show o + 1 * l.val = (o + l.val) % 5248; omega

/-- The same for 128 columns. -/
def cols128 (x2 : FVec Ideal S1024x5248 .bf16) (o : ℕ) (inb : ∀ a, (![0, o] : Fin 2 → ℕ) a + S1024x128.size a ≤ S1024x5248.size a) :
    FVec Ideal S1024x128 .bf16 :=
  View.ld (Val := Elt Ideal) (e' := .bf16) x2 (Rect.unit (s := S1024x5248) ![0, o] S1024x128.size inb)

theorem cols128_at (x2 : FVec Ideal S1024x5248 .bf16) (o : ℕ) (inb : ∀ a, (![0, o] : Fin 2 → ℕ) a + S1024x128.size a ≤ S1024x5248.size a)
    (k : Fin 1024) (l : Fin 128) :
    @Eq EReal (cols128 x2 o inb (ix2 k l)) (x2 (ix2 k (Fin.ofNat 5248 (o + l.val)))) := by
  have h1 : o + 128 ≤ 5248 := inb 1
  have hl := l.isLt
  refine congrArg x2 (funext fun a => Fin.ext ?_)
  match a with
  | ⟨0, _⟩ => show 0 + 1 * k.val = k.val; omega
  | ⟨1, _⟩ => show o + 1 * l.val = (o + l.val) % 5248; omega

/-- The same for 1024 columns. -/
def cols1024 (x2 : FVec Ideal S1024x5248 .bf16) (o : ℕ) (inb : ∀ a, (![0, o] : Fin 2 → ℕ) a + S1024x1024.size a ≤ S1024x5248.size a) :
    FVec Ideal S1024x1024 .bf16 :=
  View.ld (Val := Elt Ideal) (e' := .bf16) x2 (Rect.unit (s := S1024x5248) ![0, o] S1024x1024.size inb)

theorem cols1024_at (x2 : FVec Ideal S1024x5248 .bf16) (o : ℕ) (inb : ∀ a, (![0, o] : Fin 2 → ℕ) a + S1024x1024.size a ≤ S1024x5248.size a)
    (k l : Fin 1024) :
    @Eq EReal (cols1024 x2 o inb (ix2 k l)) (x2 (ix2 k (Fin.ofNat 5248 (o + l.val)))) := by
  have h1 : o + 1024 ≤ 5248 := inb 1
  have hl := l.isLt
  refine congrArg x2 (funext fun a => Fin.ext ?_)
  match a with
  | ⟨0, _⟩ => show 0 + 1 * k.val = k.val; omega
  | ⟨1, _⟩ => show o + 1 * l.val = (o + l.val) % 5248; omega

/-- 1024 lanes of the gates' bias. -/
def bias (x : FVec Ideal S1x2048 .f32) (o : ℕ) (inb : ∀ a, (![0, o] : Fin 2 → ℕ) a + S1x1024.size a ≤ S1x2048.size a) :
    FVec Ideal S1x1024 .f32 :=
  View.ld (Val := Elt Ideal) (e' := .f32) x (Rect.unit (s := S1x2048) ![0, o] S1x1024.size inb)

theorem bias_at (x : FVec Ideal S1x2048 .f32) (o : ℕ) (inb : ∀ a, (![0, o] : Fin 2 → ℕ) a + S1x1024.size a ≤ S1x2048.size a) (l : Fin 1024) :
    @Eq EReal (bias x o inb (ix2 0 l)) (x (ix2 0 (Fin.ofNat 2048 (o + l.val)))) := by
  have h1 : o + 1024 ≤ 2048 := inb 1
  have hl := l.isLt
  refine congrArg x (funext fun a => Fin.ext ?_)
  match a with
  | ⟨0, _⟩ => show 0 + 1 * 0 = 0; omega
  | ⟨1, _⟩ => show o + 1 * l.val = (o + l.val) % 2048; omega

/-- What row `r` of a point's blocks holds. -/
structure Reads (x0 : FVec Ideal S512x1024 .f32) (x1 : FVec Ideal S1x1024 .f32) (x2 : FVec Ideal S1024x5248 .bf16)
    (x3 x4 : FVec Ideal S512x128 .f32) (x5 x6 x7 x8 : FVec Ideal S1x512 .f32) (x9 : FVec Ideal S1x128 .f32)
    (x10 : FVec Ideal S1x2048 .f32) (x11 : FVec Ideal S512x512 .bf16) (r : Fin 512)
    (X Gn : Fin 1024 → EReal) (W : Fin 1024 → Fin 5248 → EReal) (C S : Fin 32 → EReal) (G5 G6 G7 G8 : Fin 64 → EReal)
    (B : Fin 128 → EReal) (B2 : Fin 2048 → EReal) : Prop where
  h0 : ∀ k, @Eq EReal (x0 (ix2 r k)) (X k)
  h1 : ∀ k, @Eq EReal (x1 (ix2 0 k)) (Gn k)
  h2 : ∀ k l, @Eq EReal (x2 (ix2 k l)) (W k l)
  h3 : ∀ l : Fin 128, @Eq EReal (x3 (ix2 r l)) (C ⟨l.val % 32, Nat.mod_lt _ (by decide)⟩)
  h4 : ∀ l : Fin 128, @Eq EReal (x4 (ix2 r l)) (S ⟨l.val % 32, Nat.mod_lt _ (by decide)⟩)
  h5 : ∀ l : Fin 512, @Eq EReal (x5 (ix2 0 l)) (G5 ⟨l.val % 64, Nat.mod_lt _ (by decide)⟩)
  h6 : ∀ l : Fin 512, @Eq EReal (x6 (ix2 0 l)) (G6 ⟨l.val % 64, Nat.mod_lt _ (by decide)⟩)
  h7 : ∀ l : Fin 512, @Eq EReal (x7 (ix2 0 l)) (G7 ⟨l.val % 64, Nat.mod_lt _ (by decide)⟩)
  h8 : ∀ l : Fin 512, @Eq EReal (x8 (ix2 0 l)) (G8 ⟨l.val % 64, Nat.mod_lt _ (by decide)⟩)
  h9 : ∀ l, @Eq EReal (x9 (ix2 0 l)) (B l)
  h10 : ∀ l, @Eq EReal (x10 (ix2 0 l)) (B2 l)
  h11 : ∀ j l : Fin 512, @Eq EReal (x11 (ix2 j l)) (if j.val / 64 = l.val / 64 then 1 else 0)

variable (i : grid0.Coords) {x0 : FVec Ideal S512x1024 .f32} {x1 : FVec Ideal S1x1024 .f32} {x2 : FVec Ideal S1024x5248 .bf16}
  {x3 x4 : FVec Ideal S512x128 .f32} {x5 x6 x7 x8 : FVec Ideal S1x512 .f32} {x9 : FVec Ideal S1x128 .f32}
  {x10 : FVec Ideal S1x2048 .f32} {x11 : FVec Ideal S512x512 .bf16} {r : Fin 512}
  {X Gn : Fin 1024 → EReal} {W : Fin 1024 → Fin 5248 → EReal} {C S : Fin 32 → EReal} {G5 G6 G7 G8 : Fin 64 → EReal}
  {B : Fin 128 → EReal} {B2 : Fin 2048 → EReal}
  (h : Reads x0 x1 x2 x3 x4 x5 x6 x7 x8 x9 x10 x11 r X Gn W C S G5 G6 G7 G8 B B2)

include h

/-- 512 columns of the product. -/
theorem part_eq (o : ℕ) (inb : ∀ a, (![0, o] : Fin 2 → ℕ) a + S1024x512.size a ≤ S1024x5248.size a) (l : Fin 512) :
    @Eq EReal (∑ k : Fin 1024, k0_pay4 (F := Ideal) x0 x1 (ix2 r k) * cols x2 o inb (ix2 k l)) (part X Gn W o l) :=
  column_eq x0 x1 (cols x2 o inb) X Gn W r l _ h.h0 h.h1 fun k => (cols_at x2 o inb k l).trans (h.h2 k _)

/-- The heads of 512 columns of the product, normalised. -/
theorem headsOf_eq (o : ℕ) (inb : ∀ a, (![0, o] : Fin 2 → ℕ) a + S1024x512.size a ≤ S1024x5248.size a) (g : FVec Ideal S1x512 .f32)
    (G : Fin 64 → EReal) (hg : ∀ l : Fin 512, @Eq EReal (g (ix2 0 l)) (G ⟨l.val % 64, Nat.mod_lt _ (by decide)⟩)) (l : Fin 512) :
    @Eq EReal (k0_pay18 x11 (k0_pay16 (k0_pay4 x0 x1) (cols x2 o inb)) g (ix2 r l)) (headed (part X Gn W o) G l) :=
  heads_eq x11 _ g _ G r l h.h11 (fun l => (product_at _ _ r l).trans (part_eq h o inb l)) hg

theorem cos_eq (l : Fin 512) : @Eq EReal (k0_pay6 (F := Ideal) x3 (ix2 r l)) (C ⟨l.val % 32, Nat.mod_lt _ (by decide)⟩) :=
  (table_at x3 r l).trans ((h.h3 _).trans (congrArg C (Fin.ext (by show l.val % 128 % 32 = l.val % 32; omega))))

theorem sin_eq (l : Fin 512) : @Eq EReal (k0_pay6 (F := Ideal) x4 (ix2 r l)) (S ⟨l.val % 32, Nat.mod_lt _ (by decide)⟩) :=
  (table_at x4 r l).trans ((h.h4 _).trans (congrArg S (Fin.ext (by show l.val % 128 % 32 = l.val % 32; omega))))

/-- The differential queries. -/
theorem out12_at (l : Fin 512) : @Eq EReal (out0_12 (F := Ideal) i x0 x1 x2 x3 x4 x5 x6 x7 x8 x9 x10 x11 (ix2 r l))
    (turned (headed (part X Gn W 0) G5) C S l * scale) := by
  have e : @Eq (FVec Ideal S512x512 .bf16) (out0_12 (F := Ideal) i x0 x1 x2 x3 x4 x5 x6 x7 x8 x9 x10 x11)
      (k0_pay9 (k0_pay6 x3) (k0_pay6 x4) (k0_pay8 x0 x1 x11 (cols x2 0 inb_S1024x5248_S1024x512_0_0) x5) (iota .tc S512x512 32 [1] iota_S512x512_d1_w32) 63#32) := by
    unfold_out out0_12
    refine (View.canon_cons_unit_lit _ _ _ (by decide)).trans ?_
    simp only [View.ld_unit_lit, show ∀ a : Fin 2, (![0, 0] : Fin 2 → ℕ) a = 0 by decide, implies_true]
    rfl
  have hy : ∀ l, @Eq EReal (k0_pay8 (F := Ideal) x0 x1 x11 (cols x2 0 inb_S1024x5248_S1024x512_0_0) x5 (ix2 r l)) (headed (part X Gn W 0) G5 l) :=
    fun l => (queryHeads_eq x0 x1 x11 _ x5 (ix2 r l)).trans (headsOf_eq h 0 _ x5 G5 h.h5 l)
  refine (congrFun e (ix2 r l)).trans ((turnScaled_at _ _ _ r l).trans ?_)
  rw [hy, hy, hy, cos_eq h, sin_eq h]
  rfl

/-- The differential keys. -/
theorem out13_at (l : Fin 512) : @Eq EReal (out0_13 (F := Ideal) i x0 x1 x2 x3 x4 x5 x6 x7 x8 x9 x10 x11 (ix2 r l))
    (turned (headed (part X Gn W 512) G6) C S l) := by
  have e : @Eq (FVec Ideal S512x512 .bf16) (out0_13 (F := Ideal) i x0 x1 x2 x3 x4 x5 x6 x7 x8 x9 x10 x11)
      (turn (k0_pay6 x3) (k0_pay6 x4) (k0_pay10 (k0_pay4 x0 x1) x11 (cols x2 512 inb_S1024x5248_S1024x512_0_512) x6)) := by
    unfold_out out0_13
    refine (View.canon_cons_unit_lit _ _ _ (by decide)).trans ?_
    unfold k0_pay5
    simp only [View.ld_unit_lit, show ∀ a : Fin 2, (![0, 0] : Fin 2 → ℕ) a = 0 by decide, implies_true, shapeCast_id]
    rfl
  have hy : ∀ l, @Eq EReal (k0_pay10 (F := Ideal) (k0_pay4 x0 x1) x11 (cols x2 512 inb_S1024x5248_S1024x512_0_512) x6 (ix2 r l)) (headed (part X Gn W 512) G6 l) :=
    fun l => (keyHeads_eq _ x11 _ x6 (ix2 r l)).trans (headsOf_eq h 512 _ x6 G6 h.h6 l)
  refine (congrFun e (ix2 r l)).trans ((turn_at _ _ _ r l).trans ?_)
  rw [hy, hy, hy, cos_eq h, sin_eq h]
  rfl

/-- The differential values. -/
theorem out14_at (l : Fin 512) : @Eq EReal (out0_14 (F := Ideal) i x0 x1 x2 x3 x4 x5 x6 x7 x8 x9 x10 x11 (ix2 r l))
    (part X Gn W 1024 l) := by
  have e : @Eq (FVec Ideal S512x512 .bf16) (out0_14 (F := Ideal) i x0 x1 x2 x3 x4 x5 x6 x7 x8 x9 x10 x11)
      (k0_pay14 (k0_pay4 x0 x1) (cols x2 1024 inb_S1024x5248_S1024x512_0_1024)) := by
    unfold_out out0_14
    refine (View.canon_cons_unit_lit _ _ _ (by decide)).trans ?_
    simp only [View.ld_unit_lit, show ∀ a : Fin 2, (![0, 0] : Fin 2 → ℕ) a = 0 by decide, implies_true]
    rfl
  exact (congrFun e (ix2 r l)).trans ((value_at _ _ r l).trans (part_eq h 1024 _ l))

/-- The forgetting attention's queries. -/
theorem out15_at (l : Fin 512) : @Eq EReal (out0_15 (F := Ideal) i x0 x1 x2 x3 x4 x5 x6 x7 x8 x9 x10 x11 (ix2 r l))
    (headed (part X Gn W 1536) G7 l * scale) := by
  have e : @Eq (FVec Ideal S512x512 .bf16) (out0_15 (F := Ideal) i x0 x1 x2 x3 x4 x5 x6 x7 x8 x9 x10 x11)
      (k0_pay15 (k0_pay4 x0 x1) x11 (cols x2 1536 inb_S1024x5248_S1024x512_0_1536) x7) := by
    unfold_out out0_15
    refine (View.canon_cons_unit_lit _ _ _ (by decide)).trans ?_
    unfold k0_pay5
    simp only [View.ld_unit_lit, show ∀ a : Fin 2, (![0, 0] : Fin 2 → ℕ) a = 0 by decide, implies_true, shapeCast_id]
    rfl
  refine (congrFun e (ix2 r l)).trans ((scaledHeads_eq _ x11 _ x7 (ix2 r l)).trans ?_)
  rw [headsOf_eq h 1536 _ x7 G7 h.h7 l]

/-- Its keys. -/
theorem out16_at (l : Fin 512) : @Eq EReal (out0_16 (F := Ideal) i x0 x1 x2 x3 x4 x5 x6 x7 x8 x9 x10 x11 (ix2 r l))
    (headed (part X Gn W 2048) G8 l) := by
  have e : @Eq (FVec Ideal S512x512 .bf16) (out0_16 (F := Ideal) i x0 x1 x2 x3 x4 x5 x6 x7 x8 x9 x10 x11)
      (k0_pay18 x11 (k0_pay16 (k0_pay4 x0 x1) (cols x2 2048 inb_S1024x5248_S1024x512_0_2048)) x8) := by
    unfold_out out0_16
    refine (View.canon_cons_unit_lit _ _ _ (by decide)).trans ?_
    unfold k0_pay5 k0_pay17
    simp only [View.ld_unit_lit, show ∀ a : Fin 2, (![0, 0] : Fin 2 → ℕ) a = 0 by decide, implies_true, shapeCast_id]
    rfl
  exact (congrFun e (ix2 r l)).trans (headsOf_eq h 2048 _ x8 G8 h.h8 l)

/-- Its values. -/
theorem out17_at (l : Fin 512) : @Eq EReal (out0_17 (F := Ideal) i x0 x1 x2 x3 x4 x5 x6 x7 x8 x9 x10 x11 (ix2 r l))
    (part X Gn W 2560 l) := by
  have e : @Eq (FVec Ideal S512x512 .bf16) (out0_17 (F := Ideal) i x0 x1 x2 x3 x4 x5 x6 x7 x8 x9 x10 x11)
      (k0_pay14 (k0_pay4 x0 x1) (cols x2 2560 inb_S1024x5248_S1024x512_0_2560)) := by
    unfold_out out0_17
    refine (View.canon_cons_unit_lit _ _ _ (by decide)).trans ?_
    simp only [View.ld_unit_lit, show ∀ a : Fin 2, (![0, 0] : Fin 2 → ℕ) a = 0 by decide, implies_true]
    rfl
  exact (congrFun e (ix2 r l)).trans ((value_at _ _ r l).trans (part_eq h 2560 _ l))

/-- The logarithms of the forget gates. -/
theorem out18_at (l : Fin 128) : @Eq EReal (out0_18 (F := Ideal) i x0 x1 x2 x3 x4 x5 x6 x7 x8 x9 x10 x11 (ix2 r l))
    (logGate (proj X Gn W (Fin.ofNat 5248 (3072 + l.val)) + B l)) := by
  have e : @Eq (FVec Ideal S512x128 .f32) (out0_18 (F := Ideal) i x0 x1 x2 x3 x4 x5 x6 x7 x8 x9 x10 x11)
      (k0_pay1 (k0_pay20 (k0_pay4 x0 x1) (cols128 x2 3072 inb_S1024x5248_S1024x128_0_3072) x9)
        (Scalar.select (Scalar.cmpi .eq 4#32 0#32) 1#32 4#32) (tileWord (i 0)) (Scalar.cmpi .ne (tileWord (i 0)) 0#32)
        (Scalar.cmpi .slt (tileWord (i 0)) 0#32) 0#32) := by
    unfold_out out0_18
    refine (View.canon_cons_unit_lit _ _ _ (by decide)).trans ?_
    simp only [View.ld_unit_lit, show ∀ a : Fin 2, (![0, 0] : Fin 2 → ℕ) a = 0 by decide, implies_true]
    rfl
  refine (congrFun e (ix2 r l)).trans ((mask_at _ (i 0) r l).trans ((logGate_at _ _ _ r l).trans ?_))
  rw [column_eq x0 x1 (cols128 x2 3072 inb_S1024x5248_S1024x128_0_3072) X Gn W r l _ h.h0 h.h1 fun k => (cols128_at x2 3072 _ k l).trans (h.h2 k _), h.h9]

/-- The first branch's gates. -/
theorem out19_at (l : Fin 1024) : @Eq EReal (out0_19 (F := Ideal) i x0 x1 x2 x3 x4 x5 x6 x7 x8 x9 x10 x11 (ix2 r l))
    (Ideal.logistic (proj X Gn W (Fin.ofNat 5248 (3200 + l.val)) + B2 (Fin.ofNat 2048 (0 + l.val)))) := by
  have e : @Eq (FVec Ideal S512x1024 .bf16) (out0_19 (F := Ideal) i x0 x1 x2 x3 x4 x5 x6 x7 x8 x9 x10 x11)
      (k0_pay2 (k0_pay4 x0 x1) (cols1024 x2 3200 inb_S1024x5248_S1024x1024_0_3200) (bias x10 0 inb_S1x2048_S1x1024_0_0)) := by
    unfold_out out0_19
    refine (View.canon_cons_unit_lit _ _ _ (by decide)).trans ?_
    simp only [View.ld_unit_lit, show ∀ a : Fin 2, (![0, 0] : Fin 2 → ℕ) a = 0 by decide, implies_true]
    rfl
  refine (congrFun e (ix2 r l)).trans ((gateA_at _ _ _ r l).trans ?_)
  rw [column_eq x0 x1 (cols1024 x2 3200 inb_S1024x5248_S1024x1024_0_3200) X Gn W r l _ h.h0 h.h1 fun k => (cols1024_at x2 3200 _ k l).trans (h.h2 k _), bias_at, h.h10]

/-- The second branch's gates. -/
theorem out20_at (l : Fin 1024) : @Eq EReal (out0_20 (F := Ideal) i x0 x1 x2 x3 x4 x5 x6 x7 x8 x9 x10 x11 (ix2 r l))
    (Ideal.logistic (proj X Gn W (Fin.ofNat 5248 (4224 + l.val)) + B2 (Fin.ofNat 2048 (1024 + l.val)))) := by
  have e : @Eq (FVec Ideal S512x1024 .bf16) (out0_20 (F := Ideal) i x0 x1 x2 x3 x4 x5 x6 x7 x8 x9 x10 x11)
      (k0_pay2 (k0_pay4 x0 x1) (cols1024 x2 4224 inb_S1024x5248_S1024x1024_0_4224) (bias x10 1024 inb_S1x2048_S1x1024_0_1024)) := by
    unfold_out out0_20
    refine (View.canon_cons_unit_lit _ _ _ (by decide)).trans ?_
    simp only [View.ld_unit_lit, show ∀ a : Fin 2, (![0, 0] : Fin 2 → ℕ) a = 0 by decide, implies_true]
    rfl
  refine (congrFun e (ix2 r l)).trans ((gateA_at _ _ _ r l).trans ?_)
  rw [column_eq x0 x1 (cols1024 x2 4224 inb_S1024x5248_S1024x1024_0_4224) X Gn W r l _ h.h0 h.h1 fun k => (cols1024_at x2 4224 _ k l).trans (h.h2 k _), bias_at, h.h10]

end Cert.Kernel2Ideal.Rows
end
-- ==== Proof.Kernel2Ideal.Operands.lean ====
/- What the host hands the projections' kernel, read at an index: the tables and the gains repeated along the lanes,
   and the matrix that tells which lanes belong to one head. -/
module

public import proofs.«01_k».proof.Proof.Gen.Kernel2Ideal.Frame
public import Idealize.ShloMosaic.Lib.Pointwise
public import Idealize.ShloMosaic.Lib.WordCmp

@[expose] public section

set_option maxRecDepth 16384

noncomputable section

namespace Cert.Kernel2Ideal.Rows

open Cert.Kernel2Ideal Cert.Kernel2Ideal.Gen
open Idealize.ShloMosaic Idealize.ShloMosaic.TcCoe Idealize.ShloMosaic.Tactic Idealize.ShloMosaic.StableHlo Idealize.SL.Sem

/-- A table of 32 lanes repeated four times along the lanes. -/
def fourfold (a : FVec Ideal S2048x32 .f32) : FVec Ideal S2048x128 .f32 :=
  shapeCast S2048x128 (broadcastInDim S1x2048x4x32 ![0, 1, 2, 3] bcast_S1x2048x1x32_S1x2048x4x32_0_1_2_3
    (shapeCast S1x2048x1x32 a shapeCasts_S2048x32_S1x2048x1x32)) shapeCasts_S1x2048x4x32_S2048x128

/-- A gain of 64 lanes repeated eight times along the lanes. -/
def eightfold (a : FVec Ideal S64 .f32) : FVec Ideal S1x512 .f32 :=
  broadcastInDim S1x512 ![1] bcast_S512_S1x512_1 (shapeCast S512 (broadcastInDim S8x64 ![0, 1] bcast_S1x64_S8x64_0_1
    (shapeCast S1x64 a shapeCasts_S64_S1x64)) shapeCasts_S8x64_S512)

/-- The head of each lane, as the host computes it. -/
def headWord : IVec S512 32 :=
  select (andi (cmpi .ne (signi (iotaInDim S512 32 0)) (broadcastInDim S512 ![] bcast_S_S512 (signi (constantI S_ 32 64#32))))
      (cmpi .ne (Host.remsi (iotaInDim S512 32 0) (broadcastInDim S512 ![] bcast_S_S512 (constantI S_ 32 64#32)))
        (broadcastInDim S512 ![] bcast_S_S512 (constantI S_ 32 0#32))))
    (subi (Host.divsi (iotaInDim S512 32 0) (broadcastInDim S512 ![] bcast_S_S512 (constantI S_ 32 64#32)))
      (broadcastInDim S512 ![] bcast_S_S512 (constantI S_ 32 1#32)))
    (Host.divsi (iotaInDim S512 32 0) (broadcastInDim S512 ![] bcast_S_S512 (constantI S_ 32 64#32)))

variable (m : (ℓ : Loc nD τ sig) → Buf (Elt Ideal) ℓ) (c : Dev nD)

/-- The matrix of the heads. -/
def sameHead : FVec Ideal S512x512 .bf16 :=
  uitofp .bf16 (cmpi .eq (broadcastInDim S512x512 ![0, 1] bcast_S512x1_S512x512_0_1 (broadcastInDim S512x1 ![0] bcast_S512_S512x1_0 headWord))
    (broadcastInDim S512x512 ![0, 1] bcast_S1x512_S512x512_0_1 (broadcastInDim S1x512 ![1] bcast_S512_S1x512_1 headWord)))

set_option maxHeartbeats 4000000 in
theorem V_heads : V (F := Ideal) m c main_v7 = sameHead := by
  unfold V
  simp only [hostOps0, hostOps0_1, hostOps0_2, List.flatten_cons, List.flatten_nil, List.append_nil, List.cons_append,
    List.nil_append, TRef.binary, TRef.nullary, TRef.ternary, TRef.unary, TRef.toBuf, TRef.ofBuf, cast_eq]
  after_results_simp <;> rfl

set_option maxHeartbeats 4000000 in
theorem V_cos : V (F := Ideal) m c main_v10 = fourfold (m ((c : Thread nD τ).loc main_arg3)) := by
  unfold V
  simp only [hostOps0, hostOps0_1, hostOps0_2, List.flatten_cons, List.flatten_nil, List.append_nil, List.cons_append,
    List.nil_append, TRef.binary, TRef.nullary, TRef.ternary, TRef.unary, TRef.toBuf, TRef.ofBuf, cast_eq]
  after_results_simp <;> rfl

set_option maxHeartbeats 4000000 in
theorem V_sin : V (F := Ideal) m c main_v13 = fourfold (m ((c : Thread nD τ).loc main_arg4)) := by
  unfold V
  simp only [hostOps0, hostOps0_1, hostOps0_2, List.flatten_cons, List.flatten_nil, List.append_nil, List.cons_append,
    List.nil_append, TRef.binary, TRef.nullary, TRef.ternary, TRef.unary, TRef.toBuf, TRef.ofBuf, cast_eq]
  after_results_simp <;> rfl

set_option maxHeartbeats 4000000 in
theorem V_gq : V (F := Ideal) m c main_v17 = eightfold (m ((c : Thread nD τ).loc main_arg5)) := by
  unfold V
  simp only [hostOps0, hostOps0_1, hostOps0_2, List.flatten_cons, List.flatten_nil, List.append_nil, List.cons_append,
    List.nil_append, TRef.binary, TRef.nullary, TRef.ternary, TRef.unary, TRef.toBuf, TRef.ofBuf, cast_eq]
  after_results_simp <;> rfl

set_option maxHeartbeats 4000000 in
theorem V_gk : V (F := Ideal) m c main_v21 = eightfold (m ((c : Thread nD τ).loc main_arg6)) := by
  unfold V
  simp only [hostOps0, hostOps0_1, hostOps0_2, List.flatten_cons, List.flatten_nil, List.append_nil, List.cons_append,
    List.nil_append, TRef.binary, TRef.nullary, TRef.ternary, TRef.unary, TRef.toBuf, TRef.ofBuf, cast_eq]
  after_results_simp <;> rfl

set_option maxHeartbeats 4000000 in
theorem V_fgq : V (F := Ideal) m c main_v25 = eightfold (m ((c : Thread nD τ).loc main_arg7)) := by
  unfold V
  simp only [hostOps0, hostOps0_1, hostOps0_2, List.flatten_cons, List.flatten_nil, List.append_nil, List.cons_append,
    List.nil_append, TRef.binary, TRef.nullary, TRef.ternary, TRef.unary, TRef.toBuf, TRef.ofBuf, cast_eq]
  after_results_simp <;> rfl

set_option maxHeartbeats 4000000 in
theorem V_fgk : V (F := Ideal) m c main_v29 = eightfold (m ((c : Thread nD τ).loc main_arg8)) := by
  unfold V
  simp only [hostOps0, hostOps0_1, hostOps0_2, List.flatten_cons, List.flatten_nil, List.append_nil, List.cons_append,
    List.nil_append, TRef.binary, TRef.nullary, TRef.ternary, TRef.unary, TRef.toBuf, TRef.ofBuf, cast_eq]
  after_results_simp <;> rfl

set_option maxHeartbeats 4000000 in
theorem fourfold_at (a : FVec Ideal S2048x32 .f32) (t : Fin 2048) (l : Fin 128) :
    @Eq EReal (fourfold a (ix2 t l)) (a (ix2 t ⟨l.val % 32, Nat.mod_lt _ (by decide)⟩)) := by
  pointwise [fourfold]

set_option maxHeartbeats 4000000 in
theorem eightfold_at (a : FVec Ideal S64 .f32) (l : Fin 512) :
    @Eq EReal (eightfold a (ix2 0 l)) (a (ix1 ⟨l.val % 64, Nat.mod_lt _ (by decide)⟩)) := by
  pointwise [eightfold]

theorem headWord_at : ∀ l : Fin 512, headWord (ix1 l) = BitVec.ofNat 32 (l.val / 64) := by
  decide +kernel

set_option maxHeartbeats 4000000 in
theorem sameHead_at (j l : Fin 512) : @Eq EReal (sameHead (ix2 j l)) (if j.val / 64 = l.val / 64 then 1 else 0) := by
  pointwise [sameHead]
  rw [headWord_at, headWord_at]
  have hj := j.isLt
  have hl := l.isLt
  by_cases h : j.val / 64 = l.val / 64
  · rw [if_pos h, h]
    show (((IntOp.cmpi CmpIPredicate.eq (BitVec.ofNat 32 (l.val / 64)) (BitVec.ofNat 32 (l.val / 64))).toNat : ℝ) : EReal) = 1
    simp [IntOp.cmpi]
  · rw [if_neg h]
    have hne : BitVec.ofNat 32 (j.val / 64) ≠ BitVec.ofNat 32 (l.val / 64) := by
      intro e
      have e' := congrArg BitVec.toNat e
      rw [BitVec.toNat_ofNat, BitVec.toNat_ofNat, Nat.mod_eq_of_lt (by omega), Nat.mod_eq_of_lt (by omega)] at e'
      exact h e'
    show (((IntOp.cmpi CmpIPredicate.eq (BitVec.ofNat 32 (j.val / 64)) (BitVec.ofNat 32 (l.val / 64))).toNat : ℝ) : EReal) = 0
    simp [IntOp.cmpi, hne]

end Cert.Kernel2Ideal.Rows
end
-- ==== Proof.Kernel2Ideal.Blocks.lean ====
/- The projections' kernel over the reals: the arrays its launch leaves, as formulas of the arguments. -/
module

public import proofs.«01_k».proof.Proof.Gen.Kernel2Ideal.Value
public import proofs.«01_k».proof.Proof.Kernel2Ideal.Tiles
public import proofs.«01_k».proof.Proof.Kernel2Ideal.Operands

@[expose] public section

set_option maxRecDepth 16384

noncomputable section

namespace Cert.Kernel2Ideal.Rows

open Cert.Kernel2Ideal Cert.Kernel2Ideal.Gen Cert.Kernel2Ideal.Value
open Idealize.ShloMosaic Idealize.ShloMosaic.TcCoe Idealize.ShloMosaic.Tactic Idealize.SL.Sem
open Cert.Projection

variable (m : (ℓ : Loc nD τ sig) → Buf (Elt Ideal) ℓ) (c : Dev nD)

/-! The arguments, by their coordinates. -/

def rowsA (n : Fin 32768) (k : Fin 1024) : EReal := m ((c : Thread nD τ).loc main_arg0) (ix2 n k)
def gainA (k : Fin 1024) : EReal := m ((c : Thread nD τ).loc main_arg1) (ix2 0 k)
def weightsA (k : Fin 1024) (l : Fin 5248) : EReal := m ((c : Thread nD τ).loc main_arg2) (ix2 k l)
def cosA (t : Fin 2048) (d : Fin 32) : EReal := m ((c : Thread nD τ).loc main_arg3) (ix2 t d)
def sinA (t : Fin 2048) (d : Fin 32) : EReal := m ((c : Thread nD τ).loc main_arg4) (ix2 t d)
def gainQ (d : Fin 64) : EReal := m ((c : Thread nD τ).loc main_arg5) (ix1 d)
def gainK (d : Fin 64) : EReal := m ((c : Thread nD τ).loc main_arg6) (ix1 d)
def gainFQ (d : Fin 64) : EReal := m ((c : Thread nD τ).loc main_arg7) (ix1 d)
def gainFK (d : Fin 64) : EReal := m ((c : Thread nD τ).loc main_arg8) (ix1 d)
def biasF (l : Fin 128) : EReal := m ((c : Thread nD τ).loc main_arg9) (ix2 0 l)
def biasG (l : Fin 2048) : EReal := m ((c : Thread nD τ).loc main_arg10) (ix2 0 l)

variable (t : Fin cfg0.N)

/-- Row `r` of point `t`'s tile of rows. -/
def row (r : Fin 512) : Fin 32768 :=
  ⟨512 * t.val + r.val, by have h : t.val < 64 := t.isLt.trans_eq N_0; omega⟩

theorem index_rows : ∀ t : Fin grid0.N, cc0_transform_0 (grid0.coords t) 0 = t.val ∧ cc0_transform_0 (grid0.coords t) 1 = 0 := by
  decide +kernel

theorem index_table : ∀ t : Fin grid0.N, cc0_transform_3 (grid0.coords t) 0 = t.val % 4 ∧ cc0_transform_3 (grid0.coords t) 1 = 0 := by
  decide +kernel

theorem blk_0 (r : Fin 512) (k : Fin 1024) : iblk m c 0 t (ix2 r k) = V (F := Ideal) m c main_arg0 (ix2 (row t r) k) := by
  refine congrArg (V (F := Ideal) m c main_arg0) (funext fun a => Fin.ext ?_)
  match a with
  | ⟨0, _⟩ =>
    show cc0_transform_0 (grid0.coords t) 0 * 512 + 1 * r.val = 512 * t.val + r.val
    rw [(index_rows t).1]; omega
  | ⟨1, _⟩ =>
    show cc0_transform_0 (grid0.coords t) 1 * 1024 + 1 * k.val = k.val
    rw [(index_rows t).2]; omega

/-- A table's block, of either table. -/
theorem blk_3 (r : Fin 512) (l : Fin 128) : iblk m c 3 t (ix2 r l) = V (F := Ideal) m c main_v10 (ix2 (pos (row t r)) l) := by
  refine congrArg (V (F := Ideal) m c main_v10) (funext fun a => Fin.ext ?_)
  match a with
  | ⟨0, _⟩ =>
    show cc0_transform_3 (grid0.coords t) 0 * 512 + 1 * r.val = (512 * t.val + r.val) % 2048
    rw [(index_table t).1]; omega
  | ⟨1, _⟩ =>
    show cc0_transform_3 (grid0.coords t) 1 * 128 + 1 * l.val = l.val
    rw [(index_table t).2]; omega

theorem blk_4 (r : Fin 512) (l : Fin 128) : iblk m c 4 t (ix2 r l) = V (F := Ideal) m c main_v13 (ix2 (pos (row t r)) l) := by
  refine congrArg (V (F := Ideal) m c main_v13) (funext fun a => Fin.ext ?_)
  match a with
  | ⟨0, _⟩ =>
    show cc0_transform_3 (grid0.coords t) 0 * 512 + 1 * r.val = (512 * t.val + r.val) % 2048
    rw [(index_table t).1]; omega
  | ⟨1, _⟩ =>
    show cc0_transform_3 (grid0.coords t) 1 * 128 + 1 * l.val = l.val
    rw [(index_table t).2]; omega

theorem blk_1 (j : Fin 1) (l : Fin 1024) : iblk m c 1 t (ix2 j l) = V (F := Ideal) m c main_arg1 (ix2 j l) := by
  refine congrArg (V (F := Ideal) m c main_arg1) (funext fun a => Fin.ext ?_)
  match a with
  | ⟨0, _⟩ => show 0 * 1 + 1 * j.val = j.val; omega
  | ⟨1, _⟩ => show 0 * 1024 + 1 * l.val = l.val; omega

theorem blk_2 (j : Fin 1024) (l : Fin 5248) : iblk m c 2 t (ix2 j l) = V (F := Ideal) m c main_arg2 (ix2 j l) := by
  refine congrArg (V (F := Ideal) m c main_arg2) (funext fun a => Fin.ext ?_)
  match a with
  | ⟨0, _⟩ => show 0 * 1024 + 1 * j.val = j.val; omega
  | ⟨1, _⟩ => show 0 * 5248 + 1 * l.val = l.val; omega

theorem blk_5 (j : Fin 1) (l : Fin 512) : iblk m c 5 t (ix2 j l) = V (F := Ideal) m c main_v17 (ix2 j l) := by
  refine congrArg (V (F := Ideal) m c main_v17) (funext fun a => Fin.ext ?_)
  match a with
  | ⟨0, _⟩ => show 0 * 1 + 1 * j.val = j.val; omega
  | ⟨1, _⟩ => show 0 * 512 + 1 * l.val = l.val; omega

theorem blk_6 (j : Fin 1) (l : Fin 512) : iblk m c 6 t (ix2 j l) = V (F := Ideal) m c main_v21 (ix2 j l) := by
  refine congrArg (V (F := Ideal) m c main_v21) (funext fun a => Fin.ext ?_)
  match a with
  | ⟨0, _⟩ => show 0 * 1 + 1 * j.val = j.val; omega
  | ⟨1, _⟩ => show 0 * 512 + 1 * l.val = l.val; omega

theorem blk_7 (j : Fin 1) (l : Fin 512) : iblk m c 7 t (ix2 j l) = V (F := Ideal) m c main_v25 (ix2 j l) := by
  refine congrArg (V (F := Ideal) m c main_v25) (funext fun a => Fin.ext ?_)
  match a with
  | ⟨0, _⟩ => show 0 * 1 + 1 * j.val = j.val; omega
  | ⟨1, _⟩ => show 0 * 512 + 1 * l.val = l.val; omega

theorem blk_8 (j : Fin 1) (l : Fin 512) : iblk m c 8 t (ix2 j l) = V (F := Ideal) m c main_v29 (ix2 j l) := by
  refine congrArg (V (F := Ideal) m c main_v29) (funext fun a => Fin.ext ?_)
  match a with
  | ⟨0, _⟩ => show 0 * 1 + 1 * j.val = j.val; omega
  | ⟨1, _⟩ => show 0 * 512 + 1 * l.val = l.val; omega

theorem blk_9 (j : Fin 1) (l : Fin 128) : iblk m c 9 t (ix2 j l) = V (F := Ideal) m c main_arg9 (ix2 j l) := by
  refine congrArg (V (F := Ideal) m c main_arg9) (funext fun a => Fin.ext ?_)
  match a with
  | ⟨0, _⟩ => show 0 * 1 + 1 * j.val = j.val; omega
  | ⟨1, _⟩ => show 0 * 128 + 1 * l.val = l.val; omega

theorem blk_10 (j : Fin 1) (l : Fin 2048) : iblk m c 10 t (ix2 j l) = V (F := Ideal) m c main_arg10 (ix2 j l) := by
  refine congrArg (V (F := Ideal) m c main_arg10) (funext fun a => Fin.ext ?_)
  match a with
  | ⟨0, _⟩ => show 0 * 1 + 1 * j.val = j.val; omega
  | ⟨1, _⟩ => show 0 * 2048 + 1 * l.val = l.val; omega

theorem blk_11 (j : Fin 512) (l : Fin 512) : iblk m c 11 t (ix2 j l) = V (F := Ideal) m c main_v7 (ix2 j l) := by
  refine congrArg (V (F := Ideal) m c main_v7) (funext fun a => Fin.ext ?_)
  match a with
  | ⟨0, _⟩ => show 0 * 512 + 1 * j.val = j.val; omega
  | ⟨1, _⟩ => show 0 * 512 + 1 * l.val = l.val; omega

/-- What row `r` of point `t`'s blocks holds, from the arguments. -/
theorem reads (r : Fin 512) :
    Reads (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) r (rowsA m c (row t r)) (gainA m c) (weightsA m c)
      (cosA m c (pos (row t r))) (sinA m c (pos (row t r))) (gainQ m c) (gainK m c) (gainFQ m c) (gainFK m c) (biasF m c) (biasG m c) where
  h0 k := (blk_0 m c t r k).trans (congrFun (V_main_arg0 m c) _)
  h1 k := (blk_1 m c t 0 k).trans (congrFun (V_main_arg1 m c) _)
  h2 k l := (blk_2 m c t k l).trans (congrFun (V_main_arg2 m c) _)
  h3 l := (blk_3 m c t r l).trans ((congrFun (V_cos m c) _).trans (fourfold_at _ _ l))
  h4 l := (blk_4 m c t r l).trans ((congrFun (V_sin m c) _).trans (fourfold_at _ _ l))
  h5 l := (blk_5 m c t 0 l).trans ((congrFun (V_gq m c) _).trans (eightfold_at _ l))
  h6 l := (blk_6 m c t 0 l).trans ((congrFun (V_gk m c) _).trans (eightfold_at _ l))
  h7 l := (blk_7 m c t 0 l).trans ((congrFun (V_fgq m c) _).trans (eightfold_at _ l))
  h8 l := (blk_8 m c t 0 l).trans ((congrFun (V_fgk m c) _).trans (eightfold_at _ l))
  h9 l := (blk_9 m c t 0 l).trans (congrFun (V_main_arg9 m c) _)
  h10 l := (blk_10 m c t 0 l).trans (congrFun (V_main_arg10 m c) _)
  h11 j l := (blk_11 m c t j l).trans ((congrFun (V_heads m c) _).trans (sameHead_at j l))

end Cert.Kernel2Ideal.Rows
end
-- ==== Proof.Kernel2Ideal.Arrays.lean ====
/- The projections' kernel over the reals: each output's array is its formula. -/
module

public import proofs.«01_k».proof.Proof.Kernel2Ideal.Blocks

@[expose] public section

set_option maxRecDepth 16384

noncomputable section

namespace Cert.Kernel2Ideal.Rows

open Cert.Kernel2Ideal Cert.Kernel2Ideal.Gen Cert.Kernel2Ideal.Value
open Idealize.ShloMosaic Idealize.ShloMosaic.TcCoe Idealize.ShloMosaic.Tactic Idealize.SL.Sem
open Cert.Projection

variable (m : (ℓ : Loc nD τ sig) → Buf (Elt Ideal) ℓ) (c : Dev nD)

theorem index_of (n : Fin 32768) : ∃ t : Fin cfg0.N, t.val = n.val / 512 := by
  have hN : cfg0.N = 64 := N_0
  exact ⟨⟨n.val / 512, by omega⟩, rfl⟩

/-- A row's place in its tile: the tile's first row and the 512 rows after it. -/
theorem in_tile (n : Fin 32768) (t : Fin cfg0.N) (h : t.val = n.val / 512) :
    cc0_transform_0 (grid0.coords t) 0 * 512 ≤ n.val ∧ n.val < cc0_transform_0 (grid0.coords t) 0 * 512 + 512 := by
  rw [(index_rows t).1]; omega

/-- The lanes' axis has one block. -/
theorem in_lanes (b l : ℕ) (h : l < b) (t : Fin cfg0.N) :
    cc0_transform_0 (grid0.coords t) 1 * b ≤ l ∧ l < cc0_transform_0 (grid0.coords t) 1 * b + b := by
  rw [(index_rows t).2]; omega

/-- An index lies in its tile's block. -/
theorem in_block {n : ℕ} (i : (⟨2, ![32768, n]⟩ : Shape).Idx) (t : Fin cfg0.N) (h : t.val = (i 0).val / 512) (a : Fin 2) :
    cc0_transform_0 (grid0.coords t) a * (![512, n] : Fin 2 → ℕ) a ≤ (i a).val
      ∧ (i a).val < cc0_transform_0 (grid0.coords t) a * (![512, n] : Fin 2 → ℕ) a + (![512, n] : Fin 2 → ℕ) a := by
  match a with
  | ⟨0, _⟩ => exact in_tile (i 0) t h
  | ⟨1, _⟩ => exact in_lanes n (i 1).val (i 1).isLt t

/-- A tile that holds a formula's rows is the block of the formula's array. -/
theorem tile_eq {n : ℕ} (f : Fin 32768 → Fin n → EReal) (t : Fin cfg0.N) (o : (⟨2, ![512, n]⟩ : Shape).Idx → EReal)
    (h : ∀ r l, o (ix2 r l) = f (row t r) l) (e : (⟨2, ![512, n]⟩ : Shape).Idx → (⟨2, ![32768, n]⟩ : Shape).Idx)
    (h0 : ∀ y, (e y 0).val = cc0_transform_0 (grid0.coords t) 0 * 512 + 1 * (y 0).val)
    (h1 : ∀ y, (e y 1).val = cc0_transform_0 (grid0.coords t) 1 * n + 1 * (y 1).val) : o = fun y => table f (e y) := by
  funext y
  refine (congrArg o (eq_ix2 y)).trans ((h (y 0) (y 1)).trans ?_)
  show f (row t (y 0)) (y 1) = f (e y 0) (e y 1)
  congr 1
  · refine Fin.ext ?_
    rw [h0, (index_rows t).1]
    show 512 * t.val + (y 0).val = _
    omega
  · refine Fin.ext ?_
    rw [h1, (index_rows t).2]
    omega

/-! Each output's array. -/

theorem final_12 : (dats (F := Ideal) m 0 c).arrAt 12 cfg0.N = table (queries (rowsA m c) (gainA m c) (weightsA m c) (cosA m c) (sinA m c) (gainQ m c)) :=
  (dats m 0 c).arrAt_eq_of_cover 12 _
    (fun t _ => (flushed12 m c t).trans (tile_eq (queries (rowsA m c) (gainA m c) (weightsA m c) (cosA m c) (sinA m c) (gainQ m c)) t
      (out0_12 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))
      (fun r l => out12_at _ (reads m c t r) l) ((cfg0.win 12).blk t).view.emb (fun _ => rfl) (fun _ => rfl)))
    (fun i => (index_of (i 0)).elim fun t ht => ⟨t, flush0_12 _, by
      show i ∈ ((View.whole main_v30_0).slice (win0_12.rect t)).set
      rw [View.set_slice_whole, Rect.mem_set_unit]
      exact in_block i t ht⟩)

theorem final_13 : (dats (F := Ideal) m 0 c).arrAt 13 cfg0.N = table (keys (rowsA m c) (gainA m c) (weightsA m c) (cosA m c) (sinA m c) (gainK m c)) :=
  (dats m 0 c).arrAt_eq_of_cover 13 _
    (fun t _ => (flushed13 m c t).trans (tile_eq (keys (rowsA m c) (gainA m c) (weightsA m c) (cosA m c) (sinA m c) (gainK m c)) t
      (out0_13 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))
      (fun r l => out13_at _ (reads m c t r) l) ((cfg0.win 13).blk t).view.emb (fun _ => rfl) (fun _ => rfl)))
    (fun i => (index_of (i 0)).elim fun t ht => ⟨t, flush0_13 _, by
      show i ∈ ((View.whole main_v30_1).slice (win0_13.rect t)).set
      rw [View.set_slice_whole, Rect.mem_set_unit]
      exact in_block i t ht⟩)

theorem final_14 : (dats (F := Ideal) m 0 c).arrAt 14 cfg0.N = table (fun n => values (rowsA m c) (gainA m c) (weightsA m c) n 1024) :=
  (dats m 0 c).arrAt_eq_of_cover 14 _
    (fun t _ => (flushed14 m c t).trans (tile_eq (fun n => values (rowsA m c) (gainA m c) (weightsA m c) n 1024) t
      (out0_14 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))
      (fun r l => out14_at _ (reads m c t r) l) ((cfg0.win 14).blk t).view.emb (fun _ => rfl) (fun _ => rfl)))
    (fun i => (index_of (i 0)).elim fun t ht => ⟨t, flush0_14 _, by
      show i ∈ ((View.whole main_v30_2).slice (win0_14.rect t)).set
      rw [View.set_slice_whole, Rect.mem_set_unit]
      exact in_block i t ht⟩)

theorem final_15 : (dats (F := Ideal) m 0 c).arrAt 15 cfg0.N = table (plainQueries (rowsA m c) (gainA m c) (weightsA m c) (gainFQ m c)) :=
  (dats m 0 c).arrAt_eq_of_cover 15 _
    (fun t _ => (flushed15 m c t).trans (tile_eq (plainQueries (rowsA m c) (gainA m c) (weightsA m c) (gainFQ m c)) t
      (out0_15 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))
      (fun r l => out15_at _ (reads m c t r) l) ((cfg0.win 15).blk t).view.emb (fun _ => rfl) (fun _ => rfl)))
    (fun i => (index_of (i 0)).elim fun t ht => ⟨t, flush0_15 _, by
      show i ∈ ((View.whole main_v30_3).slice (win0_15.rect t)).set
      rw [View.set_slice_whole, Rect.mem_set_unit]
      exact in_block i t ht⟩)

theorem final_16 : (dats (F := Ideal) m 0 c).arrAt 16 cfg0.N = table (plainKeys (rowsA m c) (gainA m c) (weightsA m c) (gainFK m c)) :=
  (dats m 0 c).arrAt_eq_of_cover 16 _
    (fun t _ => (flushed16 m c t).trans (tile_eq (plainKeys (rowsA m c) (gainA m c) (weightsA m c) (gainFK m c)) t
      (out0_16 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))
      (fun r l => out16_at _ (reads m c t r) l) ((cfg0.win 16).blk t).view.emb (fun _ => rfl) (fun _ => rfl)))
    (fun i => (index_of (i 0)).elim fun t ht => ⟨t, flush0_16 _, by
      show i ∈ ((View.whole main_v30_4).slice (win0_16.rect t)).set
      rw [View.set_slice_whole, Rect.mem_set_unit]
      exact in_block i t ht⟩)

theorem final_17 : (dats (F := Ideal) m 0 c).arrAt 17 cfg0.N = table (fun n => values (rowsA m c) (gainA m c) (weightsA m c) n 2560) :=
  (dats m 0 c).arrAt_eq_of_cover 17 _
    (fun t _ => (flushed17 m c t).trans (tile_eq (fun n => values (rowsA m c) (gainA m c) (weightsA m c) n 2560) t
      (out0_17 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))
      (fun r l => out17_at _ (reads m c t r) l) ((cfg0.win 17).blk t).view.emb (fun _ => rfl) (fun _ => rfl)))
    (fun i => (index_of (i 0)).elim fun t ht => ⟨t, flush0_17 _, by
      show i ∈ ((View.whole main_v30_5).slice (win0_17.rect t)).set
      rw [View.set_slice_whole, Rect.mem_set_unit]
      exact in_block i t ht⟩)

theorem final_18 : (dats (F := Ideal) m 0 c).arrAt 18 cfg0.N = table (forget (rowsA m c) (gainA m c) (weightsA m c) (biasF m c)) :=
  (dats m 0 c).arrAt_eq_of_cover 18 _
    (fun t _ => (flushed18 m c t).trans (tile_eq (forget (rowsA m c) (gainA m c) (weightsA m c) (biasF m c)) t
      (out0_18 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))
      (fun r l => out18_at _ (reads m c t r) l) ((cfg0.win 18).blk t).view.emb (fun _ => rfl) (fun _ => rfl)))
    (fun i => (index_of (i 0)).elim fun t ht => ⟨t, flush0_18 _, by
      show i ∈ ((View.whole main_v30_6).slice (win0_18.rect t)).set
      rw [View.set_slice_whole, Rect.mem_set_unit]
      exact in_block i t ht⟩)

theorem final_19 : (dats (F := Ideal) m 0 c).arrAt 19 cfg0.N = table (fun n => gate (rowsA m c) (gainA m c) (weightsA m c) (biasG m c) n 3200 0) :=
  (dats m 0 c).arrAt_eq_of_cover 19 _
    (fun t _ => (flushed19 m c t).trans (tile_eq (fun n => gate (rowsA m c) (gainA m c) (weightsA m c) (biasG m c) n 3200 0) t
      (out0_19 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))
      (fun r l => out19_at _ (reads m c t r) l) ((cfg0.win 19).blk t).view.emb (fun _ => rfl) (fun _ => rfl)))
    (fun i => (index_of (i 0)).elim fun t ht => ⟨t, flush0_19 _, by
      show i ∈ ((View.whole main_v30_7).slice (win0_19.rect t)).set
      rw [View.set_slice_whole, Rect.mem_set_unit]
      exact in_block i t ht⟩)

theorem final_20 : (dats (F := Ideal) m 0 c).arrAt 20 cfg0.N = table (fun n => gate (rowsA m c) (gainA m c) (weightsA m c) (biasG m c) n 4224 1024) :=
  (dats m 0 c).arrAt_eq_of_cover 20 _
    (fun t _ => (flushed20 m c t).trans (tile_eq (fun n => gate (rowsA m c) (gainA m c) (weightsA m c) (biasG m c) n 4224 1024) t
      (out0_20 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))
      (fun r l => out20_at _ (reads m c t r) l) ((cfg0.win 20).blk t).view.emb (fun _ => rfl) (fun _ => rfl)))
    (fun i => (index_of (i 0)).elim fun t ht => ⟨t, flush0_20 _, by
      show i ∈ ((View.whole main_v30_8).slice (win0_20.rect t)).set
      rw [View.set_slice_whole, Rect.mem_set_unit]
      exact in_block i t ht⟩)

end Cert.Kernel2Ideal.Rows
end
-- ==== Proof.Kernel2Ideal.Run.lean ====
/- The projections' kernel, run over the reals: each output is its formula of the arguments. -/
module

public import proofs.«01_k».proof.Proof.Kernel2Ideal.Arrays

@[expose] public section

set_option maxRecDepth 16384

noncomputable section

namespace Cert.Kernel2Ideal.Rows

open Cert.Kernel2Ideal Cert.Kernel2Ideal.Gen Cert.Kernel2Ideal.Value
open Idealize.ShloMosaic Idealize.ShloMosaic.TcCoe Idealize.ShloMosaic.Tactic Idealize.SL.Sem
open Cert.Projection

variable (m : (ℓ : Loc nD τ sig) → Buf (Elt Ideal) ℓ)

theorem run_result (ρ : Dev nD → PrngReg) :
    θ_run defs (onTc (τ := τ) (main (F := Ideal))) ⟨m, fun _ => 0, ρ⟩ fun r => ∀ c : Dev nD,
      r.2.mem ((c : Thread nD τ).loc main_v30_0) = table (queries (rowsA m c) (gainA m c) (weightsA m c) (cosA m c) (sinA m c) (gainQ m c))
      ∧ r.2.mem ((c : Thread nD τ).loc main_v30_1) = table (keys (rowsA m c) (gainA m c) (weightsA m c) (cosA m c) (sinA m c) (gainK m c))
      ∧ r.2.mem ((c : Thread nD τ).loc main_v30_2) = table (fun n => values (rowsA m c) (gainA m c) (weightsA m c) n 1024)
      ∧ r.2.mem ((c : Thread nD τ).loc main_v30_3) = table (plainQueries (rowsA m c) (gainA m c) (weightsA m c) (gainFQ m c))
      ∧ r.2.mem ((c : Thread nD τ).loc main_v30_4) = table (plainKeys (rowsA m c) (gainA m c) (weightsA m c) (gainFK m c))
      ∧ r.2.mem ((c : Thread nD τ).loc main_v30_5) = table (fun n => values (rowsA m c) (gainA m c) (weightsA m c) n 2560)
      ∧ r.2.mem ((c : Thread nD τ).loc main_v30_6) = table (forget (rowsA m c) (gainA m c) (weightsA m c) (biasF m c))
      ∧ r.2.mem ((c : Thread nD τ).loc main_v30_7) = table (fun n => gate (rowsA m c) (gainA m c) (weightsA m c) (biasG m c) n 3200 0)
      ∧ r.2.mem ((c : Thread nD τ).loc main_v30_8) = table (fun n => gate (rowsA m c) (gainA m c) (weightsA m c) (biasG m c) n 4224 1024)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => by
    obtain ⟨h0, h1, h2, h3, h4, h5, h6, h7, h8, rest⟩ := h c
    exact ⟨h0.trans (final_12 m c), h1.trans (final_13 m c), h2.trans (final_14 m c), h3.trans (final_15 m c),
      h4.trans (final_16 m c), h5.trans (final_17 m c), h6.trans (final_18 m c), h7.trans (final_19 m c),
      h8.trans (final_20 m c), rest⟩)
    (run_blocks (F := Ideal) m ρ)

end Cert.Kernel2Ideal.Rows
end
-- ==== Proof.Reference2Ideal.Pieces.lean ====
/- The projections' reference over the reals, piece by piece, read at an index. -/
module

public import proofs.«01_k».proof.Proof.Gen.Reference2Ideal.Run
public import proofs.«01_k».proof.Proof.Projection.Spec
public import Idealize.ShloMosaic.Lib.Pointwise
public import Idealize.ShloMosaic.Lib.WordCmp

@[expose] public section

set_option maxRecDepth 16384

noncomputable section

namespace Cert.Reference2Ideal.Rows

open Cert.Reference2Ideal Cert.Reference2Ideal.Gen Cert.Reference2Ideal.Value
open Idealize.ShloMosaic Idealize.ShloMosaic.TcCoe Idealize.ShloMosaic.Tactic
open Cert.Projection

/-- The rows divided by the root of their mean squares, times the gain. -/
def normRows (x : FVec Ideal S32768x1024 .f32) (g : FVec Ideal S1x1024 .f32) : FVec Ideal S32768x1024 .f32 :=
  mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 g)

/-- The product with the weights. -/
def product (h : FVec Ideal S32768x1024 .f32) (w : FVec Ideal S1024x5248 .bf16) : FVec Ideal S32768x5248 .f32 :=
  Host.dotGeneral dot_S32768x1024_S1024x5248_S32768x5248_1_0_0_1_n_n none h (extf .f32 w bitsLt_bf16_f32)

/-- The heads of 512 columns, normalised. -/
def heads (y : FVec Ideal S16x2048x8x64 .f32) (g : FVec Ideal S64 .f32) : FVec Ideal S16x2048x8x64 .f32 :=
  mulf (mulf y (broadcastInDim S16x2048x8x64 ![0, 1, 2, 3] bcast_S16x2048x8x1_S16x2048x8x64_0_1_2_3 (Host.rsqrt (addf (Host.divf (broadcastInDim S16x2048x8x1 ![0, 1, 2] bcast_S16x2048x8_S16x2048x8x1_0_1_2 (Host.reduceAdd (mulf y y) (constant S_ .f32 0x00000000#32) reducesTo_S16x2048x8x64_S16x2048x8_d3 h_S_)) (broadcastInDim S16x2048x8x1 ![] bcast_S_S16x2048x8x1 (constant S_ .f32 0x42800000#32))) (broadcastInDim S16x2048x8x1 ![] bcast_S_S16x2048x8x1 (constant S_ .f32 0x358637BD#32)))))) (broadcastInDim S16x2048x8x64 ![0, 1, 2, 3] bcast_S1x1x1x64_S16x2048x8x64_0_1_2_3 (broadcastInDim S1x1x1x64 ![3] bcast_S64_S1x1x1x64_3 g))

/-- The heads turned by the angles of their positions. -/
def rotated (y : FVec Ideal S16x2048x8x64 .f32) (c s : FVec Ideal S2048x32 .f32) : FVec Ideal S16x2048x8x64 .f32 :=
  addf (mulf y (broadcastInDim S16x2048x8x64 ![0, 1, 2, 3] bcast_S1x2048x1x64_S16x2048x8x64_0_1_2_3 (broadcastInDim S1x2048x1x64 ![1, 3] bcast_S2048x64_S1x2048x1x64_1_3 (concatenate S2048x64 1 [⟨S2048x32, c⟩, ⟨S2048x32, c⟩] concatenates_S2048x32_S2048x32_S2048x64_d1)))) (mulf (concatenate S16x2048x8x64 3 [⟨S16x2048x8x32, (Host.negf (extractStridedSlice S16x2048x8x32 ![0, 0, 0, 32] y slices_S16x2048x8x64_S16x2048x8x32_0_0_0_32))⟩, ⟨S16x2048x8x32, (extractStridedSlice S16x2048x8x32 ![0, 0, 0, 0] y slices_S16x2048x8x64_S16x2048x8x32_0_0_0_0)⟩] concatenates_S16x2048x8x32_S16x2048x8x32_S16x2048x8x64_d3) (broadcastInDim S16x2048x8x64 ![0, 1, 2, 3] bcast_S1x2048x1x64_S16x2048x8x64_0_1_2_3 (broadcastInDim S1x2048x1x64 ![1, 3] bcast_S2048x64_S1x2048x1x64_1_3 (concatenate S2048x64 1 [⟨S2048x32, s⟩, ⟨S2048x32, s⟩] concatenates_S2048x32_S2048x32_S2048x64_d1))))

/-- 512 columns as heads of 64 lanes. -/
def split (y : FVec Ideal S32768x512 .f32) : FVec Ideal S16x2048x8x64 .f32 :=
  shapeCast _ y shapeCasts_S32768x512_S16x2048x8x64

/-- The heads side by side again. -/
def join (y : FVec Ideal S16x2048x8x64 .f32) : FVec Ideal S32768x512 .bf16 :=
  truncf .bf16 (shapeCast _ y shapeCasts_S16x2048x8x64_S32768x512) bitsLt_bf16_f32

/-- The queries' scale. -/
def scaled (y : FVec Ideal S16x2048x8x64 .f32) : FVec Ideal S16x2048x8x64 .f32 :=
  mulf y (broadcastInDim S16x2048x8x64 ![] bcast_S_S16x2048x8x64 (constant S_ .f32 0x3E38AA3B#32))

/-- The logarithm of the logistic function. -/
def logLogistic (z : FVec Ideal S32768x128 .f32) : FVec Ideal S32768x128 .f32 :=
  Host.negf (select (cmpf .une (subf (Host.negf z) (broadcastInDim S32768x128 ![] bcast_S_S32768x128 (constant S_ .f32 0x00000000#32))) (subf (Host.negf z) (broadcastInDim S32768x128 ![] bcast_S_S32768x128 (constant S_ .f32 0x00000000#32)))) (addf (Host.negf z) (broadcastInDim S32768x128 ![] bcast_S_S32768x128 (constant S_ .f32 0x00000000#32))) (addf (maximumf (Host.negf z) (broadcastInDim S32768x128 ![] bcast_S_S32768x128 (constant S_ .f32 0x00000000#32))) (Host.log1p (Host.exp (Host.negf (Host.absf (subf (Host.negf z) (broadcastInDim S32768x128 ![] bcast_S_S32768x128 (constant S_ .f32 0x00000000#32)))))))))

/-- A branch's gates. -/
def gates (z : FVec Ideal S32768x1024 .f32) : FVec Ideal S32768x1024 .bf16 :=
  truncf .bf16 (Host.divf (broadcastInDim S32768x1024 ![] bcast_S_S32768x1024 (constant S_ .f32 0x3F800000#32)) (addf (broadcastInDim S32768x1024 ![] bcast_S_S32768x1024 (constant S_ .f32 0x3F800000#32)) (Host.exp (Host.negf z)))) bitsLt_bf16_f32

set_option maxHeartbeats 4000000 in
theorem normRows_at (x : FVec Ideal S32768x1024 .f32) (g : FVec Ideal S1x1024 .f32) (n : Fin 32768) (k : Fin 1024) :
    @Eq EReal (normRows x g (ix2 n k)) (normed (fun j => x (ix2 n j)) (fun j => g (ix2 0 j)) k) := by
  pointwise [normRows]
  rfl

set_option maxHeartbeats 4000000 in
theorem product_at (h : FVec Ideal S32768x1024 .f32) (w : FVec Ideal S1024x5248 .bf16) (n : Fin 32768) (l : Fin 5248) :
    @Eq EReal (product h w (ix2 n l)) (∑ k : Fin 1024, h (ix2 n k) * w (ix2 k l)) := by
  pointwise [product]

set_option maxHeartbeats 4000000 in
theorem heads_at (y : FVec Ideal S16x2048x8x64 .f32) (g : FVec Ideal S64 .f32) (b : Fin 16) (t : Fin 2048) (j : Fin 8) (d : Fin 64) :
    @Eq EReal (heads y g (ix4 b t j d))
      (y (ix4 b t j d) * Ideal.rsqrt (Ideal.div (∑ e : Fin 64, y (ix4 b t j e) * y (ix4 b t j e)) (Ideal.ofBits .f32 0x42800000#32)
        + Ideal.ofBits .f32 0x358637BD#32) * g (ix1 d)) := by
  pointwise [heads]

set_option maxHeartbeats 4000000 in
theorem rotated_at (y : FVec Ideal S16x2048x8x64 .f32) (c s : FVec Ideal S2048x32 .f32) (b : Fin 16) (t : Fin 2048) (j : Fin 8) (d : Fin 64) :
    @Eq EReal (rotated y c s (ix4 b t j d))
      (y (ix4 b t j d) * c (ix2 t ⟨d.val % 32, Nat.mod_lt _ (by decide)⟩)
        + (if d.val < 32 then -y (ix4 b t j (Fin.ofNat 64 (d.val + 32))) else y (ix4 b t j (Fin.ofNat 64 (d.val - 32))))
          * s (ix2 t ⟨d.val % 32, Nat.mod_lt _ (by decide)⟩)) := by
  pointwise [rotated]
  have hd := d.isLt
  by_cases h : d.val < 32
  · simp only [dif_pos h, if_pos h]
    congr 5
    all_goals first | omega | (refine Fin.ext ?_; simp only [Fin.val_ofNat]; omega)
  · simp only [dif_neg h, if_neg h]
    congr 5
    all_goals first | omega | (refine Fin.ext ?_; simp only [Fin.val_ofNat]; omega)

set_option maxHeartbeats 4000000 in
theorem split_at (y : FVec Ideal S32768x512 .f32) (b : Fin 16) (t : Fin 2048) (j : Fin 8) (d : Fin 64) :
    @Eq EReal (split y (ix4 b t j d)) (y (ix2 (Fin.ofNat 32768 (2048 * b.val + t.val)) (Fin.ofNat 512 (64 * j.val + d.val)))) := by
  pointwise [split]
  have hb := b.isLt
  have ht := t.isLt
  have hj := j.isLt
  have hd := d.isLt
  congr 2
  all_goals (refine Fin.ext ?_; simp only [Fin.val_ofNat]; omega)

set_option maxHeartbeats 4000000 in
theorem join_at (y : FVec Ideal S16x2048x8x64 .f32) (n : Fin 32768) (l : Fin 512) :
    @Eq EReal (join y (ix2 n l)) (y (ix4 ⟨n.val / 2048, by omega⟩ (pos n) ⟨l.val / 64, by omega⟩ ⟨l.val % 64, by omega⟩)) := by
  pointwise [join]
  rfl

set_option maxHeartbeats 4000000 in
theorem scaled_at (y : FVec Ideal S16x2048x8x64 .f32) (i : S16x2048x8x64.Idx) : @Eq EReal (scaled y i) (HMul.hMul (α := EReal) (β := EReal) (y i) scale) := rfl

set_option maxHeartbeats 4000000 in
theorem logLogistic_at (z : FVec Ideal S32768x128 .f32) (n : Fin 32768) (l : Fin 128) :
    @Eq EReal (logLogistic z (ix2 n l)) (logGate (z (ix2 n l))) := by
  pointwise [logLogistic]
  rw [if_neg (by simp)]
  exact neg_softplus _

set_option maxHeartbeats 4000000 in
theorem gates_at (z : FVec Ideal S32768x1024 .f32) (n : Fin 32768) (l : Fin 1024) :
    @Eq EReal (gates z (ix2 n l)) (Ideal.logistic (z (ix2 n l))) := by
  pointwise [gates]
  rfl

/-- A row of biases under every row. -/
theorem row_at (b : FVec Ideal S1x128 .f32) (n : Fin 32768) (l : Fin 128) :
    @Eq EReal (broadcastInDim S32768x128 ![0, 1] bcast_S1x128_S32768x128_0_1 b (ix2 n l)) (b (ix2 0 l)) := by
  pointwise

theorem wideRow_at (b : FVec Ideal S1x1024 .f32) (n : Fin 32768) (l : Fin 1024) :
    @Eq EReal (broadcastInDim S32768x1024 ![0, 1] bcast_S1x1024_S32768x1024_0_1 b (ix2 n l)) (b (ix2 0 l)) := by
  pointwise

end Cert.Reference2Ideal.Rows
end
-- ==== Proof.Reference2Ideal.Read.lean ====
/- The projections' reference over the reals: each result is its formula, at every row and lane. -/
module

public import proofs.«01_k».proof.Proof.Reference2Ideal.Pieces

@[expose] public section

set_option maxRecDepth 16384

noncomputable section

namespace Cert.Reference2Ideal.Rows

open Cert.Reference2Ideal Cert.Reference2Ideal.Gen Cert.Reference2Ideal.Value
open Idealize.ShloMosaic Idealize.ShloMosaic.TcCoe Idealize.ShloMosaic.Tactic Idealize.SL.Sem
open Cert.Projection

/-! Each result's formula over arrays of its own. -/

section
variable (x : FVec Ideal S32768x1024 .f32) (g : FVec Ideal S1x1024 .f32) (w : FVec Ideal S1024x5248 .bf16)
  (c s : FVec Ideal S2048x32 .f32) (gain : FVec Ideal S64 .f32)

/-- The whole product, at a row and a column. -/
theorem projected_at (n : Fin 32768) (l : Fin 5248) :
    @Eq EReal (product (normRows x g) w (ix2 n l))
      (proj (fun k => x (ix2 n k)) (fun k => g (ix2 0 k)) (fun k l => w (ix2 k l)) l) :=
  (product_at _ w n l).trans (Finset.sum_congr rfl fun k _ => congrArg (fun z : EReal => z * w (ix2 k l)) (normRows_at x g n k))

variable (y : FVec Ideal S32768x512 .f32) (n : Fin 32768) (l : Fin 512)

/-- The index of a row and a lane among the heads. -/
def place : S16x2048x8x64.Idx :=
  ix4 ⟨n.val / 2048, by omega⟩ (pos n) ⟨l.val / 64, by omega⟩ ⟨l.val % 64, by omega⟩

/-- Any lane of that head. -/
theorem split_lane (e : Fin 64) :
    @Eq EReal (split y (ix4 ⟨n.val / 2048, by omega⟩ (pos n) ⟨l.val / 64, by omega⟩ e))
      (y (ix2 n (Fin.ofNat 512 (64 * (l.val / 64) + e.val)))) := by
  refine (split_at y _ _ _ _).trans ?_
  have hn := n.isLt
  congr 2
  refine Fin.ext ?_
  simp only [Fin.val_ofNat, pos]
  omega

theorem heads_lane (e : Fin 64) :
    @Eq EReal (heads (split y) gain (ix4 ⟨n.val / 2048, by omega⟩ (pos n) ⟨l.val / 64, by omega⟩ e))
      (headed (fun l => y (ix2 n l)) (fun d => gain (ix1 d)) (Fin.ofNat 512 (64 * (l.val / 64) + e.val))) := by
  refine (heads_at _ gain _ _ _ e).trans ?_
  have hl := l.isLt
  have he := e.isLt
  have h1 : (Fin.ofNat 512 (64 * (l.val / 64) + e.val)).val / 64 = l.val / 64 := by simp only [Fin.val_ofNat]; omega
  have h2 : (⟨(Fin.ofNat 512 (64 * (l.val / 64) + e.val)).val % 64, Nat.mod_lt _ (by decide)⟩ : Fin 64) = e := by
    refine Fin.ext ?_; simp only [Fin.val_ofNat]; omega
  rw [headed, square, h1, h2]
  exact congrArg₂ (fun a b : EReal => a * Ideal.rsqrt (Ideal.div b (Ideal.ofBits .f32 0x42800000#32)
        + Ideal.ofBits .f32 0x358637BD#32) * gain (ix1 e)) (split_lane y n l e)
    (Finset.sum_congr rfl fun d _ => congrArg (fun a : EReal => a * a) (split_lane y n l d))

/-- A lane is the lane of its head it is. -/
theorem lane_eq : (Fin.ofNat 512 (64 * (l.val / 64) + l.val % 64)) = l := by
  have hl := l.isLt
  refine Fin.ext ?_; simp only [Fin.val_ofNat]; omega

theorem heads_place :
    @Eq EReal (heads (split y) gain (place n l)) (headed (fun l => y (ix2 n l)) (fun d => gain (ix1 d)) l) :=
  (heads_lane gain y n l ⟨l.val % 64, by omega⟩).trans (congrArg (headed _ _) (lane_eq l))

theorem rotated_place :
    @Eq EReal (rotated (heads (split y) gain) c s (place n l))
      (turned (headed (fun l => y (ix2 n l)) (fun d => gain (ix1 d))) (fun d => c (ix2 (pos n) d)) (fun d => s (ix2 (pos n) d)) l) := by
  refine (rotated_at _ c s _ _ _ _).trans ?_
  have hl := l.isLt
  have h1 : (⟨l.val % 64 % 32, Nat.mod_lt _ (by decide)⟩ : Fin 32) = ⟨l.val % 32, Nat.mod_lt _ (by decide)⟩ :=
    Fin.ext (show l.val % 64 % 32 = l.val % 32 by omega)
  have h2 : l.val % 64 < 32 → (Fin.ofNat 512 (64 * (l.val / 64) + (Fin.ofNat 64 (l.val % 64 + 32)).val)) = Fin.ofNat 512 (l.val + 32) := by
    intro h; refine Fin.ext ?_; simp only [Fin.val_ofNat]; omega
  have h3 : ¬l.val % 64 < 32 → (Fin.ofNat 512 (64 * (l.val / 64) + (Fin.ofNat 64 (l.val % 64 - 32)).val)) = Fin.ofNat 512 (l.val - 32) := by
    intro h; refine Fin.ext ?_; simp only [Fin.val_ofNat]; omega
  rw [turned]
  refine congrArg₂ (fun a b : EReal => a + b) ?_ ?_
  · exact congrArg₂ (fun (a : EReal) d => a * c (ix2 (pos n) d)) (heads_place gain y n l) h1
  · refine congrArg₂ (fun (a : EReal) d => a * s (ix2 (pos n) d)) ?_ h1
    by_cases h : l.val % 64 < 32
    · rw [if_pos h, if_pos h]
      exact congrArg (fun a : EReal => -a) ((heads_lane gain y n l _).trans (congrArg (headed _ _) (h2 h)))
    · rw [if_neg h, if_neg h]
      exact (heads_lane gain y n l _).trans (congrArg (headed _ _) (h3 h))

/-- 512 of the product's columns, from `o` on. -/
def cut (o : ℕ) (h : S32768x5248.Slices ![0, o] S32768x512) : FVec Ideal S32768x512 .f32 :=
  extractStridedSlice S32768x512 ![0, o] (product (normRows x g) w) h

theorem cut_at (o : ℕ) (h : S32768x5248.Slices ![0, o] S32768x512) (ho : o + 512 ≤ 5248) :
    @Eq EReal (cut x g w o h (ix2 n l)) (part (fun k => x (ix2 n k)) (fun k => g (ix2 0 k)) (fun k l => w (ix2 k l)) o l) := by
  refine (congrArg (product (normRows x g) w) (?_ : _ = ix2 n (Fin.ofNat 5248 (o + l.val)))).trans (projected_at x g w n _)
  have hl := l.isLt
  funext a
  match a with
  | ⟨0, _⟩ => exact Fin.ext (show 0 + n.val = n.val by omega)
  | ⟨1, _⟩ => refine Fin.ext (show o + l.val = (o + l.val) % 5248 by omega)

theorem cut_row (o : ℕ) (h : S32768x5248.Slices ![0, o] S32768x512) (ho : o + 512 ≤ 5248) :
    (fun l => cut x g w o h (ix2 n l)) = part (fun k => x (ix2 n k)) (fun k => g (ix2 0 k)) (fun k l => w (ix2 k l)) o :=
  funext fun l => cut_at x g w n l o h ho

theorem heads_cut (o : ℕ) (h : S32768x5248.Slices ![0, o] S32768x512) (ho : o + 512 ≤ 5248) :
    @Eq EReal (heads (split (cut x g w o h)) gain (place n l))
      (headed (part (fun k => x (ix2 n k)) (fun k => g (ix2 0 k)) (fun k l => w (ix2 k l)) o) (fun d => gain (ix1 d)) l) := by
  rw [← cut_row x g w n o h ho]
  exact heads_place gain _ n l

theorem rotated_cut (o : ℕ) (h : S32768x5248.Slices ![0, o] S32768x512) (ho : o + 512 ≤ 5248) :
    @Eq EReal (rotated (heads (split (cut x g w o h)) gain) c s (place n l))
      (turned (headed (part (fun k => x (ix2 n k)) (fun k => g (ix2 0 k)) (fun k l => w (ix2 k l)) o) (fun d => gain (ix1 d)))
        (fun d => c (ix2 (pos n) d)) (fun d => s (ix2 (pos n) d)) l) := by
  rw [← cut_row x g w n o h ho]
  exact rotated_place c s gain _ n l

/-! The results, as arrays of rows. -/

theorem queries_eq (h : S32768x5248.Slices ![0, 0] S32768x512) :
    join (scaled (rotated (heads (split (cut x g w 0 h)) gain) c s))
      = table (queries (fun n k => x (ix2 n k)) (fun k => g (ix2 0 k)) (fun k l => w (ix2 k l)) (fun t d => c (ix2 t d))
          (fun t d => s (ix2 t d)) (fun d => gain (ix1 d))) := by
  funext i
  rw [eq_ix2 i]
  refine (join_at _ (i 0) (i 1)).trans ((scaled_at _ _).trans (congrArg (fun a : EReal => a * scale) ?_))
  exact rotated_cut x g w c s gain (i 0) (i 1) 0 h (by decide)

theorem keys_eq (h : S32768x5248.Slices ![0, 512] S32768x512) :
    join (rotated (heads (split (cut x g w 512 h)) gain) c s)
      = table (keys (fun n k => x (ix2 n k)) (fun k => g (ix2 0 k)) (fun k l => w (ix2 k l)) (fun t d => c (ix2 t d))
          (fun t d => s (ix2 t d)) (fun d => gain (ix1 d))) := by
  funext i
  rw [eq_ix2 i]
  refine (join_at _ (i 0) (i 1)).trans ?_
  exact rotated_cut x g w c s gain (i 0) (i 1) 512 h (by decide)

theorem plainQueries_eq (h : S32768x5248.Slices ![0, 1536] S32768x512) :
    join (scaled (heads (split (cut x g w 1536 h)) gain))
      = table (plainQueries (fun n k => x (ix2 n k)) (fun k => g (ix2 0 k)) (fun k l => w (ix2 k l)) (fun d => gain (ix1 d))) := by
  funext i
  rw [eq_ix2 i]
  refine (join_at _ (i 0) (i 1)).trans ((scaled_at _ _).trans (congrArg (fun a : EReal => a * scale) ?_))
  exact heads_cut x g w gain (i 0) (i 1) 1536 h (by decide)

theorem plainKeys_eq (h : S32768x5248.Slices ![0, 2048] S32768x512) :
    join (heads (split (cut x g w 2048 h)) gain)
      = table (plainKeys (fun n k => x (ix2 n k)) (fun k => g (ix2 0 k)) (fun k l => w (ix2 k l)) (fun d => gain (ix1 d))) := by
  funext i
  rw [eq_ix2 i]
  refine (join_at _ (i 0) (i 1)).trans ?_
  exact heads_cut x g w gain (i 0) (i 1) 2048 h (by decide)

theorem values_eq (o : ℕ) (h : S32768x5248.Slices ![0, o] S32768x512) (ho : o + 512 ≤ 5248) :
    (truncf .bf16 (cut x g w o h) bitsLt_bf16_f32 : FVec Ideal S32768x512 .bf16)
      = table (fun n => values (fun n k => x (ix2 n k)) (fun k => g (ix2 0 k)) (fun k l => w (ix2 k l)) n o) := by
  funext i
  rw [eq_ix2 i]
  exact cut_at x g w (i 0) (i 1) o h ho

theorem forget_eq (b : FVec Ideal S1x128 .f32) :
    logLogistic (addf (extractStridedSlice S32768x128 ![0, 3072] (product (normRows x g) w) slices_S32768x5248_S32768x128_0_3072)
        (broadcastInDim S32768x128 ![0, 1] bcast_S1x128_S32768x128_0_1 b))
      = table (forget (fun n k => x (ix2 n k)) (fun k => g (ix2 0 k)) (fun k l => w (ix2 k l)) (fun l => b (ix2 0 l))) := by
  funext i
  rw [eq_ix2 i]
  refine (logLogistic_at _ (i 0) (i 1)).trans (congrArg logGate (congrArg₂ (fun a b : EReal => a + b) ?_ ?_))
  · refine (congrArg (product (normRows x g) w) (?_ : _ = ix2 (i 0) (Fin.ofNat 5248 (3072 + (i 1).val)))).trans (projected_at x g w _ _)
    have hl : (i 1).val < 128 := (i 1).isLt
    funext a
    match a with
    | ⟨0, _⟩ => exact Fin.ext (show 0 + (i 0).val = (i 0).val by omega)
    | ⟨1, _⟩ => exact Fin.ext (show 3072 + (i 1).val = (3072 + (i 1).val) % 5248 by omega)
  · exact row_at b (i 0) (i 1)

theorem gate_eq (o p : ℕ) (h : S32768x5248.Slices ![0, o] S32768x1024) (h' : S1x2048.Slices ![0, p] S1x1024)
    (ho : o + 1024 ≤ 5248) (hp : p + 1024 ≤ 2048) (b : FVec Ideal S1x2048 .f32) :
    gates (addf (extractStridedSlice S32768x1024 ![0, o] (product (normRows x g) w) h)
        (broadcastInDim S32768x1024 ![0, 1] bcast_S1x1024_S32768x1024_0_1 (extractStridedSlice S1x1024 ![0, p] b h')))
      = table (fun n => gate (fun n k => x (ix2 n k)) (fun k => g (ix2 0 k)) (fun k l => w (ix2 k l)) (fun l => b (ix2 0 l)) n o p) := by
  funext i
  rw [eq_ix2 i]
  have hl : (i 1).val < 1024 := (i 1).isLt
  refine (gates_at _ (i 0) (i 1)).trans (congrArg Ideal.logistic (congrArg₂ (fun a b : EReal => a + b) ?_ ?_))
  · refine (congrArg (product (normRows x g) w) (?_ : _ = ix2 (i 0) (Fin.ofNat 5248 (o + (i 1).val)))).trans (projected_at x g w _ _)
    funext a
    match a with
    | ⟨0, _⟩ => exact Fin.ext (show 0 + (i 0).val = (i 0).val by omega)
    | ⟨1, _⟩ => exact Fin.ext (show o + (i 1).val = (o + (i 1).val) % 5248 by omega)
  · refine (wideRow_at _ (i 0) (i 1)).trans (congrArg b (?_ : _ = ix2 0 (Fin.ofNat 2048 (p + (i 1).val))))
    funext a
    match a with
    | ⟨0, _⟩ => rfl
    | ⟨1, _⟩ => exact Fin.ext (show p + (i 1).val = (p + (i 1).val) % 2048 by omega)

end

end Cert.Reference2Ideal.Rows
end
-- ==== Proof.Reference2Ideal.Result.lean ====
/- The projections' reference, run over the reals: each result is its formula of the arguments. -/
module

public import proofs.«01_k».proof.Proof.Reference2Ideal.Read

@[expose] public section

set_option maxRecDepth 16384

noncomputable section

namespace Cert.Reference2Ideal.Rows

open Cert.Reference2Ideal Cert.Reference2Ideal.Gen Cert.Reference2Ideal.Value
open Idealize.ShloMosaic Idealize.ShloMosaic.TcCoe Idealize.ShloMosaic.Tactic Idealize.SL.Sem
open Cert.Projection

variable (m : (ℓ : Loc nD τ sig) → Buf (Elt Ideal) ℓ) (c : Dev nD)

/-! The arguments by their coordinates. -/

def rowsA (n : Fin 32768) (k : Fin 1024) : EReal := m ((c.tc : Thread nD τ).loc main_arg0) (ix2 n k)
def gainA (k : Fin 1024) : EReal := m ((c.tc : Thread nD τ).loc main_arg1) (ix2 0 k)
def weightsA (k : Fin 1024) (l : Fin 5248) : EReal := m ((c.tc : Thread nD τ).loc main_arg2) (ix2 k l)
def cosA (t : Fin 2048) (d : Fin 32) : EReal := m ((c.tc : Thread nD τ).loc main_arg3) (ix2 t d)
def sinA (t : Fin 2048) (d : Fin 32) : EReal := m ((c.tc : Thread nD τ).loc main_arg4) (ix2 t d)
def gainQ (d : Fin 64) : EReal := m ((c.tc : Thread nD τ).loc main_arg5) (ix1 d)
def gainK (d : Fin 64) : EReal := m ((c.tc : Thread nD τ).loc main_arg6) (ix1 d)
def gainFQ (d : Fin 64) : EReal := m ((c.tc : Thread nD τ).loc main_arg7) (ix1 d)
def gainFK (d : Fin 64) : EReal := m ((c.tc : Thread nD τ).loc main_arg8) (ix1 d)
def biasF (l : Fin 128) : EReal := m ((c.tc : Thread nD τ).loc main_arg9) (ix2 0 l)
def biasG (l : Fin 2048) : EReal := m ((c.tc : Thread nD τ).loc main_arg10) (ix2 0 l)

theorem run_result (ρ : Dev nD → PrngReg) :
    θ_run defs (onTc (τ := τ) (main (F := Ideal))) ⟨m, fun _ => 0, ρ⟩ fun r => ∀ c : Dev nD,
      r.2.mem ((c.tc : Thread nD τ).loc main_v45) = table (queries (rowsA m c) (gainA m c) (weightsA m c) (cosA m c) (sinA m c) (gainQ m c))
      ∧ r.2.mem ((c.tc : Thread nD τ).loc main_v71) = table (keys (rowsA m c) (gainA m c) (weightsA m c) (cosA m c) (sinA m c) (gainK m c))
      ∧ r.2.mem ((c.tc : Thread nD τ).loc main_v73) = table (fun n => values (rowsA m c) (gainA m c) (weightsA m c) n 1024)
      ∧ r.2.mem ((c.tc : Thread nD τ).loc main_v92) = table (plainQueries (rowsA m c) (gainA m c) (weightsA m c) (gainFQ m c))
      ∧ r.2.mem ((c.tc : Thread nD τ).loc main_v109) = table (plainKeys (rowsA m c) (gainA m c) (weightsA m c) (gainFK m c))
      ∧ r.2.mem ((c.tc : Thread nD τ).loc main_v111) = table (fun n => values (rowsA m c) (gainA m c) (weightsA m c) n 2560)
      ∧ r.2.mem ((c.tc : Thread nD τ).loc main_v115) = table (forget (rowsA m c) (gainA m c) (weightsA m c) (biasF m c))
      ∧ r.2.mem ((c.tc : Thread nD τ).loc main_v126) = table (fun n => gate (rowsA m c) (gainA m c) (weightsA m c) (biasG m c) n 3200 0)
      ∧ r.2.mem ((c.tc : Thread nD τ).loc main_v137) = table (fun n => gate (rowsA m c) (gainA m c) (weightsA m c) (biasG m c) n 4224 1024)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run defs _ _).mono (fun r h c => ?_) (run (F := Ideal) m ρ)
  obtain ⟨h0, h1, h2, h3, h4, h5, h6, h7, h8, rest⟩ := h c
  exact ⟨h0.trans (queries_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) slices_S32768x5248_S32768x512_0_0),
    h1.trans (keys_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) slices_S32768x5248_S32768x512_0_512),
    h2.trans (values_eq (m ((c.tc : Thread nD τ).loc main_arg0)) (m ((c.tc : Thread nD τ).loc main_arg1)) (m ((c.tc : Thread nD τ).loc main_arg2)) 1024 slices_S32768x5248_S32768x512_0_1024 (by decide)),
    h3.trans (plainQueries_eq (m ((c.tc : Thread nD τ).loc main_arg0)) (m ((c.tc : Thread nD τ).loc main_arg1)) (m ((c.tc : Thread nD τ).loc main_arg2)) (m ((c.tc : Thread nD τ).loc main_arg7)) slices_S32768x5248_S32768x512_0_1536),
    h4.trans (plainKeys_eq (m ((c.tc : Thread nD τ).loc main_arg0)) (m ((c.tc : Thread nD τ).loc main_arg1)) (m ((c.tc : Thread nD τ).loc main_arg2)) (m ((c.tc : Thread nD τ).loc main_arg8)) slices_S32768x5248_S32768x512_0_2048),
    h5.trans (values_eq (m ((c.tc : Thread nD τ).loc main_arg0)) (m ((c.tc : Thread nD τ).loc main_arg1)) (m ((c.tc : Thread nD τ).loc main_arg2)) 2560 slices_S32768x5248_S32768x512_0_2560 (by decide)),
    h6.trans (forget_eq (m ((c.tc : Thread nD τ).loc main_arg0)) (m ((c.tc : Thread nD τ).loc main_arg1)) (m ((c.tc : Thread nD τ).loc main_arg2)) (m ((c.tc : Thread nD τ).loc main_arg9))),
    h7.trans (gate_eq (m ((c.tc : Thread nD τ).loc main_arg0)) (m ((c.tc : Thread nD τ).loc main_arg1)) (m ((c.tc : Thread nD τ).loc main_arg2)) 3200 0 slices_S32768x5248_S32768x1024_0_3200 slices_S1x2048_S1x1024_0_0 (by decide) (by decide) (m ((c.tc : Thread nD τ).loc main_arg10))),
    h8.trans (gate_eq (m ((c.tc : Thread nD τ).loc main_arg0)) (m ((c.tc : Thread nD τ).loc main_arg1)) (m ((c.tc : Thread nD τ).loc main_arg2)) 4224 1024 slices_S32768x5248_S32768x1024_0_4224 slices_S1x2048_S1x1024_0_1024 (by decide) (by decide) (m ((c.tc : Thread nD τ).loc main_arg10))),
    rest⟩

end Cert.Reference2Ideal.Rows
end
-- ==== Proof.Merge.Spec.lean ====
/- What the merge of the two attention branches comes to, over the reals: the formulas both programs are read
   against. -/
module

public import proofs.«01_k».proof.Proof.Projection.Spec

@[expose] public section

noncomputable section

namespace Cert.Merge

open Idealize.ShloMosaic

/-- Lane `k` of a row's two branches, each multiplied by its weights and gated, and added. -/
def merged (ya yb : Fin 512 → EReal) (ga gb : Fin 1024 → EReal) (wd wf : Fin 512 → Fin 1024 → EReal) (k : Fin 1024) : EReal :=
  ga k * (∑ j, ya j * wd j k) + gb k * (∑ j, yb j * wf j k)

/-- Lane `l` of the row's stream: the row plus the merged branches' product with the output weights. -/
def stream (ya yb : Fin 512 → EReal) (ga gb x : Fin 1024 → EReal) (wd wf : Fin 512 → Fin 1024 → EReal)
    (wo : Fin 1024 → Fin 1024 → EReal) (l : Fin 1024) : EReal :=
  x l + ∑ k, merged ya yb ga gb wd wf k * wo k l

/-- An array of rows in batches, by its coordinates. -/
def table3 (f : Fin 16 → Fin 2048 → Fin 1024 → EReal) : (⟨3, ![16, 2048, 1024]⟩ : Shape).Idx → EReal :=
  fun i => f (i 0) (i 1) (i 2)

section
variable (ya yb : Fin 16 → Fin 2048 → Fin 512 → EReal) (ga gb x : Fin 16 → Fin 2048 → Fin 1024 → EReal)
  (wd wf : Fin 512 → Fin 1024 → EReal) (wo : Fin 1024 → Fin 1024 → EReal) (g : Fin 1024 → EReal)

/-- The stream after the attention, at a batch's row. -/
def streams (b : Fin 16) (t : Fin 2048) (l : Fin 1024) : EReal :=
  stream (ya b t) (yb b t) (ga b t) (gb b t) (x b t) wd wf wo l

/-- The stream's row divided by the root of its mean square, times the gain. -/
def normedStreams (b : Fin 16) (t : Fin 2048) (l : Fin 1024) : EReal :=
  Projection.normed (streams ya yb ga gb x wd wf wo b t) g l
end

end Cert.Merge
end
-- ==== Proof.Kernel3Ideal.Payloads.lean ====
/- The merge's kernel over the reals, read at an index: what one tile of rows leaves in its two blocks. -/
module

public import proofs.«01_k».proof.Proof.Gen.Kernel3Ideal.Value
public import proofs.«01_k».proof.Proof.Merge.Spec
public import Idealize.ShloMosaic.Lib.Pointwise
public import Idealize.ShloMosaic.Lib.Pipeline.ValueKit.Basic

@[expose] public section

set_option maxRecDepth 16384

noncomputable section

namespace Cert.Kernel3Ideal.Join

open Cert.Kernel3Ideal Cert.Kernel3Ideal.Gen Cert.Kernel3Ideal.Value
open Idealize.ShloMosaic Idealize.ShloMosaic.TcCoe Idealize.ShloMosaic.Tactic
open Cert.Merge

variable (x0 x1 : FVec Ideal S1x512x512 .bf16) (x2 x3 : FVec Ideal S1x512x1024 .bf16) (x4 : FVec Ideal S1x512x1024 .f32)
  (x5 x6 : FVec Ideal S512x1024 .bf16) (x7 : FVec Ideal S1024x1024 .bf16) (x8 : FVec Ideal S1x1024 .f32)

/-- Row `r` of the tile's stream, from the blocks. -/
def rowStream (r : Fin 512) : Fin 1024 → EReal :=
  stream (fun j => x0 (ix3 0 r j)) (fun j => x1 (ix3 0 r j)) (fun k => x2 (ix3 0 r k)) (fun k => x3 (ix3 0 r k))
    (fun k => x4 (ix3 0 r k)) (fun j k => x5 (ix2 j k)) (fun j k => x6 (ix2 j k)) (fun k l => x7 (ix2 k l))

set_option maxHeartbeats 4000000 in
theorem stream_at (r : Fin 512) (l : Fin 1024) :
    @Eq EReal (k0_pay2 (F := Ideal) x2 x0 x5 x3 x1 x6 x4 x7 (ix2 r l)) (rowStream x0 x1 x2 x3 x4 x5 x6 x7 r l) := by
  pointwise [k0_pay2]
  rfl

theorem layer_at (y : FVec Ideal S512x1024 .f32) (r : Fin 512) (l : Fin 1024) :
    @Eq EReal (shapeCast (α := EReal) S1x512x1024 y shapeCasts_S512x1024_S1x512x1024 (ix3 0 r l)) (y (ix2 r l)) := by
  pointwise []

/-- The tile's stream, as it is stored. -/
theorem stored_at (r : Fin 512) (l : Fin 1024) :
    @Eq EReal (k0_pay3 (F := Ideal) x2 x0 x5 x3 x1 x6 x4 x7 (ix3 0 r l)) (rowStream x0 x1 x2 x3 x4 x5 x6 x7 r l) :=
  (layer_at _ r l).trans (stream_at x0 x1 x2 x3 x4 x5 x6 x7 r l)

/-- The sums of the squares of a tile's rows. -/
def squares (y : FVec Ideal S512x1024 .f32) : FVec Ideal S512x1 .f32 :=
  shapeCast S512x1 (multiReduction .add [1] S512 (mulf y y) 0x00000000#32 reduces_S512x1024_S512 (.inl rfl) rfl) shapeCasts_S512_S512x1

set_option maxHeartbeats 4000000 in
/-- The normalisation of a tile `y`. -/
theorem norm_at (y : FVec Ideal S512x1024 .f32) (r : Fin 512) (l : Fin 1024) :
    @Eq EReal (k0_pay1 (F := Ideal) y (squares y) x8 (ix3 0 r l)) (Projection.normed (fun j => y (ix2 r j)) (fun j => x8 (ix2 0 j)) l) := by
  pointwise [k0_pay1, squares]
  rfl

/-- The first output's block. -/
theorem out9_at (r : Fin 512) (l : Fin 1024) :
    @Eq EReal (out0_9 (F := Ideal) x0 x1 x2 x3 x4 x5 x6 x7 x8 (ix3 0 r l)) (rowStream x0 x1 x2 x3 x4 x5 x6 x7 r l) := by
  have e : @Eq (FVec Ideal S1x512x1024 .f32) (out0_9 (F := Ideal) x0 x1 x2 x3 x4 x5 x6 x7 x8) (k0_pay3 x2 x0 x5 x3 x1 x6 x4 x7) := by
    unfold out0_9
    refine (View.canon_cons_unit_lit _ _ _ (by decide)).trans ?_
    simp only [View.ld_unit_lit, show ∀ a : Fin 2, (![0, 0] : Fin 2 → ℕ) a = 0 by decide,
      show ∀ a : Fin 3, (![0, 0, 0] : Fin 3 → ℕ) a = 0 by decide, implies_true]
  exact (congrFun e (ix3 0 r l)).trans (stored_at x0 x1 x2 x3 x4 x5 x6 x7 r l)

/-- The second output's block. -/
theorem out10_at (r : Fin 512) (l : Fin 1024) :
    @Eq EReal (out0_10 (F := Ideal) x0 x1 x2 x3 x4 x5 x6 x7 x8 (ix3 0 r l))
      (Projection.normed (rowStream x0 x1 x2 x3 x4 x5 x6 x7 r) (fun j => x8 (ix2 0 j)) l) := by
  have e : @Eq (FVec Ideal S1x512x1024 .bf16) (out0_10 (F := Ideal) x0 x1 x2 x3 x4 x5 x6 x7 x8)
      (k0_pay1 (k0_pay2 x2 x0 x5 x3 x1 x6 x4 x7) (squares (k0_pay2 x2 x0 x5 x3 x1 x6 x4 x7)) x8) := by
    unfold out0_10
    refine (View.canon_cons_unit_lit _ _ _ (by decide)).trans ?_
    simp only [View.ld_unit_lit, show ∀ a : Fin 2, (![0, 0] : Fin 2 → ℕ) a = 0 by decide,
      show ∀ a : Fin 3, (![0, 0, 0] : Fin 3 → ℕ) a = 0 by decide, implies_true]
    rfl
  refine (congrFun e (ix3 0 r l)).trans ((norm_at x8 _ r l).trans ?_)
  exact congrArg (fun z => Projection.normed z (fun j => x8 (ix2 0 j)) l) (funext fun j => stream_at x0 x1 x2 x3 x4 x5 x6 x7 r j)

end Cert.Kernel3Ideal.Join
end
-- ==== Proof.Kernel3Ideal.Run.lean ====
/- The merge's kernel over the reals: the two arrays its launch leaves, as formulas of the arguments, and its run. -/
module

public import proofs.«01_k».proof.Proof.Kernel3Ideal.Payloads

@[expose] public section

set_option maxRecDepth 16384

noncomputable section

namespace Cert.Kernel3Ideal.Join

open Cert.Kernel3Ideal Cert.Kernel3Ideal.Gen Cert.Kernel3Ideal.Value
open Idealize.ShloMosaic Idealize.ShloMosaic.TcCoe Idealize.ShloMosaic.Tactic Idealize.SL.Sem
open Cert.Merge

variable (m : (ℓ : Loc nD τ sig) → Buf (Elt Ideal) ℓ) (c : Dev nD)

/-! The arguments, by their coordinates. -/

def branchA (b : Fin 16) (t : Fin 2048) (j : Fin 512) : EReal := m ((c : Thread nD τ).loc main_arg0) (ix3 b t j)
def branchB (b : Fin 16) (t : Fin 2048) (j : Fin 512) : EReal := m ((c : Thread nD τ).loc main_arg1) (ix3 b t j)
def gateA (b : Fin 16) (t : Fin 2048) (k : Fin 1024) : EReal := m ((c : Thread nD τ).loc main_arg2) (ix3 b t k)
def gateB (b : Fin 16) (t : Fin 2048) (k : Fin 1024) : EReal := m ((c : Thread nD τ).loc main_arg3) (ix3 b t k)
def rowsA (b : Fin 16) (t : Fin 2048) (k : Fin 1024) : EReal := m ((c : Thread nD τ).loc main_arg4) (ix3 b t k)
def weightsA (j : Fin 512) (k : Fin 1024) : EReal := m ((c : Thread nD τ).loc main_arg5) (ix2 j k)
def weightsB (j : Fin 512) (k : Fin 1024) : EReal := m ((c : Thread nD τ).loc main_arg6) (ix2 j k)
def weightsO (k l : Fin 1024) : EReal := m ((c : Thread nD τ).loc main_arg7) (ix2 k l)
def gainA (k : Fin 1024) : EReal := m ((c : Thread nD τ).loc main_arg8) (ix2 0 k)

variable (t : Fin cfg0.N)

/-- The batch of a point. -/
def batch : Fin 16 := ⟨t.val / 4, by have h : t.val < 64 := t.isLt.trans_eq N_0; omega⟩
/-- Row `r` of a point's tile. -/
def row (r : Fin 512) : Fin 2048 := ⟨512 * (t.val % 4) + r.val, by omega⟩

theorem index_rows : ∀ t : Fin grid0.N, cc0_transform_0 (grid0.coords t) 0 = t.val / 4
    ∧ cc0_transform_0 (grid0.coords t) 1 = t.val % 4 ∧ cc0_transform_0 (grid0.coords t) 2 = 0 := by
  decide +kernel

/-- An index into a point's block, in the array. -/
theorem place {n : ℕ} (r : Fin 512) (l : Fin n) (i : (⟨3, ![16, 2048, n]⟩ : Shape).Idx)
    (h0 : (i 0).val = cc0_transform_0 (grid0.coords t) 0 * 1 + 1 * 0)
    (h1 : (i 1).val = cc0_transform_0 (grid0.coords t) 1 * 512 + 1 * r.val)
    (h2 : (i 2).val = cc0_transform_0 (grid0.coords t) 2 * n + 1 * l.val) : i = ix3 (batch t) (row t r) l := by
  rw [(index_rows t).1] at h0
  rw [(index_rows t).2.1] at h1
  rw [(index_rows t).2.2] at h2
  refine funext fun a => Fin.ext ?_
  match a with
  | ⟨0, _⟩ => exact h0.trans (show _ = t.val / 4 by omega)
  | ⟨1, _⟩ => exact h1.trans (show _ = 512 * (t.val % 4) + r.val by omega)
  | ⟨2, _⟩ => exact h2.trans (show _ = l.val by omega)

theorem blk_0 (r : Fin 512) (l : Fin 512) : @Eq EReal (iblk m c 0 t (ix3 0 r l)) (branchA m c (batch t) (row t r) l) :=
  (show _ = V (F := Ideal) m c main_arg0 _ from congrArg (V (F := Ideal) m c main_arg0) (place t r l _ rfl rfl rfl)).trans (congrFun (V_main_arg0 m c) _)

theorem blk_1 (r : Fin 512) (l : Fin 512) : @Eq EReal (iblk m c 1 t (ix3 0 r l)) (branchB m c (batch t) (row t r) l) :=
  (show _ = V (F := Ideal) m c main_arg1 _ from congrArg (V (F := Ideal) m c main_arg1) (place t r l _ rfl rfl rfl)).trans (congrFun (V_main_arg1 m c) _)

theorem blk_2 (r : Fin 512) (l : Fin 1024) : @Eq EReal (iblk m c 2 t (ix3 0 r l)) (gateA m c (batch t) (row t r) l) :=
  (show _ = V (F := Ideal) m c main_arg2 _ from congrArg (V (F := Ideal) m c main_arg2) (place t r l _ rfl rfl rfl)).trans (congrFun (V_main_arg2 m c) _)

theorem blk_3 (r : Fin 512) (l : Fin 1024) : @Eq EReal (iblk m c 3 t (ix3 0 r l)) (gateB m c (batch t) (row t r) l) :=
  (show _ = V (F := Ideal) m c main_arg3 _ from congrArg (V (F := Ideal) m c main_arg3) (place t r l _ rfl rfl rfl)).trans (congrFun (V_main_arg3 m c) _)

theorem blk_4 (r : Fin 512) (l : Fin 1024) : @Eq EReal (iblk m c 4 t (ix3 0 r l)) (rowsA m c (batch t) (row t r) l) :=
  (show _ = V (F := Ideal) m c main_arg4 _ from congrArg (V (F := Ideal) m c main_arg4) (place t r l _ rfl rfl rfl)).trans (congrFun (V_main_arg4 m c) _)

/-- A whole array's block is the array. -/
theorem whole {a b : ℕ} (j : Fin a) (l : Fin b) (i : (⟨2, ![a, b]⟩ : Shape).Idx) (h0 : (i 0).val = 0 * a + 1 * j.val)
    (h1 : (i 1).val = 0 * b + 1 * l.val) : i = ix2 j l := by
  refine funext fun x => Fin.ext ?_
  match x with
  | ⟨0, _⟩ => exact h0.trans (by show _ = j.val; omega)
  | ⟨1, _⟩ => exact h1.trans (by show _ = l.val; omega)

theorem blk_5 (j : Fin 512) (l : Fin 1024) : @Eq EReal (iblk m c 5 t (ix2 j l)) (weightsA m c j l) :=
  (show _ = V (F := Ideal) m c main_arg5 _ from congrArg (V (F := Ideal) m c main_arg5) (whole j l _ rfl rfl)).trans (congrFun (V_main_arg5 m c) _)

theorem blk_6 (j : Fin 512) (l : Fin 1024) : @Eq EReal (iblk m c 6 t (ix2 j l)) (weightsB m c j l) :=
  (show _ = V (F := Ideal) m c main_arg6 _ from congrArg (V (F := Ideal) m c main_arg6) (whole j l _ rfl rfl)).trans (congrFun (V_main_arg6 m c) _)

theorem blk_7 (j : Fin 1024) (l : Fin 1024) : @Eq EReal (iblk m c 7 t (ix2 j l)) (weightsO m c j l) :=
  (show _ = V (F := Ideal) m c main_arg7 _ from congrArg (V (F := Ideal) m c main_arg7) (whole j l _ rfl rfl)).trans (congrFun (V_main_arg7 m c) _)

theorem blk_8 (l : Fin 1024) : @Eq EReal (iblk m c 8 t (ix2 0 l)) (gainA m c l) :=
  (show _ = V (F := Ideal) m c main_arg8 _ from congrArg (V (F := Ideal) m c main_arg8) (whole 0 l _ rfl rfl)).trans (congrFun (V_main_arg8 m c) _)

/-- The stream's array. -/
abbrev streamA : Fin 16 → Fin 2048 → Fin 1024 → EReal :=
  streams (branchA m c) (branchB m c) (gateA m c) (gateB m c) (rowsA m c) (weightsA m c) (weightsB m c) (weightsO m c)
/-- The normalised stream's array. -/
abbrev normedA : Fin 16 → Fin 2048 → Fin 1024 → EReal :=
  normedStreams (branchA m c) (branchB m c) (gateA m c) (gateB m c) (rowsA m c) (weightsA m c) (weightsB m c) (weightsO m c) (gainA m c)

/-- A row of the tile's stream, from the arguments. -/
theorem rowStream_eq (r : Fin 512) :
    rowStream (iblk m c 0 t) (iblk m c 1 t) (iblk m c 2 t) (iblk m c 3 t) (iblk m c 4 t) (iblk m c 5 t) (iblk m c 6 t) (iblk m c 7 t) r
      = streamA m c (batch t) (row t r) := by
  have e0 : (fun j => iblk m c 0 t (ix3 0 r j) : Fin 512 → EReal) = branchA m c (batch t) (row t r) := funext fun j => blk_0 m c t r j
  have e1 : (fun j => iblk m c 1 t (ix3 0 r j) : Fin 512 → EReal) = branchB m c (batch t) (row t r) := funext fun j => blk_1 m c t r j
  have e2 : (fun j => iblk m c 2 t (ix3 0 r j) : Fin 1024 → EReal) = gateA m c (batch t) (row t r) := funext fun j => blk_2 m c t r j
  have e3 : (fun j => iblk m c 3 t (ix3 0 r j) : Fin 1024 → EReal) = gateB m c (batch t) (row t r) := funext fun j => blk_3 m c t r j
  have e4 : (fun j => iblk m c 4 t (ix3 0 r j) : Fin 1024 → EReal) = rowsA m c (batch t) (row t r) := funext fun j => blk_4 m c t r j
  have e5 : (fun j l => iblk m c 5 t (ix2 j l) : Fin 512 → Fin 1024 → EReal) = weightsA m c := funext fun j => funext fun l => blk_5 m c t j l
  have e6 : (fun j l => iblk m c 6 t (ix2 j l) : Fin 512 → Fin 1024 → EReal) = weightsB m c := funext fun j => funext fun l => blk_6 m c t j l
  have e7 : (fun j l => iblk m c 7 t (ix2 j l) : Fin 1024 → Fin 1024 → EReal) = weightsO m c := funext fun j => funext fun l => blk_7 m c t j l
  funext l
  show stream _ _ _ _ _ _ _ _ l = stream _ _ _ _ _ _ _ _ l
  rw [← e0, ← e1, ← e2, ← e3, ← e4, ← e5, ← e6, ← e7]

/-- A tile that holds a formula's rows is the block of the formula's array. -/
theorem tile_eq (f : Fin 16 → Fin 2048 → Fin 1024 → EReal) (o : (⟨3, ![1, 512, 1024]⟩ : Shape).Idx → EReal)
    (h : ∀ r l, o (ix3 0 r l) = f (batch t) (row t r) l) (e : (⟨3, ![1, 512, 1024]⟩ : Shape).Idx → (⟨3, ![16, 2048, 1024]⟩ : Shape).Idx)
    (h0 : ∀ y, (e y 0).val = cc0_transform_0 (grid0.coords t) 0 * 1 + 1 * (y 0).val)
    (h1 : ∀ y, (e y 1).val = cc0_transform_0 (grid0.coords t) 1 * 512 + 1 * (y 1).val)
    (h2 : ∀ y, (e y 2).val = cc0_transform_0 (grid0.coords t) 2 * 1024 + 1 * (y 2).val) : o = fun y => table3 f (e y) := by
  funext y
  have hz : (y 0).val = 0 := Nat.lt_one_iff.1 (y 0).isLt
  have hy : y = ix3 0 (y 1) (y 2) := by
    refine funext fun a => Fin.ext ?_
    match a with
    | ⟨0, _⟩ => exact hz
    | ⟨1, _⟩ => rfl
    | ⟨2, _⟩ => rfl
  have h0' := h0 y
  rw [hz] at h0'
  refine (congrArg o hy).trans ((h (y 1) (y 2)).trans ?_)
  rw [place t (y 1) (y 2) (e y) h0' (h1 y) (h2 y)]
  rfl

/-- The point whose block an index lies in. -/
theorem index_of (i : (⟨3, ![16, 2048, 1024]⟩ : Shape).Idx) :
    ∃ t : Fin cfg0.N, t.val / 4 = (i 0).val ∧ t.val % 4 = (i 1).val / 512 := by
  have h0 : (i 0).val < 16 := (i 0).isLt
  have h1 : (i 1).val < 2048 := (i 1).isLt
  have hN : cfg0.N = 64 := N_0
  exact ⟨⟨4 * (i 0).val + (i 1).val / 512, by omega⟩, by
    show (4 * (i 0).val + (i 1).val / 512) / 4 = _ ∧ (4 * (i 0).val + (i 1).val / 512) % 4 = _; omega⟩

theorem in_block (i : (⟨3, ![16, 2048, 1024]⟩ : Shape).Idx) (h : t.val / 4 = (i 0).val ∧ t.val % 4 = (i 1).val / 512) (a : Fin 3) :
    cc0_transform_0 (grid0.coords t) a * (![1, 512, 1024] : Fin 3 → ℕ) a ≤ (i a).val
      ∧ (i a).val < cc0_transform_0 (grid0.coords t) a * (![1, 512, 1024] : Fin 3 → ℕ) a + (![1, 512, 1024] : Fin 3 → ℕ) a := by
  have h2 : (i 2).val < 1024 := (i 2).isLt
  match a with
  | ⟨0, _⟩ =>
    show cc0_transform_0 (grid0.coords t) 0 * 1 ≤ (i 0).val ∧ (i 0).val < cc0_transform_0 (grid0.coords t) 0 * 1 + 1
    rw [(index_rows t).1]; omega
  | ⟨1, _⟩ =>
    show cc0_transform_0 (grid0.coords t) 1 * 512 ≤ (i 1).val ∧ (i 1).val < cc0_transform_0 (grid0.coords t) 1 * 512 + 512
    rw [(index_rows t).2.1]; omega
  | ⟨2, _⟩ =>
    show cc0_transform_0 (grid0.coords t) 2 * 1024 ≤ (i 2).val ∧ (i 2).val < cc0_transform_0 (grid0.coords t) 2 * 1024 + 1024
    rw [(index_rows t).2.2]; omega

theorem final_9 : (dats (F := Ideal) m 0 c).arrAt 9 cfg0.N = table3 (streamA m c) :=
  (dats m 0 c).arrAt_eq_of_cover 9 _
    (fun t _ => (flushed9 m c t).trans (tile_eq t (streamA m c) (out0_9 (F := Ideal) (iblk m c 0 t) (iblk m c 1 t) (iblk m c 2 t) (iblk m c 3 t) (iblk m c 4 t) (iblk m c 5 t) (iblk m c 6 t) (iblk m c 7 t) (iblk m c 8 t))
      (fun r l => (out9_at _ _ _ _ _ _ _ _ _ r l).trans (congrFun (rowStream_eq m c t r) l)) ((cfg0.win 9).blk t).view.emb
      (fun _ => rfl) (fun _ => rfl) (fun _ => rfl)))
    (fun i => (index_of i).elim fun t ht => ⟨t, flush0_9 _, by
      show i ∈ ((View.whole main_v0_0).slice (win0_9.rect t)).set
      rw [View.set_slice_whole, Rect.mem_set_unit]
      exact in_block t i ht⟩)

/-- A row of the second output's block. -/
theorem block_normed (r : Fin 512) (l : Fin 1024) :
    @Eq EReal (out0_10 (F := Ideal) (iblk m c 0 t) (iblk m c 1 t) (iblk m c 2 t) (iblk m c 3 t) (iblk m c 4 t) (iblk m c 5 t) (iblk m c 6 t) (iblk m c 7 t) (iblk m c 8 t) (ix3 0 r l)) (normedA m c (batch t) (row t r) l) := by
  refine (out10_at _ _ _ _ _ _ _ _ _ r l).trans ?_
  have e8 : (fun j => iblk m c 8 t (ix2 0 j) : Fin 1024 → EReal) = gainA m c := funext fun j => blk_8 m c t j
  rw [rowStream_eq m c t r]
  exact congrArg (fun z => Projection.normed (streamA m c (batch t) (row t r)) z l) e8

theorem final_10 : (dats (F := Ideal) m 0 c).arrAt 10 cfg0.N = table3 (normedA m c) :=
  (dats m 0 c).arrAt_eq_of_cover 10 _
    (fun t _ => (flushed10 m c t).trans (tile_eq t (normedA m c) (out0_10 (F := Ideal) (iblk m c 0 t) (iblk m c 1 t) (iblk m c 2 t) (iblk m c 3 t) (iblk m c 4 t) (iblk m c 5 t) (iblk m c 6 t) (iblk m c 7 t) (iblk m c 8 t))
      (fun r l => block_normed m c t r l) ((cfg0.win 10).blk t).view.emb
      (fun _ => rfl) (fun _ => rfl) (fun _ => rfl)))
    (fun i => (index_of i).elim fun t ht => ⟨t, flush0_10 _, by
      show i ∈ ((View.whole main_v0_1).slice (win0_10.rect t)).set
      rw [View.set_slice_whole, Rect.mem_set_unit]
      exact in_block t i ht⟩)

theorem run_result (ρ : Dev nD → PrngReg) :
    θ_run defs (onTc (τ := τ) (main (F := Ideal))) ⟨m, fun _ => 0, ρ⟩ fun r => ∀ c : Dev nD,
      r.2.mem ((c : Thread nD τ).loc main_v0_0) = table3 (streamA m c)
      ∧ r.2.mem ((c : Thread nD τ).loc main_v0_1) = table3 (normedA m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => by
    obtain ⟨h0, h1, rest⟩ := h c
    exact ⟨h0.trans (final_9 m c), h1.trans (final_10 m c), rest⟩)
    (run_blocks (F := Ideal) m ρ)

end Cert.Kernel3Ideal.Join
end
-- ==== Proof.Kernel4Ideal.Word.lean ====
/- The score bound as the kernel body reads it, and the two tests the body makes of it. -/
module

public import proofs.«01_k».proof.Proof.Gen.Kernel4Ideal.Frame
public import proofs.«01_k».proof.Proof.Gen.Kernel4Ideal.Skeleton
public import proofs.«01_k».proof.Proof.Gen.Kernel4Ideal.Loops
public import proofs.«01_k».proof.Proof.Gen.Kernel4Ideal.Points
public import Idealize.ShloMosaic.Lib.Tactic
public import Idealize.ShloMosaic.Lib.WholeRead

@[expose] public section

set_option maxRecDepth 16384

noncomputable section

namespace Cert.Kernel4Ideal.Att

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The score bound: the one word of `x0`. -/
abbrev word (x0 : Vec F S1 .f32) : F .f32 := x0 (Shape.Idx.first (s := S1) (by decide))

/-- Whether the score bound is at most 60. -/
abbrev small (x0 : Vec F S1 .f32) : Prop :=
  Scalar.cmpf .ole (word x0) (Scalar.ofBits .f32 0x42700000#32) = 1#1

/-- The word the body reads from the whole buffer holding `x0`. -/
theorem readWord {κ : Kind} (m : Memref sig κ .smem S1 .f32) (h : m.IsWhole) (x0 : Vec F S1 .f32)
    (x : (Rect.unit (s := S1) ![0] S1.size inb_S1_S1_0).toLoadRect.shape.Idx) :
    View.readAt (Elt F) m.view (Rect.unit (s := S1) ![0] S1.size inb_S1_S1_0).toLoadRect (h.unread x0) x = word x0 := by
  rw [Memref.IsWhole.readAt_unread]
  refine congrArg x0 (funext fun a => Fin.ext ?_)
  have h1 : S1.size a = 1 := by revert a; decide
  have := ((Rect.unit (s := S1) ![0] S1.size inb_S1_S1_0).toLoadRect.idx x a).isLt
  have := (Shape.Idx.first (s := S1) (by decide) a).isLt
  omega

theorem bit_cases (b : BitVec 1) : (Scalar.cmpi .ne (Scalar.extui b : BitVec 32) 0#32 = 1#1) ↔ b = 1#1 := by
  revert b; decide

theorem bit_not (b : BitVec 1) : (Scalar.xori b 1#1 = 1#1) ↔ ¬ b = 1#1 := by
  revert b; decide

end Cert.Kernel4Ideal.Att
-- ==== Proof.Kernel4Ideal.Stage.lean ====
/- The attention body's loads, read off the contents of its staging buffers, and the state of its loop over the key
   blocks before the diagonal: each of the eight heads (four groups of 128 lanes, two halves) runs its own recursion, written here
   once, over the blocks of keys, values and biases. -/
module

public import proofs.«01_k».proof.Proof.Kernel4Ideal.Word
public import proofs.«01_k».proof.Proof.Gen.Kernel4Ideal.Loops
public import Idealize.ShloMosaic.Lib.WholeRead
public import Idealize.ShloMosaic.Lib.Pointwise

@[expose] public section

set_option maxRecDepth 16384

noncomputable section

namespace Cert.Kernel4Ideal.Att

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The block of 512 rows and 128 lanes of `x` that starts at `off`. -/
def cut (x : Vec F S1x2048x512 .bf16) (off : Fin 3 → ℕ) : Vec F S1x512x128 .bf16 := fun j =>
  x (ix3 0 ⟨(off 1 + (j 1).val) % 2048, Nat.mod_lt _ (by decide)⟩ ⟨(off 2 + (j 2).val) % 512, Nat.mod_lt _ (by decide)⟩)

/-- Rows `512 n …`, lanes `128 g …` of the keys or the values of one batch entry. -/
abbrev blk (x : Vec F S1x2048x512 .bf16) (n g : ℕ) : Vec F S1x512x128 .bf16 := cut x ![0, 512 * n, 128 * g]

/-- Lanes `128 g …` of the queries of one block. -/
def qblk (x : Vec F S1x512x512 .bf16) (g : ℕ) : Vec F S1x512x128 .bf16 := fun j =>
  x (ix3 0 (j 1) ⟨(128 * g + (j 2).val) % 512, Nat.mod_lt _ (by decide)⟩)

/-- Lanes `128 g …` of the rows every query sees. -/
def mblk (x : Vec F S128x512 .bf16) (g : ℕ) : Vec F S128x128 .bf16 := fun j =>
  x (ix2 (j 0) ⟨(128 * g + (j 1).val) % 512, Nat.mod_lt _ (by decide)⟩)

theorem read_cut {m : Memref sig .tc .vmem S1x2048x512 .bf16} (h : m.IsWhole) (x : Vec F S1x2048x512 .bf16)
    (off : Fin 3 → ℕ) (inb : ∀ a, off a + (![1, 512, 128] : Fin 3 → ℕ) a ≤ S1x2048x512.size a) :
    View.readAt (Elt F) m.view (Rect.unit (s := S1x2048x512) off ![1, 512, 128] inb).toLoadRect (h.unread x)
      = cut x off := by
  funext j
  rw [Memref.IsWhole.readAt_unread]
  refine congrArg x (funext fun a => Fin.ext ?_)
  have h0 := inb 0; have h1 := inb 1; have h2 := inb 2
  have j0 := (j 0).isLt; have j1 := (j 1).isLt; have j2 := (j 2).isLt
  change off 0 + 1 ≤ 1 at h0; change off 1 + 512 ≤ 2048 at h1; change off 2 + 128 ≤ 512 at h2
  change (j 0).val < 1 at j0; change (j 1).val < 512 at j1; change (j 2).val < 128 at j2
  match a with
  | 0 => show off 0 + 1 * (j 0).val = 0; omega
  | 1 => show off 1 + 1 * (j 1).val = (off 1 + (j 1).val) % 2048; omega
  | 2 => show off 2 + 1 * (j 2).val = (off 2 + (j 2).val) % 512; omega

/-- 512 of a head's row of cumulated gates. -/
def rcut (x : Vec F S1x8x1x2048 .f32) (off : Fin 4 → ℕ) : Vec F S1x1x1x512 .f32 := fun j =>
  x (ix4 0 ⟨off 1 % 8, Nat.mod_lt _ (by decide)⟩ 0 ⟨(off 3 + (j 3).val) % 2048, Nat.mod_lt _ (by decide)⟩)

/-- A head's row of cumulated gates of the rows every query sees. -/
def mrow (x : Vec F S1x8x1x128 .f32) (h : ℕ) : Vec F S1x1x1x128 .f32 := fun j =>
  x (ix4 0 ⟨h % 8, Nat.mod_lt _ (by decide)⟩ 0 (j 3))

theorem read_rcut {m : Memref sig .tc .vmem S1x8x1x2048 .f32} (h : m.IsWhole) (x : Vec F S1x8x1x2048 .f32)
    (off : Fin 4 → ℕ) (inb : ∀ a, off a + (![1, 1, 1, 512] : Fin 4 → ℕ) a ≤ S1x8x1x2048.size a) :
    View.readAt (Elt F) m.view (Rect.unit (s := S1x8x1x2048) off ![1, 1, 1, 512] inb).toLoadRect (h.unread x)
      = rcut x off := by
  funext j
  rw [Memref.IsWhole.readAt_unread]
  refine congrArg x (funext fun a => Fin.ext ?_)
  have h0 := inb 0; have h1 := inb 1; have h2 := inb 2; have h3 := inb 3
  have j0 := (j 0).isLt; have j1 := (j 1).isLt; have j2 := (j 2).isLt; have j3 := (j 3).isLt
  change off 0 + 1 ≤ 1 at h0; change off 1 + 1 ≤ 8 at h1; change off 2 + 1 ≤ 1 at h2; change off 3 + 512 ≤ 2048 at h3
  change (j 0).val < 1 at j0; change (j 1).val < 1 at j1; change (j 2).val < 1 at j2; change (j 3).val < 512 at j3
  match a with
  | 0 => show off 0 + 1 * (j 0).val = 0; omega
  | 1 => show off 1 + 1 * (j 1).val = off 1 % 8; omega
  | 2 => show off 2 + 1 * (j 2).val = 0; omega
  | 3 => show off 3 + 1 * (j 3).val = (off 3 + (j 3).val) % 2048; omega

theorem read_mrow {m : Memref sig .tc .vmem S1x8x1x128 .f32} (h : m.IsWhole) (x : Vec F S1x8x1x128 .f32) (o : ℕ)
    (inb : ∀ a, (![0, o, 0, 0] : Fin 4 → ℕ) a + (![1, 1, 1, 128] : Fin 4 → ℕ) a ≤ S1x8x1x128.size a) :
    View.readAt (Elt F) m.view (Rect.unit (s := S1x8x1x128) ![0, o, 0, 0] ![1, 1, 1, 128] inb).toLoadRect (h.unread x)
      = mrow x o := by
  funext j
  rw [Memref.IsWhole.readAt_unread]
  refine congrArg x (funext fun a => Fin.ext ?_)
  have h1 := inb 1
  have j0 := (j 0).isLt; have j1 := (j 1).isLt; have j2 := (j 2).isLt; have j3 := (j 3).isLt
  change o + 1 ≤ 8 at h1
  change (j 0).val < 1 at j0; change (j 1).val < 1 at j1; change (j 2).val < 1 at j2; change (j 3).val < 128 at j3
  match a with
  | 0 => show 0 + 1 * (j 0).val = 0; omega
  | 1 => show o + 1 * (j 1).val = o % 8; omega
  | 2 => show 0 + 1 * (j 2).val = 0; omega
  | 3 => show 0 + 1 * (j 3).val = (j 3).val; omega

theorem read_q {m : Memref sig .tc .vmem S1x512x512 .bf16} (h : m.IsWhole) (x : Vec F S1x512x512 .bf16) (o g : ℕ)
    (ho : o = 128 * g) (inb : ∀ a, (![0, 0, o] : Fin 3 → ℕ) a + (![1, 512, 128] : Fin 3 → ℕ) a ≤ S1x512x512.size a) :
    View.readAt (Elt F) m.view (Rect.unit (s := S1x512x512) ![0, 0, o] ![1, 512, 128] inb).toLoadRect (h.unread x)
      = qblk x g := by
  subst ho; funext j
  rw [Memref.IsWhole.readAt_unread]
  refine congrArg x (funext fun a => Fin.ext ?_)
  have h2 := inb 2
  have j0 := (j 0).isLt; have j1 := (j 1).isLt; have j2 := (j 2).isLt
  change 128 * g + 128 ≤ 512 at h2
  change (j 0).val < 1 at j0; change (j 1).val < 512 at j1; change (j 2).val < 128 at j2
  match a with
  | 0 => show 0 + 1 * (j 0).val = 0; omega
  | 1 => show 0 + 1 * (j 1).val = (j 1).val; omega
  | 2 => show 128 * g + 1 * (j 2).val = (128 * g + (j 2).val) % 512; omega

theorem read_m {m : Memref sig .tc .vmem S128x512 .bf16} (h : m.IsWhole) (x : Vec F S128x512 .bf16) (o g : ℕ)
    (ho : o = 128 * g) (inb : ∀ a, (![0, o] : Fin 2 → ℕ) a + (![128, 128] : Fin 2 → ℕ) a ≤ S128x512.size a) :
    View.readAt (Elt F) m.view (Rect.unit (s := S128x512) ![0, o] ![128, 128] inb).toLoadRect (h.unread x)
      = mblk x g := by
  subst ho; funext j
  rw [Memref.IsWhole.readAt_unread]
  refine congrArg x (funext fun a => Fin.ext ?_)
  have h2 := inb 1
  have j0 := (j 0).isLt; have j1 := (j 1).isLt
  change 128 * g + 128 ≤ 512 at h2
  change (j 0).val < 128 at j0; change (j 1).val < 128 at j1
  match a with
  | 0 => show 0 + 1 * (j 0).val = (j 0).val; omega
  | 1 => show 128 * g + 1 * (j 1).val = (128 * g + (j 1).val) % 512; omega

/-- A load of a whole buffer reads its contents. -/
theorem read_all {κ : Kind} {sp : Space} {n : ℕ} {d : Fin n → ℕ} {e : EltTy} {m : Memref sig κ sp ⟨n, d⟩ e}
    (h : m.IsWhole) (x : Vec F ⟨n, d⟩ e) (off : Fin n → ℕ) (ho : ∀ a, off a = 0) (inb : ∀ a, off a + d a ≤ d a) :
    View.readAt (Elt F) m.view (Rect.unit (s := ⟨n, d⟩) off d inb).toLoadRect (h.unread x) = x := by
  funext j
  rw [Memref.IsWhole.readAt_unread]
  refine congrArg x (funext fun a => Fin.ext ?_)
  show off a + 1 * (j a).val = (j a).val
  rw [ho a, Nat.zero_add, Nat.one_mul]

theorem block_lt (i : grid0.Coords) : (i 1).val < 4 := (i 1).isLt

theorem loop_trips (i : grid0.Coords) : (k0_t1_loop i).trips = (i 1).val := by
  have h := block_lt i
  unfold k0_t1_loop
  generalize (i 1).val = n at h
  interval_cases n <;> decide

theorem loop_trips' (i : grid0.Coords) : (k0_t3_loop i).trips = (i 1).val := loop_trips i

theorem rest_trips (i : grid0.Coords) : (k0_t2_loop i).trips = 0 := by
  have h := block_lt i
  unfold k0_t2_loop
  generalize (i 1).val = n at h
  interval_cases n <;> decide

theorem rest_trips' (i : grid0.Coords) : (k0_t4_loop i).trips = 0 := rest_trips i

/-- The row the body computes for the block `n`. -/
theorem row_word {n : ℕ} (h : n < 4) : (Scalar.indexCast (Scalar.muli (BitVec.ofNat 32 n) 512#32)).toNat = 512 * n := by
  interval_cases n <;> rfl

/-- The row the body computes in the loop's turn `n`. -/
theorem row_iv {n : ℕ} (h : n < 4) :
    (Scalar.indexCast (Scalar.muli (Scf.iv 0#32 1#32 n) 512#32)).toNat = 512 * n := by
  interval_cases n <;> rfl

theorem off1_eq (i : grid0.Coords) : k0_off1 i = ![0, 512 * (i 1).val, 128 * 0] := by
  show ![0, _, _] = _; rw [row_word (block_lt i)]

theorem off2_eq (i : grid0.Coords) : k0_off2 i = ![0, 0, 0, 512 * (i 1).val] := by
  show ![0, 0, 0, _] = _; rw [row_word (block_lt i)]

theorem off3_eq (i : grid0.Coords) : k0_off3 i = ![0, 1, 0, 512 * (i 1).val] := by
  show ![0, 1, 0, _] = _; rw [row_word (block_lt i)]

theorem off4_eq (i : grid0.Coords) : k0_off4 i = ![0, 512 * (i 1).val, 128 * 1] := by
  show ![0, _, _] = _; rw [row_word (block_lt i)]

theorem off5_eq (i : grid0.Coords) : k0_off5 i = ![0, 2, 0, 512 * (i 1).val] := by
  show ![0, 2, 0, _] = _; rw [row_word (block_lt i)]

theorem off6_eq (i : grid0.Coords) : k0_off6 i = ![0, 3, 0, 512 * (i 1).val] := by
  show ![0, 3, 0, _] = _; rw [row_word (block_lt i)]

theorem off7_eq (i : grid0.Coords) : k0_off7 i = ![0, 512 * (i 1).val, 128 * 2] := by
  show ![0, _, _] = _; rw [row_word (block_lt i)]

theorem off8_eq (i : grid0.Coords) : k0_off8 i = ![0, 4, 0, 512 * (i 1).val] := by
  show ![0, 4, 0, _] = _; rw [row_word (block_lt i)]

theorem off9_eq (i : grid0.Coords) : k0_off9 i = ![0, 5, 0, 512 * (i 1).val] := by
  show ![0, 5, 0, _] = _; rw [row_word (block_lt i)]

theorem off10_eq (i : grid0.Coords) : k0_off10 i = ![0, 512 * (i 1).val, 128 * 3] := by
  show ![0, _, _] = _; rw [row_word (block_lt i)]

theorem off11_eq (i : grid0.Coords) : k0_off11 i = ![0, 6, 0, 512 * (i 1).val] := by
  show ![0, 6, 0, _] = _; rw [row_word (block_lt i)]

theorem off12_eq (i : grid0.Coords) : k0_off12 i = ![0, 7, 0, 512 * (i 1).val] := by
  show ![0, 7, 0, _] = _; rw [row_word (block_lt i)]

theorem off13_eq (i : grid0.Coords) (k : Fin (k0_t1_loop i).trips) : k0_off13 i k = ![0, 512 * k.val, 128 * 0] := by
  show ![0, _, _] = _; rw [row_iv (lt_of_lt_of_le k.isLt (loop_trips i ▸ (block_lt i).le))]

theorem off14_eq (i : grid0.Coords) (k : Fin (k0_t1_loop i).trips) : k0_off14 i k = ![0, 0, 0, 512 * k.val] := by
  show ![0, 0, 0, _] = _; rw [row_iv (lt_of_lt_of_le k.isLt (loop_trips i ▸ (block_lt i).le))]

theorem off15_eq (i : grid0.Coords) (k : Fin (k0_t1_loop i).trips) : k0_off15 i k = ![0, 1, 0, 512 * k.val] := by
  show ![0, 1, 0, _] = _; rw [row_iv (lt_of_lt_of_le k.isLt (loop_trips i ▸ (block_lt i).le))]

theorem off16_eq (i : grid0.Coords) (k : Fin (k0_t1_loop i).trips) : k0_off16 i k = ![0, 512 * k.val, 128 * 1] := by
  show ![0, _, _] = _; rw [row_iv (lt_of_lt_of_le k.isLt (loop_trips i ▸ (block_lt i).le))]

theorem off17_eq (i : grid0.Coords) (k : Fin (k0_t1_loop i).trips) : k0_off17 i k = ![0, 2, 0, 512 * k.val] := by
  show ![0, 2, 0, _] = _; rw [row_iv (lt_of_lt_of_le k.isLt (loop_trips i ▸ (block_lt i).le))]

theorem off18_eq (i : grid0.Coords) (k : Fin (k0_t1_loop i).trips) : k0_off18 i k = ![0, 3, 0, 512 * k.val] := by
  show ![0, 3, 0, _] = _; rw [row_iv (lt_of_lt_of_le k.isLt (loop_trips i ▸ (block_lt i).le))]

theorem off19_eq (i : grid0.Coords) (k : Fin (k0_t1_loop i).trips) : k0_off19 i k = ![0, 512 * k.val, 128 * 2] := by
  show ![0, _, _] = _; rw [row_iv (lt_of_lt_of_le k.isLt (loop_trips i ▸ (block_lt i).le))]

theorem off20_eq (i : grid0.Coords) (k : Fin (k0_t1_loop i).trips) : k0_off20 i k = ![0, 4, 0, 512 * k.val] := by
  show ![0, 4, 0, _] = _; rw [row_iv (lt_of_lt_of_le k.isLt (loop_trips i ▸ (block_lt i).le))]

theorem off21_eq (i : grid0.Coords) (k : Fin (k0_t1_loop i).trips) : k0_off21 i k = ![0, 5, 0, 512 * k.val] := by
  show ![0, 5, 0, _] = _; rw [row_iv (lt_of_lt_of_le k.isLt (loop_trips i ▸ (block_lt i).le))]

theorem off22_eq (i : grid0.Coords) (k : Fin (k0_t1_loop i).trips) : k0_off22 i k = ![0, 512 * k.val, 128 * 3] := by
  show ![0, _, _] = _; rw [row_iv (lt_of_lt_of_le k.isLt (loop_trips i ▸ (block_lt i).le))]

theorem off23_eq (i : grid0.Coords) (k : Fin (k0_t1_loop i).trips) : k0_off23 i k = ![0, 6, 0, 512 * k.val] := by
  show ![0, 6, 0, _] = _; rw [row_iv (lt_of_lt_of_le k.isLt (loop_trips i ▸ (block_lt i).le))]

theorem off24_eq (i : grid0.Coords) (k : Fin (k0_t1_loop i).trips) : k0_off24 i k = ![0, 7, 0, 512 * k.val] := by
  show ![0, 7, 0, _] = _; rw [row_iv (lt_of_lt_of_le k.isLt (loop_trips i ▸ (block_lt i).le))]

theorem off37_eq (i : grid0.Coords) : k0_off37 i = ![0, 512 * (i 1).val, 128 * 0] := by
  show ![0, _, _] = _; rw [row_word (block_lt i)]

theorem off38_eq (i : grid0.Coords) : k0_off38 i = ![0, 0, 0, 512 * (i 1).val] := by
  show ![0, 0, 0, _] = _; rw [row_word (block_lt i)]

theorem off39_eq (i : grid0.Coords) : k0_off39 i = ![0, 1, 0, 512 * (i 1).val] := by
  show ![0, 1, 0, _] = _; rw [row_word (block_lt i)]

theorem off40_eq (i : grid0.Coords) : k0_off40 i = ![0, 512 * (i 1).val, 128 * 1] := by
  show ![0, _, _] = _; rw [row_word (block_lt i)]

theorem off41_eq (i : grid0.Coords) : k0_off41 i = ![0, 2, 0, 512 * (i 1).val] := by
  show ![0, 2, 0, _] = _; rw [row_word (block_lt i)]

theorem off42_eq (i : grid0.Coords) : k0_off42 i = ![0, 3, 0, 512 * (i 1).val] := by
  show ![0, 3, 0, _] = _; rw [row_word (block_lt i)]

theorem off43_eq (i : grid0.Coords) : k0_off43 i = ![0, 512 * (i 1).val, 128 * 2] := by
  show ![0, _, _] = _; rw [row_word (block_lt i)]

theorem off44_eq (i : grid0.Coords) : k0_off44 i = ![0, 4, 0, 512 * (i 1).val] := by
  show ![0, 4, 0, _] = _; rw [row_word (block_lt i)]

theorem off45_eq (i : grid0.Coords) : k0_off45 i = ![0, 5, 0, 512 * (i 1).val] := by
  show ![0, 5, 0, _] = _; rw [row_word (block_lt i)]

theorem off46_eq (i : grid0.Coords) : k0_off46 i = ![0, 512 * (i 1).val, 128 * 3] := by
  show ![0, _, _] = _; rw [row_word (block_lt i)]

theorem off47_eq (i : grid0.Coords) : k0_off47 i = ![0, 6, 0, 512 * (i 1).val] := by
  show ![0, 6, 0, _] = _; rw [row_word (block_lt i)]

theorem off48_eq (i : grid0.Coords) : k0_off48 i = ![0, 7, 0, 512 * (i 1).val] := by
  show ![0, 7, 0, _] = _; rw [row_word (block_lt i)]

theorem off49_eq (i : grid0.Coords) (k : Fin (k0_t3_loop i).trips) : k0_off49 i k = ![0, 512 * k.val, 128 * 0] := by
  show ![0, _, _] = _; rw [row_iv (lt_of_lt_of_le k.isLt (loop_trips' i ▸ (block_lt i).le))]

theorem off50_eq (i : grid0.Coords) (k : Fin (k0_t3_loop i).trips) : k0_off50 i k = ![0, 0, 0, 512 * k.val] := by
  show ![0, 0, 0, _] = _; rw [row_iv (lt_of_lt_of_le k.isLt (loop_trips' i ▸ (block_lt i).le))]

theorem off51_eq (i : grid0.Coords) (k : Fin (k0_t3_loop i).trips) : k0_off51 i k = ![0, 1, 0, 512 * k.val] := by
  show ![0, 1, 0, _] = _; rw [row_iv (lt_of_lt_of_le k.isLt (loop_trips' i ▸ (block_lt i).le))]

theorem off52_eq (i : grid0.Coords) (k : Fin (k0_t3_loop i).trips) : k0_off52 i k = ![0, 512 * k.val, 128 * 1] := by
  show ![0, _, _] = _; rw [row_iv (lt_of_lt_of_le k.isLt (loop_trips' i ▸ (block_lt i).le))]

theorem off53_eq (i : grid0.Coords) (k : Fin (k0_t3_loop i).trips) : k0_off53 i k = ![0, 2, 0, 512 * k.val] := by
  show ![0, 2, 0, _] = _; rw [row_iv (lt_of_lt_of_le k.isLt (loop_trips' i ▸ (block_lt i).le))]

theorem off54_eq (i : grid0.Coords) (k : Fin (k0_t3_loop i).trips) : k0_off54 i k = ![0, 3, 0, 512 * k.val] := by
  show ![0, 3, 0, _] = _; rw [row_iv (lt_of_lt_of_le k.isLt (loop_trips' i ▸ (block_lt i).le))]

theorem off55_eq (i : grid0.Coords) (k : Fin (k0_t3_loop i).trips) : k0_off55 i k = ![0, 512 * k.val, 128 * 2] := by
  show ![0, _, _] = _; rw [row_iv (lt_of_lt_of_le k.isLt (loop_trips' i ▸ (block_lt i).le))]

theorem off56_eq (i : grid0.Coords) (k : Fin (k0_t3_loop i).trips) : k0_off56 i k = ![0, 4, 0, 512 * k.val] := by
  show ![0, 4, 0, _] = _; rw [row_iv (lt_of_lt_of_le k.isLt (loop_trips' i ▸ (block_lt i).le))]

theorem off57_eq (i : grid0.Coords) (k : Fin (k0_t3_loop i).trips) : k0_off57 i k = ![0, 5, 0, 512 * k.val] := by
  show ![0, 5, 0, _] = _; rw [row_iv (lt_of_lt_of_le k.isLt (loop_trips' i ▸ (block_lt i).le))]

theorem off58_eq (i : grid0.Coords) (k : Fin (k0_t3_loop i).trips) : k0_off58 i k = ![0, 512 * k.val, 128 * 3] := by
  show ![0, _, _] = _; rw [row_iv (lt_of_lt_of_le k.isLt (loop_trips' i ▸ (block_lt i).le))]

theorem off59_eq (i : grid0.Coords) (k : Fin (k0_t3_loop i).trips) : k0_off59 i k = ![0, 6, 0, 512 * k.val] := by
  show ![0, 6, 0, _] = _; rw [row_iv (lt_of_lt_of_le k.isLt (loop_trips' i ▸ (block_lt i).le))]

theorem off60_eq (i : grid0.Coords) (k : Fin (k0_t3_loop i).trips) : k0_off60 i k = ![0, 7, 0, 512 * k.val] := by
  show ![0, 7, 0, _] = _; rw [row_iv (lt_of_lt_of_le k.isLt (loop_trips' i ▸ (block_lt i).le))]

theorem head_slices (h : Fin 8) : S512x128.Slices ![0, h.val] S512x1 := by
  fin_cases h <;> decide

/-- What the gates add to the scores of a block of keys: the query's cumulated gate minus the key's. -/
def bias (h : Fin 8) (x : FVec F S512x128 .f32) (row : Vec F S1x1x1x512 .f32) : FVec F S512x512 .f32 :=
  subf (broadcastTo S512x512 (extractStridedSlice S512x1 ![0, h.val] x (head_slices h)) broadcasts_S512x1_S512x512)
    (broadcastTo S512x512 (shapeCast S1x512 row shapeCasts_S1x1x1x512_S1x512) broadcasts_S1x512_S512x512)

/-- The same of the first block, whose last 128 keys are the rows every query sees. -/
def bias0 (h : Fin 8) (x : FVec F S512x128 .f32) (row : Vec F S1x1x1x512 .f32) (rowm : Vec F S1x1x1x128 .f32) :
    FVec F S512x640 .f32 :=
  concatenate S512x640 1 [⟨S512x512, bias h x row⟩,
    ⟨S512x128, subf (broadcastTo S512x128 (extractStridedSlice S512x1 ![0, h.val] x (head_slices h)) broadcasts_S512x1_S512x128)
      (broadcastTo S512x128 (shapeCast S1x128 rowm shapeCasts_S1x1x1x128_S1x128) broadcasts_S1x128_S512x128)⟩]
    concatenates_S512x512_S512x128_S512x640_d1

/-- The scores of a block of keys. -/
def score (q : FVec F S512x128 .bf16) (K : Vec F S1x512x128 .bf16) (B : FVec F S512x512 .f32) : FVec F S512x512 .f32 :=
  addf (k0_pay27 q K) B

/-- The per-lane sums of the weights, with a fixed shift `b`: from `p`, after `n` blocks of keys. -/
def fixPart (b : Elt F .f32) (q : FVec F S512x128 .bf16) (p : FVec F S512x128 .f32) (K : ℕ → Vec F S1x512x128 .bf16)
    (B : ℕ → FVec F S512x512 .f32) : ℕ → FVec F S512x128 .f32
  | 0 => p
  | n + 1 => k0_pay29 b (fixPart b q p K B n) (B n) (k0_pay27 q (K n))

/-- The weighted sums of the values, with a fixed shift `b`. -/
def fixAcc (b : Elt F .f32) (q : FVec F S512x128 .bf16) (a : FVec F S512x128 .f32) (K V : ℕ → Vec F S1x512x128 .bf16)
    (B : ℕ → FVec F S512x512 .f32) : ℕ → FVec F S512x128 .f32
  | 0 => a
  | n + 1 => k0_pay30 b (fixAcc b q a K V B n) (k0_pay22 (V n)) (B n) (k0_pay27 q (K n))

/-- The running maxima, with no bound to rely on: from `m`, after `n` blocks of keys. -/
def onlMax (q : FVec F S512x128 .bf16) (m : FVec F S512x1 .f32) (K : ℕ → Vec F S1x512x128 .bf16)
    (B : ℕ → FVec F S512x512 .f32) : ℕ → FVec F S512x1 .f32
  | 0 => m
  | n + 1 => k0_pay162 (onlMax q m K B n) (score q (K n) (B n))

/-- The sums of the weights relative to the running maxima. -/
def onlSum (q : FVec F S512x128 .bf16) (m l : FVec F S512x1 .f32) (K : ℕ → Vec F S1x512x128 .bf16)
    (B : ℕ → FVec F S512x512 .f32) : ℕ → FVec F S512x1 .f32
  | 0 => l
  | n + 1 => k0_pay165 (onlMax q m K B n) (onlSum q m l K B n) (score q (K n) (B n))

/-- The weighted sums of the values relative to the running maxima. -/
def onlAcc (q : FVec F S512x128 .bf16) (m : FVec F S512x1 .f32) (a : FVec F S512x128 .f32)
    (K V : ℕ → Vec F S1x512x128 .bf16) (B : ℕ → FVec F S512x512 .f32) : ℕ → FVec F S512x128 .f32
  | 0 => a
  | n + 1 => k0_pay166 (onlMax q m K B n) (onlAcc q m a K V B n) (k0_pay22 (V n)) (score q (K n) (B n))

set_option maxHeartbeats 4000000 in
/-- One turn of the loop with the bound as shift, as the body's own loads. -/
theorem trip_fixed (𝒱 : Variants) (c : Dev nD) (bd : Option 𝒱.V) (i : grid0.Coords) (arg2 : Memref sig .tc .smem S1 .f32) (harg2 : arg2.IsWhole) (arg3 : Memref sig .tc .vmem S1x512x512 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S1x512x128 .f32) (harg8 : arg8.IsWhole) (arg9 : Memref sig .tc .vmem S1x8x1x2048 .f32) (harg9 : arg9.IsWhole) (arg10 : Memref sig .tc .vmem S1x8x1x128 .f32) (harg10 : arg10.IsWhole) (arg11 : Memref sig .tc .vmem S1x512x512 .bf16) (harg11 : arg11.IsWhole)  (arg1 : BitVec 32) (v0 : Elt F .f32) (v8 : FVec F S512x128 .f32) (v15 : FVec F S512x128 .bf16) (v17 : FVec F S512x128 .bf16) (v24 : FVec F S512x128 .bf16) (v26 : FVec F S512x128 .bf16) (v33 : FVec F S512x128 .bf16) (v35 : FVec F S512x128 .bf16) (v42 : FVec F S512x128 .bf16) (v44 : FVec F S512x128 .bf16) (v95 : FVec F S512x128 .f32) (v97 : FVec F S512x128 .f32) (v127 : FVec F S512x128 .f32) (v129 : FVec F S512x128 .f32) (v169 : FVec F S512x128 .f32) (v171 : FVec F S512x128 .f32) (v201 : FVec F S512x128 .f32) (v203 : FVec F S512x128 .f32) (v243 : FVec F S512x128 .f32) (v245 : FVec F S512x128 .f32) (v275 : FVec F S512x128 .f32) (v277 : FVec F S512x128 .f32) (v287 : FVec F S640x128 .bf16) (v317 : FVec F S512x128 .f32) (v319 : FVec F S512x128 .f32) (v340 : FVec F S512x640 .f32) (v343 : FVec F S512x128 .f32) (v344 : FVec F S512x128 .f32)
    (x2 x3 : Vec F S1x2048x512 .bf16) (x7 : Vec F S1x8x1x2048 .f32) (k : Fin (k0_t1_loop i).trips) (acc : FVec F S512x128 .f32 × FVec F S512x128 .f32 × FVec F S512x128 .f32 × FVec F S512x128 .f32 × FVec F S512x128 .f32 × FVec F S512x128 .f32 × FVec F S512x128 .f32 × FVec F S512x128 .f32 × FVec F S512x128 .f32 × FVec F S512x128 .f32 × FVec F S512x128 .f32 × FVec F S512x128 .f32 × FVec F S512x128 .f32 × FVec F S512x128 .f32 × FVec F S512x128 .f32 × FVec F S512x128 .f32) :
    tripR_k0_t1 (F := F) 𝒱 c bd i arg2 harg2 arg3 harg3 arg4 harg4 arg5 harg5 arg6 harg6 arg7 harg7 arg8 harg8 arg9 harg9 arg10 harg10 arg11 harg11 arg1 v0 v8 v15 v17 v24 v26 v33 v35 v42 v44 v95 v97 v127 v129 v169 v171 v201 v203 v243 v245 v275 v277 v287 v317 v319 v340 v343 v344 (harg4.unread x2) (harg5.unread x3) (harg9.unread x7) k acc
      = (k0_pay29 v0 acc.1 (bias 0 v8 (View.readAt (Elt F) arg9.view (Rect.unit (s := S1x8x1x2048) (k0_off14 i k) S1x1x1x512.size (k0_off14_inb i k)).toLoadRect (harg9.unread x7))) (k0_pay27 v15 (View.readAt (Elt F) arg4.view (Rect.unit (s := S1x2048x512) (k0_off13 i k) S1x512x128.size (k0_off13_inb i k)).toLoadRect (harg4.unread x2))),
         k0_pay30 v0 acc.2.1 (k0_pay22 (View.readAt (Elt F) arg5.view (Rect.unit (s := S1x2048x512) (k0_off13 i k) S1x512x128.size (k0_off13_inb i k)).toLoadRect (harg5.unread x3))) (bias 0 v8 (View.readAt (Elt F) arg9.view (Rect.unit (s := S1x8x1x2048) (k0_off14 i k) S1x1x1x512.size (k0_off14_inb i k)).toLoadRect (harg9.unread x7))) (k0_pay27 v15 (View.readAt (Elt F) arg4.view (Rect.unit (s := S1x2048x512) (k0_off13 i k) S1x512x128.size (k0_off13_inb i k)).toLoadRect (harg4.unread x2))),
         k0_pay29 v0 acc.2.2.1 (bias 1 v8 (View.readAt (Elt F) arg9.view (Rect.unit (s := S1x8x1x2048) (k0_off15 i k) S1x1x1x512.size (k0_off15_inb i k)).toLoadRect (harg9.unread x7))) (k0_pay27 v17 (View.readAt (Elt F) arg4.view (Rect.unit (s := S1x2048x512) (k0_off13 i k) S1x512x128.size (k0_off13_inb i k)).toLoadRect (harg4.unread x2))),
         k0_pay30 v0 acc.2.2.2.1 (k0_pay22 (View.readAt (Elt F) arg5.view (Rect.unit (s := S1x2048x512) (k0_off13 i k) S1x512x128.size (k0_off13_inb i k)).toLoadRect (harg5.unread x3))) (bias 1 v8 (View.readAt (Elt F) arg9.view (Rect.unit (s := S1x8x1x2048) (k0_off15 i k) S1x1x1x512.size (k0_off15_inb i k)).toLoadRect (harg9.unread x7))) (k0_pay27 v17 (View.readAt (Elt F) arg4.view (Rect.unit (s := S1x2048x512) (k0_off13 i k) S1x512x128.size (k0_off13_inb i k)).toLoadRect (harg4.unread x2))),
         k0_pay29 v0 acc.2.2.2.2.1 (bias 2 v8 (View.readAt (Elt F) arg9.view (Rect.unit (s := S1x8x1x2048) (k0_off17 i k) S1x1x1x512.size (k0_off17_inb i k)).toLoadRect (harg9.unread x7))) (k0_pay27 v24 (View.readAt (Elt F) arg4.view (Rect.unit (s := S1x2048x512) (k0_off16 i k) S1x512x128.size (k0_off16_inb i k)).toLoadRect (harg4.unread x2))),
         k0_pay30 v0 acc.2.2.2.2.2.1 (k0_pay22 (View.readAt (Elt F) arg5.view (Rect.unit (s := S1x2048x512) (k0_off16 i k) S1x512x128.size (k0_off16_inb i k)).toLoadRect (harg5.unread x3))) (bias 2 v8 (View.readAt (Elt F) arg9.view (Rect.unit (s := S1x8x1x2048) (k0_off17 i k) S1x1x1x512.size (k0_off17_inb i k)).toLoadRect (harg9.unread x7))) (k0_pay27 v24 (View.readAt (Elt F) arg4.view (Rect.unit (s := S1x2048x512) (k0_off16 i k) S1x512x128.size (k0_off16_inb i k)).toLoadRect (harg4.unread x2))),
         k0_pay29 v0 acc.2.2.2.2.2.2.1 (bias 3 v8 (View.readAt (Elt F) arg9.view (Rect.unit (s := S1x8x1x2048) (k0_off18 i k) S1x1x1x512.size (k0_off18_inb i k)).toLoadRect (harg9.unread x7))) (k0_pay27 v26 (View.readAt (Elt F) arg4.view (Rect.unit (s := S1x2048x512) (k0_off16 i k) S1x512x128.size (k0_off16_inb i k)).toLoadRect (harg4.unread x2))),
         k0_pay30 v0 acc.2.2.2.2.2.2.2.1 (k0_pay22 (View.readAt (Elt F) arg5.view (Rect.unit (s := S1x2048x512) (k0_off16 i k) S1x512x128.size (k0_off16_inb i k)).toLoadRect (harg5.unread x3))) (bias 3 v8 (View.readAt (Elt F) arg9.view (Rect.unit (s := S1x8x1x2048) (k0_off18 i k) S1x1x1x512.size (k0_off18_inb i k)).toLoadRect (harg9.unread x7))) (k0_pay27 v26 (View.readAt (Elt F) arg4.view (Rect.unit (s := S1x2048x512) (k0_off16 i k) S1x512x128.size (k0_off16_inb i k)).toLoadRect (harg4.unread x2))),
         k0_pay29 v0 acc.2.2.2.2.2.2.2.2.1 (bias 4 v8 (View.readAt (Elt F) arg9.view (Rect.unit (s := S1x8x1x2048) (k0_off20 i k) S1x1x1x512.size (k0_off20_inb i k)).toLoadRect (harg9.unread x7))) (k0_pay27 v33 (View.readAt (Elt F) arg4.view (Rect.unit (s := S1x2048x512) (k0_off19 i k) S1x512x128.size (k0_off19_inb i k)).toLoadRect (harg4.unread x2))),
         k0_pay30 v0 acc.2.2.2.2.2.2.2.2.2.1 (k0_pay22 (View.readAt (Elt F) arg5.view (Rect.unit (s := S1x2048x512) (k0_off19 i k) S1x512x128.size (k0_off19_inb i k)).toLoadRect (harg5.unread x3))) (bias 4 v8 (View.readAt (Elt F) arg9.view (Rect.unit (s := S1x8x1x2048) (k0_off20 i k) S1x1x1x512.size (k0_off20_inb i k)).toLoadRect (harg9.unread x7))) (k0_pay27 v33 (View.readAt (Elt F) arg4.view (Rect.unit (s := S1x2048x512) (k0_off19 i k) S1x512x128.size (k0_off19_inb i k)).toLoadRect (harg4.unread x2))),
         k0_pay29 v0 acc.2.2.2.2.2.2.2.2.2.2.1 (bias 5 v8 (View.readAt (Elt F) arg9.view (Rect.unit (s := S1x8x1x2048) (k0_off21 i k) S1x1x1x512.size (k0_off21_inb i k)).toLoadRect (harg9.unread x7))) (k0_pay27 v35 (View.readAt (Elt F) arg4.view (Rect.unit (s := S1x2048x512) (k0_off19 i k) S1x512x128.size (k0_off19_inb i k)).toLoadRect (harg4.unread x2))),
         k0_pay30 v0 acc.2.2.2.2.2.2.2.2.2.2.2.1 (k0_pay22 (View.readAt (Elt F) arg5.view (Rect.unit (s := S1x2048x512) (k0_off19 i k) S1x512x128.size (k0_off19_inb i k)).toLoadRect (harg5.unread x3))) (bias 5 v8 (View.readAt (Elt F) arg9.view (Rect.unit (s := S1x8x1x2048) (k0_off21 i k) S1x1x1x512.size (k0_off21_inb i k)).toLoadRect (harg9.unread x7))) (k0_pay27 v35 (View.readAt (Elt F) arg4.view (Rect.unit (s := S1x2048x512) (k0_off19 i k) S1x512x128.size (k0_off19_inb i k)).toLoadRect (harg4.unread x2))),
         k0_pay29 v0 acc.2.2.2.2.2.2.2.2.2.2.2.2.1 (bias 6 v8 (View.readAt (Elt F) arg9.view (Rect.unit (s := S1x8x1x2048) (k0_off23 i k) S1x1x1x512.size (k0_off23_inb i k)).toLoadRect (harg9.unread x7))) (k0_pay27 v42 (View.readAt (Elt F) arg4.view (Rect.unit (s := S1x2048x512) (k0_off22 i k) S1x512x128.size (k0_off22_inb i k)).toLoadRect (harg4.unread x2))),
         k0_pay30 v0 acc.2.2.2.2.2.2.2.2.2.2.2.2.2.1 (k0_pay22 (View.readAt (Elt F) arg5.view (Rect.unit (s := S1x2048x512) (k0_off22 i k) S1x512x128.size (k0_off22_inb i k)).toLoadRect (harg5.unread x3))) (bias 6 v8 (View.readAt (Elt F) arg9.view (Rect.unit (s := S1x8x1x2048) (k0_off23 i k) S1x1x1x512.size (k0_off23_inb i k)).toLoadRect (harg9.unread x7))) (k0_pay27 v42 (View.readAt (Elt F) arg4.view (Rect.unit (s := S1x2048x512) (k0_off22 i k) S1x512x128.size (k0_off22_inb i k)).toLoadRect (harg4.unread x2))),
         k0_pay29 v0 acc.2.2.2.2.2.2.2.2.2.2.2.2.2.2.1 (bias 7 v8 (View.readAt (Elt F) arg9.view (Rect.unit (s := S1x8x1x2048) (k0_off24 i k) S1x1x1x512.size (k0_off24_inb i k)).toLoadRect (harg9.unread x7))) (k0_pay27 v44 (View.readAt (Elt F) arg4.view (Rect.unit (s := S1x2048x512) (k0_off22 i k) S1x512x128.size (k0_off22_inb i k)).toLoadRect (harg4.unread x2))),
         k0_pay30 v0 acc.2.2.2.2.2.2.2.2.2.2.2.2.2.2.2 (k0_pay22 (View.readAt (Elt F) arg5.view (Rect.unit (s := S1x2048x512) (k0_off22 i k) S1x512x128.size (k0_off22_inb i k)).toLoadRect (harg5.unread x3))) (bias 7 v8 (View.readAt (Elt F) arg9.view (Rect.unit (s := S1x8x1x2048) (k0_off24 i k) S1x1x1x512.size (k0_off24_inb i k)).toLoadRect (harg9.unread x7))) (k0_pay27 v44 (View.readAt (Elt F) arg4.view (Rect.unit (s := S1x2048x512) (k0_off22 i k) S1x512x128.size (k0_off22_inb i k)).toLoadRect (harg4.unread x2)))) := by
  unfold tripR_k0_t1 trip_k0_t1; rfl

set_option maxHeartbeats 4000000 in
/-- The loop's state after `n` turns with the bound as shift. -/
theorem st_fixed (𝒱 : Variants) (c : Dev nD) (bd : Option 𝒱.V) (i : grid0.Coords) (arg2 : Memref sig .tc .smem S1 .f32) (harg2 : arg2.IsWhole) (arg3 : Memref sig .tc .vmem S1x512x512 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S1x512x128 .f32) (harg8 : arg8.IsWhole) (arg9 : Memref sig .tc .vmem S1x8x1x2048 .f32) (harg9 : arg9.IsWhole) (arg10 : Memref sig .tc .vmem S1x8x1x128 .f32) (harg10 : arg10.IsWhole) (arg11 : Memref sig .tc .vmem S1x512x512 .bf16) (harg11 : arg11.IsWhole)  (arg1 : BitVec 32) (v0 : Elt F .f32) (v8 : FVec F S512x128 .f32) (v15 : FVec F S512x128 .bf16) (v17 : FVec F S512x128 .bf16) (v24 : FVec F S512x128 .bf16) (v26 : FVec F S512x128 .bf16) (v33 : FVec F S512x128 .bf16) (v35 : FVec F S512x128 .bf16) (v42 : FVec F S512x128 .bf16) (v44 : FVec F S512x128 .bf16) (v95 : FVec F S512x128 .f32) (v97 : FVec F S512x128 .f32) (v127 : FVec F S512x128 .f32) (v129 : FVec F S512x128 .f32) (v169 : FVec F S512x128 .f32) (v171 : FVec F S512x128 .f32) (v201 : FVec F S512x128 .f32) (v203 : FVec F S512x128 .f32) (v243 : FVec F S512x128 .f32) (v245 : FVec F S512x128 .f32) (v275 : FVec F S512x128 .f32) (v277 : FVec F S512x128 .f32) (v287 : FVec F S640x128 .bf16) (v317 : FVec F S512x128 .f32) (v319 : FVec F S512x128 .f32) (v340 : FVec F S512x640 .f32) (v343 : FVec F S512x128 .f32) (v344 : FVec F S512x128 .f32)
    (x2 x3 : Vec F S1x2048x512 .bf16) (x7 : Vec F S1x8x1x2048 .f32) (p0 a0 p1 a1 p2 a2 p3 a3 p4 a4 p5 a5 p6 a6 p7 a7 : FVec F S512x128 .f32) (n : ℕ) (hn : n ≤ (k0_t1_loop i).trips) :
    st_k0_t1 (F := F) 𝒱 c bd i arg2 harg2 arg3 harg3 arg4 harg4 arg5 harg5 arg6 harg6 arg7 harg7 arg8 harg8 arg9 harg9 arg10 harg10 arg11 harg11 arg1 v0 v8 v15 v17 v24 v26 v33 v35 v42 v44 v95 v97 v127 v129 v169 v171 v201 v203 v243 v245 v275 v277 v287 v317 v319 v340 v343 v344 (harg4.unread x2) (harg5.unread x3) (harg9.unread x7) (p0, a0, p1, a1, p2, a2, p3, a3, p4, a4, p5, a5, p6, a6, p7, a7) n
      = (fixPart v0 v15 p0 (fun n => blk x2 n 0) (fun n => bias 0 v8 (rcut x7 ![0, 0, 0, 512 * n])) n,
         fixAcc v0 v15 a0 (fun n => blk x2 n 0) (fun n => blk x3 n 0) (fun n => bias 0 v8 (rcut x7 ![0, 0, 0, 512 * n])) n,
         fixPart v0 v17 p1 (fun n => blk x2 n 0) (fun n => bias 1 v8 (rcut x7 ![0, 1, 0, 512 * n])) n,
         fixAcc v0 v17 a1 (fun n => blk x2 n 0) (fun n => blk x3 n 0) (fun n => bias 1 v8 (rcut x7 ![0, 1, 0, 512 * n])) n,
         fixPart v0 v24 p2 (fun n => blk x2 n 1) (fun n => bias 2 v8 (rcut x7 ![0, 2, 0, 512 * n])) n,
         fixAcc v0 v24 a2 (fun n => blk x2 n 1) (fun n => blk x3 n 1) (fun n => bias 2 v8 (rcut x7 ![0, 2, 0, 512 * n])) n,
         fixPart v0 v26 p3 (fun n => blk x2 n 1) (fun n => bias 3 v8 (rcut x7 ![0, 3, 0, 512 * n])) n,
         fixAcc v0 v26 a3 (fun n => blk x2 n 1) (fun n => blk x3 n 1) (fun n => bias 3 v8 (rcut x7 ![0, 3, 0, 512 * n])) n,
         fixPart v0 v33 p4 (fun n => blk x2 n 2) (fun n => bias 4 v8 (rcut x7 ![0, 4, 0, 512 * n])) n,
         fixAcc v0 v33 a4 (fun n => blk x2 n 2) (fun n => blk x3 n 2) (fun n => bias 4 v8 (rcut x7 ![0, 4, 0, 512 * n])) n,
         fixPart v0 v35 p5 (fun n => blk x2 n 2) (fun n => bias 5 v8 (rcut x7 ![0, 5, 0, 512 * n])) n,
         fixAcc v0 v35 a5 (fun n => blk x2 n 2) (fun n => blk x3 n 2) (fun n => bias 5 v8 (rcut x7 ![0, 5, 0, 512 * n])) n,
         fixPart v0 v42 p6 (fun n => blk x2 n 3) (fun n => bias 6 v8 (rcut x7 ![0, 6, 0, 512 * n])) n,
         fixAcc v0 v42 a6 (fun n => blk x2 n 3) (fun n => blk x3 n 3) (fun n => bias 6 v8 (rcut x7 ![0, 6, 0, 512 * n])) n,
         fixPart v0 v44 p7 (fun n => blk x2 n 3) (fun n => bias 7 v8 (rcut x7 ![0, 7, 0, 512 * n])) n,
         fixAcc v0 v44 a7 (fun n => blk x2 n 3) (fun n => blk x3 n 3) (fun n => bias 7 v8 (rcut x7 ![0, 7, 0, 512 * n])) n) := by
  induction n with
  | zero => rfl
  | succ n ih =>
    refine (st_k0_t1_succ 𝒱 c bd i arg2 harg2 arg3 harg3 arg4 harg4 arg5 harg5 arg6 harg6 arg7 harg7 arg8 harg8 arg9 harg9 arg10 harg10 arg11 harg11 arg1 v0 v8 v15 v17 v24 v26 v33 v35 v42 v44 v95 v97 v127 v129 v169 v171 v201 v203 v243 v245 v275 v277 v287 v317 v319 v340 v343 v344 (harg4.unread x2) (harg5.unread x3) (harg9.unread x7) _ ⟨n, hn⟩).trans ?_
    rw [ih (Nat.le_of_succ_le hn), trip_fixed]
    simp only [read_cut, read_rcut, off13_eq, off14_eq, off15_eq, off16_eq, off17_eq, off18_eq, off19_eq, off20_eq, off21_eq, off22_eq, off23_eq, off24_eq, fixPart, fixAcc]

set_option maxHeartbeats 4000000 in
/-- One turn of the loop with running maxima, as the body's own loads. -/
theorem trip_online (𝒱 : Variants) (c : Dev nD) (bd : Option 𝒱.V) (i : grid0.Coords) (arg2 : Memref sig .tc .smem S1 .f32) (harg2 : arg2.IsWhole) (arg3 : Memref sig .tc .vmem S1x512x512 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S1x512x128 .f32) (harg8 : arg8.IsWhole) (arg9 : Memref sig .tc .vmem S1x8x1x2048 .f32) (harg9 : arg9.IsWhole) (arg10 : Memref sig .tc .vmem S1x8x1x128 .f32) (harg10 : arg10.IsWhole) (arg11 : Memref sig .tc .vmem S1x512x512 .bf16) (harg11 : arg11.IsWhole)  (arg1 : BitVec 32) (v8 : FVec F S512x128 .f32) (v15 : FVec F S512x128 .bf16) (v17 : FVec F S512x128 .bf16) (v24 : FVec F S512x128 .bf16) (v26 : FVec F S512x128 .bf16) (v33 : FVec F S512x128 .bf16) (v35 : FVec F S512x128 .bf16) (v42 : FVec F S512x128 .bf16) (v44 : FVec F S512x128 .bf16) (v46 : BitVec 32) (v55 : IVec S512x640 1) (v85 : FVec F S512x1 .f32) (v90 : FVec F S512x1 .f32) (v92 : FVec F S512x128 .f32) (v112 : FVec F S512x1 .f32) (v117 : FVec F S512x1 .f32) (v119 : FVec F S512x128 .f32) (v149 : FVec F S512x1 .f32) (v154 : FVec F S512x1 .f32) (v156 : FVec F S512x128 .f32) (v176 : FVec F S512x1 .f32) (v181 : FVec F S512x1 .f32) (v183 : FVec F S512x128 .f32) (v213 : FVec F S512x1 .f32) (v218 : FVec F S512x1 .f32) (v220 : FVec F S512x128 .f32) (v240 : FVec F S512x1 .f32) (v245 : FVec F S512x1 .f32) (v247 : FVec F S512x128 .f32) (v252 : FVec F S640x128 .bf16) (v257 : FVec F S640x128 .bf16) (v277 : FVec F S512x1 .f32) (v280 : FVec F S512x640 .f32)
    (x2 x3 : Vec F S1x2048x512 .bf16) (x7 : Vec F S1x8x1x2048 .f32) (k : Fin (k0_t3_loop i).trips) (acc : FVec F S512x1 .f32 × FVec F S512x1 .f32 × FVec F S512x128 .f32 × FVec F S512x1 .f32 × FVec F S512x1 .f32 × FVec F S512x128 .f32 × FVec F S512x1 .f32 × FVec F S512x1 .f32 × FVec F S512x128 .f32 × FVec F S512x1 .f32 × FVec F S512x1 .f32 × FVec F S512x128 .f32 × FVec F S512x1 .f32 × FVec F S512x1 .f32 × FVec F S512x128 .f32 × FVec F S512x1 .f32 × FVec F S512x1 .f32 × FVec F S512x128 .f32 × FVec F S512x1 .f32 × FVec F S512x1 .f32 × FVec F S512x128 .f32 × FVec F S512x1 .f32 × FVec F S512x1 .f32 × FVec F S512x128 .f32) :
    tripR_k0_t3 (F := F) 𝒱 c bd i arg2 harg2 arg3 harg3 arg4 harg4 arg5 harg5 arg6 harg6 arg7 harg7 arg8 harg8 arg9 harg9 arg10 harg10 arg11 harg11 arg1 v8 v15 v17 v24 v26 v33 v35 v42 v44 v46 v55 v85 v90 v92 v112 v117 v119 v149 v154 v156 v176 v181 v183 v213 v218 v220 v240 v245 v247 v252 v257 v277 v280 (harg4.unread x2) (harg5.unread x3) (harg9.unread x7) k acc
      = (k0_pay162 acc.1 (score v15 (View.readAt (Elt F) arg4.view (Rect.unit (s := S1x2048x512) (k0_off49 i k) S1x512x128.size (k0_off49_inb i k)).toLoadRect (harg4.unread x2)) (bias 0 v8 (View.readAt (Elt F) arg9.view (Rect.unit (s := S1x8x1x2048) (k0_off50 i k) S1x1x1x512.size (k0_off50_inb i k)).toLoadRect (harg9.unread x7)))),
         k0_pay165 acc.1 acc.2.1 (score v15 (View.readAt (Elt F) arg4.view (Rect.unit (s := S1x2048x512) (k0_off49 i k) S1x512x128.size (k0_off49_inb i k)).toLoadRect (harg4.unread x2)) (bias 0 v8 (View.readAt (Elt F) arg9.view (Rect.unit (s := S1x8x1x2048) (k0_off50 i k) S1x1x1x512.size (k0_off50_inb i k)).toLoadRect (harg9.unread x7)))),
         k0_pay166 acc.1 acc.2.2.1 (k0_pay22 (View.readAt (Elt F) arg5.view (Rect.unit (s := S1x2048x512) (k0_off49 i k) S1x512x128.size (k0_off49_inb i k)).toLoadRect (harg5.unread x3))) (score v15 (View.readAt (Elt F) arg4.view (Rect.unit (s := S1x2048x512) (k0_off49 i k) S1x512x128.size (k0_off49_inb i k)).toLoadRect (harg4.unread x2)) (bias 0 v8 (View.readAt (Elt F) arg9.view (Rect.unit (s := S1x8x1x2048) (k0_off50 i k) S1x1x1x512.size (k0_off50_inb i k)).toLoadRect (harg9.unread x7)))),
         k0_pay162 acc.2.2.2.1 (score v17 (View.readAt (Elt F) arg4.view (Rect.unit (s := S1x2048x512) (k0_off49 i k) S1x512x128.size (k0_off49_inb i k)).toLoadRect (harg4.unread x2)) (bias 1 v8 (View.readAt (Elt F) arg9.view (Rect.unit (s := S1x8x1x2048) (k0_off51 i k) S1x1x1x512.size (k0_off51_inb i k)).toLoadRect (harg9.unread x7)))),
         k0_pay165 acc.2.2.2.1 acc.2.2.2.2.1 (score v17 (View.readAt (Elt F) arg4.view (Rect.unit (s := S1x2048x512) (k0_off49 i k) S1x512x128.size (k0_off49_inb i k)).toLoadRect (harg4.unread x2)) (bias 1 v8 (View.readAt (Elt F) arg9.view (Rect.unit (s := S1x8x1x2048) (k0_off51 i k) S1x1x1x512.size (k0_off51_inb i k)).toLoadRect (harg9.unread x7)))),
         k0_pay166 acc.2.2.2.1 acc.2.2.2.2.2.1 (k0_pay22 (View.readAt (Elt F) arg5.view (Rect.unit (s := S1x2048x512) (k0_off49 i k) S1x512x128.size (k0_off49_inb i k)).toLoadRect (harg5.unread x3))) (score v17 (View.readAt (Elt F) arg4.view (Rect.unit (s := S1x2048x512) (k0_off49 i k) S1x512x128.size (k0_off49_inb i k)).toLoadRect (harg4.unread x2)) (bias 1 v8 (View.readAt (Elt F) arg9.view (Rect.unit (s := S1x8x1x2048) (k0_off51 i k) S1x1x1x512.size (k0_off51_inb i k)).toLoadRect (harg9.unread x7)))),
         k0_pay162 acc.2.2.2.2.2.2.1 (score v24 (View.readAt (Elt F) arg4.view (Rect.unit (s := S1x2048x512) (k0_off52 i k) S1x512x128.size (k0_off52_inb i k)).toLoadRect (harg4.unread x2)) (bias 2 v8 (View.readAt (Elt F) arg9.view (Rect.unit (s := S1x8x1x2048) (k0_off53 i k) S1x1x1x512.size (k0_off53_inb i k)).toLoadRect (harg9.unread x7)))),
         k0_pay165 acc.2.2.2.2.2.2.1 acc.2.2.2.2.2.2.2.1 (score v24 (View.readAt (Elt F) arg4.view (Rect.unit (s := S1x2048x512) (k0_off52 i k) S1x512x128.size (k0_off52_inb i k)).toLoadRect (harg4.unread x2)) (bias 2 v8 (View.readAt (Elt F) arg9.view (Rect.unit (s := S1x8x1x2048) (k0_off53 i k) S1x1x1x512.size (k0_off53_inb i k)).toLoadRect (harg9.unread x7)))),
         k0_pay166 acc.2.2.2.2.2.2.1 acc.2.2.2.2.2.2.2.2.1 (k0_pay22 (View.readAt (Elt F) arg5.view (Rect.unit (s := S1x2048x512) (k0_off52 i k) S1x512x128.size (k0_off52_inb i k)).toLoadRect (harg5.unread x3))) (score v24 (View.readAt (Elt F) arg4.view (Rect.unit (s := S1x2048x512) (k0_off52 i k) S1x512x128.size (k0_off52_inb i k)).toLoadRect (harg4.unread x2)) (bias 2 v8 (View.readAt (Elt F) arg9.view (Rect.unit (s := S1x8x1x2048) (k0_off53 i k) S1x1x1x512.size (k0_off53_inb i k)).toLoadRect (harg9.unread x7)))),
         k0_pay162 acc.2.2.2.2.2.2.2.2.2.1 (score v26 (View.readAt (Elt F) arg4.view (Rect.unit (s := S1x2048x512) (k0_off52 i k) S1x512x128.size (k0_off52_inb i k)).toLoadRect (harg4.unread x2)) (bias 3 v8 (View.readAt (Elt F) arg9.view (Rect.unit (s := S1x8x1x2048) (k0_off54 i k) S1x1x1x512.size (k0_off54_inb i k)).toLoadRect (harg9.unread x7)))),
         k0_pay165 acc.2.2.2.2.2.2.2.2.2.1 acc.2.2.2.2.2.2.2.2.2.2.1 (score v26 (View.readAt (Elt F) arg4.view (Rect.unit (s := S1x2048x512) (k0_off52 i k) S1x512x128.size (k0_off52_inb i k)).toLoadRect (harg4.unread x2)) (bias 3 v8 (View.readAt (Elt F) arg9.view (Rect.unit (s := S1x8x1x2048) (k0_off54 i k) S1x1x1x512.size (k0_off54_inb i k)).toLoadRect (harg9.unread x7)))),
         k0_pay166 acc.2.2.2.2.2.2.2.2.2.1 acc.2.2.2.2.2.2.2.2.2.2.2.1 (k0_pay22 (View.readAt (Elt F) arg5.view (Rect.unit (s := S1x2048x512) (k0_off52 i k) S1x512x128.size (k0_off52_inb i k)).toLoadRect (harg5.unread x3))) (score v26 (View.readAt (Elt F) arg4.view (Rect.unit (s := S1x2048x512) (k0_off52 i k) S1x512x128.size (k0_off52_inb i k)).toLoadRect (harg4.unread x2)) (bias 3 v8 (View.readAt (Elt F) arg9.view (Rect.unit (s := S1x8x1x2048) (k0_off54 i k) S1x1x1x512.size (k0_off54_inb i k)).toLoadRect (harg9.unread x7)))),
         k0_pay162 acc.2.2.2.2.2.2.2.2.2.2.2.2.1 (score v33 (View.readAt (Elt F) arg4.view (Rect.unit (s := S1x2048x512) (k0_off55 i k) S1x512x128.size (k0_off55_inb i k)).toLoadRect (harg4.unread x2)) (bias 4 v8 (View.readAt (Elt F) arg9.view (Rect.unit (s := S1x8x1x2048) (k0_off56 i k) S1x1x1x512.size (k0_off56_inb i k)).toLoadRect (harg9.unread x7)))),
         k0_pay165 acc.2.2.2.2.2.2.2.2.2.2.2.2.1 acc.2.2.2.2.2.2.2.2.2.2.2.2.2.1 (score v33 (View.readAt (Elt F) arg4.view (Rect.unit (s := S1x2048x512) (k0_off55 i k) S1x512x128.size (k0_off55_inb i k)).toLoadRect (harg4.unread x2)) (bias 4 v8 (View.readAt (Elt F) arg9.view (Rect.unit (s := S1x8x1x2048) (k0_off56 i k) S1x1x1x512.size (k0_off56_inb i k)).toLoadRect (harg9.unread x7)))),
         k0_pay166 acc.2.2.2.2.2.2.2.2.2.2.2.2.1 acc.2.2.2.2.2.2.2.2.2.2.2.2.2.2.1 (k0_pay22 (View.readAt (Elt F) arg5.view (Rect.unit (s := S1x2048x512) (k0_off55 i k) S1x512x128.size (k0_off55_inb i k)).toLoadRect (harg5.unread x3))) (score v33 (View.readAt (Elt F) arg4.view (Rect.unit (s := S1x2048x512) (k0_off55 i k) S1x512x128.size (k0_off55_inb i k)).toLoadRect (harg4.unread x2)) (bias 4 v8 (View.readAt (Elt F) arg9.view (Rect.unit (s := S1x8x1x2048) (k0_off56 i k) S1x1x1x512.size (k0_off56_inb i k)).toLoadRect (harg9.unread x7)))),
         k0_pay162 acc.2.2.2.2.2.2.2.2.2.2.2.2.2.2.2.1 (score v35 (View.readAt (Elt F) arg4.view (Rect.unit (s := S1x2048x512) (k0_off55 i k) S1x512x128.size (k0_off55_inb i k)).toLoadRect (harg4.unread x2)) (bias 5 v8 (View.readAt (Elt F) arg9.view (Rect.unit (s := S1x8x1x2048) (k0_off57 i k) S1x1x1x512.size (k0_off57_inb i k)).toLoadRect (harg9.unread x7)))),
         k0_pay165 acc.2.2.2.2.2.2.2.2.2.2.2.2.2.2.2.1 acc.2.2.2.2.2.2.2.2.2.2.2.2.2.2.2.2.1 (score v35 (View.readAt (Elt F) arg4.view (Rect.unit (s := S1x2048x512) (k0_off55 i k) S1x512x128.size (k0_off55_inb i k)).toLoadRect (harg4.unread x2)) (bias 5 v8 (View.readAt (Elt F) arg9.view (Rect.unit (s := S1x8x1x2048) (k0_off57 i k) S1x1x1x512.size (k0_off57_inb i k)).toLoadRect (harg9.unread x7)))),
         k0_pay166 acc.2.2.2.2.2.2.2.2.2.2.2.2.2.2.2.1 acc.2.2.2.2.2.2.2.2.2.2.2.2.2.2.2.2.2.1 (k0_pay22 (View.readAt (Elt F) arg5.view (Rect.unit (s := S1x2048x512) (k0_off55 i k) S1x512x128.size (k0_off55_inb i k)).toLoadRect (harg5.unread x3))) (score v35 (View.readAt (Elt F) arg4.view (Rect.unit (s := S1x2048x512) (k0_off55 i k) S1x512x128.size (k0_off55_inb i k)).toLoadRect (harg4.unread x2)) (bias 5 v8 (View.readAt (Elt F) arg9.view (Rect.unit (s := S1x8x1x2048) (k0_off57 i k) S1x1x1x512.size (k0_off57_inb i k)).toLoadRect (harg9.unread x7)))),
         k0_pay162 acc.2.2.2.2.2.2.2.2.2.2.2.2.2.2.2.2.2.2.1 (score v42 (View.readAt (Elt F) arg4.view (Rect.unit (s := S1x2048x512) (k0_off58 i k) S1x512x128.size (k0_off58_inb i k)).toLoadRect (harg4.unread x2)) (bias 6 v8 (View.readAt (Elt F) arg9.view (Rect.unit (s := S1x8x1x2048) (k0_off59 i k) S1x1x1x512.size (k0_off59_inb i k)).toLoadRect (harg9.unread x7)))),
         k0_pay165 acc.2.2.2.2.2.2.2.2.2.2.2.2.2.2.2.2.2.2.1 acc.2.2.2.2.2.2.2.2.2.2.2.2.2.2.2.2.2.2.2.1 (score v42 (View.readAt (Elt F) arg4.view (Rect.unit (s := S1x2048x512) (k0_off58 i k) S1x512x128.size (k0_off58_inb i k)).toLoadRect (harg4.unread x2)) (bias 6 v8 (View.readAt (Elt F) arg9.view (Rect.unit (s := S1x8x1x2048) (k0_off59 i k) S1x1x1x512.size (k0_off59_inb i k)).toLoadRect (harg9.unread x7)))),
         k0_pay166 acc.2.2.2.2.2.2.2.2.2.2.2.2.2.2.2.2.2.2.1 acc.2.2.2.2.2.2.2.2.2.2.2.2.2.2.2.2.2.2.2.2.1 (k0_pay22 (View.readAt (Elt F) arg5.view (Rect.unit (s := S1x2048x512) (k0_off58 i k) S1x512x128.size (k0_off58_inb i k)).toLoadRect (harg5.unread x3))) (score v42 (View.readAt (Elt F) arg4.view (Rect.unit (s := S1x2048x512) (k0_off58 i k) S1x512x128.size (k0_off58_inb i k)).toLoadRect (harg4.unread x2)) (bias 6 v8 (View.readAt (Elt F) arg9.view (Rect.unit (s := S1x8x1x2048) (k0_off59 i k) S1x1x1x512.size (k0_off59_inb i k)).toLoadRect (harg9.unread x7)))),
         k0_pay162 acc.2.2.2.2.2.2.2.2.2.2.2.2.2.2.2.2.2.2.2.2.2.1 (score v44 (View.readAt (Elt F) arg4.view (Rect.unit (s := S1x2048x512) (k0_off58 i k) S1x512x128.size (k0_off58_inb i k)).toLoadRect (harg4.unread x2)) (bias 7 v8 (View.readAt (Elt F) arg9.view (Rect.unit (s := S1x8x1x2048) (k0_off60 i k) S1x1x1x512.size (k0_off60_inb i k)).toLoadRect (harg9.unread x7)))),
         k0_pay165 acc.2.2.2.2.2.2.2.2.2.2.2.2.2.2.2.2.2.2.2.2.2.1 acc.2.2.2.2.2.2.2.2.2.2.2.2.2.2.2.2.2.2.2.2.2.2.1 (score v44 (View.readAt (Elt F) arg4.view (Rect.unit (s := S1x2048x512) (k0_off58 i k) S1x512x128.size (k0_off58_inb i k)).toLoadRect (harg4.unread x2)) (bias 7 v8 (View.readAt (Elt F) arg9.view (Rect.unit (s := S1x8x1x2048) (k0_off60 i k) S1x1x1x512.size (k0_off60_inb i k)).toLoadRect (harg9.unread x7)))),
         k0_pay166 acc.2.2.2.2.2.2.2.2.2.2.2.2.2.2.2.2.2.2.2.2.2.1 acc.2.2.2.2.2.2.2.2.2.2.2.2.2.2.2.2.2.2.2.2.2.2.2 (k0_pay22 (View.readAt (Elt F) arg5.view (Rect.unit (s := S1x2048x512) (k0_off58 i k) S1x512x128.size (k0_off58_inb i k)).toLoadRect (harg5.unread x3))) (score v44 (View.readAt (Elt F) arg4.view (Rect.unit (s := S1x2048x512) (k0_off58 i k) S1x512x128.size (k0_off58_inb i k)).toLoadRect (harg4.unread x2)) (bias 7 v8 (View.readAt (Elt F) arg9.view (Rect.unit (s := S1x8x1x2048) (k0_off60 i k) S1x1x1x512.size (k0_off60_inb i k)).toLoadRect (harg9.unread x7))))) := by
  unfold tripR_k0_t3 trip_k0_t3; rfl

set_option maxHeartbeats 4000000 in
/-- The loop's state after `n` turns with running maxima. -/
theorem st_online (𝒱 : Variants) (c : Dev nD) (bd : Option 𝒱.V) (i : grid0.Coords) (arg2 : Memref sig .tc .smem S1 .f32) (harg2 : arg2.IsWhole) (arg3 : Memref sig .tc .vmem S1x512x512 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S1x512x128 .f32) (harg8 : arg8.IsWhole) (arg9 : Memref sig .tc .vmem S1x8x1x2048 .f32) (harg9 : arg9.IsWhole) (arg10 : Memref sig .tc .vmem S1x8x1x128 .f32) (harg10 : arg10.IsWhole) (arg11 : Memref sig .tc .vmem S1x512x512 .bf16) (harg11 : arg11.IsWhole)  (arg1 : BitVec 32) (v8 : FVec F S512x128 .f32) (v15 : FVec F S512x128 .bf16) (v17 : FVec F S512x128 .bf16) (v24 : FVec F S512x128 .bf16) (v26 : FVec F S512x128 .bf16) (v33 : FVec F S512x128 .bf16) (v35 : FVec F S512x128 .bf16) (v42 : FVec F S512x128 .bf16) (v44 : FVec F S512x128 .bf16) (v46 : BitVec 32) (v55 : IVec S512x640 1) (v85 : FVec F S512x1 .f32) (v90 : FVec F S512x1 .f32) (v92 : FVec F S512x128 .f32) (v112 : FVec F S512x1 .f32) (v117 : FVec F S512x1 .f32) (v119 : FVec F S512x128 .f32) (v149 : FVec F S512x1 .f32) (v154 : FVec F S512x1 .f32) (v156 : FVec F S512x128 .f32) (v176 : FVec F S512x1 .f32) (v181 : FVec F S512x1 .f32) (v183 : FVec F S512x128 .f32) (v213 : FVec F S512x1 .f32) (v218 : FVec F S512x1 .f32) (v220 : FVec F S512x128 .f32) (v240 : FVec F S512x1 .f32) (v245 : FVec F S512x1 .f32) (v247 : FVec F S512x128 .f32) (v252 : FVec F S640x128 .bf16) (v257 : FVec F S640x128 .bf16) (v277 : FVec F S512x1 .f32) (v280 : FVec F S512x640 .f32)
    (x2 x3 : Vec F S1x2048x512 .bf16) (x7 : Vec F S1x8x1x2048 .f32) (m0 l0 m1 l1 m2 l2 m3 l3 m4 l4 m5 l5 m6 l6 m7 l7 : FVec F S512x1 .f32) (a0 a1 a2 a3 a4 a5 a6 a7 : FVec F S512x128 .f32) (n : ℕ) (hn : n ≤ (k0_t3_loop i).trips) :
    st_k0_t3 (F := F) 𝒱 c bd i arg2 harg2 arg3 harg3 arg4 harg4 arg5 harg5 arg6 harg6 arg7 harg7 arg8 harg8 arg9 harg9 arg10 harg10 arg11 harg11 arg1 v8 v15 v17 v24 v26 v33 v35 v42 v44 v46 v55 v85 v90 v92 v112 v117 v119 v149 v154 v156 v176 v181 v183 v213 v218 v220 v240 v245 v247 v252 v257 v277 v280 (harg4.unread x2) (harg5.unread x3) (harg9.unread x7) (m0, l0, a0, m1, l1, a1, m2, l2, a2, m3, l3, a3, m4, l4, a4, m5, l5, a5, m6, l6, a6, m7, l7, a7) n
      = (onlMax v15 m0 (fun n => blk x2 n 0) (fun n => bias 0 v8 (rcut x7 ![0, 0, 0, 512 * n])) n,
         onlSum v15 m0 l0 (fun n => blk x2 n 0) (fun n => bias 0 v8 (rcut x7 ![0, 0, 0, 512 * n])) n,
         onlAcc v15 m0 a0 (fun n => blk x2 n 0) (fun n => blk x3 n 0) (fun n => bias 0 v8 (rcut x7 ![0, 0, 0, 512 * n])) n,
         onlMax v17 m1 (fun n => blk x2 n 0) (fun n => bias 1 v8 (rcut x7 ![0, 1, 0, 512 * n])) n,
         onlSum v17 m1 l1 (fun n => blk x2 n 0) (fun n => bias 1 v8 (rcut x7 ![0, 1, 0, 512 * n])) n,
         onlAcc v17 m1 a1 (fun n => blk x2 n 0) (fun n => blk x3 n 0) (fun n => bias 1 v8 (rcut x7 ![0, 1, 0, 512 * n])) n,
         onlMax v24 m2 (fun n => blk x2 n 1) (fun n => bias 2 v8 (rcut x7 ![0, 2, 0, 512 * n])) n,
         onlSum v24 m2 l2 (fun n => blk x2 n 1) (fun n => bias 2 v8 (rcut x7 ![0, 2, 0, 512 * n])) n,
         onlAcc v24 m2 a2 (fun n => blk x2 n 1) (fun n => blk x3 n 1) (fun n => bias 2 v8 (rcut x7 ![0, 2, 0, 512 * n])) n,
         onlMax v26 m3 (fun n => blk x2 n 1) (fun n => bias 3 v8 (rcut x7 ![0, 3, 0, 512 * n])) n,
         onlSum v26 m3 l3 (fun n => blk x2 n 1) (fun n => bias 3 v8 (rcut x7 ![0, 3, 0, 512 * n])) n,
         onlAcc v26 m3 a3 (fun n => blk x2 n 1) (fun n => blk x3 n 1) (fun n => bias 3 v8 (rcut x7 ![0, 3, 0, 512 * n])) n,
         onlMax v33 m4 (fun n => blk x2 n 2) (fun n => bias 4 v8 (rcut x7 ![0, 4, 0, 512 * n])) n,
         onlSum v33 m4 l4 (fun n => blk x2 n 2) (fun n => bias 4 v8 (rcut x7 ![0, 4, 0, 512 * n])) n,
         onlAcc v33 m4 a4 (fun n => blk x2 n 2) (fun n => blk x3 n 2) (fun n => bias 4 v8 (rcut x7 ![0, 4, 0, 512 * n])) n,
         onlMax v35 m5 (fun n => blk x2 n 2) (fun n => bias 5 v8 (rcut x7 ![0, 5, 0, 512 * n])) n,
         onlSum v35 m5 l5 (fun n => blk x2 n 2) (fun n => bias 5 v8 (rcut x7 ![0, 5, 0, 512 * n])) n,
         onlAcc v35 m5 a5 (fun n => blk x2 n 2) (fun n => blk x3 n 2) (fun n => bias 5 v8 (rcut x7 ![0, 5, 0, 512 * n])) n,
         onlMax v42 m6 (fun n => blk x2 n 3) (fun n => bias 6 v8 (rcut x7 ![0, 6, 0, 512 * n])) n,
         onlSum v42 m6 l6 (fun n => blk x2 n 3) (fun n => bias 6 v8 (rcut x7 ![0, 6, 0, 512 * n])) n,
         onlAcc v42 m6 a6 (fun n => blk x2 n 3) (fun n => blk x3 n 3) (fun n => bias 6 v8 (rcut x7 ![0, 6, 0, 512 * n])) n,
         onlMax v44 m7 (fun n => blk x2 n 3) (fun n => bias 7 v8 (rcut x7 ![0, 7, 0, 512 * n])) n,
         onlSum v44 m7 l7 (fun n => blk x2 n 3) (fun n => bias 7 v8 (rcut x7 ![0, 7, 0, 512 * n])) n,
         onlAcc v44 m7 a7 (fun n => blk x2 n 3) (fun n => blk x3 n 3) (fun n => bias 7 v8 (rcut x7 ![0, 7, 0, 512 * n])) n) := by
  induction n with
  | zero => rfl
  | succ n ih =>
    refine (st_k0_t3_succ 𝒱 c bd i arg2 harg2 arg3 harg3 arg4 harg4 arg5 harg5 arg6 harg6 arg7 harg7 arg8 harg8 arg9 harg9 arg10 harg10 arg11 harg11 arg1 v8 v15 v17 v24 v26 v33 v35 v42 v44 v46 v55 v85 v90 v92 v112 v117 v119 v149 v154 v156 v176 v181 v183 v213 v218 v220 v240 v245 v247 v252 v257 v277 v280 (harg4.unread x2) (harg5.unread x3) (harg9.unread x7) _ ⟨n, hn⟩).trans ?_
    rw [ih (Nat.le_of_succ_le hn), trip_online]
    simp only [read_cut, read_rcut, off49_eq, off50_eq, off51_eq, off52_eq, off53_eq, off54_eq, off55_eq, off56_eq, off57_eq, off58_eq, off59_eq, off60_eq, onlMax, onlSum, onlAcc]

end Cert.Kernel4Ideal.Att
end
-- ==== Proof.Kernel4Ideal.RunFixed.lean ====
/- The body of the attention kernel run once on whole staging buffers, when the score bound is small: the softmax
   takes the bound as its shift. -/
module

public import proofs.«01_k».proof.Proof.Kernel4Ideal.Word

@[expose] public section

set_option maxRecDepth 16384

noncomputable section

namespace Cert.Kernel4Ideal.Att

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- What the body leaves in the output block when the bound is small, as the list of its stores (last first), with the
    run itself: from the inputs held at `x0 … x7` the body reaches the continuation, the inputs unchanged. -/
noncomputable def runFixed (c : Dev nD) (i : grid0.Coords) (arg2 : Memref sig .tc .smem S1 .f32) (harg2 : arg2.IsWhole) (arg3 : Memref sig .tc .vmem S1x512x512 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S1x512x128 .f32) (harg8 : arg8.IsWhole) (arg9 : Memref sig .tc .vmem S1x8x1x2048 .f32) (harg9 : arg9.IsWhole) (arg10 : Memref sig .tc .vmem S1x8x1x128 .f32) (harg10 : arg10.IsWhole) (arg11 : Memref sig .tc .vmem S1x512x512 .bf16) (harg11 : arg11.IsWhole)
    (x0 : Vec F S1 .f32) (x1 : Vec F S1x512x512 .bf16) (x2 : Vec F S1x2048x512 .bf16) (x3 : Vec F S1x2048x512 .bf16) (x4 : Vec F S128x512 .bf16) (x5 : Vec F S128x512 .bf16) (x6 : Vec F S1x512x128 .f32) (x7 : Vec F S1x8x1x2048 .f32) (x8 : Vec F S1x8x1x128 .f32) (hc : small (F := F) x0) :
    { L9 : List (View.Piece (Elt F) S1x512x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9)) -∗ K ⟨⟩))
          ⊢ wp frame (wpE (defs₀ (F := F)) Variants.none c none) E (cc0_fox_attn i arg2 harg2 arg3 harg3 arg4 harg4 arg5 harg5 arg6 harg6 arg7 harg7 arg8 harg8 arg9 harg9 arg10 harg10 arg11 harg11) K } := by
  refine ⟨?_, fun E K => ?run⟩
  case run =>
    simp only [cc0_fox_attn_eq_skeleton]; unfold cc0_fox_attn_skel
    simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec
    have hr : runFixed.sl.r c arg2 harg2 x0 = word x0 := readWord arg2 harg2 x0 _
    rw [if_pos ((bit_cases _).2 (hr ▸ hc))]
    sl_exec
    beta_reduce
    rw [if_neg (fun h => (bit_not _).1 ((bit_cases _).1 h) (hr ▸ hc))]
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact H9

end Cert.Kernel4Ideal.Att
-- ==== Proof.Kernel4Ideal.RunOnline.lean ====
/- The body of the attention kernel run once on whole staging buffers, when the score bound is not small: the softmax
   keeps a running maximum. -/
module

public import proofs.«01_k».proof.Proof.Kernel4Ideal.Word

@[expose] public section

set_option maxRecDepth 16384

noncomputable section

namespace Cert.Kernel4Ideal.Att

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- What the body leaves in the output block when the bound is not small, as the list of its stores (last first), with the
    run itself: from the inputs held at `x0 … x7` the body reaches the continuation, the inputs unchanged. -/
noncomputable def runOnline (c : Dev nD) (i : grid0.Coords) (arg2 : Memref sig .tc .smem S1 .f32) (harg2 : arg2.IsWhole) (arg3 : Memref sig .tc .vmem S1x512x512 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S1x512x128 .f32) (harg8 : arg8.IsWhole) (arg9 : Memref sig .tc .vmem S1x8x1x2048 .f32) (harg9 : arg9.IsWhole) (arg10 : Memref sig .tc .vmem S1x8x1x128 .f32) (harg10 : arg10.IsWhole) (arg11 : Memref sig .tc .vmem S1x512x512 .bf16) (harg11 : arg11.IsWhole)
    (x0 : Vec F S1 .f32) (x1 : Vec F S1x512x512 .bf16) (x2 : Vec F S1x2048x512 .bf16) (x3 : Vec F S1x2048x512 .bf16) (x4 : Vec F S128x512 .bf16) (x5 : Vec F S128x512 .bf16) (x6 : Vec F S1x512x128 .f32) (x7 : Vec F S1x8x1x2048 .f32) (x8 : Vec F S1x8x1x128 .f32) (hc : ¬ small (F := F) x0) :
    { L9 : List (View.Piece (Elt F) S1x512x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9)) -∗ K ⟨⟩))
          ⊢ wp frame (wpE (defs₀ (F := F)) Variants.none c none) E (cc0_fox_attn i arg2 harg2 arg3 harg3 arg4 harg4 arg5 harg5 arg6 harg6 arg7 harg7 arg8 harg8 arg9 harg9 arg10 harg10 arg11 harg11) K } := by
  refine ⟨?_, fun E K => ?run⟩
  case run =>
    simp only [cc0_fox_attn_eq_skeleton]; unfold cc0_fox_attn_skel
    simp only [k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec
    have hr : runOnline.sl.r c arg2 harg2 x0 = word x0 := readWord arg2 harg2 x0 _
    have hn : ¬ Scalar.cmpf .ole (runOnline.sl.r c arg2 harg2 x0) (Scalar.ofBits .f32 0x42700000#32) = 1#1 := hr ▸ hc
    rw [if_neg (fun h => hn ((bit_cases _).1 h))]
    rw [if_pos ((bit_cases _).2 ((bit_not _).2 hn))]
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact H9

end Cert.Kernel4Ideal.Att
-- ==== Proof.Kernel4Ideal.Pieces.lean ====
/- What each branch of the attention body stores: the list of its four stores, two heads of 64 lanes each, as plain
   functions of the contents of the input buffers. -/
module

public import proofs.«01_k».proof.Proof.Kernel4Ideal.Stage
public import proofs.«01_k».proof.Proof.Kernel4Ideal.RunFixed
public import proofs.«01_k».proof.Proof.Kernel4Ideal.RunOnline

@[expose] public section

set_option maxRecDepth 16384

noncomputable section

namespace Cert.Kernel4Ideal.Att

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The half `e` of the queries of a group of two heads, the other half's lanes zero. -/
def qhalf (x1 : Vec F S1x512x512 .bf16) (g : ℕ) (e : Bool) : FVec F S512x128 .bf16 :=
  if e then k0_pay83 (qblk x1 g) else k0_pay82 (qblk x1 g)

/-- The head that is the half `e` of the group `g`. -/
def head (g : ℕ) (e : Bool) : Fin 8 := ⟨(2 * g + if e then 1 else 0) % 8, Nat.mod_lt _ (by decide)⟩

/-- The keys of the first block: the diagonal's 512, then the rows every query sees. -/
def keys0 (x2 : Vec F S1x2048x512 .bf16) (x4 : Vec F S128x512 .bf16) (n g : ℕ) : FVec F S640x128 .bf16 :=
  k0_pay97 (blk x2 n g) (mblk x4 g)

/-- The bias of the keys of block `n` to the head `h`. -/
def blkBias (x6 : Vec F S1x512x128 .f32) (x7 : Vec F S1x8x1x2048 .f32) (h : Fin 8) (n : ℕ) : FVec F S512x512 .f32 :=
  bias h (k0_pay79 x6) (rcut x7 ![0, h.val, 0, 512 * n])

/-- The bias of the keys of the first block to the head `h`. -/
def firstBias (x6 : Vec F S1x512x128 .f32) (x7 : Vec F S1x8x1x2048 .f32) (x8 : Vec F S1x8x1x128 .f32) (h : Fin 8) (n : ℕ) :
    FVec F S512x640 .f32 :=
  bias0 h (k0_pay79 x6) (rcut x7 ![0, h.val, 0, 512 * n]) (mrow x8 h.val)

/-- What a product is added to. -/
def zero : FVec F S512x640 .f32 := constant S512x640 .f32 0x00000000#32

/-- The attention output of one head with the shift `b`. -/
def fixOut (b : Elt F .f32) (x1 : Vec F S1x512x512 .bf16) (x2 x3 : Vec F S1x2048x512 .bf16) (x4 x5 : Vec F S128x512 .bf16)
    (x6 : Vec F S1x512x128 .f32) (x7 : Vec F S1x8x1x2048 .f32) (x8 : Vec F S1x8x1x128 .f32) (n g : ℕ) (e : Bool) : FVec F S512x128 .f32 :=
  k0_pay145
    (fixPart b (qhalf x1 g e) (k0_pay101 b (qhalf x1 g e) k0_pay96 (keys0 x2 x4 n g) (firstBias x6 x7 x8 (head g e) n) zero)
      (fun k => blk x2 k g) (blkBias x6 x7 (head g e)) n)
    (fixAcc b (qhalf x1 g e)
      (k0_pay102 b (qhalf x1 g e) k0_pay96 (keys0 x2 x4 n g) (keys0 x3 x5 n g) (firstBias x6 x7 x8 (head g e) n) zero)
      (fun k => blk x2 k g) (fun k => blk x3 k g) (blkBias x6 x7 (head g e)) n)

/-- The attention output of one head with running maxima. -/
def onlOut (x1 : Vec F S1x512x512 .bf16) (x2 x3 : Vec F S1x2048x512 .bf16) (x4 x5 : Vec F S128x512 .bf16)
    (x6 : Vec F S1x512x128 .f32) (x7 : Vec F S1x8x1x2048 .f32) (x8 : Vec F S1x8x1x128 .f32) (n g : ℕ) (e : Bool) : FVec F S512x128 .f32 :=
  k0_pay344
    (onlSum (qhalf x1 g e) (k0_pay291 (qhalf x1 g e) k0_pay96 (keys0 x2 x4 n g) (firstBias x6 x7 x8 (head g e) n) zero)
      (k0_pay293 (qhalf x1 g e) k0_pay96 (keys0 x2 x4 n g) (firstBias x6 x7 x8 (head g e) n) zero)
      (fun k => blk x2 k g) (blkBias x6 x7 (head g e)) n)
    (onlAcc (qhalf x1 g e) (k0_pay291 (qhalf x1 g e) k0_pay96 (keys0 x2 x4 n g) (firstBias x6 x7 x8 (head g e) n) zero)
      (k0_pay294 (qhalf x1 g e) k0_pay96 (keys0 x2 x4 n g) (keys0 x3 x5 n g) (firstBias x6 x7 x8 (head g e) n) zero)
      (fun k => blk x2 k g) (fun k => blk x3 k g) (blkBias x6 x7 (head g e)) n)

/-- The output of a group of two heads. -/
def headOut (o : ℕ → Bool → FVec F S512x128 .f32) (g : ℕ) : Vec F S1x512x128 .bf16 := k0_pay7 (o g false) (o g true)

/-- The four stores, last first, of heads whose outputs are `o`. -/
def stores (o : ℕ → Bool → FVec F S512x128 .f32) : List (View.Piece (Elt F) S1x512x512 .bf16) :=
  [⟨Rect.unit (s := S1x512x512) ![0, 0, 384] S1x512x128.size inb_S1x512x512_S1x512x128_0_0_384, headOut o 3⟩,
   ⟨Rect.unit (s := S1x512x512) ![0, 0, 256] S1x512x128.size inb_S1x512x512_S1x512x128_0_0_256, headOut o 2⟩,
   ⟨Rect.unit (s := S1x512x512) ![0, 0, 128] S1x512x128.size inb_S1x512x512_S1x512x128_0_0_128, headOut o 1⟩,
   ⟨Rect.unit (s := S1x512x512) ![0, 0, 0] S1x512x128.size inb_S1x512x512_S1x512x128_0_0_0, headOut o 0⟩]

/-- The loop over the blocks past the last does nothing. -/
theorem rest_fixed (𝒱 : Variants) (c : Dev nD) (bd : Option 𝒱.V) (i : grid0.Coords) (arg2 : Memref sig .tc .smem S1 .f32) (harg2 : arg2.IsWhole) (arg3 : Memref sig .tc .vmem S1x512x512 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S1x512x128 .f32) (harg8 : arg8.IsWhole) (arg9 : Memref sig .tc .vmem S1x8x1x2048 .f32) (harg9 : arg9.IsWhole) (arg10 : Memref sig .tc .vmem S1x8x1x128 .f32) (harg10 : arg10.IsWhole) (arg11 : Memref sig .tc .vmem S1x512x512 .bf16) (harg11 : arg11.IsWhole)  (arg1 : BitVec 32) (v0 : Elt F .f32) (v8 : FVec F S512x128 .f32) (v15 : FVec F S512x128 .bf16) (v17 : FVec F S512x128 .bf16) (v24 : FVec F S512x128 .bf16) (v26 : FVec F S512x128 .bf16) (v33 : FVec F S512x128 .bf16) (v35 : FVec F S512x128 .bf16) (v42 : FVec F S512x128 .bf16) (v44 : FVec F S512x128 .bf16) (v95 : FVec F S512x128 .f32) (v97 : FVec F S512x128 .f32) (v127 : FVec F S512x128 .f32) (v129 : FVec F S512x128 .f32) (v169 : FVec F S512x128 .f32) (v171 : FVec F S512x128 .f32) (v201 : FVec F S512x128 .f32) (v203 : FVec F S512x128 .f32) (v243 : FVec F S512x128 .f32) (v245 : FVec F S512x128 .f32) (v275 : FVec F S512x128 .f32) (v277 : FVec F S512x128 .f32) (v287 : FVec F S640x128 .bf16) (v317 : FVec F S512x128 .f32) (v319 : FVec F S512x128 .f32) (v340 : FVec F S512x640 .f32) (v343 : FVec F S512x128 .f32) (v344 : FVec F S512x128 .f32) (v356 : BitVec 32)
    (x2 x3 : Vec F S1x2048x512 .bf16) (x7 : Vec F S1x8x1x2048 .f32) (T : FVec F S512x128 .f32 × FVec F S512x128 .f32 × FVec F S512x128 .f32 × FVec F S512x128 .f32 × FVec F S512x128 .f32 × FVec F S512x128 .f32 × FVec F S512x128 .f32 × FVec F S512x128 .f32 × FVec F S512x128 .f32 × FVec F S512x128 .f32 × FVec F S512x128 .f32 × FVec F S512x128 .f32 × FVec F S512x128 .f32 × FVec F S512x128 .f32 × FVec F S512x128 .f32 × FVec F S512x128 .f32) :
    st_k0_t2 (F := F) 𝒱 c bd i arg2 harg2 arg3 harg3 arg4 harg4 arg5 harg5 arg6 harg6 arg7 harg7 arg8 harg8 arg9 harg9 arg10 harg10 arg11 harg11 arg1 v0 v8 v15 v17 v24 v26 v33 v35 v42 v44 v95 v97 v127 v129 v169 v171 v201 v203 v243 v245 v275 v277 v287 v317 v319 v340 v343 v344 v356 (harg4.unread x2) (harg5.unread x3) (harg9.unread x7) T
      (Scf.trips (k0_t2_loop i).lb (k0_t2_loop i).ub (k0_t2_loop i).st) = T := by
  rw [show Scf.trips (k0_t2_loop i).lb (k0_t2_loop i).ub (k0_t2_loop i).st = 0 from rest_trips i]; rfl

/-- The loop over the blocks past the last does nothing. -/
theorem rest_online (𝒱 : Variants) (c : Dev nD) (bd : Option 𝒱.V) (i : grid0.Coords) (arg2 : Memref sig .tc .smem S1 .f32) (harg2 : arg2.IsWhole) (arg3 : Memref sig .tc .vmem S1x512x512 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S1x512x128 .f32) (harg8 : arg8.IsWhole) (arg9 : Memref sig .tc .vmem S1x8x1x2048 .f32) (harg9 : arg9.IsWhole) (arg10 : Memref sig .tc .vmem S1x8x1x128 .f32) (harg10 : arg10.IsWhole) (arg11 : Memref sig .tc .vmem S1x512x512 .bf16) (harg11 : arg11.IsWhole)  (arg1 : BitVec 32) (v8 : FVec F S512x128 .f32) (v15 : FVec F S512x128 .bf16) (v17 : FVec F S512x128 .bf16) (v24 : FVec F S512x128 .bf16) (v26 : FVec F S512x128 .bf16) (v33 : FVec F S512x128 .bf16) (v35 : FVec F S512x128 .bf16) (v42 : FVec F S512x128 .bf16) (v44 : FVec F S512x128 .bf16) (v46 : BitVec 32) (v55 : IVec S512x640 1) (v85 : FVec F S512x1 .f32) (v90 : FVec F S512x1 .f32) (v92 : FVec F S512x128 .f32) (v112 : FVec F S512x1 .f32) (v117 : FVec F S512x1 .f32) (v119 : FVec F S512x128 .f32) (v149 : FVec F S512x1 .f32) (v154 : FVec F S512x1 .f32) (v156 : FVec F S512x128 .f32) (v176 : FVec F S512x1 .f32) (v181 : FVec F S512x1 .f32) (v183 : FVec F S512x128 .f32) (v213 : FVec F S512x1 .f32) (v218 : FVec F S512x1 .f32) (v220 : FVec F S512x128 .f32) (v240 : FVec F S512x1 .f32) (v245 : FVec F S512x1 .f32) (v247 : FVec F S512x128 .f32) (v252 : FVec F S640x128 .bf16) (v257 : FVec F S640x128 .bf16) (v277 : FVec F S512x1 .f32) (v280 : FVec F S512x640 .f32) (v316 : BitVec 32)
    (x2 x3 : Vec F S1x2048x512 .bf16) (x7 : Vec F S1x8x1x2048 .f32) (T : FVec F S512x1 .f32 × FVec F S512x1 .f32 × FVec F S512x128 .f32 × FVec F S512x1 .f32 × FVec F S512x1 .f32 × FVec F S512x128 .f32 × FVec F S512x1 .f32 × FVec F S512x1 .f32 × FVec F S512x128 .f32 × FVec F S512x1 .f32 × FVec F S512x1 .f32 × FVec F S512x128 .f32 × FVec F S512x1 .f32 × FVec F S512x1 .f32 × FVec F S512x128 .f32 × FVec F S512x1 .f32 × FVec F S512x1 .f32 × FVec F S512x128 .f32 × FVec F S512x1 .f32 × FVec F S512x1 .f32 × FVec F S512x128 .f32 × FVec F S512x1 .f32 × FVec F S512x1 .f32 × FVec F S512x128 .f32) :
    st_k0_t4 (F := F) 𝒱 c bd i arg2 harg2 arg3 harg3 arg4 harg4 arg5 harg5 arg6 harg6 arg7 harg7 arg8 harg8 arg9 harg9 arg10 harg10 arg11 harg11 arg1 v8 v15 v17 v24 v26 v33 v35 v42 v44 v46 v55 v85 v90 v92 v112 v117 v119 v149 v154 v156 v176 v181 v183 v213 v218 v220 v240 v245 v247 v252 v257 v277 v280 v316 (harg4.unread x2) (harg5.unread x3) (harg9.unread x7) T
      (Scf.trips (k0_t4_loop i).lb (k0_t4_loop i).ub (k0_t4_loop i).st) = T := by
  rw [show Scf.trips (k0_t4_loop i).lb (k0_t4_loop i).ub (k0_t4_loop i).st = 0 from rest_trips' i]; rfl

set_option maxHeartbeats 8000000 in
/-- The stores when the bound is small. -/
theorem stores_fixed (c : Dev nD) (i : grid0.Coords) (arg2 : Memref sig .tc .smem S1 .f32) (harg2 : arg2.IsWhole) (arg3 : Memref sig .tc .vmem S1x512x512 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S1x512x128 .f32) (harg8 : arg8.IsWhole) (arg9 : Memref sig .tc .vmem S1x8x1x2048 .f32) (harg9 : arg9.IsWhole) (arg10 : Memref sig .tc .vmem S1x8x1x128 .f32) (harg10 : arg10.IsWhole) (arg11 : Memref sig .tc .vmem S1x512x512 .bf16) (harg11 : arg11.IsWhole)
    (x0 : Vec F S1 .f32) (x1 : Vec F S1x512x512 .bf16) (x2 : Vec F S1x2048x512 .bf16) (x3 : Vec F S1x2048x512 .bf16) (x4 : Vec F S128x512 .bf16) (x5 : Vec F S128x512 .bf16) (x6 : Vec F S1x512x128 .f32) (x7 : Vec F S1x8x1x2048 .f32) (x8 : Vec F S1x8x1x128 .f32)
    (hc : small (F := F) x0) :
    (runFixed c i arg2 harg2 arg3 harg3 arg4 harg4 arg5 harg5 arg6 harg6 arg7 harg7 arg8 harg8 arg9 harg9 arg10 harg10 arg11 harg11 x0 x1 x2 x3 x4 x5 x6 x7 x8 hc).1 = stores (fixOut (word x0) x1 x2 x3 x4 x5 x6 x7 x8 (i 1).val) := by
  have hr : runFixed.sl.r c arg2 harg2 x0 = word x0 := readWord arg2 harg2 x0 _
  have h8 : View.readAt (Elt F) arg8.view (Rect.unit (s := S1x512x128) ![0, 0, 0] S1x512x128.size inb_S1x512x128_S1x512x128_0_0_0).toLoadRect (harg8.unread x6) = x6 :=
    read_all harg8 x6 ![0, 0, 0] (by decide) _
  unfold runFixed
  dsimp only
  unfold runFixed.sl.r_87 runFixed.sl.r_88 runFixed.sl.r_89 runFixed.sl.r_90 runFixed.sl.r_91 runFixed.sl.r_92 runFixed.sl.r_93 runFixed.sl.r_94
  rw [rest_fixed]
  dsimp only
  rw [st_fixed (n := Scf.trips (k0_t1_loop i).lb (k0_t1_loop i).ub (k0_t1_loop i).st) (hn := le_rfl),
    show Scf.trips (k0_t1_loop i).lb (k0_t1_loop i).ub (k0_t1_loop i).st = (i 1).val from loop_trips i]
  simp only [runFixed.sl.r_44, runFixed.sl.r_45, runFixed.sl.r_46, runFixed.sl.r_47, runFixed.sl.r_48, runFixed.sl.r_49, runFixed.sl.r_50, runFixed.sl.r_51, runFixed.sl.r_52, runFixed.sl.r_53, runFixed.sl.r_54, runFixed.sl.r_55, runFixed.sl.r_56, runFixed.sl.r_57, runFixed.sl.r_58, runFixed.sl.r_59, runFixed.sl.r_60, runFixed.sl.r_61, runFixed.sl.r_62, runFixed.sl.r_63, runFixed.sl.r_64, runFixed.sl.r_65, runFixed.sl.r_66, runFixed.sl.r_67, runFixed.sl.r_68, runFixed.sl.r_69, runFixed.sl.r_70, runFixed.sl.r_71, runFixed.sl.r_72, runFixed.sl.r_73, runFixed.sl.r_74, runFixed.sl.r_75, runFixed.sl.r_76, runFixed.sl.r_77, runFixed.sl.r_78, runFixed.sl.r_79, runFixed.sl.r_80, runFixed.sl.r_81, runFixed.sl.r_82, runFixed.sl.r_83, runFixed.sl.r_84, runFixed.sl.r_85, runFixed.sl.r_86, runFixed.sl.r_87, runFixed.sl.r_88, runFixed.sl.r_89, runFixed.sl.r_90, runFixed.sl.r_91, runFixed.sl.r_92, runFixed.sl.r_93, runFixed.sl.r_94,
    read_cut, read_rcut, read_mrow, h8, hr, read_q _ _ 0 0 rfl, read_q _ _ 128 1 rfl, read_q _ _ 256 2 rfl, read_q _ _ 384 3 rfl,
    read_m _ _ 0 0 rfl, read_m _ _ 128 1 rfl, read_m _ _ 256 2 rfl, read_m _ _ 384 3 rfl,
    off1_eq, off2_eq, off3_eq, off4_eq, off5_eq, off6_eq, off7_eq, off8_eq, off9_eq, off10_eq, off11_eq, off12_eq]
  rfl

set_option maxHeartbeats 8000000 in
/-- The stores when the bound is not small. -/
theorem stores_online (c : Dev nD) (i : grid0.Coords) (arg2 : Memref sig .tc .smem S1 .f32) (harg2 : arg2.IsWhole) (arg3 : Memref sig .tc .vmem S1x512x512 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S1x512x128 .f32) (harg8 : arg8.IsWhole) (arg9 : Memref sig .tc .vmem S1x8x1x2048 .f32) (harg9 : arg9.IsWhole) (arg10 : Memref sig .tc .vmem S1x8x1x128 .f32) (harg10 : arg10.IsWhole) (arg11 : Memref sig .tc .vmem S1x512x512 .bf16) (harg11 : arg11.IsWhole)
    (x0 : Vec F S1 .f32) (x1 : Vec F S1x512x512 .bf16) (x2 : Vec F S1x2048x512 .bf16) (x3 : Vec F S1x2048x512 .bf16) (x4 : Vec F S128x512 .bf16) (x5 : Vec F S128x512 .bf16) (x6 : Vec F S1x512x128 .f32) (x7 : Vec F S1x8x1x2048 .f32) (x8 : Vec F S1x8x1x128 .f32)
    (hc : ¬ small (F := F) x0) :
    (runOnline c i arg2 harg2 arg3 harg3 arg4 harg4 arg5 harg5 arg6 harg6 arg7 harg7 arg8 harg8 arg9 harg9 arg10 harg10 arg11 harg11 x0 x1 x2 x3 x4 x5 x6 x7 x8 hc).1 = stores (onlOut x1 x2 x3 x4 x5 x6 x7 x8 (i 1).val) := by
  have h8 : View.readAt (Elt F) arg8.view (Rect.unit (s := S1x512x128) ![0, 0, 0] S1x512x128.size inb_S1x512x128_S1x512x128_0_0_0).toLoadRect (harg8.unread x6) = x6 :=
    read_all harg8 x6 ![0, 0, 0] (by decide) _
  unfold runOnline
  dsimp only
  unfold runOnline.sl.r_76 runOnline.sl.r_77 runOnline.sl.r_78 runOnline.sl.r_79 runOnline.sl.r_80 runOnline.sl.r_81 runOnline.sl.r_82 runOnline.sl.r_83 runOnline.sl.r_84 runOnline.sl.r_85 runOnline.sl.r_86 runOnline.sl.r_87 runOnline.sl.r_88 runOnline.sl.r_89
  rw [rest_online]
  dsimp only
  rw [st_online (n := Scf.trips (k0_t3_loop i).lb (k0_t3_loop i).ub (k0_t3_loop i).st) (hn := le_rfl),
    show Scf.trips (k0_t3_loop i).lb (k0_t3_loop i).ub (k0_t3_loop i).st = (i 1).val from loop_trips' i]
  simp only [runOnline.sl.r_30, runOnline.sl.r_31, runOnline.sl.r_32, runOnline.sl.r_33, runOnline.sl.r_34, runOnline.sl.r_35, runOnline.sl.r_36, runOnline.sl.r_37, runOnline.sl.r_38, runOnline.sl.r_39, runOnline.sl.r_40, runOnline.sl.r_41, runOnline.sl.r_42, runOnline.sl.r_43, runOnline.sl.r_44, runOnline.sl.r_45, runOnline.sl.r_46, runOnline.sl.r_47, runOnline.sl.r_48, runOnline.sl.r_49, runOnline.sl.r_50, runOnline.sl.r_51, runOnline.sl.r_52, runOnline.sl.r_53, runOnline.sl.r_54, runOnline.sl.r_55, runOnline.sl.r_56, runOnline.sl.r_57, runOnline.sl.r_58, runOnline.sl.r_59, runOnline.sl.r_60, runOnline.sl.r_61, runOnline.sl.r_62, runOnline.sl.r_63, runOnline.sl.r_64, runOnline.sl.r_65, runOnline.sl.r_66, runOnline.sl.r_67, runOnline.sl.r_68, runOnline.sl.r_69, runOnline.sl.r_70, runOnline.sl.r_71, runOnline.sl.r_72, runOnline.sl.r_73, runOnline.sl.r_74, runOnline.sl.r_75, runOnline.sl.r_76, runOnline.sl.r_77, runOnline.sl.r_78, runOnline.sl.r_79, runOnline.sl.r_80, runOnline.sl.r_81, runOnline.sl.r_82, runOnline.sl.r_83, runOnline.sl.r_84, runOnline.sl.r_85, runOnline.sl.r_86, runOnline.sl.r_87, runOnline.sl.r_88, runOnline.sl.r_89,
    read_cut, read_rcut, read_mrow, h8, read_q _ _ 0 0 rfl, read_q _ _ 128 1 rfl, read_q _ _ 256 2 rfl, read_q _ _ 384 3 rfl,
    read_m _ _ 0 0 rfl, read_m _ _ 128 1 rfl, read_m _ _ 256 2 rfl, read_m _ _ 384 3 rfl,
    off37_eq, off38_eq, off39_eq, off40_eq, off41_eq, off42_eq, off43_eq, off44_eq, off45_eq, off46_eq, off47_eq, off48_eq]
  rfl

end Cert.Kernel4Ideal.Att
end
-- ==== Proof.Kernel4Ideal.Read.lean ====
/- One query row of the attention body over the reals: each payload read at an index with its bias added, the two ways of accumulating
   summed up over the blocks of keys. -/
module

public import proofs.«01_k».proof.Proof.Kernel4Ideal.Pieces
public import proofs.«01_k».proof.Proof.KernelIdeal.Read

@[expose] public section

set_option maxRecDepth 16384

noncomputable section

namespace Cert.Kernel4Ideal.Att

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Att

open Cert.KernelIdeal.Att (sum_four sum_five neg_inf)

theorem mask_bot : (Named.named (F := Ideal) (φ := .f32) κ "mask" 0xF149F2CA#32 : EReal) = ⊥ :=
  IdealRules.named_const.ideal_named_scalar _ _ _ _ rfl

/-- The product of one key with the queries of row `r`. -/
def dot (q : FVec Ideal S512x128 .bf16) (k : Fin 128 → EReal) (r : Fin 512) : EReal := ∑ x, q (ix2 r x) * k x

/-- The scores of the keys of a whole block with the bias `B`. -/
def blockScore (q : FVec Ideal S512x128 .bf16) (K : Vec Ideal S1x512x128 .bf16) (B : FVec Ideal S512x512 .f32)
    (r c : Fin 512) : EReal := dot q (fun x => K (ix3 0 c x)) r + B (ix2 r c)

/-- The scores of the first block with the bias `B`, the keys the row does not see at `-∞`. -/
def firstScore (q : FVec Ideal S512x128 .bf16) (M : IVec S512x640 1) (K : FVec Ideal S640x128 .bf16)
    (B : FVec Ideal S512x640 .f32) (r : Fin 512) (c : Fin 640) : EReal :=
  if M (ix2 r c) = 1#1 then dot q (fun x => K (ix2 c x)) r + B (ix2 r c) else ⊥

theorem pay21_at (K : Vec Ideal S1x512x128 .bf16) (c : Fin 512) (x : Fin 128) : k0_pay21 K (ix2 c x) = K (ix3 0 c x) := by
  pointwise [k0_pay21]

theorem pay22_at (K : Vec Ideal S1x512x128 .bf16) (c : Fin 512) (x : Fin 128) : k0_pay22 K (ix2 c x) = K (ix3 0 c x) := by
  pointwise [k0_pay22]

theorem pay27_at (q : FVec Ideal S512x128 .bf16) (K : Vec Ideal S1x512x128 .bf16) (r c : Fin 512) :
    @Eq EReal (k0_pay27 (F := Ideal) q K (ix2 r c)) (dot q (fun x => K (ix3 0 c x)) r) := by
  pointwise [k0_pay27, k0_pay21, dot]

theorem pay28_at (b : Elt Ideal .f32) (B s : FVec Ideal S512x512 .f32) (r c : Fin 512) :
    @Eq EReal (k0_pay28 (F := Ideal) b B s (ix2 r c)) (Ideal.exp2 (s (ix2 r c) + B (ix2 r c) - b)) := by
  pointwise [k0_pay28]
  rfl

theorem score_at (q : FVec Ideal S512x128 .bf16) (K : Vec Ideal S1x512x128 .bf16) (B : FVec Ideal S512x512 .f32) (r c : Fin 512) :
    @Eq EReal (score (F := Ideal) q K B (ix2 r c)) (blockScore q K B r c) := by
  show @HAdd.hAdd EReal EReal EReal _ (k0_pay27 (F := Ideal) q K (ix2 r c)) (B (ix2 r c)) = _
  rw [pay27_at]; rfl

theorem pay100_at (b : Elt Ideal .f32) (q : FVec Ideal S512x128 .bf16) (M : IVec S512x640 1) (K : FVec Ideal S640x128 .bf16)
    (B : FVec Ideal S512x640 .f32) (r : Fin 512) (c : Fin 640) :
    @Eq EReal (k0_pay100 (F := Ideal) b q M K B zero (ix2 r c)) (Ideal.exp2 (firstScore q M K B r c - b)) := by
  pointwise [k0_pay100, firstScore, dot, zero]
  rw [mask_bot]; rfl

theorem pay290_at (q : FVec Ideal S512x128 .bf16) (M : IVec S512x640 1) (K : FVec Ideal S640x128 .bf16)
    (B : FVec Ideal S512x640 .f32) (r : Fin 512) (c : Fin 640) :
    @Eq EReal (k0_pay290 (F := Ideal) q M K B zero (ix2 r c)) (firstScore q M K B r c) := by
  pointwise [k0_pay290, firstScore, dot, zero]
  rw [mask_bot]; rfl

/-! ### The fixed shift -/

variable (q : FVec Ideal S512x128 .bf16) (M : IVec S512x640 1) (K0 V0 : FVec Ideal S640x128 .bf16)
  (B0 : FVec Ideal S512x640 .f32) (K V : ℕ → Vec Ideal S1x512x128 .bf16)
  (B : ℕ → FVec Ideal S512x512 .f32) (r : Fin 512)

theorem fixPart_sum (b : ℝ) (n : ℕ) :
    ∑ l : Fin 128, fixPart (F := Ideal) (b : EReal) q (k0_pay101 (b : EReal) q M K0 B0 zero) K B n (ix2 r l)
      = bsum n b (firstScore q M K0 B0 r) (fun _ => 1) (fun m => blockScore q (K m) (B m) r) (fun _ _ => 1) := by
  induction n with
  | zero =>
    simp only [fixPart, bsum, Finset.range_zero, Finset.sum_empty, add_zero, wsum, mul_one]
    rw [← sum_five]
    refine Finset.sum_congr rfl fun l _ => ?_
    pointwise [k0_pay101]
    simp only [pay100_at]; rfl
  | succ n ih =>
    rw [bsum_succ, ← ih, wsum]
    simp only [mul_one]
    rw [← sum_four, ← Finset.sum_add_distrib]
    refine Finset.sum_congr rfl fun l _ => ?_
    rw [fixPart]
    pointwise [k0_pay29]
    simp only [pay28_at, pay27_at]; rfl

theorem fixAcc_at (b : ℝ) (d : Fin 128) (n : ℕ) :
    fixAcc (F := Ideal) (b : EReal) q (k0_pay102 (b : EReal) q M K0 V0 B0 zero) K V B n (ix2 r d)
      = bsum n b (firstScore q M K0 B0 r) (fun c => V0 (ix2 c d)) (fun m => blockScore q (K m) (B m) r)
          (fun m c => V m (ix3 0 c d)) := by
  induction n with
  | zero =>
    simp only [fixAcc, bsum, Finset.range_zero, Finset.sum_empty, add_zero, wsum]
    pointwise [k0_pay102]
    simp only [pay100_at]; rfl
  | succ n ih =>
    rw [bsum_succ, ← ih, wsum, fixAcc]
    pointwise [k0_pay30]
    simp only [pay28_at, pay27_at, pay22_at]; rfl

/-! ### Running maxima -/

theorem onl_at (hM : ∃ c, firstScore q M K0 B0 r c ≠ ⊥) (hT : ∀ c, firstScore q M K0 B0 r c ≠ ⊤) (n : ℕ)
    (hK : ∀ m < n, ∀ c, Real' (blockScore q (K m) (B m) r c)) :
    ∃ b : ℝ, onlMax (F := Ideal) q (k0_pay291 q M K0 B0 zero) K B n (ix2 r 0) = (b : EReal)
      ∧ onlSum (F := Ideal) q (k0_pay291 q M K0 B0 zero) (k0_pay293 q M K0 B0 zero) K B n (ix2 r 0)
          = bsum n b (firstScore q M K0 B0 r) (fun _ => 1) (fun m => blockScore q (K m) (B m) r) (fun _ _ => 1)
      ∧ ∀ d, onlAcc (F := Ideal) q (k0_pay291 q M K0 B0 zero) (k0_pay294 q M K0 V0 B0 zero) K V B n (ix2 r d)
          = bsum n b (firstScore q M K0 B0 r) (fun c => V0 (ix2 c d)) (fun m => blockScore q (K m) (B m) r)
              (fun m c => V m (ix3 0 c d)) := by
  induction n with
  | zero =>
    obtain ⟨b, hb⟩ := fold_max_real hT hM
    have h0 : k0_pay291 (F := Ideal) q M K0 B0 zero (ix2 r 0) = (b : EReal) := by
      pointwise [k0_pay291]
      simp only [pay290_at, neg_inf]; exact hb
    refine ⟨b, h0, ?_, fun d => ?_⟩
    · simp only [onlSum, bsum, Finset.range_zero, Finset.sum_empty, add_zero, wsum, mul_one]
      pointwise [k0_pay293, k0_pay292]
      simp only [pay290_at, h0]; rfl
    · simp only [onlAcc, bsum, Finset.range_zero, Finset.sum_empty, add_zero, wsum]
      pointwise [k0_pay294, k0_pay292]
      simp only [pay290_at, h0]; rfl
  | succ n ih =>
    obtain ⟨b, hm, hl, ha⟩ := ih fun m hm => hK m (by omega)
    obtain ⟨b', hb', hstep⟩ := online_step (by decide : 0 < 512) n (s0 := firstScore q M K0 B0 r)
      (s := fun m => blockScore q (K m) (B m) r) hT (fun m hm c => (hK m (by omega) c).2)
      (fun c => ⟨(hK n (by omega) c).2, (hK n (by omega) c).1⟩) b
    have h1 : k0_pay162 (F := Ideal) (onlMax (F := Ideal) q (k0_pay291 q M K0 B0 zero) K B n) (score q (K n) (B n)) (ix2 r 0) = (b' : EReal) := by
      pointwise [k0_pay162]
      simp only [score_at, neg_inf, hm]; exact hb'
    refine ⟨b', h1, ?_, fun d => ?_⟩
    · rw [onlSum, ← hstep, ← hl, wsum]
      pointwise [k0_pay165, k0_pay163, k0_pay164]
      simp only [score_at, h1, hm, mul_one]; rfl
    · rw [onlAcc, ← hstep, ← ha, wsum]
      pointwise [k0_pay166, k0_pay163, k0_pay164]
      simp only [score_at, h1, hm, pay22_at]; rfl

end Cert.Kernel4Ideal.Att
end
-- ==== Proof.SpecFox.lean ====
/- The attention with forgetting gates as a formula over the extended reals: a score gains the difference of the two cumulated
   gates, and a query sees the 16 shared rows and the keys up to its own. -/
module

public import proofs.«01_k».proof.Proof.Spec

@[expose] public section

noncomputable section

namespace Cert.Fox

open Idealize.ShloMosaic Cert.Att

/-- Key `j` (the 16 shared rows first) is seen by query `t`. -/
def vis (t j : ℕ) : Prop := j ≤ 16 + t

instance (t j : ℕ) : Decidable (vis t j) := by unfold vis; infer_instance

/-- The score of key `j` for query `t`, whose cumulated gate is `cq`. -/
def score (q : Fin 64 → EReal) (M K : ℕ → Fin 64 → EReal) (cq : EReal) (cm ck : ℕ → EReal) (t j : ℕ) : EReal :=
  if vis t j then ∑ d, q d * row M K j d + (cq - row cm ck j) else ⊥

/-- What query `t` receives: the average of the values under the softmax of the scores. -/
def mapOut (q : Fin 64 → EReal) (M K : ℕ → Fin 64 → EReal) (cq : EReal) (cm ck MV KV : ℕ → EReal) (t : ℕ) : EReal :=
  att 0 (fun j : Fin 2064 => score q M K cq cm ck t j) (fun j : Fin 2064 => row MV KV j)

/-- The numbers the scores are made of are real. -/
structure Fine (q : Fin 64 → EReal) (M K : ℕ → Fin 64 → EReal) (cq : EReal) (cm ck : ℕ → EReal) : Prop where
  hq : ∀ d, Real' (q d)
  hm : ∀ j d, j < 16 → Real' (M j d)
  hk : ∀ j d, Real' (K j d)
  hc : Real' cq
  hcm : ∀ j, j < 16 → Real' (cm j)
  hck : ∀ j, Real' (ck j)

theorem score_real {q : Fin 64 → EReal} {M K : ℕ → Fin 64 → EReal} {cq : EReal} {cm ck : ℕ → EReal} (h : Fine q M K cq cm ck)
    (t j : ℕ) (hv : vis t j) : Real' (score q M K cq cm ck t j) := by
  unfold score
  rw [if_pos hv]
  have h1 : Real' (∑ d, q d * row M K j d) := real_sum h.hq fun d => by
    unfold row; split
    · exact h.hm _ _ ‹_›
    · exact h.hk _ _
  have h2 : Real' (row cm ck j) := by
    unfold row; split
    · exact h.hcm _ ‹_›
    · exact h.hck _
  obtain ⟨a, ha⟩ := h1.lift
  obtain ⟨b, hb⟩ := h2.lift
  obtain ⟨c, hc⟩ := h.hc.lift
  rw [ha, hb, hc, ← EReal.coe_sub, ← EReal.coe_add]
  exact real_coe _

theorem score_top {q : Fin 64 → EReal} {M K : ℕ → Fin 64 → EReal} {cq : EReal} {cm ck : ℕ → EReal} (h : Fine q M K cq cm ck)
    (t j : ℕ) : score q M K cq cm ck t j ≠ ⊤ := by
  by_cases hv : vis t j
  · exact (score_real h t j hv).2
  · unfold score; rw [if_neg hv]; exact bot_ne_top

/-- The attention at lane `l` of query `t` of batch `b`: the head of lane `l` has the 64 lanes from `64 (l / 64)`; `cc` holds
    the queries' cumulated gates, `cr` and `cm` the keys' and the shared keys'. -/
def outSpec (q k v : Fin 16 → Fin 2048 → Fin 512 → EReal) (km vm : Fin 128 → Fin 512 → EReal)
    (cc : Fin 16 → Fin 2048 → Fin 128 → EReal) (cr : Fin 16 → Fin 8 → Fin 2048 → EReal) (cm : Fin 16 → Fin 8 → Fin 128 → EReal)
    (b : Fin 16) (t : Fin 2048) (l : Fin 512) : EReal :=
  mapOut (fun d => q b t (Fin.ofNat 512 (64 * (l.val / 64) + d.val)))
    (fun j d => km (Fin.ofNat 128 j) (Fin.ofNat 512 (64 * (l.val / 64) + d.val)))
    (fun j d => k b (Fin.ofNat 2048 j) (Fin.ofNat 512 (64 * (l.val / 64) + d.val)))
    (cc b t (Fin.ofNat 128 (l.val / 64)))
    (fun j => cm b (Fin.ofNat 8 (l.val / 64)) (Fin.ofNat 128 j))
    (fun j => cr b (Fin.ofNat 8 (l.val / 64)) (Fin.ofNat 2048 j))
    (fun j => vm (Fin.ofNat 128 j) l) (fun j => v b (Fin.ofNat 2048 j) l) t

end Cert.Fox
end
-- ==== Proof.Kernel4Ideal.BlockOut.lean ====
/- The attention body over the reals, one query row at a time: what either branch stores is the formula of the
   attention with forgetting gates. -/
module

public import proofs.«01_k».proof.Proof.Kernel4Ideal.Read
public import proofs.«01_k».proof.Proof.SpecFox

@[expose] public section

set_option maxRecDepth 16384

noncomputable section

namespace Cert.Kernel4Ideal.Att

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Att (Real' row bsum wsum att att_shift bsum_regroup)
open Cert.Fox (vis mapOut)

theorem mask_at (r : Fin 512) (c : Fin 640) :
    k0_pay96 (ix2 r c) = 1#1 ↔ (c.val < 512 ∧ c.val ≤ r.val) ∨ (512 ≤ c.val ∧ c.val < 528) := by
  have hr : IntOp.addi (BitVec.ofNat 32 r.val) 1#32 = BitVec.ofNat 32 (r.val + 1) := by
    show BitVec.ofNat 32 r.val + 1#32 = _
    rw [BitVec.ofNat_add]
  pointwise [k0_pay96]
  rw [hr, WordCmp.cmpi_slt_ofNat (w := 32) (a := c.val) (b := 512) (by omega) (by omega)]
  by_cases h : c.val < 512
  · rw [show Scalar.select (BitVec.ofBool (decide (c.val < 512))) (BitVec.ofNat 32 (r.val + 1)) 528#32
        = BitVec.ofNat 32 (r.val + 1) by simp [Scalar.select, h],
      WordCmp.cmpi_slt_ofNat_eq_one_iff (w := 32) (by omega) (by omega)]
    omega
  · rw [show Scalar.select (BitVec.ofBool (decide (c.val < 512))) (BitVec.ofNat 32 (r.val + 1)) 528#32
        = BitVec.ofNat 32 528 by simp [Scalar.select, h],
      WordCmp.cmpi_slt_ofNat_eq_one_iff (w := 32) (by omega) (by omega)]
    omega

/-- The queries' lanes of half `e` of group `g`. -/
def Qr (x1 : Vec Ideal S1x512x512 .bf16) (g : ℕ) (e : Bool) (r : Fin 512) (d : Fin 64) : EReal :=
  x1 (ix3 0 r (Fin.ofNat 512 (128 * g + (64 * e.toNat + d.val))))
/-- The same lanes of a row of the shared keys. -/
def Km (x4 : Vec Ideal S128x512 .bf16) (g : ℕ) (e : Bool) (j : ℕ) (d : Fin 64) : EReal :=
  x4 (ix2 (Fin.ofNat 128 j) (Fin.ofNat 512 (128 * g + (64 * e.toNat + d.val))))
/-- The same lanes of a row of the keys. -/
def Kr (x2 : Vec Ideal S1x2048x512 .bf16) (g : ℕ) (e : Bool) (j : ℕ) (d : Fin 64) : EReal :=
  x2 (ix3 0 (Fin.ofNat 2048 j) (Fin.ofNat 512 (128 * g + (64 * e.toNat + d.val))))
/-- Lane `d` of the group of the shared values. -/
def Vm (x5 : Vec Ideal S128x512 .bf16) (g : ℕ) (d : Fin 128) (j : ℕ) : EReal :=
  x5 (ix2 (Fin.ofNat 128 j) (Fin.ofNat 512 (128 * g + d.val)))
/-- Lane `d` of the group of the values. -/
def Vr (x3 : Vec Ideal S1x2048x512 .bf16) (g : ℕ) (d : Fin 128) (j : ℕ) : EReal :=
  x3 (ix3 0 (Fin.ofNat 2048 j) (Fin.ofNat 512 (128 * g + d.val)))

/-- The cumulated gate of row `r` for the head `h`. -/
def Cq (x6 : Vec Ideal S1x512x128 .f32) (h : Fin 8) (r : Fin 512) : EReal := x6 (ix3 0 r ⟨h.val, by omega⟩)
/-- The cumulated gates of the shared keys for the head `h`. -/
def Cm (x8 : Vec Ideal S1x8x1x128 .f32) (h : Fin 8) (j : ℕ) : EReal := x8 (ix4 0 h 0 (Fin.ofNat 128 j))
/-- The cumulated gates of the keys for the head `h`. -/
def Cr (x7 : Vec Ideal S1x8x1x2048 .f32) (h : Fin 8) (j : ℕ) : EReal := x7 (ix4 0 h 0 (Fin.ofNat 2048 j))

theorem qhalf_at (x1 : Vec Ideal S1x512x512 .bf16) (g : ℕ) (e : Bool) (r : Fin 512) (k : Fin 128) :
    qhalf x1 g e (ix2 r k) = if k.val / 64 = e.toNat then x1 (ix3 0 r (Fin.ofNat 512 (128 * g + k.val))) else 0 := by
  have hk : (IntOp.cmpi .slt (BitVec.ofNat 32 k.val) 64#32) = BitVec.ofBool (decide (k.val < 64)) :=
    WordCmp.cmpi_slt_ofNat (w := 32) (a := k.val) (b := 64) (by omega) (by omega)
  have hq : qblk x1 g (ix3 0 r k) = x1 (ix3 0 r (Fin.ofNat 512 (128 * g + k.val))) := rfl
  cases e
  · rw [qhalf, if_neg (by decide)]
    pointwise [k0_pay82, k0_pay81, k0_pay80]
    rw [hk, hq, Scalar.select]
    by_cases h : k.val < 64
    · rw [if_pos (by simp [h]), if_pos (by simp; omega)]
    · rw [if_neg (by simp [h]), if_neg (by simp; omega)]
  · rw [qhalf, if_pos rfl]
    pointwise [k0_pay83, k0_pay81, k0_pay80]
    rw [hk, hq, Scalar.select]
    by_cases h : k.val < 64
    · rw [if_pos (by simp [h]), if_neg (by simp; omega)]
    · rw [if_neg (by simp [h]), if_pos (by simp; omega)]

theorem dot_half (x1 : Vec Ideal S1x512x512 .bf16) (g : ℕ) (e : Bool) (r : Fin 512) (k : Fin 128 → EReal) :
    dot (qhalf x1 g e) k r = ∑ d : Fin 64, Qr x1 g e r d * k ⟨64 * e.toNat + d, by cases e <;> simp <;> omega⟩ := by
  have hs : ∀ f : Fin 128 → EReal, ∑ x, f x = ∑ d : Fin 64, (f ⟨d, by omega⟩ + f ⟨64 + d, by omega⟩) := by
    intro f
    rw [Finset.sum_add_distrib]
    exact Fin.sum_univ_add (a := 64) (b := 64) f
  rw [dot, hs]
  refine Finset.sum_congr rfl fun d _ => ?_
  simp only [qhalf_at, Qr]
  cases e
  · rw [if_pos (show d.val / 64 = false.toNat by simp <;> omega), if_neg (show ¬ (64 + d.val) / 64 = false.toNat by simp <;> omega), zero_mul, add_zero]
    simp
  · rw [if_neg (show ¬ d.val / 64 = true.toNat by simp <;> omega), if_pos (show (64 + d.val) / 64 = true.toNat by simp <;> omega), zero_mul, zero_add]
    simp

theorem bias_at (x : FVec Ideal S512x128 .f32) (row : Vec Ideal S1x1x1x512 .f32) (h : Fin 8) (r c : Fin 512) :
    @Eq EReal (bias (F := Ideal) h x row (ix2 r c)) (x (ix2 r ⟨h.val, by omega⟩) - row (ix4 0 0 0 c)) := by
  pointwise [bias]

theorem bias0_at (x : FVec Ideal S512x128 .f32) (row : Vec Ideal S1x1x1x512 .f32) (rowm : Vec Ideal S1x1x1x128 .f32) (h : Fin 8)
    (r : Fin 512) (c : Fin 640) :
    @Eq EReal (bias0 (F := Ideal) h x row rowm (ix2 r c)) (if hc : c.val < 512 then x (ix2 r ⟨h.val, by omega⟩) - row (ix4 0 0 0 ⟨c, hc⟩)
      else x (ix2 r ⟨h.val, by omega⟩) - rowm (ix4 0 0 0 ⟨c - 512, by omega⟩)) := by
  pointwise [bias0, bias]

theorem pay79_at (x6 : Vec Ideal S1x512x128 .f32) (r : Fin 512) (l : Fin 128) :
    @Eq EReal (k0_pay79 (F := Ideal) x6 (ix2 r l)) (x6 (ix3 0 r l)) := by
  pointwise [k0_pay79]

theorem rcut_at (x7 : Vec Ideal S1x8x1x2048 .f32) (h : Fin 8) (m : ℕ) (c : Fin 512) :
    @Eq EReal (rcut (F := Ideal) x7 ![0, h.val, 0, 512 * m] (ix4 0 0 0 c)) (Cr x7 h (512 * m + c)) := by
  refine congrArg x7 (funext fun a => Fin.ext ?_)
  match a with
  | ⟨0, _⟩ => rfl
  | ⟨1, _⟩ => exact Nat.mod_eq_of_lt h.isLt
  | ⟨2, _⟩ => rfl
  | ⟨3, _⟩ => rfl

theorem mrow_at (x8 : Vec Ideal S1x8x1x128 .f32) (h : Fin 8) (c : Fin 128) :
    @Eq EReal (mrow (F := Ideal) x8 h.val (ix4 0 0 0 c)) (Cm x8 h c) := by
  refine congrArg x8 (funext fun a => Fin.ext ?_)
  match a with
  | ⟨0, _⟩ => rfl
  | ⟨1, _⟩ => exact Nat.mod_eq_of_lt h.isLt
  | ⟨2, _⟩ => rfl
  | ⟨3, _⟩ => exact (Nat.mod_eq_of_lt c.isLt).symm

theorem blkBias_at (x6 : Vec Ideal S1x512x128 .f32) (x7 : Vec Ideal S1x8x1x2048 .f32) (h : Fin 8) (m : ℕ) (r c : Fin 512) :
    @Eq EReal (blkBias (F := Ideal) x6 x7 h m (ix2 r c)) (Cq x6 h r - Cr x7 h (512 * m + c)) := by
  rw [blkBias, bias_at, pay79_at, rcut_at]; rfl

theorem firstBias_at (x6 : Vec Ideal S1x512x128 .f32) (x7 : Vec Ideal S1x8x1x2048 .f32) (x8 : Vec Ideal S1x8x1x128 .f32)
    (h : Fin 8) (n : ℕ) (r : Fin 512) (c : Fin 640) :
    @Eq EReal (firstBias (F := Ideal) x6 x7 x8 h n (ix2 r c))
      (Cq x6 h r - if c.val < 512 then Cr x7 h (512 * n + c) else Cm x8 h (c - 512)) := by
  rw [firstBias, bias0_at, pay79_at]
  by_cases hc : c.val < 512
  · rw [dif_pos hc, if_pos hc, rcut_at]; rfl
  · rw [dif_neg hc, if_neg hc, mrow_at]; rfl

theorem pay97_at (x : Vec Ideal S1x512x128 .bf16) (y : Vec Ideal S128x128 .bf16) (c : Fin 640) (k : Fin 128) :
    k0_pay97 x y (ix2 c k) = if h : c.val < 512 then x (ix3 0 ⟨c, h⟩ k) else y (ix2 ⟨c - 512, by omega⟩ k) := by
  pointwise [k0_pay97]

theorem blk_at (x : Vec Ideal S1x2048x512 .bf16) (m g : ℕ) (c : Fin 512) (k : Fin 128) :
    blk x m g (ix3 0 c k) = x (ix3 0 (Fin.ofNat 2048 (512 * m + c)) (Fin.ofNat 512 (128 * g + k))) := rfl

theorem mblk_at (x : Vec Ideal S128x512 .bf16) (g : ℕ) (c : Fin 128) (k : Fin 128) :
    mblk x g (ix2 c k) = x (ix2 c (Fin.ofNat 512 (128 * g + k))) := rfl

section
variable (x1 : Vec Ideal S1x512x512 .bf16) (x2 x3 : Vec Ideal S1x2048x512 .bf16) (x4 x5 : Vec Ideal S128x512 .bf16)
  (x6 : Vec Ideal S1x512x128 .f32) (x7 : Vec Ideal S1x8x1x2048 .f32) (x8 : Vec Ideal S1x8x1x128 .f32)
  (n g : ℕ) (hn : n < 4) (e : Bool) (r : Fin 512)

include hn in
theorem first_eq (c : Fin 640) :
    firstScore (qhalf x1 g e) k0_pay96 (keys0 x2 x4 n g) (firstBias x6 x7 x8 (head g e) n) r c
      = if c.val < 512 then Fox.score (Qr x1 g e r) (Km x4 g e) (Kr x2 g e) (Cq x6 (head g e) r) (Cm x8 (head g e)) (Cr x7 (head g e)) (512 * n + r) (16 + 512 * n + c)
        else if c.val < 528 then Fox.score (Qr x1 g e r) (Km x4 g e) (Kr x2 g e) (Cq x6 (head g e) r) (Cm x8 (head g e)) (Cr x7 (head g e)) (512 * n + r) (c - 512) else ⊥ := by
  rw [firstScore, dot_half]
  simp only [mask_at, Fox.score, firstBias_at]
  by_cases h : c.val < 512
  · have hv : vis (512 * n + r) (16 + 512 * n + c) ↔ c.val ≤ r.val := by
      unfold vis; omega
    rw [if_pos h, if_pos h]
    simp only [hv]
    refine if_congr (by omega) (congrArg₂ (· + ·) (Finset.sum_congr rfl fun d _ => congrArg _ ?_) ?_) rfl
    · rw [keys0, pay97_at, dif_pos h, row, if_neg (by omega), show 16 + 512 * n + c.val - 16 = 512 * n + c.val by omega]
      rfl
    · rw [row, if_neg (by omega), show 16 + 512 * n + c.val - 16 = 512 * n + c.val by omega]
  · rw [if_neg h, if_neg h]
    by_cases h2 : c.val < 528
    · have hv : vis (512 * n + r) (c - 512) := by
        unfold vis; omega
      rw [if_pos h2, if_pos hv, if_pos (by omega)]
      refine congrArg₂ (· + ·) (Finset.sum_congr rfl fun d _ => congrArg _ ?_) ?_
      · rw [keys0, pay97_at, dif_neg h, row, if_pos (by omega), mblk_at, Km,
          show (⟨c.val - 512, by omega⟩ : Fin 128) = Fin.ofNat 128 (c.val - 512) from
            Fin.ext (show c.val - 512 = (c.val - 512) % 128 by omega)]
      · rw [row, if_pos (by omega)]
    · rw [if_neg h2, if_neg (by omega)]

theorem block_eq (m : ℕ) (hm : m < n) (c : Fin 512) :
    blockScore (qhalf x1 g e) (blk x2 m g) (blkBias x6 x7 (head g e) m) r c
      = Fox.score (Qr x1 g e r) (Km x4 g e) (Kr x2 g e) (Cq x6 (head g e) r) (Cm x8 (head g e)) (Cr x7 (head g e)) (512 * n + r) (16 + 512 * m + c) := by
  have hv : vis (512 * n + r) (16 + 512 * m + c) := by
    unfold vis; omega
  rw [blockScore, dot_half, Fox.score, if_pos hv, blkBias_at]
  refine congrArg₂ (· + ·) (Finset.sum_congr rfl fun d _ => congrArg _ ?_) ?_
  · rw [row, if_neg (by omega), show 16 + 512 * m + c.val - 16 = 512 * m + c.val by omega]
    rfl
  · rw [row, if_neg (by omega), show 16 + 512 * m + c.val - 16 = 512 * m + c.val by omega]

/-- The numbers row `r`'s scores are made of are real. -/
abbrev Fine : Prop :=
  Fox.Fine (Qr x1 g e r) (Km x4 g e) (Kr x2 g e) (Cq x6 (head g e) r) (Cm x8 (head g e)) (Cr x7 (head g e))

include hn in
/-- The quotient of the two accumulated sums is the softmax average. -/
theorem quotient_eq (h : Fine x1 x2 x4 x6 x7 x8 g e r) (b : ℝ) (d : Fin 128) :
    Ideal.div
        (bsum n b (firstScore (qhalf x1 g e) k0_pay96 (keys0 x2 x4 n g) (firstBias x6 x7 x8 (head g e) n) r) (fun c => keys0 x3 x5 n g (ix2 c d))
          (fun m => blockScore (qhalf x1 g e) (blk x2 m g) (blkBias x6 x7 (head g e) m) r) (fun m c => blk x3 m g (ix3 0 c d)))
        (bsum n b (firstScore (qhalf x1 g e) k0_pay96 (keys0 x2 x4 n g) (firstBias x6 x7 x8 (head g e) n) r) (fun _ => 1)
          (fun m => blockScore (qhalf x1 g e) (blk x2 m g) (blkBias x6 x7 (head g e) m) r) (fun _ _ => 1))
      = mapOut (Qr x1 g e r) (Km x4 g e) (Kr x2 g e) (Cq x6 (head g e) r) (Cm x8 (head g e)) (Cr x7 (head g e)) (Vm x5 g d) (Vr x3 g d) (512 * n + r) := by
  have hS : ∀ j, 16 + 512 * (n + 1) ≤ j → j < 2064 →
      Fox.score (Qr x1 g e r) (Km x4 g e) (Kr x2 g e) (Cq x6 (head g e) r) (Cm x8 (head g e)) (Cr x7 (head g e)) (512 * n + r) j = ⊥ := by
    intro j h1 h2
    rw [Fox.score, if_neg]
    unfold vis; omega
  have hT : ∀ j : Fin 2064, Fox.score (Qr x1 g e r) (Km x4 g e) (Kr x2 g e) (Cq x6 (head g e) r) (Cm x8 (head g e))
      (Cr x7 (head g e)) (512 * n + r) j ≠ ⊤ := fun j => Fox.score_top h _ _
  have hB : ∃ j : Fin 2064, Fox.score (Qr x1 g e r) (Km x4 g e) (Kr x2 g e) (Cq x6 (head g e) r) (Cm x8 (head g e))
      (Cr x7 (head g e)) (512 * n + r) j ≠ ⊥ := ⟨0, (Fox.score_real h _ _ (Nat.zero_le _)).1⟩
  rw [bsum_regroup n hn b _ (row (Vm x5 g d) (Vr x3 g d)) _ _ _ _ (first_eq x1 x2 x4 x6 x7 x8 n g hn e r) ?_
      (fun m hm => block_eq x1 x2 x4 x6 x7 x8 n g e r m hm) ?_ hS,
    bsum_regroup n hn b _ (fun _ => 1) _ _ _ _ (first_eq x1 x2 x4 x6 x7 x8 n g hn e r) (fun c _ => by simp)
      (fun m hm => block_eq x1 x2 x4 x6 x7 x8 n g e r m hm) (fun _ _ _ => rfl) hS]
  · rw [mapOut, att_shift 0 b hT hB, att]
    simp only [wsum, mul_one]
  · intro c hc
    rw [keys0, pay97_at]
    by_cases h : c.val < 512
    · rw [dif_pos h, if_pos h, row, if_neg (by omega), show 16 + 512 * n + c.val - 16 = 512 * n + c.val by omega]
      rfl
    · rw [dif_neg h, if_neg h, row, if_pos (by omega), mblk_at, Vm]
      rw [show (⟨c.val - 512, by omega⟩ : Fin 128) = Fin.ofNat 128 (c.val - 512) from
        Fin.ext (show c.val - 512 = (c.val - 512) % 128 by omega)]
  · intro m hm c
    rw [row, if_neg (by omega), show 16 + 512 * m + c.val - 16 = 512 * m + c.val by omega]
    rfl

include hn in
theorem fixOut_at (h : Fine x1 x2 x4 x6 x7 x8 g e r) (b : ℝ) (d : Fin 128) :
    fixOut (F := Ideal) (b : EReal) x1 x2 x3 x4 x5 x6 x7 x8 n g e (ix2 r d)
      = mapOut (Qr x1 g e r) (Km x4 g e) (Kr x2 g e) (Cq x6 (head g e) r) (Cm x8 (head g e)) (Cr x7 (head g e)) (Vm x5 g d) (Vr x3 g d) (512 * n + r) := by
  rw [← quotient_eq x1 x2 x3 x4 x5 x6 x7 x8 n g hn e r h b d, fixOut]
  pointwise [k0_pay145]
  rw [fixPart_sum, fixAcc_at]

include hn in
theorem onlOut_at (h : Fine x1 x2 x4 x6 x7 x8 g e r) (d : Fin 128) :
    onlOut (F := Ideal) x1 x2 x3 x4 x5 x6 x7 x8 n g e (ix2 r d)
      = mapOut (Qr x1 g e r) (Km x4 g e) (Kr x2 g e) (Cq x6 (head g e) r) (Cm x8 (head g e)) (Cr x7 (head g e)) (Vm x5 g d) (Vr x3 g d) (512 * n + r) := by
  have hT : ∀ c, firstScore (qhalf x1 g e) k0_pay96 (keys0 x2 x4 n g) (firstBias x6 x7 x8 (head g e) n) r c ≠ ⊤ := by
    intro c
    rw [first_eq x1 x2 x4 x6 x7 x8 n g hn e r c]
    split
    · exact Fox.score_top h _ _
    · split
      · exact Fox.score_top h _ _
      · exact bot_ne_top
  have hB : ∃ c, firstScore (qhalf x1 g e) k0_pay96 (keys0 x2 x4 n g) (firstBias x6 x7 x8 (head g e) n) r c ≠ ⊥ := by
    refine ⟨⟨512, by decide⟩, ?_⟩
    rw [first_eq x1 x2 x4 x6 x7 x8 n g hn e r, if_neg (by simp), if_pos (by simp)]
    exact (Fox.score_real h _ _ (by show 512 - 512 ≤ 16 + (512 * n + r.val); omega)).1
  obtain ⟨b, -, hl, ha⟩ := onl_at (qhalf x1 g e) k0_pay96 (keys0 x2 x4 n g) (keys0 x3 x5 n g) (firstBias x6 x7 x8 (head g e) n) (fun k => blk x2 k g) (fun k => blk x3 k g)
    (blkBias x6 x7 (head g e)) r hB hT n (fun m hm c => by
      rw [block_eq x1 x2 x4 x6 x7 x8 n g e r m hm c]
      refine ⟨(Fox.score_real h _ _ ?_).1, Fox.score_top h _ _⟩
      unfold vis; omega)
  rw [← quotient_eq x1 x2 x3 x4 x5 x6 x7 x8 n g hn e r h b d, onlOut]
  pointwise [k0_pay344]
  rw [hl, ha]

end

theorem headOut_at (o : ℕ → Bool → FVec Ideal S512x128 .f32) (g : ℕ) (r : Fin 512) (k : Fin 128) :
    @Eq EReal (headOut (F := Ideal) o g (ix3 0 r k)) (o g (decide (64 ≤ k.val)) (ix2 r k)) := by
  have hk : (IntOp.cmpi .slt (BitVec.ofNat 32 k.val) 64#32) = BitVec.ofBool (decide (k.val < 64)) :=
    WordCmp.cmpi_slt_ofNat (w := 32) (a := k.val) (b := 64) (by omega) (by omega)
  rw [headOut]
  pointwise [k0_pay7, k0_pay6]
  rw [hk, Scalar.select]
  by_cases h : k.val < 64
  · rw [if_pos (by simp [h]), decide_eq_false (by omega)]
  · rw [if_neg (by simp [h]), decide_eq_true (by omega)]

end Cert.Kernel4Ideal.Att
end
-- ==== Proof.Kernel4Ideal.Frame.lean ====
/- The attention kernel's launch runs, leaves its argument arrays as they were, and leaves in its result what the body
   stores: the frame, from the two runs of the body. -/
module

public import proofs.«01_k».proof.Proof.Kernel4Ideal.RunFixed
public import proofs.«01_k».proof.Proof.Kernel4Ideal.RunOnline
public import Idealize.ShloMosaic.Lib.Pipeline.FrameBody
public import Idealize.ShloMosaic.Lib.Ring
public import Idealize.ShloMosaic.Lib.Claim

@[expose] public section

set_option maxRecDepth 16384

noncomputable section

namespace Cert.Kernel4Ideal.Att

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The view of one of the output's staging buffers. -/
abbrev VO : View sig .tc .vmem S1x512x512 .bf16 := (Memref.whole cc0_stg9_0 : Memref sig .tc .vmem S1x512x512 .bf16).view

/-- The four stores of the fixed-shift body cover the output block. -/
theorem cover_fixed (c : Dev nD) (i : grid0.Coords) (arg2 : Memref sig .tc .smem S1 .f32) (harg2 : arg2.IsWhole) (arg3 : Memref sig .tc .vmem S1x512x512 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S1x512x128 .f32) (harg8 : arg8.IsWhole) (arg9 : Memref sig .tc .vmem S1x8x1x2048 .f32) (harg9 : arg9.IsWhole) (arg10 : Memref sig .tc .vmem S1x8x1x128 .f32) (harg10 : arg10.IsWhole) (arg11 : Memref sig .tc .vmem S1x512x512 .bf16) (harg11 : arg11.IsWhole)
    (x0 : Vec F S1 .f32) (x1 : Vec F S1x512x512 .bf16) (x2 : Vec F S1x2048x512 .bf16) (x3 : Vec F S1x2048x512 .bf16) (x4 : Vec F S128x512 .bf16) (x5 : Vec F S128x512 .bf16) (x6 : Vec F S1x512x128 .f32) (x7 : Vec F S1x8x1x2048 .f32) (x8 : Vec F S1x8x1x128 .f32) (hc : small (F := F) x0) (y : S1x512x512.Idx) :
    ∃ pc ∈ (runFixed c i arg2 harg2 arg3 harg3 arg4 harg4 arg5 harg5 arg6 harg6 arg7 harg7 arg8 harg8 arg9 harg9 arg10 harg10 arg11 harg11 x0 x1 x2 x3 x4 x5 x6 x7 x8 hc).1, y ∈ pc.1.set :=
  View.cover_of_tiledL (runFixed c i arg2 harg2 arg3 harg3 arg4 harg4 arg5 harg5 arg6 harg6 arg7 harg7 arg8 harg8 arg9 harg9 arg10 harg10 arg11 harg11 x0 x1 x2 x3 x4 x5 x6 x7 x8 hc).1 S1x512x128.size (by sl_kernel_rfl) y

/-- The four stores of the running-maximum body cover the output block. -/
theorem cover_online (c : Dev nD) (i : grid0.Coords) (arg2 : Memref sig .tc .smem S1 .f32) (harg2 : arg2.IsWhole) (arg3 : Memref sig .tc .vmem S1x512x512 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S1x512x128 .f32) (harg8 : arg8.IsWhole) (arg9 : Memref sig .tc .vmem S1x8x1x2048 .f32) (harg9 : arg9.IsWhole) (arg10 : Memref sig .tc .vmem S1x8x1x128 .f32) (harg10 : arg10.IsWhole) (arg11 : Memref sig .tc .vmem S1x512x512 .bf16) (harg11 : arg11.IsWhole)
    (x0 : Vec F S1 .f32) (x1 : Vec F S1x512x512 .bf16) (x2 : Vec F S1x2048x512 .bf16) (x3 : Vec F S1x2048x512 .bf16) (x4 : Vec F S128x512 .bf16) (x5 : Vec F S128x512 .bf16) (x6 : Vec F S1x512x128 .f32) (x7 : Vec F S1x8x1x2048 .f32) (x8 : Vec F S1x8x1x128 .f32) (hc : ¬ small (F := F) x0) (y : S1x512x512.Idx) :
    ∃ pc ∈ (runOnline c i arg2 harg2 arg3 harg3 arg4 harg4 arg5 harg5 arg6 harg6 arg7 harg7 arg8 harg8 arg9 harg9 arg10 harg10 arg11 harg11 x0 x1 x2 x3 x4 x5 x6 x7 x8 hc).1, y ∈ pc.1.set :=
  View.cover_of_tiledL (runOnline c i arg2 harg2 arg3 harg3 arg4 harg4 arg5 harg5 arg6 harg6 arg7 harg7 arg8 harg8 arg9 harg9 arg10 harg10 arg11 harg11 x0 x1 x2 x3 x4 x5 x6 x7 x8 hc).1 S1x512x128.size (by sl_kernel_rfl) y

open Classical in
/-- What the body leaves in the output block. -/
def outBlk (c : Dev nD) (i : grid0.Coords) (arg2 : Memref sig .tc .smem S1 .f32) (harg2 : arg2.IsWhole) (arg3 : Memref sig .tc .vmem S1x512x512 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S1x512x128 .f32) (harg8 : arg8.IsWhole) (arg9 : Memref sig .tc .vmem S1x8x1x2048 .f32) (harg9 : arg9.IsWhole) (arg10 : Memref sig .tc .vmem S1x8x1x128 .f32) (harg10 : arg10.IsWhole) (arg11 : Memref sig .tc .vmem S1x512x512 .bf16) (harg11 : arg11.IsWhole)
    (x0 : Vec F S1 .f32) (x1 : Vec F S1x512x512 .bf16) (x2 : Vec F S1x2048x512 .bf16) (x3 : Vec F S1x2048x512 .bf16) (x4 : Vec F S128x512 .bf16) (x5 : Vec F S128x512 .bf16) (x6 : Vec F S1x512x128 .f32) (x7 : Vec F S1x8x1x2048 .f32) (x8 : Vec F S1x8x1x128 .f32) : Vec F S1x512x512 .bf16 :=
  if hc : small (F := F) x0 then VO.read (Elt F) (VO.writes (Elt F) VO.junk (runFixed c i arg2 harg2 arg3 harg3 arg4 harg4 arg5 harg5 arg6 harg6 arg7 harg7 arg8 harg8 arg9 harg9 arg10 harg10 arg11 harg11 x0 x1 x2 x3 x4 x5 x6 x7 x8 hc).1)
  else VO.read (Elt F) (VO.writes (Elt F) VO.junk (runOnline c i arg2 harg2 arg3 harg3 arg4 harg4 arg5 harg5 arg6 harg6 arg7 harg7 arg8 harg8 arg9 harg9 arg10 harg10 arg11 harg11 x0 x1 x2 x3 x4 x5 x6 x7 x8 hc).1)

/-- The body's run, whichever branch the bound takes: the output's buffer ends at `outBlk`. -/
theorem run_any (c : Dev nD) (i : grid0.Coords) (arg2 : Memref sig .tc .smem S1 .f32) (harg2 : arg2.IsWhole) (arg3 : Memref sig .tc .vmem S1x512x512 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S1x512x128 .f32) (harg8 : arg8.IsWhole) (arg9 : Memref sig .tc .vmem S1x8x1x2048 .f32) (harg9 : arg9.IsWhole) (arg10 : Memref sig .tc .vmem S1x8x1x128 .f32) (harg10 : arg10.IsWhole) (arg11 : Memref sig .tc .vmem S1x512x512 .bf16) (harg11 : arg11.IsWhole)
    (x0 : Vec F S1 .f32) (x1 : Vec F S1x512x512 .bf16) (x2 : Vec F S1x2048x512 .bf16) (x3 : Vec F S1x2048x512 .bf16) (x4 : Vec F S128x512 .bf16) (x5 : Vec F S128x512 .bf16) (x6 : Vec F S1x512x128 .f32) (x7 : Vec F S1x8x1x2048 .f32) (x8 : Vec F S1x8x1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (outBlk c i arg2 harg2 arg3 harg3 arg4 harg4 arg5 harg5 arg6 harg6 arg7 harg7 arg8 harg8 arg9 harg9 arg10 harg10 arg11 harg11 x0 x1 x2 x3 x4 x5 x6 x7 x8)) -∗ K ⟨⟩))
      ⊢ wp frame (wpE (defs₀ (F := F)) Variants.none c none) E (cc0_fox_attn i arg2 harg2 arg3 harg3 arg4 harg4 arg5 harg5 arg6 harg6 arg7 harg7 arg8 harg8 arg9 harg9 arg10 harg10 arg11 harg11) K := by
  iintro ⟨H0, H1, H2, H3, H4, H5, H6, H7, H8, ⟨%d9, H9⟩, Hk⟩
  by_cases hc : small (F := F) x0
  · iapply ((runFixed c i arg2 harg2 arg3 harg3 arg4 harg4 arg5 harg5 arg6 harg6 arg7 harg7 arg8 harg8 arg9 harg9 arg10 harg10 arg11 harg11 x0 x1 x2 x3 x4 x5 x6 x7 x8 hc).2 E K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iintro ⟨H0, H1, H2, H3, H4, H5, H6, H7, H8, ⟨%e9, H9⟩⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr
    swap; · iexact H9
    ipureintro
    rw [outBlk, dif_pos hc]
    exact View.read_writes_of_cover _ _ _ _ _ (cover_fixed c i arg2 harg2 arg3 harg3 arg4 harg4 arg5 harg5 arg6 harg6 arg7 harg7 arg8 harg8 arg9 harg9 arg10 harg10 arg11 harg11 x0 x1 x2 x3 x4 x5 x6 x7 x8 hc)
  · iapply ((runOnline c i arg2 harg2 arg3 harg3 arg4 harg4 arg5 harg5 arg6 harg6 arg7 harg7 arg8 harg8 arg9 harg9 arg10 harg10 arg11 harg11 x0 x1 x2 x3 x4 x5 x6 x7 x8 hc).2 E K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iintro ⟨H0, H1, H2, H3, H4, H5, H6, H7, H8, ⟨%e9, H9⟩⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr
    swap; · iexact H9
    ipureintro
    rw [outBlk, dif_neg hc]
    exact View.read_writes_of_cover _ _ _ _ _ (cover_online c i arg2 harg2 arg3 harg3 arg4 harg4 arg5 harg5 arg6 harg6 arg7 harg7 arg8 harg8 arg9 harg9 arg10 harg10 arg11 harg11 x0 x1 x2 x3 x4 x5 x6 x7 x8 hc)

variable (m : (ℓ : Loc nD τ sig) → Buf (Elt F) ℓ) (ρ : Dev nD → PrngReg)

/-- What the body leaves in the output's buffer at point `t`. -/
def outAt (c : Dev nD) (t : Fin cfg0.N) : Vec F S1x512x512 .bf16 :=
  outBlk c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9))
    (iblk m c 0 t) (iblk m c 1 t) (iblk m c 2 t) (iblk m c 3 t) (iblk m c 4 t) (iblk m c 5 t) (iblk m c 6 t) (iblk m c 7 t) (iblk m c 8 t)

/-- The proof data of the launch on core `c`: the arrays as found; after the body each input's buffer at its block and
    the output's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- No window is idle at any point. -/
theorem live : ∀ (w : Fin cfg0.W) (t : Fin cfg0.N), cfg0.idle w (grid0.coords t) = false :=
  (by decide +kernel : ∀ (w : Fin 10) (t : Fin grid0.N), cfg0.idle w (grid0.coords t) = false)

/-- What a window's buffer holds when the body returns. -/
theorem leaves_eq (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact; rw [live w t]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What the body returns at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl]
  simp only [leaves_eq, after_0, after_1, after_2, after_3, after_4, after_5, after_6, after_7, after_8, after_9]
  unfold outAt
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run_any c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch runs to the pipeline's final arrays, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The launch runs, its argument arrays end unchanged, and every counter ends at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_main_quiescent m ρ))

end Cert.Kernel4Ideal.Att
-- ==== Proof.Kernel4Ideal.Output.lean ====
/- The output of the attention's launch over the reals: every block it writes, and so the whole array, is the formula of
   the attention of its arguments. -/
module

public import proofs.«01_k».proof.Proof.Kernel4Ideal.BlockOut
public import proofs.«01_k».proof.Proof.Kernel4Ideal.Frame
public import Idealize.ShloMosaic.Lib.Pipeline.ValueKit.Geometry

@[expose] public section

set_option maxRecDepth 16384

noncomputable section

namespace Cert.Kernel4Ideal.Att

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Att (Real' Real'.lift)
open Cert.Fox (mapOut)

/-- The output block of heads whose outputs are `o`. -/
def heads (o : ℕ → Bool → FVec Ideal S512x128 .f32)
    (y : S1x512x512.Idx) : EReal :=
  headOut (F := Ideal) o ((y 2).val / 128) (ix3 0 (y 1) (Fin.ofNat 128 ((y 2).val % 128)))

theorem head_piece (o : ℕ → Bool → FVec Ideal S512x128 .f32)
    (g k : ℕ) (hk : k = 128 * g) (inb : ∀ a, (![0, 0, k] : Fin 3 → ℕ) a + S1x512x128.size a ≤ S1x512x512.size a)
    (x : S1x512x128.Idx) :
    headOut (F := Ideal) o g x = heads o ((Rect.unit (s := S1x512x512) ![0, 0, k] S1x512x128.size inb).emb x) := by
  have h2 : (x 2).val < 128 := (x 2).isLt
  have h0 : (x 0).val < 1 := (x 0).isLt
  have e2 : (((Rect.unit (s := S1x512x512) ![0, 0, k] S1x512x128.size inb).emb x 2 : Fin _) : ℕ) = k + (x 2).val :=
    Idealize.ShloMosaic.ValueKit.rect_emb_unit_val (s := S1x512x512) ![0, 0, k] S1x512x128.size inb x 2
  have e1 : (((Rect.unit (s := S1x512x512) ![0, 0, k] S1x512x128.size inb).emb x 1 : Fin _) : ℕ) = 0 + (x 1).val :=
    Idealize.ShloMosaic.ValueKit.rect_emb_unit_val (s := S1x512x512) ![0, 0, k] S1x512x128.size inb x 1
  unfold heads
  rw [e2, show (k + (x 2).val) / 128 = g by omega, show (k + (x 2).val) % 128 = (x 2).val by omega]
  refine congrArg (headOut (F := Ideal) o g) (funext fun a => Fin.ext ?_)
  match a with
  | ⟨0, _⟩ => exact Nat.lt_one_iff.1 h0
  | ⟨1, _⟩ => exact ((e1.trans (Nat.zero_add _)).symm :)
  | ⟨2, _⟩ => exact (Nat.mod_eq_of_lt h2).symm

/-- The four stores read back. -/
theorem stores_read (o : ℕ → Bool → FVec Ideal S512x128 .f32)
    (y : S1x512x512.Idx) (hc : ∃ p ∈ stores (F := Ideal) o, y ∈ p.1.set) :
    VO.read (Elt Ideal) (VO.writes (Elt Ideal) VO.junk (stores (F := Ideal) o)) y = heads o y := by
  refine View.read_writes_apply_of_pieces _ _ (heads o) _ (fun p hp x => ?_) y hc
  simp only [stores, List.mem_cons, List.not_mem_nil, or_false] at hp
  rcases hp with rfl | rfl | rfl | rfl
  · exact head_piece o 3 384 rfl inb_S1x512x512_S1x512x128_0_0_384 x
  · exact head_piece o 2 256 rfl inb_S1x512x512_S1x512x128_0_0_256 x
  · exact head_piece o 1 128 rfl inb_S1x512x512_S1x512x128_0_0_128 x
  · exact head_piece o 0 0 rfl inb_S1x512x512_S1x512x128_0_0_0 x

/-- A number at most a real is not `⊤`. -/
theorem small_real (x0 : Vec Ideal S1 .f32) (hb : word (F := Ideal) x0 ≠ ⊥) (hc : small (F := Ideal) x0) :
    ∃ b : ℝ, word (F := Ideal) x0 = (b : EReal) := by
  refine Real'.lift ⟨hb, fun h => ?_⟩
  unfold small at hc
  rw [h] at hc
  revert hc
  simp [Ideal.cmp, Ideal.ofBits, Ideal.ieee]
  rw [decide_eq_false (by rw [← EReal.coe_mul]; exact EReal.coe_ne_top _)]
  decide

/-- The half of its group that lane `l` lies in. -/
def side (l : Fin 512) : Bool := decide (64 ≤ l.val % 128)

/-- What the body leaves in the output block, at row `r` and lane `l`. -/
theorem outBlk_at (c : Dev nD) (i : grid0.Coords) (arg2 : Memref sig .tc .smem S1 .f32) (harg2 : arg2.IsWhole) (arg3 : Memref sig .tc .vmem S1x512x512 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S1x512x128 .f32) (harg8 : arg8.IsWhole) (arg9 : Memref sig .tc .vmem S1x8x1x2048 .f32) (harg9 : arg9.IsWhole) (arg10 : Memref sig .tc .vmem S1x8x1x128 .f32) (harg10 : arg10.IsWhole) (arg11 : Memref sig .tc .vmem S1x512x512 .bf16) (harg11 : arg11.IsWhole)
    (x0 : Vec Ideal S1 .f32) (x1 : Vec Ideal S1x512x512 .bf16) (x2 : Vec Ideal S1x2048x512 .bf16) (x3 : Vec Ideal S1x2048x512 .bf16) (x4 : Vec Ideal S128x512 .bf16) (x5 : Vec Ideal S128x512 .bf16) (x6 : Vec Ideal S1x512x128 .f32) (x7 : Vec Ideal S1x8x1x2048 .f32) (x8 : Vec Ideal S1x8x1x128 .f32)
    (r : Fin 512) (l : Fin 512) (hb : word (F := Ideal) x0 ≠ ⊥)
    (hf : Fine x1 x2 x4 x6 x7 x8 (l.val / 128) (side l) r) :
    @Eq EReal (outBlk (F := Ideal) c i arg2 harg2 arg3 harg3 arg4 harg4 arg5 harg5 arg6 harg6 arg7 harg7 arg8 harg8 arg9 harg9 arg10 harg10 arg11 harg11 x0 x1 x2 x3 x4 x5 x6 x7 x8 (ix3 0 r l))
      (mapOut (Qr x1 (l.val / 128) (side l) r) (Km x4 (l.val / 128) (side l)) (Kr x2 (l.val / 128) (side l))
          (Cq x6 (head (l.val / 128) (side l)) r) (Cm x8 (head (l.val / 128) (side l))) (Cr x7 (head (l.val / 128) (side l)))
          (Vm x5 (l.val / 128) (Fin.ofNat 128 (l.val % 128))) (Vr x3 (l.val / 128) (Fin.ofNat 128 (l.val % 128)))
          (512 * (i 1).val + r.val)) := by
  have hl : l.val % 128 % 128 = l.val % 128 := Nat.mod_mod _ _
  have hH : ∀ o : ℕ → Bool → FVec Ideal S512x128 .f32, heads o (ix3 0 r l)
      = o (l.val / 128) (side l) (ix2 r (Fin.ofNat 128 (l.val % 128))) := fun o => by
    refine (headOut_at o (l.val / 128) r (Fin.ofNat 128 (l.val % 128))).trans ?_
    show o _ (decide (64 ≤ l.val % 128 % 128)) _ = _
    rw [hl]; rfl
  unfold outBlk
  by_cases hc : small (F := Ideal) x0
  · have hs := stores_fixed (F := Ideal) c i arg2 harg2 arg3 harg3 arg4 harg4 arg5 harg5 arg6 harg6 arg7 harg7 arg8 harg8 arg9 harg9 arg10 harg10 arg11 harg11 x0 x1 x2 x3 x4 x5 x6 x7 x8 hc
    have hv := cover_fixed (F := Ideal) c i arg2 harg2 arg3 harg3 arg4 harg4 arg5 harg5 arg6 harg6 arg7 harg7 arg8 harg8 arg9 harg9 arg10 harg10 arg11 harg11 x0 x1 x2 x3 x4 x5 x6 x7 x8 hc (ix3 0 r l)
    rw [dif_pos hc, hs]
    rw [hs] at hv
    refine (stores_read _ _ hv).trans ((hH _).trans ?_)
    obtain ⟨b, hb'⟩ := small_real x0 hb hc
    rw [hb']
    exact fixOut_at x1 x2 x3 x4 x5 x6 x7 x8 (i 1).val (l.val / 128) (block_lt i) (side l) r hf b _
  · have hs := stores_online (F := Ideal) c i arg2 harg2 arg3 harg3 arg4 harg4 arg5 harg5 arg6 harg6 arg7 harg7 arg8 harg8 arg9 harg9 arg10 harg10 arg11 harg11 x0 x1 x2 x3 x4 x5 x6 x7 x8 hc
    have hv := cover_online (F := Ideal) c i arg2 harg2 arg3 harg3 arg4 harg4 arg5 harg5 arg6 harg6 arg7 harg7 arg8 harg8 arg9 harg9 arg10 harg10 arg11 harg11 x0 x1 x2 x3 x4 x5 x6 x7 x8 hc (ix3 0 r l)
    rw [dif_neg hc, hs]
    rw [hs] at hv
    refine (stores_read _ _ hv).trans ((hH _).trans ?_)
    exact onlOut_at x1 x2 x3 x4 x5 x6 x7 x8 (i 1).val (l.val / 128) (block_lt i) (side l) r hf _

end Cert.Kernel4Ideal.Att
end
-- ==== Proof.Kernel4Ideal.Array.lean ====
/- The attention's launch over the reals: the array it leaves is the formula of the attention of its
   arguments, which are unchanged. -/
module

public import proofs.«01_k».proof.Proof.Kernel4Ideal.Output

@[expose] public section

set_option maxRecDepth 16384

noncomputable section

namespace Cert.Kernel4Ideal.Att

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Att (Real')
open Cert.Fox (outSpec mapOut)

variable (m : (ℓ : Loc nD τ sig) → Buf (Elt Ideal) ℓ) (ρ : Dev nD → PrngReg)

/-- The arguments by their coordinates. -/
abbrev Q (c : Dev nD) (b : Fin 16) (t : Fin 2048) (l : Fin 512) : EReal := m ((c : Thread nD τ).loc main_arg1) (ix3 b t l)
abbrev K (c : Dev nD) (b : Fin 16) (t : Fin 2048) (l : Fin 512) : EReal := m ((c : Thread nD τ).loc main_arg2) (ix3 b t l)
abbrev V' (c : Dev nD) (b : Fin 16) (t : Fin 2048) (l : Fin 512) : EReal := m ((c : Thread nD τ).loc main_arg3) (ix3 b t l)
abbrev KM (c : Dev nD) (j : Fin 128) (l : Fin 512) : EReal := m ((c : Thread nD τ).loc main_arg4) (ix2 j l)
abbrev VM (c : Dev nD) (j : Fin 128) (l : Fin 512) : EReal := m ((c : Thread nD τ).loc main_arg5) (ix2 j l)
/-- The cumulated gates: of the queries, of the keys, of the shared keys. -/
abbrev CC (c : Dev nD) (b : Fin 16) (t : Fin 2048) (l : Fin 128) : EReal := m ((c : Thread nD τ).loc main_arg6) (ix3 b t l)
abbrev CR (c : Dev nD) (b : Fin 16) (h : Fin 8) (t : Fin 2048) : EReal := m ((c : Thread nD τ).loc main_arg7) (ix3 b h t)
abbrev CM (c : Dev nD) (b : Fin 16) (h : Fin 8) (j : Fin 128) : EReal := m ((c : Thread nD τ).loc main_arg8) (ix3 b h j)
/-- The score bound. -/
abbrev bound (c : Dev nD) : EReal := m ((c : Thread nD τ).loc main_arg0) (ix1 0)

/-- What the claim asks of the arguments: the bound above `⊥`, the queries and every key a query sees real, and their gates. -/
structure Sound (c : Dev nD) : Prop where
  hb : bound m c ≠ ⊥
  hq : ∀ b t l, Real' (Q m c b t l)
  hk : ∀ b t l, Real' (K m c b t l)
  hm : ∀ (j : Fin 128) l, j.val < 16 → Real' (KM m c j l)
  hc : ∀ b t (l : Fin 128), l.val < 8 → Real' (CC m c b t l)
  hcr : ∀ b h t, Real' (CR m c b h t)
  hcm : ∀ b h (j : Fin 128), j.val < 16 → Real' (CM m c b h j)

/-- The array the launch leaves. -/
def result (c : Dev nD) : Buf (Elt Ideal) ((c : Thread nD τ).loc main_v2) := fun i : S16x2048x512.Idx =>
  outSpec (Q m c) (K m c) (V' m c) (KM m c) (VM m c) (CC m c) (CR m c) (CM m c) (i 0) (i 1) (i 2)

variable (c : Dev nD) (t : Fin cfg0.N)

/-- The batch and the tile of queries of a point. -/
def batch : Fin 16 := ⟨(grid0.coords t 0).val, (grid0.coords t 0).isLt⟩
def tile : Fin 4 := ⟨(grid0.coords t 1).val, (grid0.coords t 1).isLt⟩
/-- Row `r` of the tile of queries. -/
def row512 (r : Fin 512) : Fin 2048 := ⟨512 * (tile t).val + r.val, by have := (tile t).isLt; omega⟩

theorem base_eq (x s y : ℕ) {z : ℕ} (h : x < 2 ^ 32) (hz : z = x * s + y) : (BitVec.ofNat 32 x).toNat * s + 1 * y = z := by
  rw [BitVec.toNat_ofNat, Nat.mod_eq_of_lt h, one_mul, hz]

theorem whole_eq (s y : ℕ) : (0#32 : BitVec 32).toNat * s + 1 * y = y := by simp

/-- The rows of cumulated gates as the region finds them. -/
theorem V_v0 (b : Fin 16) (h : Fin 8) (t : Fin 2048) : @Eq EReal (V (F := Ideal) m c main_v0 (ix4 b h 0 t)) (CR m c b h t) := by
  have e : V (F := Ideal) m c main_v0 = broadcastInDim S16x8x1x2048 ![0, 1, 3] bcast_S16x8x2048_S16x8x1x2048_0_1_3
      (m ((c : Thread nD τ).loc main_arg7)) := by
    unfold V hostOps0
    after_results_simp <;> rfl
  refine (congrFun e _).trans ?_
  pointwise

theorem V_v1 (b : Fin 16) (h : Fin 8) (j : Fin 128) : @Eq EReal (V (F := Ideal) m c main_v1 (ix4 b h 0 j)) (CM m c b h j) := by
  have e : V (F := Ideal) m c main_v1 = broadcastInDim S16x8x1x128 ![0, 1, 3] bcast_S16x8x128_S16x8x1x128_0_1_3
      (m ((c : Thread nD τ).loc main_arg8)) := by
    unfold V hostOps0
    after_results_simp <;> rfl
  refine (congrFun e _).trans ?_
  pointwise

theorem blk_1 (r : Fin 512) (l : Fin 512) :
    @Eq EReal (iblk m c 1 t (ix3 0 r l)) (m ((c : Thread nD τ).loc main_arg1) (ix3 (batch t) (row512 t r) l)) := by
  refine Eq.trans (b := V (F := Ideal) m c main_arg1 (ix3 (batch t) (row512 t r) l)) ?_ (congrFun (V_main_arg1 m c) _)
  refine congrArg (V (F := Ideal) m c main_arg1) (funext fun a => Fin.ext ?_)
  match a with
  | ⟨0, _⟩ => exact base_eq _ 1 0 (by have := (batch t).isLt; exact Nat.lt_trans this (by decide)) (by show (batch t).val = _; exact (by simp : (batch t).val = (batch t).val * 1 + 0))
  | ⟨1, _⟩ => exact base_eq _ 512 r.val (by have := (tile t).isLt; exact Nat.lt_trans this (by decide)) (show 512 * (tile t).val + r.val = (tile t).val * 512 + r.val by omega)
  | ⟨2, _⟩ => exact whole_eq 512 l.val

theorem blk_2 (r : Fin 2048) (l : Fin 512) :
    @Eq EReal (iblk m c 2 t (ix3 0 r l)) (m ((c : Thread nD τ).loc main_arg2) (ix3 (batch t) r l)) := by
  refine Eq.trans (b := V (F := Ideal) m c main_arg2 (ix3 (batch t) r l)) ?_ (congrFun (V_main_arg2 m c) _)
  refine congrArg (V (F := Ideal) m c main_arg2) (funext fun a => Fin.ext ?_)
  match a with
  | ⟨0, _⟩ => exact base_eq _ 1 0 (by have := (batch t).isLt; exact Nat.lt_trans this (by decide)) (by show (batch t).val = _; exact (by simp : (batch t).val = (batch t).val * 1 + 0))
  | ⟨1, _⟩ => exact whole_eq 2048 r.val
  | ⟨2, _⟩ => exact whole_eq 512 l.val

theorem blk_3 (r : Fin 2048) (l : Fin 512) :
    @Eq EReal (iblk m c 3 t (ix3 0 r l)) (m ((c : Thread nD τ).loc main_arg3) (ix3 (batch t) r l)) := by
  refine Eq.trans (b := V (F := Ideal) m c main_arg3 (ix3 (batch t) r l)) ?_ (congrFun (V_main_arg3 m c) _)
  refine congrArg (V (F := Ideal) m c main_arg3) (funext fun a => Fin.ext ?_)
  match a with
  | ⟨0, _⟩ => exact base_eq _ 1 0 (by have := (batch t).isLt; exact Nat.lt_trans this (by decide)) (by show (batch t).val = _; exact (by simp : (batch t).val = (batch t).val * 1 + 0))
  | ⟨1, _⟩ => exact whole_eq 2048 r.val
  | ⟨2, _⟩ => exact whole_eq 512 l.val

theorem blk_4 (j : Fin 128) (l : Fin 512) :
    @Eq EReal (iblk m c 4 t (ix2 j l)) (m ((c : Thread nD τ).loc main_arg4) (ix2 j l)) := by
  refine Eq.trans (b := V (F := Ideal) m c main_arg4 (ix2 j l)) ?_ (congrFun (V_main_arg4 m c) _)
  refine congrArg (V (F := Ideal) m c main_arg4) (funext fun a => Fin.ext ?_)
  match a with
  | ⟨0, _⟩ => exact whole_eq 128 j.val
  | ⟨1, _⟩ => exact whole_eq 512 l.val

theorem blk_5 (j : Fin 128) (l : Fin 512) :
    @Eq EReal (iblk m c 5 t (ix2 j l)) (m ((c : Thread nD τ).loc main_arg5) (ix2 j l)) := by
  refine Eq.trans (b := V (F := Ideal) m c main_arg5 (ix2 j l)) ?_ (congrFun (V_main_arg5 m c) _)
  refine congrArg (V (F := Ideal) m c main_arg5) (funext fun a => Fin.ext ?_)
  match a with
  | ⟨0, _⟩ => exact whole_eq 128 j.val
  | ⟨1, _⟩ => exact whole_eq 512 l.val

theorem blk_6 (r : Fin 512) (l : Fin 128) :
    @Eq EReal (iblk m c 6 t (ix3 0 r l)) (m ((c : Thread nD τ).loc main_arg6) (ix3 (batch t) (row512 t r) l)) := by
  refine Eq.trans (b := V (F := Ideal) m c main_arg6 (ix3 (batch t) (row512 t r) l)) ?_ (congrFun (V_main_arg6 m c) _)
  refine congrArg (V (F := Ideal) m c main_arg6) (funext fun a => Fin.ext ?_)
  match a with
  | ⟨0, _⟩ => exact base_eq _ 1 0 (by have := (batch t).isLt; exact Nat.lt_trans this (by decide)) (by show (batch t).val = _; exact (by simp : (batch t).val = (batch t).val * 1 + 0))
  | ⟨1, _⟩ => exact base_eq _ 512 r.val (by have := (tile t).isLt; exact Nat.lt_trans this (by decide)) (show 512 * (tile t).val + r.val = (tile t).val * 512 + r.val by omega)
  | ⟨2, _⟩ => exact whole_eq 128 l.val

theorem blk_7 (h : Fin 8) (r : Fin 2048) :
    @Eq EReal (iblk m c 7 t (ix4 0 h 0 r)) (m ((c : Thread nD τ).loc main_arg7) (ix3 (batch t) h r)) := by
  refine Eq.trans (b := V (F := Ideal) m c main_v0 (ix4 (batch t) h 0 r)) ?_ (V_v0 m c _ _ _)
  refine congrArg (V (F := Ideal) m c main_v0) (funext fun a => Fin.ext ?_)
  match a with
  | ⟨0, _⟩ => exact base_eq _ 1 0 (by have := (batch t).isLt; exact Nat.lt_trans this (by decide)) (by show (batch t).val = _; exact (by simp : (batch t).val = (batch t).val * 1 + 0))
  | ⟨1, _⟩ => exact whole_eq 8 h.val
  | ⟨2, _⟩ => exact whole_eq 1 0
  | ⟨3, _⟩ => exact whole_eq 2048 r.val

theorem blk_8 (h : Fin 8) (j : Fin 128) :
    @Eq EReal (iblk m c 8 t (ix4 0 h 0 j)) (m ((c : Thread nD τ).loc main_arg8) (ix3 (batch t) h j)) := by
  refine Eq.trans (b := V (F := Ideal) m c main_v1 (ix4 (batch t) h 0 j)) ?_ (V_v1 m c _ _ _)
  refine congrArg (V (F := Ideal) m c main_v1) (funext fun a => Fin.ext ?_)
  match a with
  | ⟨0, _⟩ => exact base_eq _ 1 0 (by have := (batch t).isLt; exact Nat.lt_trans this (by decide)) (by show (batch t).val = _; exact (by simp : (batch t).val = (batch t).val * 1 + 0))
  | ⟨1, _⟩ => exact whole_eq 8 h.val
  | ⟨2, _⟩ => exact whole_eq 1 0
  | ⟨3, _⟩ => exact whole_eq 128 j.val

theorem blk_0 : @Eq EReal (word (F := Ideal) (iblk m c 0 t)) (bound m c) := by
  refine Eq.trans (b := V (F := Ideal) m c main_arg0 (ix1 0)) ?_ (congrFun (V_main_arg0 m c) _)
  refine congrArg (V (F := Ideal) m c main_arg0) (funext fun a => Fin.ext ?_)
  match a with
  | ⟨0, _⟩ => exact whole_eq 1 0

/-- Row `r`'s queries, keys and gates are real. -/
theorem fine (h : Sound m c) (g : ℕ) (e : Bool) (r : Fin 512) :
    Fine (iblk m c 1 t) (iblk m c 2 t) (iblk m c 4 t) (iblk m c 6 t) (iblk m c 7 t) (iblk m c 8 t) g e r where
  hq d := by unfold Qr; rw [blk_1]; exact h.hq _ _ _
  hm j d hj := by
    unfold Km; rw [blk_4]
    exact h.hm _ _ (by show j % 128 < 16; omega)
  hk j d := by unfold Kr; rw [blk_2]; exact h.hk _ _ _
  hc := by unfold Cq; rw [blk_6]; exact h.hc _ _ _ (head g e).isLt
  hcm j hj := by
    unfold Cm; rw [blk_8]
    exact h.hcm _ _ _ (by show j % 128 < 16; omega)
  hck j := by unfold Cr; rw [blk_7]; exact h.hcr _ _ _

/-- The lanes and the head of a half of a group are those of the head of a lane in it. -/
theorem lane_eq (l : Fin 512) (d : ℕ) : 128 * (l.val / 128) + (64 * (side l).toNat + d) = 64 * (l.val / 64) + d := by
  unfold side
  by_cases h : 64 ≤ l.val % 128
  · rw [decide_eq_true h]; simp only [Bool.toNat_true]; omega
  · rw [decide_eq_false h]; simp only [Bool.toNat_false]; omega

theorem head_eq (l : Fin 512) : head (l.val / 128) (side l) = Fin.ofNat 8 (l.val / 64) := by
  refine Fin.ext ?_
  show (2 * (l.val / 128) + if side l then 1 else 0) % 8 = l.val / 64 % 8
  unfold side
  by_cases h : 64 ≤ l.val % 128
  · rw [decide_eq_true h, if_pos rfl]; omega
  · rw [decide_eq_false h, if_neg (by decide)]; omega

theorem value_lane (l : Fin 512) : Fin.ofNat 512 (128 * (l.val / 128) + (Fin.ofNat 128 (l.val % 128)).val) = l := by
  refine Fin.ext ?_
  show (128 * (l.val / 128) + l.val % 128 % 128) % 512 = l.val
  omega

/-- What point `t` leaves in the output block. -/
theorem outAt_at (h : Sound m c) (r l : Fin 512) :
    @Eq EReal (outAt (F := Ideal) m c t (ix3 0 r l))
      (outSpec (Q m c) (K m c) (V' m c) (KM m c) (VM m c) (CC m c) (CR m c) (CM m c) (batch t) (row512 t r) l) := by
  unfold outAt
  rw [outBlk_at _ _ _ _ _ _ _ _ _ _ _ _ _ _ _ _ _ _ _ _ _ _ _ _ _ _ _ _ _ _ _ r l (by rw [blk_0]; exact h.hb) (fine m c t h _ _ r)]
  unfold outSpec
  have e1 : ∀ g e, Qr (iblk m c 1 t) g e r = fun d => Q m c (batch t) (row512 t r) (Fin.ofNat 512 (128 * g + (64 * e.toNat + d.val))) :=
    fun g e => funext fun d => blk_1 m c t r _
  have e2 : ∀ g e, Kr (iblk m c 2 t) g e = fun j d => K m c (batch t) (Fin.ofNat 2048 j) (Fin.ofNat 512 (128 * g + (64 * e.toNat + d.val))) :=
    fun g e => funext fun j => funext fun d => blk_2 m c t _ _
  have e3 : ∀ g d, Vr (iblk m c 3 t) g d = fun j => V' m c (batch t) (Fin.ofNat 2048 j) (Fin.ofNat 512 (128 * g + d.val)) :=
    fun g d => funext fun j => blk_3 m c t _ _
  have e4 : ∀ g e, Km (iblk m c 4 t) g e = fun j d => KM m c (Fin.ofNat 128 j) (Fin.ofNat 512 (128 * g + (64 * e.toNat + d.val))) :=
    fun g e => funext fun j => funext fun d => blk_4 m c t _ _
  have e5 : ∀ g d, Vm (iblk m c 5 t) g d = fun j => VM m c (Fin.ofNat 128 j) (Fin.ofNat 512 (128 * g + d.val)) :=
    fun g d => funext fun j => blk_5 m c t _ _
  have e6 : ∀ h : Fin 8, Cq (iblk m c 6 t) h r = CC m c (batch t) (row512 t r) ⟨h.val, by omega⟩ := fun h => blk_6 m c t _ _
  have e7 : ∀ h : Fin 8, Cr (iblk m c 7 t) h = fun j => CR m c (batch t) h (Fin.ofNat 2048 j) := fun h => funext fun j => blk_7 m c t _ _
  have e8 : ∀ h : Fin 8, Cm (iblk m c 8 t) h = fun j => CM m c (batch t) h (Fin.ofNat 128 j) := fun h => funext fun j => blk_8 m c t _ _
  have e9 : (⟨(Fin.ofNat 8 (l.val / 64)).val, by omega⟩ : Fin 128) = Fin.ofNat 128 (l.val / 64) :=
    Fin.ext (show l.val / 64 % 8 = l.val / 64 % 128 by omega)
  simp only [e1, e2, e3, e4, e5, e6, e7, e8, lane_eq, head_eq, value_lane, e9]
  rfl

/-- What point `t` writes back is its block of the result. -/
theorem flushed_eq (h : Sound m c) :
    (dats (F := Ideal) m 0 c).flushed 9 t = ((cfg0.win 9).blk t).view.read (Elt Ideal) (result m c) := by
  show (cfg0.win 9).cut (grid0.coords t) ((dats m 0 c).after 9 t) = _
  rw [after_9]
  funext y
  have hy : (y : S1x512x512.Idx) = ix3 0 (y 1) (y 2) := by
    funext a
    refine Fin.ext ?_
    match a with
    | ⟨0, _⟩ => exact Nat.lt_one_iff.1 (y 0).isLt
    | ⟨1, _⟩ => rfl
    | ⟨2, _⟩ => rfl
  have h1 : outAt (F := Ideal) m c t y = outSpec (Q m c) (K m c) (V' m c) (KM m c) (VM m c) (CC m c) (CR m c) (CM m c) (batch t) (row512 t (y 1)) (y 2) :=
    (congrArg (outAt (F := Ideal) m c t) hy).trans (outAt_at m c t h (y 1) (y 2))
  refine h1.trans ?_
  have hz : (y 0).val = 0 := Nat.lt_one_iff.1 (y 0).isLt
  show _ = result m c (((cfg0.win 9).blk t).view.emb y)
  unfold result
  congr 1
  · refine Fin.ext ?_
    exact (base_eq _ 1 (y 0).val (Nat.lt_trans (batch t).isLt (by decide)) (by show (batch t).val = (batch t).val * 1 + (y 0).val; omega)).symm
  · refine Fin.ext ?_
    exact (base_eq _ 512 (y 1).val (Nat.lt_trans (tile t).isLt (by decide)) (by show 512 * (tile t).val + (y 1).val = (tile t).val * 512 + (y 1).val; omega)).symm
  · refine Fin.ext ?_
    exact (whole_eq 512 (y 2).val).symm

theorem coords_val : ∀ t : Fin grid0.N, (grid0.coords t 0).val = t.val / 4 ∧ (grid0.coords t 1).val = t.val % 4 := by
  decide +kernel

/-- The blocks cover the array. -/
theorem cover (i : S16x2048x512.Idx) :
    ∃ t : Fin cfg0.N, (cfg0.win 9).flush t = true ∧ i ∈ ((cfg0.win 9).blk t).view.set := by
  have h0 : (i 0).val < 16 := (i 0).isLt
  have h1 : (i 1).val < 2048 := (i 1).isLt
  have h2 : (i 2).val < 512 := (i 2).isLt
  have hN : cfg0.N = 64 := N_0
  have ht : 4 * (i 0).val + (i 1).val / 512 < cfg0.N := by omega
  refine ⟨⟨_, ht⟩, flush0_9 _, ?_⟩
  obtain ⟨c0, c1⟩ := coords_val ⟨4 * (i 0).val + (i 1).val / 512, ht⟩
  rw [show (4 * (i 0).val + (i 1).val / 512) / 4 = (i 0).val by omega] at c0
  rw [show (4 * (i 0).val + (i 1).val / 512) % 4 = (i 1).val / 512 by omega] at c1
  show i ∈ ((View.whole main_v2).slice (win0_9.rect ⟨_, ht⟩)).set
  rw [View.set_slice_whole, Rect.mem_set_unit]
  have key : ∀ x s y : ℕ, x < 2 ^ 32 → x * s ≤ y → y < x * s + s →
      (BitVec.ofNat 32 x).toNat * s ≤ y ∧ y < (BitVec.ofNat 32 x).toNat * s + s := by
    intro x s y hx a b
    rw [BitVec.toNat_ofNat, Nat.mod_eq_of_lt hx]; exact ⟨a, b⟩
  intro a
  match a with
  | ⟨0, _⟩ => exact key _ 1 (i 0).val (by rw [c0]; omega) (by rw [c0]; omega) (by rw [c0]; omega)
  | ⟨1, _⟩ => exact key _ 512 (i 1).val (by rw [c1]; omega) (by rw [c1]; omega) (by rw [c1]; omega)
  | ⟨2, _⟩ => exact key 0 512 (i 2).val (by decide) (by omega) (by omega)

/-- The launch leaves the formula's array. -/
theorem final (h : Sound m c) : (dats (F := Ideal) m 0 c).arrAt 9 cfg0.N = result m c :=
  (dats m 0 c).arrAt_eq_of_cover 9 (result m c) (fun t _ => flushed_eq m c t h) cover

end Cert.Kernel4Ideal.Att
end
-- ==== Proof.Kernel4Ideal.Run.lean ====
/- The launch of the kernel with forgetting gates over the reals, and the array it leaves. -/
module

public import proofs.«01_k».proof.Proof.Kernel4Ideal.Array

@[expose] public section

noncomputable section

namespace Cert.Kernel4Ideal.Att

open Cert.Kernel4Ideal Cert.Kernel4Ideal.Gen
open Idealize.ShloMosaic Idealize.ShloMosaic.TcCoe Idealize.SL.Sem

theorem run (m : (ℓ : Loc nD τ sig) → Buf (Elt Ideal) ℓ) (ρ : Dev nD → PrngReg) (h : ∀ c, Sound m c) :
    θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ hr c => ⟨((hr.2 c).1 9).trans (final m c (h c)), hr.1 c⟩)
    (θ_run_and (frame_of m ρ (dats m) (A_eq m) (run_main m ρ)) (run_main m ρ))

end Cert.Kernel4Ideal.Att
end
-- ==== Proof.Reference4Ideal.Steps.lean ====
/- The reference over the reals, read at an index: the masked scores, the weights and the averages. -/
module

public import proofs.«01_k».proof.Proof.Gen.Reference4Ideal.Run
public import proofs.«01_k».proof.Proof.SpecFox
public import proofs.«01_k».proof.Proof.ReferenceIdeal.Read
public import Idealize.ShloMosaic.Lib.Pointwise
public import Idealize.ShloMosaic.Lib.WordCmp

@[expose] public section

set_option maxRecDepth 16384

noncomputable section

namespace Cert.Reference4Ideal.Att

open Cert.Reference4Ideal Cert.Reference4Ideal.Gen Cert.Reference4Ideal.Value
open Idealize.ShloMosaic Idealize.ShloMosaic.TcCoe Idealize.ShloMosaic.Tactic Idealize.SL.Sem
open Cert.Att (Real' Real'.lift row wt att att_shift att_normalised exp_log_two)
open Cert.Fox (vis mapOut outSpec)

/-- The masked scores. -/
def scores (q k : FVec Ideal S16x2048x512 .bf16) (km : FVec Ideal S128x512 .bf16) (cc : FVec Ideal S16x2048x128 .f32)
    (cr : FVec Ideal S16x8x2048 .f32) (cm : FVec Ideal S16x8x128 .f32) : FVec Ideal S16x8x2048x2064 .f32 :=
  select (broadcastInDim S16x8x2048x2064 ![2, 3] bcast_S2048x2064_S16x8x2048x2064_2_3 (cmpi .sle (broadcastInDim S2048x2064 ![0, 1] bcast_S1x2064_S2048x2064_0_1 (broadcastInDim S1x2064 ![1] bcast_S2064_S1x2064_1 (iotaInDim S2064 32 0))) (broadcastInDim S2048x2064 ![0, 1] bcast_S2048x1_S2048x2064_0_1 (broadcastInDim S2048x1 ![0] bcast_S2048_S2048x1_0 (extractStridedSlice S2048 ![16] (iotaInDim S2064 32 0) slices_S2064_S2048_16))))) (mulf (addf (Host.dotGeneral dot_S16x2048x8x64_S16x2064x8x64_S16x8x2048x2064_3_3_1_1_02_02 none (extf .f32 (shapeCast _ q shapeCasts_S16x2048x512_S16x2048x8x64) bitsLt_bf16_f32) (extf .f32 (shapeCast _ (concatenate S16x2064x512 1 [⟨S16x16x512, (broadcastInDim S16x16x512 ![0, 1, 2] bcast_S1x16x512_S16x16x512_0_1_2 (broadcastInDim S1x16x512 ![1, 2] bcast_S16x512_S1x16x512_1_2 (extractStridedSlice S16x512 ![0, 0] km slices_S128x512_S16x512_0_0)))⟩, ⟨S16x2048x512, k⟩] concatenates_S16x16x512_S16x2048x512_S16x2064x512_d1) shapeCasts_S16x2064x512_S16x2064x8x64) bitsLt_bf16_f32)) (subf (broadcastInDim S16x8x2048x2064 ![0, 1, 2, 3] bcast_S16x8x2048x1_S16x8x2048x2064_0_1_2_3 (broadcastInDim S16x8x2048x1 ![0, 1, 2] bcast_S16x8x2048_S16x8x2048x1_0_1_2 (transpose S16x8x2048 [0, 2, 1] (extractStridedSlice S16x2048x8 ![0, 0, 0] cc slices_S16x2048x128_S16x2048x8_0_0_0) transposes_S16x2048x8_S16x8x2048_0_2_1))) (broadcastInDim S16x8x2048x2064 ![0, 1, 2, 3] bcast_S16x8x1x2064_S16x8x2048x2064_0_1_2_3 (broadcastInDim S16x8x1x2064 ![0, 1, 3] bcast_S16x8x2064_S16x8x1x2064_0_1_3 (concatenate S16x8x2064 2 [⟨S16x8x16, (extractStridedSlice S16x8x16 ![0, 0, 0] cm slices_S16x8x128_S16x8x16_0_0_0)⟩, ⟨S16x8x2048, cr⟩] concatenates_S16x8x16_S16x8x2048_S16x8x2064_d2))))) (broadcastInDim S16x8x2048x2064 ![] bcast_S_S16x8x2048x2064 (Host.log (constant S_ .f32 0x40000000#32)))) (broadcastInDim S16x8x2048x2064 ![] bcast_S_S16x8x2048x2064 (id (constant S_ .f32 0xFF800000#32)))

/-- The greatest score of each row. -/
def rowMax (s : FVec Ideal S16x8x2048x2064 .f32) : FVec Ideal S16x8x2048 .f32 :=
  Host.reduce FloatOps.maximumf s (constant S_ .f32 0xFF800000#32) reducesTo_S16x8x2048x2064_S16x8x2048_d3 h_S_

/-- The weights from the scores and a shift of each row. -/
def weightsFrom (s : FVec Ideal S16x8x2048x2064 .f32) (r : FVec Ideal S16x8x2048 .f32) : FVec Ideal S16x8x2048x2064 .f32 :=
  Host.exp (subf s (broadcastInDim S16x8x2048x2064 ![0, 1, 2, 3] bcast_S16x8x2048x1_S16x8x2048x2064_0_1_2_3 (broadcastInDim S16x8x2048x1 ![0, 1, 2] bcast_S16x8x2048_S16x8x2048x1_0_1_2 (maximumf (broadcastInDim S16x8x2048 ![] bcast_S_S16x8x2048 (constant S_ .f32 0xFF800000#32)) r))))

/-- The averages from the weights and the values, the heads side by side. -/
def averages (p : FVec Ideal S16x8x2048x2064 .f32) (v : FVec Ideal S16x2048x512 .bf16) (vm : FVec Ideal S128x512 .bf16) :
    FVec Ideal S16x2048x512 .bf16 :=
  truncf .bf16 (shapeCast _ (transpose S16x2048x8x64 [0, 3, 1, 2] (Host.dotGeneral dot_S16x2064x8x64_S16x8x2048x2064_S16x8x64x2048_1_3_3_2_02_01 none (extf .f32 (shapeCast _ (concatenate S16x2064x512 1 [⟨S16x16x512, (broadcastInDim S16x16x512 ![0, 1, 2] bcast_S1x16x512_S16x16x512_0_1_2 (broadcastInDim S1x16x512 ![1, 2] bcast_S16x512_S1x16x512_1_2 (extractStridedSlice S16x512 ![0, 0] vm slices_S128x512_S16x512_0_0)))⟩, ⟨S16x2048x512, v⟩] concatenates_S16x16x512_S16x2048x512_S16x2064x512_d1) shapeCasts_S16x2064x512_S16x2064x8x64) bitsLt_bf16_f32) (Host.divf p (broadcastInDim S16x8x2048x2064 ![0, 1, 2, 3] bcast_S16x8x2048x1_S16x8x2048x2064_0_1_2_3 (broadcastInDim S16x8x2048x1 ![0, 1, 2] bcast_S16x8x2048_S16x8x2048x1_0_1_2 (Host.reduceAdd p (constant S_ .f32 0x00000000#32) reducesTo_S16x8x2048x2064_S16x8x2048_d3 h_S_))))) transposes_S16x8x64x2048_S16x2048x8x64_0_3_1_2) shapeCasts_S16x2048x8x64_S16x2048x512) bitsLt_bf16_f32

set_option maxHeartbeats 4000000 in
theorem scores_at (q k : FVec Ideal S16x2048x512 .bf16) (km : FVec Ideal S128x512 .bf16) (cc : FVec Ideal S16x2048x128 .f32)
    (cr : FVec Ideal S16x8x2048 .f32) (cm : FVec Ideal S16x8x128 .f32) (b : Fin 16) (h : Fin 8) (t : Fin 2048) (j : Fin 2064) :
    @Eq EReal (scores q k km cc cr cm (ix4 b h t j))
      (Scalar.select (IntOp.cmpi CmpIPredicate.sle (BitVec.ofNat 32 j.val) (BitVec.ofNat 32 (16 + t.val)))
        (((∑ x : Fin 64, q (ix3 b t ⟨h.val * 64 + x.val, by omega⟩)
            * (if hj : j.val < 16 then km (ix2 ⟨j.val, by omega⟩ ⟨h.val * 64 + x.val, by omega⟩)
               else k (ix3 b ⟨j.val - 16, by omega⟩ ⟨h.val * 64 + x.val, by omega⟩)))
            + (cc (ix3 b t ⟨h.val, by omega⟩)
              - (if hj : j.val < 16 then cm (ix3 b h ⟨j.val, by omega⟩) else cr (ix3 b h ⟨j.val - 16, by omega⟩))))
          * Ideal.log (Ideal.ofBits .f32 0x40000000#32))
        (Ideal.ofBits .f32 0xFF800000#32)) := by
  pointwise [scores]
  rfl

theorem weightsFrom_at (s : FVec Ideal S16x8x2048x2064 .f32) (r : FVec Ideal S16x8x2048 .f32)
    (b : Fin 16) (h : Fin 8) (t : Fin 2048) (j : Fin 2064) :
    @Eq EReal (weightsFrom s r (ix4 b h t j))
      (Ideal.exp (s (ix4 b h t j) - max (Ideal.ofBits FTy.f32 0xFF800000#32) (r (ix3 b h t)))) := by
  pointwise [weightsFrom]

theorem drop_ix (b : Fin 16) (h : Fin 8) (t : Fin 2048) (j : Fin 2064) :
    reducesTo_S16x8x2048x2064_S16x8x2048_d3.drop (ix4 b h t j) = ix3 b h t := by
  funext a
  refine Fin.ext ?_
  fin_cases a <;> rfl

/-- The greatest score of a row is real when no score is `⊤` and one is above `⊥`. -/
theorem rowMax_real (s : FVec Ideal S16x8x2048x2064 .f32) (b : Fin 16) (h : Fin 8) (t : Fin 2048)
    (hs : ∀ i, (s i : EReal) ≠ ⊤) (hb : ∃ j, (s (ix4 b h t j) : EReal) ≠ ⊥) :
    ∃ M : ℝ, @Eq EReal (rowMax s (ix3 b h t)) (M : EReal) := by
  obtain ⟨j, hj⟩ := hb
  have hc : ((constant (F := Ideal) S_ .f32 0xFF800000#32) (Shape.Idx.first h_S_) : EReal) = ⊥ :=
    Cert.ReferenceIdeal.Att.neg_inf
  unfold rowMax
  rw [Host.reduce_eq_fold, hc]
  exact Cert.ReferenceIdeal.Att.fold_max_real_on _ hs ⟨_, Finset.mem_filter.mpr ⟨Finset.mem_univ _, drop_ix b h t j⟩, hj⟩

set_option maxHeartbeats 4000000 in
theorem averages_at (p : FVec Ideal S16x8x2048x2064 .f32) (v : FVec Ideal S16x2048x512 .bf16) (vm : FVec Ideal S128x512 .bf16)
    (b : Fin 16) (t : Fin 2048) (l : Fin 512) :
    @Eq EReal (averages p v vm (ix3 b t l))
     (∑ x : Fin 16,
        vm (ix2 ⟨x.val, by omega⟩ l) *
          Ideal.div (p (ix4 b ⟨l.val / 64, by omega⟩ t ⟨x.val, by omega⟩)) (∑ x, p (ix4 b ⟨l.val / 64, by omega⟩ t x)) +
      ∑ x : Fin 2048,
        v (ix3 b x l) *
          Ideal.div (p (ix4 b ⟨l.val / 64, by omega⟩ t ⟨16 + x.val, by omega⟩)) (∑ x, p (ix4 b ⟨l.val / 64, by omega⟩ t x))) := by
  pointwise [averages]

end Cert.Reference4Ideal.Att
end
-- ==== Proof.Reference4Ideal.Read.lean ====
/- The reference over the reals, read at an index: the result at each lane is the formula of the attention with forgetting
   gates. -/
module

public import proofs.«01_k».proof.Proof.Reference4Ideal.Steps

@[expose] public section

set_option maxRecDepth 16384

noncomputable section

namespace Cert.Reference4Ideal.Att

open Cert.Reference4Ideal Cert.Reference4Ideal.Gen Cert.Reference4Ideal.Value
open Idealize.ShloMosaic Idealize.ShloMosaic.TcCoe Idealize.ShloMosaic.Tactic Idealize.SL.Sem
open Cert.Att (Real' Real'.lift row wt att att_shift att_normalised exp_log_two)
open Cert.Fox (vis mapOut outSpec score score_top score_real Fine)
open Cert.ReferenceIdeal.Att (sum_split log_two_real neg_inf)

variable (m : (ℓ : Loc nD τ sig) → Buf (Elt Ideal) ℓ) (c : Dev nD)

/-- The arguments by their coordinates. -/
abbrev Q (b : Fin 16) (t : Fin 2048) (l : Fin 512) : EReal := m ((c.tc : Thread nD τ).loc main_arg1) (ix3 b t l)
abbrev K (b : Fin 16) (t : Fin 2048) (l : Fin 512) : EReal := m ((c.tc : Thread nD τ).loc main_arg2) (ix3 b t l)
abbrev V (b : Fin 16) (t : Fin 2048) (l : Fin 512) : EReal := m ((c.tc : Thread nD τ).loc main_arg3) (ix3 b t l)
abbrev KM (j : Fin 128) (l : Fin 512) : EReal := m ((c.tc : Thread nD τ).loc main_arg4) (ix2 j l)
abbrev VM (j : Fin 128) (l : Fin 512) : EReal := m ((c.tc : Thread nD τ).loc main_arg5) (ix2 j l)
/-- The cumulated gates: of the queries, of the keys, of the shared keys. -/
abbrev CC (b : Fin 16) (t : Fin 2048) (l : Fin 128) : EReal := m ((c.tc : Thread nD τ).loc main_arg6) (ix3 b t l)
abbrev CR (b : Fin 16) (h : Fin 8) (t : Fin 2048) : EReal := m ((c.tc : Thread nD τ).loc main_arg7) (ix3 b h t)
abbrev CM (b : Fin 16) (h : Fin 8) (j : Fin 128) : EReal := m ((c.tc : Thread nD τ).loc main_arg8) (ix3 b h j)

/-- The masked scores of the arguments. -/
def scored : FVec Ideal S16x8x2048x2064 .f32 :=
  scores (m ((c.tc : Thread nD τ).loc main_arg1)) (m ((c.tc : Thread nD τ).loc main_arg2)) (m ((c.tc : Thread nD τ).loc main_arg4))
    (m ((c.tc : Thread nD τ).loc main_arg6)) (m ((c.tc : Thread nD τ).loc main_arg7)) (m ((c.tc : Thread nD τ).loc main_arg8))

theorem v50_eq : res_main_v50 m c = averages (weightsFrom (scored m c) (rowMax (scored m c)))
    (m ((c.tc : Thread nD τ).loc main_arg3)) (m ((c.tc : Thread nD τ).loc main_arg5)) := rfl

/-- The scores of one query. -/
def sc (b : Fin 16) (t : Fin 2048) (g : ℕ) (j : Fin 2064) : EReal :=
  score (fun d => Q m c b t (Fin.ofNat 512 (64 * g + d.val)))
    (fun j d => KM m c (Fin.ofNat 128 j) (Fin.ofNat 512 (64 * g + d.val)))
    (fun j d => K m c b (Fin.ofNat 2048 j) (Fin.ofNat 512 (64 * g + d.val)))
    (CC m c b t (Fin.ofNat 128 g))
    (fun j => CM m c b (Fin.ofNat 8 g) (Fin.ofNat 128 j))
    (fun j => CR m c b (Fin.ofNat 8 g) (Fin.ofNat 2048 j)) t j

/-- The words of the mask compare as the positions. -/
theorem mask_word (t : Fin 2048) (j : Fin 2064) :
    IntOp.cmpi CmpIPredicate.sle (BitVec.ofNat 32 j.val) (BitVec.ofNat 32 (16 + t.val)) = 1#1 ↔ vis t j := by
  have h1 := j.isLt
  have h2 := t.isLt
  rw [WordCmp.cmpi_sle_ofNat_eq_one_iff (w := 32) (by omega) (by omega)]
  rfl

theorem row_apply (M K : ℕ → Fin 64 → EReal) (j : ℕ) (d : Fin 64) :
    row M K j d = row (fun j => M j d) (fun j => K j d) j := by
  unfold row
  split <;> rfl

theorem row_dite {A B : ℕ → EReal} (j : Fin 2064) (x : j.val < 16 → EReal) (y : ¬ j.val < 16 → EReal)
    (hx : ∀ h, x h = A j.val) (hy : ∀ h, y h = B (j.val - 16)) : (if h : j.val < 16 then x h else y h) = row A B j := by
  unfold row
  split
  · exact hx _
  · exact hy _

theorem scored_at (b : Fin 16) (g : Fin 8) (t : Fin 2048) (j : Fin 2064) :
    @Eq EReal (scored m c (ix4 b g t j)) (sc m c b t g j * ((Real.log 2 : ℝ) : EReal)) := by
  have hl : 0 < Real.log 2 := Real.log_pos (by norm_num)
  have hlane : ∀ x : Fin 64, (⟨g.val * 64 + x.val, by omega⟩ : Fin 512) = Fin.ofNat 512 (64 * g.val + x.val) := by
    intro x
    refine Fin.ext ?_
    simp only [Fin.ofNat]
    omega
  have hm : ∀ h : j.val < 16, (⟨j.val, by omega⟩ : Fin 128) = Fin.ofNat 128 j.val :=
    fun h => Fin.ext (Nat.mod_eq_of_lt (by omega)).symm
  have hk : (⟨j.val - 16, by omega⟩ : Fin 2048) = Fin.ofNat 2048 (j.val - 16) := Fin.ext (Nat.mod_eq_of_lt (by omega)).symm
  have hg : g = Fin.ofNat 8 g.val := Fin.ext (Nat.mod_eq_of_lt g.isLt).symm
  have hg' : (⟨g.val, by omega⟩ : Fin 128) = Fin.ofNat 128 g.val := Fin.ext (Nat.mod_eq_of_lt (by omega)).symm
  unfold scored
  rw [scores_at, log_two_real, neg_inf]
  unfold sc score
  by_cases h : vis t j
  · rw [if_pos h, (mask_word t j).mpr h]
    refine (if_pos rfl).trans ?_
    refine congrArg (· * _) (congrArg₂ (· + ·) (Finset.sum_congr rfl fun x _ => congrArg₂ (· * ·) ?_ ?_)
      (congrArg₂ (· - ·) ?_ ?_))
    · rw [hlane]
    · refine Eq.trans ?_ (row_apply _ _ j x).symm
      exact row_dite j _ _ (fun h => by rw [hlane, hm h]) (fun _ => by rw [hlane, hk])
    · rw [hg']
    · exact row_dite j _ _ (fun h => by rw [← hg, hm h]) (fun _ => by rw [← hg, hk])
  · rw [if_neg h, EReal.bot_mul_coe_of_pos hl]
    exact if_neg fun hw => h ((mask_word t j).mp hw)

/-- What the claim asks of the arguments: the queries and every key a query sees real, and their gates. -/
structure Sound : Prop where
  hq : ∀ b t l, Real' (Q m c b t l)
  hk : ∀ b t l, Real' (K m c b t l)
  hm : ∀ (j : Fin 128) l, j.val < 16 → Real' (KM m c j l)
  hc : ∀ b t (l : Fin 128), l.val < 8 → Real' (CC m c b t l)
  hcr : ∀ b h t, Real' (CR m c b h t)
  hcm : ∀ b h (j : Fin 128), j.val < 16 → Real' (CM m c b h j)

variable {m} {c} (h : Sound m c) (b : Fin 16) (g : Fin 8) (t : Fin 2048)
include h

theorem fine : Fine (fun d : Fin 64 => Q m c b t (Fin.ofNat 512 (64 * g.val + d.val)))
    (fun j d => KM m c (Fin.ofNat 128 j) (Fin.ofNat 512 (64 * g.val + d.val)))
    (fun j d => K m c b (Fin.ofNat 2048 j) (Fin.ofNat 512 (64 * g.val + d.val)))
    (CC m c b t (Fin.ofNat 128 g.val))
    (fun j => CM m c b (Fin.ofNat 8 g.val) (Fin.ofNat 128 j))
    (fun j => CR m c b (Fin.ofNat 8 g.val) (Fin.ofNat 2048 j)) where
  hq _ := h.hq _ _ _
  hm j _ hj := h.hm _ _ (by show j % 128 < 16; omega)
  hk _ _ := h.hk _ _ _
  hc := h.hc _ _ _ (by show g.val % 128 < 8; omega)
  hcm j hj := h.hcm _ _ _ (by show j % 128 < 16; omega)
  hck _ := h.hcr _ _ _

theorem sc_top (j : Fin 2064) : sc m c b t g j ≠ ⊤ := score_top (fine h b g t) _ _

theorem sc_bot : sc m c b t g 0 ≠ ⊥ := (score_real (fine h b g t) _ _ (Nat.zero_le _)).1

/-- The weights are those of the softmax, some real the shift. -/
theorem weights_at : ∃ M : ℝ, ∀ j : Fin 2064,
    @Eq EReal (weightsFrom (scored m c) (rowMax (scored m c)) (ix4 b g t j)) (wt M (sc m c b t g j)) := by
  have hl : 0 < Real.log 2 := Real.log_pos (by norm_num)
  have hm : ∀ x : EReal, x ≠ ⊤ → x * ((Real.log 2 : ℝ) : EReal) ≠ ⊤ := by
    intro x hx
    induction x with
    | bot => rw [EReal.bot_mul_coe_of_pos hl]; exact bot_ne_top
    | top => exact absurd rfl hx
    | coe x => rw [← EReal.coe_mul]; exact EReal.coe_ne_top _
  have htop : ∀ i, @Ne EReal (scored m c i) ⊤ := by
    intro i
    obtain ⟨b', g', t', j', rfl⟩ : ∃ b' g' t' j', i = ix4 b' g' t' j' := ⟨_, _, _, _, (eq_ix4 i)⟩
    rw [scored_at]
    exact hm _ (sc_top h _ _ _ _)
  obtain ⟨M, hM⟩ := rowMax_real (scored m c) b g t htop ⟨0, by
    rw [scored_at]
    obtain ⟨r, hr⟩ := Real'.lift ⟨sc_bot h b g t, sc_top h b g t 0⟩
    rw [hr, ← EReal.coe_mul]
    exact EReal.coe_ne_bot _⟩
  refine ⟨M / Real.log 2, fun j => ?_⟩
  rw [weightsFrom_at, hM, scored_at, neg_inf, max_eq_right bot_le]
  exact exp_log_two M (sc_top h b g t j)

/-- The result at each lane. -/
theorem result_at (l : Fin 512) : @Eq EReal (res_main_v50 m c (ix3 b t l))
    (outSpec (Q m c) (K m c) (V m c) (KM m c) (VM m c) (CC m c) (CR m c) (CM m c) b t l) := by
  obtain ⟨M, hM⟩ := weights_at h b ⟨l.val / 64, by omega⟩ t
  have ht := sc_top h b ⟨l.val / 64, by omega⟩ t
  have hb : ∃ j, sc m c b t (l.val / 64) j ≠ ⊥ := ⟨0, sc_bot h b ⟨l.val / 64, by omega⟩ t⟩
  rw [v50_eq, averages_at]
  simp only [hM]
  refine Eq.trans ?_ (att_shift M 0 ht hb _)
  rw [← att_normalised M ht hb]
  refine Eq.trans ?_ (sum_split (m := 16) (k := 2048) rfl _).symm
  refine congrArg₂ (· + ·) (Finset.sum_congr rfl fun x _ => ?_) (Finset.sum_congr rfl fun x _ => ?_)
  · rw [mul_comm]
    refine congrArg₂ (· * ·) rfl ?_
    unfold row
    rw [if_pos (by show x.val < 16; exact x.isLt)]
    refine congrArg (fun y => VM m c y l) (Fin.ext ?_)
    exact (Nat.mod_eq_of_lt (by have := x.isLt; show x.val < 128; omega)).symm
  · rw [mul_comm]
    refine congrArg₂ (· * ·) rfl ?_
    unfold row
    rw [if_neg (by show ¬ 16 + x.val < 16; omega)]
    refine congrArg (fun y => V m c b y l) (Fin.ext ?_)
    show x.val = (16 + x.val - 16) % 2048
    have := x.isLt
    omega

omit h in
/-- The array the run leaves. -/
def result (m : (ℓ : Loc nD τ sig) → Buf (Elt Ideal) ℓ) (c : Dev nD) : FVec Ideal S16x2048x512 .bf16 := fun i =>
  outSpec (Q m c) (K m c) (V m c) (KM m c) (VM m c) (CC m c) (CR m c) (CM m c) (i 0) (i 1) (i 2)

theorem result_eq : res_main_v50 m c = result m c := by
  funext i
  obtain ⟨b, t, l, rfl⟩ : ∃ b t l, i = ix3 b t l := ⟨_, _, _, eq_ix3 i⟩
  exact result_at h b t l

omit h in
theorem run_result (m : (ℓ : Loc nD τ sig) → Buf (Elt Ideal) ℓ) (ρ : Dev nD → PrngReg) (h : ∀ c, Sound m c) :
    θ_run defs (onTc (τ := τ) (main (F := Ideal))) ⟨m, fun _ => 0, ρ⟩ fun r => ∀ c : Dev nD,
      r.2.mem ((c.tc : Thread nD τ).loc main_v50) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ hr c => ⟨(hr c).1.trans (result_eq (h c)), (hr c).2⟩) (run (F := Ideal) m ρ)

end Cert.Reference4Ideal.Att
end
-- ==== Proof.PreconditionFox.lean ====
/- What the precondition of the attention with forgetting gates says of the arguments, entry by entry. -/
module

public import proofs.«01_k».proof.Proof.Gen.Pre_finite4
public import proofs.«01_k».proof.Proof.Precondition

@[expose] public section

set_option maxRecDepth 16384

noncomputable section

namespace Cert.Fox

open Idealize.ShloMosaic Idealize.ShloMosaic.TcCoe Cert.Att

open Cert.Pre_finite4 in
/-- The precondition entry by entry. -/
theorem entries [Facts] (a0 : FVec Ideal S1 .f32) (a1 a2 a3 : FVec Ideal S16x2048x512 .bf16) (a4 a5 : FVec Ideal S128x512 .bf16)
    (a6 : FVec Ideal S16x2048x128 .f32) (a7 : FVec Ideal S16x8x2048 .f32) (a8 : FVec Ideal S16x8x128 .f32)
    (h : fn (F := Ideal) a0 a1 a2 a3 a4 a5 a6 a7 a8 = fun _ => 1#1) :
    (∀ i, a0 i ≠ (⊥ : EReal)) ∧ (∀ i, Real' (a1 i)) ∧ (∀ i, Real' (a2 i))
      ∧ (∀ (j : Fin 16) (l : Fin 512), Real' (a4 (ix2 ⟨j.val, by omega⟩ l)))
      ∧ (∀ (b : Fin 16) (t : Fin 2048) (l : Fin 8), Real' (a6 (ix3 b t ⟨l.val, by omega⟩)))
      ∧ (∀ i, Real' (a7 i))
      ∧ ∀ (b : Fin 16) (g : Fin 8) (j : Fin 16), Real' (a8 (ix3 b g ⟨j.val, by omega⟩)) := by
  have h := congrFun h ix0
  have : Subsingleton S_.Idx := ⟨fun a b => funext fun x => x.elim0⟩
  obtain ⟨h, h8⟩ := andi_one _ _ h
  obtain ⟨h, h7⟩ := andi_one _ _ h
  obtain ⟨h, h6⟩ := andi_one _ _ h
  obtain ⟨h, h4⟩ := andi_one _ _ h
  obtain ⟨h, h2⟩ := andi_one _ _ h
  obtain ⟨h0, h1⟩ := andi_one _ _ h
  have e4 : ∀ (y : FVec Ideal S128x512 .bf16) (j : Fin 16) (l : Fin 512),
      extractStridedSlice S16x512 ![0, 0] y Facts.slices_S128x512_S16x512_0_0 (ix2 j l) = y (ix2 ⟨j.val, by omega⟩ l) := by
    intro y j l
    pointwise
  have e6 : ∀ (y : FVec Ideal S16x2048x128 .f32) (b : Fin 16) (t : Fin 2048) (l : Fin 8),
      extractStridedSlice S16x2048x8 ![0, 0, 0] y Facts.slices_S16x2048x128_S16x2048x8_0_0_0 (ix3 b t l)
        = y (ix3 b t ⟨l.val, by omega⟩) := by
    intro y b t l
    pointwise
  have e8 : ∀ (y : FVec Ideal S16x8x128 .f32) (b : Fin 16) (g : Fin 8) (j : Fin 16),
      extractStridedSlice S16x8x16 ![0, 0, 0] y Facts.slices_S16x8x128_S16x8x16_0_0_0 (ix3 b g j)
        = y (ix3 b g ⟨j.val, by omega⟩) := by
    intro y b g j
    pointwise
  refine ⟨fun i => bot_lt_of (Host.reduce_andi_all _ _ _ _ _ h0 i), fun i => real_of_lt (Host.reduce_andi_all _ _ _ _ _ h1 i),
    fun i => real_of_lt (Host.reduce_andi_all _ _ _ _ _ h2 i), fun j l => ?_, fun b t l => ?_,
    fun i => real_of_lt (Host.reduce_andi_all _ _ _ _ _ h7 i), fun b g j => ?_⟩
  · have := Host.reduce_andi_all _ _ _ _ _ h4 (ix2 j l)
    rw [← e4 a4]
    exact real_of_lt this
  · have := Host.reduce_andi_all _ _ _ _ _ h6 (ix3 b t l)
    rw [← e6 a6]
    exact real_of_lt this
  · have := Host.reduce_andi_all _ _ _ _ _ h8 (ix3 b g j)
    rw [← e8 a8]
    exact real_of_lt this

end Cert.Fox
end
-- ==== Proof.Reference3Ideal.Result.lean ====
/- The merge's reference over the reals: its two results are the formulas of its arguments. -/
module

public import proofs.«01_k».proof.Proof.Gen.Reference3Ideal.Run
public import proofs.«01_k».proof.Proof.Merge.Spec
public import Idealize.ShloMosaic.Lib.Pointwise

@[expose] public section

set_option maxRecDepth 16384

noncomputable section

namespace Cert.Reference3Ideal.Join

open Cert.Reference3Ideal Cert.Reference3Ideal.Gen Cert.Reference3Ideal.Value
open Idealize.ShloMosaic Idealize.ShloMosaic.TcCoe Idealize.ShloMosaic.Tactic Idealize.SL.Sem
open Cert.Merge

/-- A branch's product with its weights, gated. -/
def branch (y : FVec Ideal S16x2048x512 .bf16) (g : FVec Ideal S16x2048x1024 .bf16) (w : FVec Ideal S512x1024 .bf16) :
    FVec Ideal S16x2048x1024 .f32 :=
  mulf (extf .f32 g bitsLt_bf16_f32) (Host.dotGeneral dot_S16x2048x512_S512x1024_S16x2048x1024_2_0_01_1_n_n none (extf .f32 y bitsLt_bf16_f32) (extf .f32 w bitsLt_bf16_f32))

/-- The stream: the rows plus the merged branches' product with the output weights. -/
def total (x h : FVec Ideal S16x2048x1024 .f32) (w : FVec Ideal S1024x1024 .bf16) : FVec Ideal S16x2048x1024 .f32 :=
  addf x (Host.dotGeneral dot_S16x2048x1024_S1024x1024_S16x2048x1024_2_0_01_1_n_n none h (extf .f32 w bitsLt_bf16_f32))

/-- The rows divided by the root of their mean squares, times the gain. -/
def normRows (h : FVec Ideal S16x2048x1024 .f32) (g : FVec Ideal S1x1024 .f32) : FVec Ideal S16x2048x1024 .bf16 :=
  truncf .bf16 (mulf (mulf h (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf h h) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 (shapeCast _ g shapeCasts_S1x1024_S1024)))) bitsLt_bf16_f32

set_option maxHeartbeats 4000000 in
theorem branch_at (y : FVec Ideal S16x2048x512 .bf16) (g : FVec Ideal S16x2048x1024 .bf16) (w : FVec Ideal S512x1024 .bf16)
    (b : Fin 16) (t : Fin 2048) (k : Fin 1024) :
    @Eq EReal (branch y g w (ix3 b t k)) (g (ix3 b t k) * ∑ j : Fin 512, y (ix3 b t j) * w (ix2 j k)) := by
  pointwise [branch]

set_option maxHeartbeats 4000000 in
theorem total_at (x h : FVec Ideal S16x2048x1024 .f32) (w : FVec Ideal S1024x1024 .bf16) (b : Fin 16) (t : Fin 2048) (l : Fin 1024) :
    @Eq EReal (total x h w (ix3 b t l)) (x (ix3 b t l) + ∑ k : Fin 1024, h (ix3 b t k) * w (ix2 k l)) := by
  pointwise [total]

set_option maxHeartbeats 4000000 in
theorem normRows_at (h : FVec Ideal S16x2048x1024 .f32) (g : FVec Ideal S1x1024 .f32) (b : Fin 16) (t : Fin 2048) (l : Fin 1024) :
    @Eq EReal (normRows h g (ix3 b t l)) (Projection.normed (fun j => h (ix3 b t j)) (fun j => g (ix2 0 j)) l) := by
  pointwise [normRows]
  rfl

/-! The arguments, by their coordinates. -/

variable (m : (ℓ : Loc nD τ sig) → Buf (Elt Ideal) ℓ) (c : Dev nD)

def branchA (b : Fin 16) (t : Fin 2048) (j : Fin 512) : EReal := m ((c.tc : Thread nD τ).loc main_arg0) (ix3 b t j)
def branchB (b : Fin 16) (t : Fin 2048) (j : Fin 512) : EReal := m ((c.tc : Thread nD τ).loc main_arg1) (ix3 b t j)
def gateA (b : Fin 16) (t : Fin 2048) (k : Fin 1024) : EReal := m ((c.tc : Thread nD τ).loc main_arg2) (ix3 b t k)
def gateB (b : Fin 16) (t : Fin 2048) (k : Fin 1024) : EReal := m ((c.tc : Thread nD τ).loc main_arg3) (ix3 b t k)
def rowsA (b : Fin 16) (t : Fin 2048) (k : Fin 1024) : EReal := m ((c.tc : Thread nD τ).loc main_arg4) (ix3 b t k)
def weightsA (j : Fin 512) (k : Fin 1024) : EReal := m ((c.tc : Thread nD τ).loc main_arg5) (ix2 j k)
def weightsB (j : Fin 512) (k : Fin 1024) : EReal := m ((c.tc : Thread nD τ).loc main_arg6) (ix2 j k)
def weightsO (k l : Fin 1024) : EReal := m ((c.tc : Thread nD τ).loc main_arg7) (ix2 k l)
def gainA (k : Fin 1024) : EReal := m ((c.tc : Thread nD τ).loc main_arg8) (ix2 0 k)

section
variable (ya yb : FVec Ideal S16x2048x512 .bf16) (ga gb : FVec Ideal S16x2048x1024 .bf16) (x : FVec Ideal S16x2048x1024 .f32)
  (wd wf : FVec Ideal S512x1024 .bf16) (wo : FVec Ideal S1024x1024 .bf16) (g : FVec Ideal S1x1024 .f32)

/-- The stream, as the reference computes it. -/
def streamOf : FVec Ideal S16x2048x1024 .f32 := total x (addf (branch ya ga wd) (branch yb gb wf)) wo

theorem streamOf_at (b : Fin 16) (t : Fin 2048) (l : Fin 1024) :
    @Eq EReal (streamOf ya yb ga gb x wd wf wo (ix3 b t l))
      (streams (fun b t j => ya (ix3 b t j)) (fun b t j => yb (ix3 b t j)) (fun b t k => ga (ix3 b t k)) (fun b t k => gb (ix3 b t k))
        (fun b t k => x (ix3 b t k)) (fun j k => wd (ix2 j k)) (fun j k => wf (ix2 j k)) (fun k l => wo (ix2 k l)) b t l) := by
  refine (total_at x _ wo b t l).trans ?_
  unfold streams stream merged
  refine congrArg (fun z : EReal => x (ix3 b t l) + z) (Finset.sum_congr rfl fun k _ => ?_)
  refine congrArg (fun z : EReal => z * wo (ix2 k l)) ?_
  show @Eq EReal (HAdd.hAdd (α := EReal) (β := EReal) (branch ya ga wd (ix3 b t k)) (branch yb gb wf (ix3 b t k))) _
  rw [branch_at, branch_at]

theorem stream_eq : @Eq (S16x2048x1024.Idx → EReal) (streamOf ya yb ga gb x wd wf wo)
      (table3 (streams (fun b t j => ya (ix3 b t j)) (fun b t j => yb (ix3 b t j)) (fun b t k => ga (ix3 b t k)) (fun b t k => gb (ix3 b t k))
        (fun b t k => x (ix3 b t k)) (fun j k => wd (ix2 j k)) (fun j k => wf (ix2 j k)) (fun k l => wo (ix2 k l)))) := by
  funext i
  rw [eq_ix3 i]
  exact streamOf_at ya yb ga gb x wd wf wo (i 0) (i 1) (i 2)

theorem normed_eq : @Eq (S16x2048x1024.Idx → EReal) (normRows (streamOf ya yb ga gb x wd wf wo) g)
      (table3 (normedStreams (fun b t j => ya (ix3 b t j)) (fun b t j => yb (ix3 b t j)) (fun b t k => ga (ix3 b t k)) (fun b t k => gb (ix3 b t k))
        (fun b t k => x (ix3 b t k)) (fun j k => wd (ix2 j k)) (fun j k => wf (ix2 j k)) (fun k l => wo (ix2 k l)) (fun k => g (ix2 0 k)))) := by
  funext i
  rw [eq_ix3 i]
  refine (normRows_at _ g (i 0) (i 1) (i 2)).trans ?_
  exact congrArg (fun z => Projection.normed z (fun k => g (ix2 0 k)) (i 2))
    (funext fun j => streamOf_at ya yb ga gb x wd wf wo (i 0) (i 1) j)
end

theorem run_result (ρ : Dev nD → PrngReg) :
    θ_run defs (onTc (τ := τ) (main (F := Ideal))) ⟨m, fun _ => 0, ρ⟩ fun r => ∀ c : Dev nD,
      r.2.mem ((c.tc : Thread nD τ).loc main_v13) = table3 (streams (branchA m c) (branchB m c) (gateA m c) (gateB m c) (rowsA m c) (weightsA m c) (weightsB m c) (weightsO m c))
      ∧ r.2.mem ((c.tc : Thread nD τ).loc main_v28) = table3 (normedStreams (branchA m c) (branchB m c) (gateA m c) (gateB m c) (rowsA m c) (weightsA m c) (weightsB m c) (weightsO m c) (gainA m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ?_) (run (F := Ideal) m ρ)
  obtain ⟨h0, h1, rest⟩ := h c
  exact ⟨h0.trans (stream_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))),
    h1.trans (normed_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))),
    rest⟩

end Cert.Reference3Ideal.Join
end
-- ==== Proof.lean ====
/- The certificate of the kernels of the differential attention, of the projections, of the merge and of the attention with
   forgetting gates: they run, and over the extended reals they compute the reference's. -/
module

public import proofs.«01_k».proof.Defs
public import proofs.«01_k».proof.Proof.Kernel.Frame
public import proofs.«01_k».proof.Proof.KernelIdeal.Frame
public import proofs.«01_k».proof.Proof.KernelIdeal.Run
public import proofs.«01_k».proof.Proof.ReferenceIdeal.Result
public import proofs.«01_k».proof.Proof.Precondition
public import proofs.«01_k».proof.Proof.Gen.ReferenceIdeal.Run
public import proofs.«01_k».proof.Proof.Gen.Pre_finite
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference4Ideal.Run
public import proofs.«01_k».proof.Proof.Gen.Pre_finite4
public import proofs.«01_k».proof.Proof.Gen.Kernel4.Skeleton
public import proofs.«01_k».proof.Proof.Gen.Kernel4.Loops
public import proofs.«01_k».proof.Proof.Gen.Kernel4Ideal.Skeleton
public import proofs.«01_k».proof.Proof.Gen.Kernel4Ideal.Loops
public import proofs.«01_k».proof.Proof.Gen.Kernel4.Frame
public import proofs.«01_k».proof.Proof.Gen.Kernel4Ideal.Frame
public import proofs.«01_k».proof.Proof.Kernel2Ideal.Run
public import proofs.«01_k».proof.Proof.Reference2Ideal.Result
public import proofs.«01_k».proof.Proof.Kernel3Ideal.Run
public import proofs.«01_k».proof.Proof.Kernel4.Frame
public import proofs.«01_k».proof.Proof.Kernel4Ideal.Run
public import proofs.«01_k».proof.Proof.Reference4Ideal.Read
public import proofs.«01_k».proof.Proof.PreconditionFox
public import proofs.«01_k».proof.Proof.Reference3Ideal.Result
public import Idealize.ShloMosaic.Adequacy
public import Idealize.ShloMosaic.Init

@[expose] public section

noncomputable section

namespace Cert.Proof

open Idealize.ShloMosaic Idealize.SL.Sem Cert.Kernel Idealize.ShloMosaic.StableHlo

theorem frame_p : Cert.quiescent_Kernel := fun m ρ _ => Cert.Kernel.Att.frame_run m ρ
theorem frame_pi : Cert.quiescent_KernelIdeal := fun m ρ _ => Cert.KernelIdeal.Att.frame_run m ρ
theorem frame_pi_finite : Cert.quiescent_KernelIdeal_pre_finite := fun m ρ _ => Cert.KernelIdeal.Att.frame_run m ρ
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)
theorem frame_ri_finite : Cert.quiescent_ReferenceIdeal_pre_finite := fun m ρ _ => frame_ri m ρ trivial

theorem preserves : Cert.preserves_Kernel_KernelIdeal :=
  IdealRules.named_const.statement Cert.KernelIdeal.κ "mask" .f32 0xF149F2CA#32 ⊥ rfl

/-- What the precondition says of the kernel's arguments. -/
theorem sound (m : (ℓ : Loc Cert.KernelIdeal.nD Cert.KernelIdeal.τ Cert.KernelIdeal.sig) → Buf (Elt Ideal) ℓ)
    (h : Cert.Pre_KernelIdeal_finite m) (c : Dev Cert.KernelIdeal.nD) : Cert.KernelIdeal.Att.Sound m c := by
  obtain ⟨h0, h1, h2, h4⟩ := Cert.Att.entries _ _ _ _ _ _ _ _ (h c)
  exact ⟨h0 _, fun _ _ _ => h1 _, fun _ _ _ => h2 _, fun j l hj => h4 ⟨j.val, hj⟩ l⟩

theorem algebraic : Cert.algebraic_KernelIdeal_ReferenceIdeal_pre_finite := by
  intro m g m' g' hpre hagree
  refine ⟨fun c => Cert.KernelIdeal.Att.result m c, Cert.KernelIdeal.Att.run m g (sound m hpre), ?_⟩
  have e1 := fun c => (hagree c).2.1
  have e2 := fun c => (hagree c).2.2.1
  have e3 := fun c => (hagree c).2.2.2.1
  have e4 := fun c => (hagree c).2.2.2.2.1
  have e5 := fun c => (hagree c).2.2.2.2.2.1
  have e6 := fun c => (hagree c).2.2.2.2.2.2.1
  have e7 := fun c => (hagree c).2.2.2.2.2.2.2
  have hQ : ∀ c, Cert.ReferenceIdeal.Att.Q (launchContents m' c) = Cert.KernelIdeal.Att.Q m c :=
    fun c => funext fun _ => funext fun _ => funext fun _ => congrFun (e1 c) _
  have hK : ∀ c, Cert.ReferenceIdeal.Att.K (launchContents m' c) = Cert.KernelIdeal.Att.K m c :=
    fun c => funext fun _ => funext fun _ => funext fun _ => congrFun (e2 c) _
  have hV : ∀ c, Cert.ReferenceIdeal.Att.V (launchContents m' c) = Cert.KernelIdeal.Att.V' m c :=
    fun c => funext fun _ => funext fun _ => funext fun _ => congrFun (e3 c) _
  have hKM : ∀ c, Cert.ReferenceIdeal.Att.KM (launchContents m' c) = Cert.KernelIdeal.Att.KM m c :=
    fun c => funext fun _ => funext fun _ => congrFun (e4 c) _
  have hVM : ∀ c, Cert.ReferenceIdeal.Att.VM (launchContents m' c) = Cert.KernelIdeal.Att.VM m c :=
    fun c => funext fun _ => funext fun _ => congrFun (e5 c) _
  have hL : ∀ c, Cert.ReferenceIdeal.Att.L (launchContents m' c) = Cert.KernelIdeal.Att.L m c :=
    fun c => funext fun _ => funext fun _ => congrFun (e6 c) _
  have hG : ∀ c, Cert.ReferenceIdeal.Att.G (launchContents m' c) = Cert.KernelIdeal.Att.G m c :=
    fun c => funext fun _ => congrFun (e7 c) _
  have hs : ∀ c, Cert.ReferenceIdeal.Att.Sound (launchContents m' c) := fun c => by
    obtain ⟨-, hq, hk, hm⟩ := sound m hpre c
    refine ⟨?_, ?_, ?_⟩
    · rw [hQ]; exact hq
    · rw [hK]; exact hk
    · rw [hKM]; exact hm
  refine (θ_run Cert.ReferenceIdeal.defs _ _).mono (fun r hr c => ⟨(hr c).1.trans ?_, (hr c).2⟩)
    (Cert.ReferenceIdeal.Att.run_result m' g' hs)
  funext i
  show Cert.Att.outSpec _ _ _ _ _ _ _ _ _ _ = Cert.Att.outSpec _ _ _ _ _ _ _ _ _ _
  rw [hQ, hK, hV, hKM, hVM, hL, hG]

theorem frame_p2 : Cert.quiescent_Kernel2 := fun m ρ _ => Cert.Kernel2.Gen.frame m ρ
theorem frame_pi2 : Cert.quiescent_Kernel2Ideal := fun m ρ _ => Cert.Kernel2Ideal.Gen.frame m ρ
theorem frame_ri2 : Cert.quiescent_Reference2Ideal := fun m ρ _ =>
  (θ_run Cert.Reference2Ideal.defs _ _).mono (fun r h => ⟨fun c => (h c).2.2.2.2.2.2.2.2.2,
      Idealize.ShloMosaic.sem_eq_zero_of_no_sems (by decide) r.2⟩)
    (Cert.Reference2Ideal.Rows.run_result m ρ)

theorem preserves2 : Cert.preserves_Kernel2_Kernel2Ideal := trivial

open Cert.Kernel2Ideal.Rows Cert.Projection in
theorem algebraic2 : Cert.algebraic_Kernel2Ideal_Reference2Ideal := by
  intro m g m' g' _ hagree
  refine ⟨_, _, _, _, _, _, _, _, _, Cert.Kernel2Ideal.Rows.run_result m g, ?_⟩
  refine (θ_run Cert.Reference2Ideal.defs _ _).mono (fun r hr c => ?_) (Cert.Reference2Ideal.Rows.run_result m' g')
  obtain ⟨a0, a1, a2, a3, a4, a5, a6, a7, a8, a9, a10⟩ := hagree c
  have e0 : Cert.Reference2Ideal.Rows.rowsA m' c = rowsA m c := funext fun _ => funext fun _ => congrFun a0 _
  have e1 : Cert.Reference2Ideal.Rows.gainA m' c = gainA m c := funext fun _ => congrFun a1 _
  have e2 : Cert.Reference2Ideal.Rows.weightsA m' c = weightsA m c := funext fun _ => funext fun _ => congrFun a2 _
  have e3 : Cert.Reference2Ideal.Rows.cosA m' c = cosA m c := funext fun _ => funext fun _ => congrFun a3 _
  have e4 : Cert.Reference2Ideal.Rows.sinA m' c = sinA m c := funext fun _ => funext fun _ => congrFun a4 _
  have e5 : Cert.Reference2Ideal.Rows.gainQ m' c = gainQ m c := funext fun _ => congrFun a5 _
  have e6 : Cert.Reference2Ideal.Rows.gainK m' c = gainK m c := funext fun _ => congrFun a6 _
  have e7 : Cert.Reference2Ideal.Rows.gainFQ m' c = gainFQ m c := funext fun _ => congrFun a7 _
  have e8 : Cert.Reference2Ideal.Rows.gainFK m' c = gainFK m c := funext fun _ => congrFun a8 _
  have e9 : Cert.Reference2Ideal.Rows.biasF m' c = biasF m c := funext fun _ => congrFun a9 _
  have e10 : Cert.Reference2Ideal.Rows.biasG m' c = biasG m c := funext fun _ => congrFun a10 _
  have h := hr c
  rw [e0, e1, e2, e3, e4, e5, e6, e7, e8, e9, e10] at h
  exact h

theorem frame_p3 : Cert.quiescent_Kernel3 := fun m ρ _ => Cert.Kernel3.Gen.frame m ρ
theorem frame_pi3 : Cert.quiescent_Kernel3Ideal := fun m ρ _ => Cert.Kernel3Ideal.Gen.frame m ρ
theorem frame_ri3 : Cert.quiescent_Reference3Ideal := fun m ρ _ =>
  (θ_run Cert.Reference3Ideal.defs _ _).mono (fun r h => ⟨fun c => (h c).2.2,
      Idealize.ShloMosaic.sem_eq_zero_of_no_sems (by decide) r.2⟩)
    (Cert.Reference3Ideal.Join.run_result m ρ)

theorem preserves3 : Cert.preserves_Kernel3_Kernel3Ideal := trivial

open Cert.Kernel3Ideal.Join Cert.Merge in
theorem algebraic3 : Cert.algebraic_Kernel3Ideal_Reference3Ideal := by
  intro m g m' g' _ hagree
  refine ⟨_, _, Cert.Kernel3Ideal.Join.run_result m g, ?_⟩
  refine (θ_run Cert.Reference3Ideal.defs _ _).mono (fun r hr c => ?_) (Cert.Reference3Ideal.Join.run_result m' g')
  obtain ⟨a0, a1, a2, a3, a4, a5, a6, a7, a8⟩ := hagree c
  have e0 : Cert.Reference3Ideal.Join.branchA m' c = branchA m c := funext fun _ => funext fun _ => funext fun _ => congrFun a0 _
  have e1 : Cert.Reference3Ideal.Join.branchB m' c = branchB m c := funext fun _ => funext fun _ => funext fun _ => congrFun a1 _
  have e2 : Cert.Reference3Ideal.Join.gateA m' c = gateA m c := funext fun _ => funext fun _ => funext fun _ => congrFun a2 _
  have e3 : Cert.Reference3Ideal.Join.gateB m' c = gateB m c := funext fun _ => funext fun _ => funext fun _ => congrFun a3 _
  have e4 : Cert.Reference3Ideal.Join.rowsA m' c = rowsA m c := funext fun _ => funext fun _ => funext fun _ => congrFun a4 _
  have e5 : Cert.Reference3Ideal.Join.weightsA m' c = weightsA m c := funext fun _ => funext fun _ => congrFun a5 _
  have e6 : Cert.Reference3Ideal.Join.weightsB m' c = weightsB m c := funext fun _ => funext fun _ => congrFun a6 _
  have e7 : Cert.Reference3Ideal.Join.weightsO m' c = weightsO m c := funext fun _ => funext fun _ => congrFun a7 _
  have e8 : Cert.Reference3Ideal.Join.gainA m' c = gainA m c := funext fun _ => congrFun a8 _
  have h := hr c
  rw [e0, e1, e2, e3, e4, e5, e6, e7, e8] at h
  exact h

theorem frame_p4 : Cert.quiescent_Kernel4 := fun m ρ _ => Cert.Kernel4.Att.frame_run m ρ
theorem frame_pi4 : Cert.quiescent_Kernel4Ideal := fun m ρ _ => Cert.Kernel4Ideal.Att.frame_run m ρ
theorem frame_pi4_finite : Cert.quiescent_Kernel4Ideal_pre_finite4 := fun m ρ _ => Cert.Kernel4Ideal.Att.frame_run m ρ
theorem frame_ri4 : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)
theorem frame_ri4_finite : Cert.quiescent_Reference4Ideal_pre_finite4 := fun m ρ _ => frame_ri4 m ρ trivial

theorem preserves4 : Cert.preserves_Kernel4_Kernel4Ideal :=
  IdealRules.named_const.statement Cert.Kernel4Ideal.κ "mask" .f32 0xF149F2CA#32 ⊥ rfl

/-- What the precondition says of the arguments of the kernel with forgetting gates. -/
theorem sound4 (m : (ℓ : Loc Cert.Kernel4Ideal.nD Cert.Kernel4Ideal.τ Cert.Kernel4Ideal.sig) → Buf (Elt Ideal) ℓ)
    (h : Cert.Pre_Kernel4Ideal_finite4 m) (c : Dev Cert.Kernel4Ideal.nD) : Cert.Kernel4Ideal.Att.Sound m c := by
  obtain ⟨h0, h1, h2, h4, h6, h7, h8⟩ := Cert.Fox.entries _ _ _ _ _ _ _ _ _ (h c)
  exact ⟨h0 _, fun _ _ _ => h1 _, fun _ _ _ => h2 _, fun j l hj => h4 ⟨j.val, hj⟩ l,
    fun b t l hl => h6 b t ⟨l.val, hl⟩, fun _ _ _ => h7 _, fun b g j hj => h8 b g ⟨j.val, hj⟩⟩

theorem algebraic4 : Cert.algebraic_Kernel4Ideal_Reference4Ideal_pre_finite4 := by
  intro m g m' g' hpre hagree
  refine ⟨fun c => Cert.Kernel4Ideal.Att.result m c, Cert.Kernel4Ideal.Att.run m g (sound4 m hpre), ?_⟩
  have e1 := fun c => (hagree c).2.1
  have e2 := fun c => (hagree c).2.2.1
  have e3 := fun c => (hagree c).2.2.2.1
  have e4 := fun c => (hagree c).2.2.2.2.1
  have e5 := fun c => (hagree c).2.2.2.2.2.1
  have e6 := fun c => (hagree c).2.2.2.2.2.2.1
  have e7 := fun c => (hagree c).2.2.2.2.2.2.2.1
  have e8 := fun c => (hagree c).2.2.2.2.2.2.2.2
  have hQ : ∀ c, Cert.Reference4Ideal.Att.Q m' c = Cert.Kernel4Ideal.Att.Q m c :=
    fun c => funext fun _ => funext fun _ => funext fun _ => congrFun (e1 c) _
  have hK : ∀ c, Cert.Reference4Ideal.Att.K m' c = Cert.Kernel4Ideal.Att.K m c :=
    fun c => funext fun _ => funext fun _ => funext fun _ => congrFun (e2 c) _
  have hV : ∀ c, Cert.Reference4Ideal.Att.V m' c = Cert.Kernel4Ideal.Att.V' m c :=
    fun c => funext fun _ => funext fun _ => funext fun _ => congrFun (e3 c) _
  have hKM : ∀ c, Cert.Reference4Ideal.Att.KM m' c = Cert.Kernel4Ideal.Att.KM m c :=
    fun c => funext fun _ => funext fun _ => congrFun (e4 c) _
  have hVM : ∀ c, Cert.Reference4Ideal.Att.VM m' c = Cert.Kernel4Ideal.Att.VM m c :=
    fun c => funext fun _ => funext fun _ => congrFun (e5 c) _
  have hCC : ∀ c, Cert.Reference4Ideal.Att.CC m' c = Cert.Kernel4Ideal.Att.CC m c :=
    fun c => funext fun _ => funext fun _ => funext fun _ => congrFun (e6 c) _
  have hCR : ∀ c, Cert.Reference4Ideal.Att.CR m' c = Cert.Kernel4Ideal.Att.CR m c :=
    fun c => funext fun _ => funext fun _ => funext fun _ => congrFun (e7 c) _
  have hCM : ∀ c, Cert.Reference4Ideal.Att.CM m' c = Cert.Kernel4Ideal.Att.CM m c :=
    fun c => funext fun _ => funext fun _ => funext fun _ => congrFun (e8 c) _
  have hs : ∀ c, Cert.Reference4Ideal.Att.Sound m' c := fun c => by
    obtain ⟨-, hq, hk, hm, hc, hcr, hcm⟩ := sound4 m hpre c
    refine ⟨?_, ?_, ?_, ?_, ?_, ?_⟩
    · rw [hQ]; exact hq
    · rw [hK]; exact hk
    · rw [hKM]; exact hm
    · rw [hCC]; exact hc
    · rw [hCR]; exact hcr
    · rw [hCM]; exact hcm
  refine (θ_run Cert.Reference4Ideal.defs _ _).mono (fun r hr c => ⟨(hr c).1.trans ?_, (hr c).2⟩)
    (Cert.Reference4Ideal.Att.run_result m' g' hs)
  funext i
  show Cert.Fox.outSpec _ _ _ _ _ _ _ _ _ _ _ = Cert.Fox.outSpec _ _ _ _ _ _ _ _ _ _ _
  rw [hQ, hK, hV, hKM, hVM, hCC, hCR, hCM]

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Pre_finite.Gen.facts, Cert.Pre_finite4.Gen.facts, frame_p, frame_pi, frame_pi_finite, frame_ri, frame_ri_finite,
    frame_p2, frame_pi2, frame_ri2, frame_p3, frame_pi3, frame_ri3, frame_p4, frame_pi4, frame_pi4_finite, frame_ri4,
    frame_ri4_finite, preserves, algebraic, preserves2, algebraic2, preserves3, algebraic3, preserves4, algebraic4⟩

end Cert.Proof

end
